-- ==== Defs.lean ====
def Pre_Mla (m : (ℓ : Loc Cert.Mla.nD Cert.Mla.τ Cert.Mla.sig) → Buf (Elt Bits) ℓ) : Prop :=
  True

def Pre_MlaIdeal (m : (ℓ : Loc Cert.MlaIdeal.nD Cert.MlaIdeal.τ Cert.MlaIdeal.sig) → Buf (Elt Ideal) ℓ) : Prop :=
  True

def Pre_MlaRefIdeal (m : (ℓ : Loc Cert.MlaRefIdeal.nD Cert.MlaRefIdeal.τ Cert.MlaRefIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_QUp (m : (ℓ : Loc Cert.QUp.nD Cert.QUp.τ Cert.QUp.sig) → Buf (Elt Bits) ℓ) : Prop :=
  True

def Pre_QUpIdeal (m : (ℓ : Loc Cert.QUpIdeal.nD Cert.QUpIdeal.τ Cert.QUpIdeal.sig) → Buf (Elt Ideal) ℓ) : Prop :=
  True

def Pre_QUpRefIdeal (m : (ℓ : Loc Cert.QUpRefIdeal.nD Cert.QUpRefIdeal.τ Cert.QUpRefIdeal.sig) → Buf (Elt Ideal) ℓ) : Prop :=
  True

def Pre_KvUp (m : (ℓ : Loc Cert.KvUp.nD Cert.KvUp.τ Cert.KvUp.sig) → Buf (Elt Bits) ℓ) : Prop :=
  True

def Pre_KvUpIdeal (m : (ℓ : Loc Cert.KvUpIdeal.nD Cert.KvUpIdeal.τ Cert.KvUpIdeal.sig) → Buf (Elt Ideal) ℓ) : Prop :=
  True

def Pre_KvUpRefIdeal (m : (ℓ : Loc Cert.KvUpRefIdeal.nD Cert.KvUpRefIdeal.τ Cert.KvUpRefIdeal.sig) → Buf (Elt Ideal) ℓ) : Prop :=
  True

def Pre_CrossQ (m : (ℓ : Loc Cert.CrossQ.nD Cert.CrossQ.τ Cert.CrossQ.sig) → Buf (Elt Bits) ℓ) : Prop :=
  True

def Pre_CrossQIdeal (m : (ℓ : Loc Cert.CrossQIdeal.nD Cert.CrossQIdeal.τ Cert.CrossQIdeal.sig) → Buf (Elt Ideal) ℓ) : Prop :=
  True

def Pre_CrossQRefIdeal (m : (ℓ : Loc Cert.CrossQRefIdeal.nD Cert.CrossQRefIdeal.τ Cert.CrossQRefIdeal.sig) → Buf (Elt Ideal) ℓ) : Prop :=
  True

def Pre_CrossKv (m : (ℓ : Loc Cert.CrossKv.nD Cert.CrossKv.τ Cert.CrossKv.sig) → Buf (Elt Bits) ℓ) : Prop :=
  True

def Pre_CrossKvIdeal (m : (ℓ : Loc Cert.CrossKvIdeal.nD Cert.CrossKvIdeal.τ Cert.CrossKvIdeal.sig) → Buf (Elt Ideal) ℓ) : Prop :=
  True

def Pre_CrossKvRefIdeal (m : (ℓ : Loc Cert.CrossKvRefIdeal.nD Cert.CrossKvRefIdeal.τ Cert.CrossKvRefIdeal.sig) → Buf (Elt Ideal) ℓ) : Prop :=
  True

def Pre_CrossAttn (m : (ℓ : Loc Cert.CrossAttn.nD Cert.CrossAttn.τ Cert.CrossAttn.sig) → Buf (Elt Bits) ℓ) : Prop :=
  True

def Pre_CrossAttnIdeal (m : (ℓ : Loc Cert.CrossAttnIdeal.nD Cert.CrossAttnIdeal.τ Cert.CrossAttnIdeal.sig) → Buf (Elt Ideal) ℓ) : Prop :=
  True

def Pre_CrossAttnRefIdeal (m : (ℓ : Loc Cert.CrossAttnRefIdeal.nD Cert.CrossAttnRefIdeal.τ Cert.CrossAttnRefIdeal.sig) → Buf (Elt Ideal) ℓ) : Prop :=
  True

def Pre_CrossOut (m : (ℓ : Loc Cert.CrossOut.nD Cert.CrossOut.τ Cert.CrossOut.sig) → Buf (Elt Bits) ℓ) : Prop :=
  True

def Pre_CrossOutIdeal (m : (ℓ : Loc Cert.CrossOutIdeal.nD Cert.CrossOutIdeal.τ Cert.CrossOutIdeal.sig) → Buf (Elt Ideal) ℓ) : Prop :=
  True

def Pre_CrossOutRefIdeal (m : (ℓ : Loc Cert.CrossOutRefIdeal.nD Cert.CrossOutRefIdeal.τ Cert.CrossOutRefIdeal.sig) → Buf (Elt Ideal) ℓ) : Prop :=
  True

def Pre_ShortConv (m : (ℓ : Loc Cert.ShortConv.nD Cert.ShortConv.τ Cert.ShortConv.sig) → Buf (Elt Bits) ℓ) : Prop :=
  True

def Pre_ShortConvIdeal (m : (ℓ : Loc Cert.ShortConvIdeal.nD Cert.ShortConvIdeal.τ Cert.ShortConvIdeal.sig) → Buf (Elt Ideal) ℓ) : Prop :=
  True

def Pre_ShortConvIdeal_conv_finite [hPre_conv_finite : Cert.Pre_conv_finite.Facts] (m : (ℓ : Loc Cert.ShortConvIdeal.nD Cert.ShortConvIdeal.τ Cert.ShortConvIdeal.sig) → Buf (Elt Ideal) ℓ) : Prop :=
  ∀ c : Dev Cert.ShortConvIdeal.nD,
    (Cert.Pre_conv_finite.fn (F := Ideal) (m ((c.tc : Thread Cert.ShortConvIdeal.nD Cert.ShortConvIdeal.τ).loc Cert.ShortConvIdeal.main_arg0)) (m ((c.tc : Thread Cert.ShortConvIdeal.nD Cert.ShortConvIdeal.τ).loc Cert.ShortConvIdeal.main_arg1)) (m ((c.tc : Thread Cert.ShortConvIdeal.nD Cert.ShortConvIdeal.τ).loc Cert.ShortConvIdeal.main_arg2)) (m ((c.tc : Thread Cert.ShortConvIdeal.nD Cert.ShortConvIdeal.τ).loc Cert.ShortConvIdeal.main_arg3))).1 = (fun _ => 1#1)
    ∧ (Cert.Pre_conv_finite.fn (F := Ideal) (m ((c.tc : Thread Cert.ShortConvIdeal.nD Cert.ShortConvIdeal.τ).loc Cert.ShortConvIdeal.main_arg0)) (m ((c.tc : Thread Cert.ShortConvIdeal.nD Cert.ShortConvIdeal.τ).loc Cert.ShortConvIdeal.main_arg1)) (m ((c.tc : Thread Cert.ShortConvIdeal.nD Cert.ShortConvIdeal.τ).loc Cert.ShortConvIdeal.main_arg2)) (m ((c.tc : Thread Cert.ShortConvIdeal.nD Cert.ShortConvIdeal.τ).loc Cert.ShortConvIdeal.main_arg3))).2.1 = (fun _ => 1#1)
    ∧ (Cert.Pre_conv_finite.fn (F := Ideal) (m ((c.tc : Thread Cert.ShortConvIdeal.nD Cert.ShortConvIdeal.τ).loc Cert.ShortConvIdeal.main_arg0)) (m ((c.tc : Thread Cert.ShortConvIdeal.nD Cert.ShortConvIdeal.τ).loc Cert.ShortConvIdeal.main_arg1)) (m ((c.tc : Thread Cert.ShortConvIdeal.nD Cert.ShortConvIdeal.τ).loc Cert.ShortConvIdeal.main_arg2)) (m ((c.tc : Thread Cert.ShortConvIdeal.nD Cert.ShortConvIdeal.τ).loc Cert.ShortConvIdeal.main_arg3))).2.2 = (fun _ => 1#1)

def Pre_ShortConvRefIdeal (m : (ℓ : Loc Cert.ShortConvRefIdeal.nD Cert.ShortConvRefIdeal.τ Cert.ShortConvRefIdeal.sig) → Buf (Elt Ideal) ℓ) : Prop :=
  True

def Pre_ShortConvRefIdeal_conv_finite [hPre_conv_finite : Cert.Pre_conv_finite.Facts] (m : (ℓ : Loc Cert.ShortConvRefIdeal.nD Cert.ShortConvRefIdeal.τ Cert.ShortConvRefIdeal.sig) → Buf (Elt Ideal) ℓ) : Prop :=
  ∀ c : Dev Cert.ShortConvRefIdeal.nD,
    (Cert.Pre_conv_finite.fn (F := Ideal) (m ((c.tc : Thread Cert.ShortConvRefIdeal.nD Cert.ShortConvRefIdeal.τ).loc Cert.ShortConvRefIdeal.main_arg0)) (m ((c.tc : Thread Cert.ShortConvRefIdeal.nD Cert.ShortConvRefIdeal.τ).loc Cert.ShortConvRefIdeal.main_arg1)) (m ((c.tc : Thread Cert.ShortConvRefIdeal.nD Cert.ShortConvRefIdeal.τ).loc Cert.ShortConvRefIdeal.main_arg2)) (m ((c.tc : Thread Cert.ShortConvRefIdeal.nD Cert.ShortConvRefIdeal.τ).loc Cert.ShortConvRefIdeal.main_arg3))).1 = (fun _ => 1#1)
    ∧ (Cert.Pre_conv_finite.fn (F := Ideal) (m ((c.tc : Thread Cert.ShortConvRefIdeal.nD Cert.ShortConvRefIdeal.τ).loc Cert.ShortConvRefIdeal.main_arg0)) (m ((c.tc : Thread Cert.ShortConvRefIdeal.nD Cert.ShortConvRefIdeal.τ).loc Cert.ShortConvRefIdeal.main_arg1)) (m ((c.tc : Thread Cert.ShortConvRefIdeal.nD Cert.ShortConvRefIdeal.τ).loc Cert.ShortConvRefIdeal.main_arg2)) (m ((c.tc : Thread Cert.ShortConvRefIdeal.nD Cert.ShortConvRefIdeal.τ).loc Cert.ShortConvRefIdeal.main_arg3))).2.1 = (fun _ => 1#1)
    ∧ (Cert.Pre_conv_finite.fn (F := Ideal) (m ((c.tc : Thread Cert.ShortConvRefIdeal.nD Cert.ShortConvRefIdeal.τ).loc Cert.ShortConvRefIdeal.main_arg0)) (m ((c.tc : Thread Cert.ShortConvRefIdeal.nD Cert.ShortConvRefIdeal.τ).loc Cert.ShortConvRefIdeal.main_arg1)) (m ((c.tc : Thread Cert.ShortConvRefIdeal.nD Cert.ShortConvRefIdeal.τ).loc Cert.ShortConvRefIdeal.main_arg2)) (m ((c.tc : Thread Cert.ShortConvRefIdeal.nD Cert.ShortConvRefIdeal.τ).loc Cert.ShortConvRefIdeal.main_arg3))).2.2 = (fun _ => 1#1)

def quiescent_Mla [hMla : Cert.Mla.Facts] : Prop :=
  ∀ (m : (ℓ : Loc Cert.Mla.nD Cert.Mla.τ Cert.Mla.sig) → Buf (Elt Bits) ℓ) (g : Dev Cert.Mla.nD → PrngReg), Pre_Mla m →
    θ_run (Cert.Mla.defs (F := Bits)) (onTc (τ := Cert.Mla.τ) (Cert.Mla.main (F := Bits))) ⟨m, fun _ => 0, g⟩ (fun r => (∀ c : Dev Cert.Mla.nD,
      r.2.mem ((c.tc : Thread Cert.Mla.nD Cert.Mla.τ).loc Cert.Mla.main_arg0) = m ((c.tc : Thread Cert.Mla.nD Cert.Mla.τ).loc Cert.Mla.main_arg0)
      ∧ r.2.mem ((c.tc : Thread Cert.Mla.nD Cert.Mla.τ).loc Cert.Mla.main_arg1) = m ((c.tc : Thread Cert.Mla.nD Cert.Mla.τ).loc Cert.Mla.main_arg1)
      ∧ r.2.mem ((c.tc : Thread Cert.Mla.nD Cert.Mla.τ).loc Cert.Mla.main_arg2) = m ((c.tc : Thread Cert.Mla.nD Cert.Mla.τ).loc Cert.Mla.main_arg2)
      ∧ r.2.mem ((c.tc : Thread Cert.Mla.nD Cert.Mla.τ).loc Cert.Mla.main_arg3) = m ((c.tc : Thread Cert.Mla.nD Cert.Mla.τ).loc Cert.Mla.main_arg3))
      ∧ r.2.sem = fun _ => 0)

def quiescent_MlaIdeal [hMlaIdeal : Cert.MlaIdeal.Facts] : Prop :=
  ∀ (m : (ℓ : Loc Cert.MlaIdeal.nD Cert.MlaIdeal.τ Cert.MlaIdeal.sig) → Buf (Elt Ideal) ℓ) (g : Dev Cert.MlaIdeal.nD → PrngReg), Pre_MlaIdeal m →
    θ_run (Cert.MlaIdeal.defs (F := Ideal)) (onTc (τ := Cert.MlaIdeal.τ) (Cert.MlaIdeal.main (F := Ideal))) ⟨m, fun _ => 0, g⟩ (fun r => (∀ c : Dev Cert.MlaIdeal.nD,
      r.2.mem ((c.tc : Thread Cert.MlaIdeal.nD Cert.MlaIdeal.τ).loc Cert.MlaIdeal.main_arg0) = m ((c.tc : Thread Cert.MlaIdeal.nD Cert.MlaIdeal.τ).loc Cert.MlaIdeal.main_arg0)
      ∧ r.2.mem ((c.tc : Thread Cert.MlaIdeal.nD Cert.MlaIdeal.τ).loc Cert.MlaIdeal.main_arg1) = m ((c.tc : Thread Cert.MlaIdeal.nD Cert.MlaIdeal.τ).loc Cert.MlaIdeal.main_arg1)
      ∧ r.2.mem ((c.tc : Thread Cert.MlaIdeal.nD Cert.MlaIdeal.τ).loc Cert.MlaIdeal.main_arg2) = m ((c.tc : Thread Cert.MlaIdeal.nD Cert.MlaIdeal.τ).loc Cert.MlaIdeal.main_arg2)
      ∧ r.2.mem ((c.tc : Thread Cert.MlaIdeal.nD Cert.MlaIdeal.τ).loc Cert.MlaIdeal.main_arg3) = m ((c.tc : Thread Cert.MlaIdeal.nD Cert.MlaIdeal.τ).loc Cert.MlaIdeal.main_arg3))
      ∧ r.2.sem = fun _ => 0)

def quiescent_MlaRefIdeal [hMlaRefIdeal : Cert.MlaRefIdeal.Facts] : Prop :=
  ∀ (m : (ℓ : Loc Cert.MlaRefIdeal.nD Cert.MlaRefIdeal.τ Cert.MlaRefIdeal.sig) → Buf (Elt Ideal) ℓ) (g : Dev Cert.MlaRefIdeal.nD → PrngReg), Pre_MlaRefIdeal m →
    θ_run (Cert.MlaRefIdeal.defs (F := Ideal)) (onTc (τ := Cert.MlaRefIdeal.τ) (Cert.MlaRefIdeal.main (F := Ideal))) ⟨m, fun _ => 0, g⟩ (fun r => (∀ c : Dev Cert.MlaRefIdeal.nD,
      r.2.mem ((c.tc : Thread Cert.MlaRefIdeal.nD Cert.MlaRefIdeal.τ).loc Cert.MlaRefIdeal.main_arg0) = m ((c.tc : Thread Cert.MlaRefIdeal.nD Cert.MlaRefIdeal.τ).loc Cert.MlaRefIdeal.main_arg0)
      ∧ r.2.mem ((c.tc : Thread Cert.MlaRefIdeal.nD Cert.MlaRefIdeal.τ).loc Cert.MlaRefIdeal.main_arg1) = m ((c.tc : Thread Cert.MlaRefIdeal.nD Cert.MlaRefIdeal.τ).loc Cert.MlaRefIdeal.main_arg1)
      ∧ r.2.mem ((c.tc : Thread Cert.MlaRefIdeal.nD Cert.MlaRefIdeal.τ).loc Cert.MlaRefIdeal.main_arg2) = m ((c.tc : Thread Cert.MlaRefIdeal.nD Cert.MlaRefIdeal.τ).loc Cert.MlaRefIdeal.main_arg2)
      ∧ r.2.mem ((c.tc : Thread Cert.MlaRefIdeal.nD Cert.MlaRefIdeal.τ).loc Cert.MlaRefIdeal.main_arg3) = m ((c.tc : Thread Cert.MlaRefIdeal.nD Cert.MlaRefIdeal.τ).loc Cert.MlaRefIdeal.main_arg3))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3)
      ∧ r.2.mem ((c.tc : Thread Cert.OutProj.nD Cert.OutProj.τ).loc Cert.OutProj.main_arg4) = m ((c.tc : Thread Cert.OutProj.nD Cert.OutProj.τ).loc Cert.OutProj.main_arg4))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
      ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2)
      ∧ r.2.mem ((c.tc : Thread Cert.OutProjRefIdeal.nD Cert.OutProjRefIdeal.τ).loc Cert.OutProjRefIdeal.main_arg3) = m ((c.tc : Thread Cert.OutProjRefIdeal.nD Cert.OutProjRefIdeal.τ).loc Cert.OutProjRefIdeal.main_arg3)
      ∧ r.2.mem ((c.tc : Thread Cert.OutProjRefIdeal.nD Cert.OutProjRefIdeal.τ).loc Cert.OutProjRefIdeal.main_arg4) = m ((c.tc : Thread Cert.OutProjRefIdeal.nD Cert.OutProjRefIdeal.τ).loc Cert.OutProjRefIdeal.main_arg4))
      ∧ r.2.sem = fun _ => 0)

def quiescent_QUp [hQUp : Cert.QUp.Facts] : Prop :=
  ∀ (m : (ℓ : Loc Cert.QUp.nD Cert.QUp.τ Cert.QUp.sig) → Buf (Elt Bits) ℓ) (g : Dev Cert.QUp.nD → PrngReg), Pre_QUp m →
    θ_run (Cert.QUp.defs (F := Bits)) (onTc (τ := Cert.QUp.τ) (Cert.QUp.main (F := Bits))) ⟨m, fun _ => 0, g⟩ (fun r => (∀ c : Dev Cert.QUp.nD,
      r.2.mem ((c.tc : Thread Cert.QUp.nD Cert.QUp.τ).loc Cert.QUp.main_arg0) = m ((c.tc : Thread Cert.QUp.nD Cert.QUp.τ).loc Cert.QUp.main_arg0)
      ∧ r.2.mem ((c.tc : Thread Cert.QUp.nD Cert.QUp.τ).loc Cert.QUp.main_arg1) = m ((c.tc : Thread Cert.QUp.nD Cert.QUp.τ).loc Cert.QUp.main_arg1)
      ∧ r.2.mem ((c.tc : Thread Cert.QUp.nD Cert.QUp.τ).loc Cert.QUp.main_arg2) = m ((c.tc : Thread Cert.QUp.nD Cert.QUp.τ).loc Cert.QUp.main_arg2))
      ∧ r.2.sem = fun _ => 0)

def quiescent_QUpIdeal [hQUpIdeal : Cert.QUpIdeal.Facts] : Prop :=
  ∀ (m : (ℓ : Loc Cert.QUpIdeal.nD Cert.QUpIdeal.τ Cert.QUpIdeal.sig) → Buf (Elt Ideal) ℓ) (g : Dev Cert.QUpIdeal.nD → PrngReg), Pre_QUpIdeal m →
    θ_run (Cert.QUpIdeal.defs (F := Ideal)) (onTc (τ := Cert.QUpIdeal.τ) (Cert.QUpIdeal.main (F := Ideal))) ⟨m, fun _ => 0, g⟩ (fun r => (∀ c : Dev Cert.QUpIdeal.nD,
      r.2.mem ((c.tc : Thread Cert.QUpIdeal.nD Cert.QUpIdeal.τ).loc Cert.QUpIdeal.main_arg0) = m ((c.tc : Thread Cert.QUpIdeal.nD Cert.QUpIdeal.τ).loc Cert.QUpIdeal.main_arg0)
      ∧ r.2.mem ((c.tc : Thread Cert.QUpIdeal.nD Cert.QUpIdeal.τ).loc Cert.QUpIdeal.main_arg1) = m ((c.tc : Thread Cert.QUpIdeal.nD Cert.QUpIdeal.τ).loc Cert.QUpIdeal.main_arg1)
      ∧ r.2.mem ((c.tc : Thread Cert.QUpIdeal.nD Cert.QUpIdeal.τ).loc Cert.QUpIdeal.main_arg2) = m ((c.tc : Thread Cert.QUpIdeal.nD Cert.QUpIdeal.τ).loc Cert.QUpIdeal.main_arg2))
      ∧ r.2.sem = fun _ => 0)

def quiescent_QUpRefIdeal [hQUpRefIdeal : Cert.QUpRefIdeal.Facts] : Prop :=
  ∀ (m : (ℓ : Loc Cert.QUpRefIdeal.nD Cert.QUpRefIdeal.τ Cert.QUpRefIdeal.sig) → Buf (Elt Ideal) ℓ) (g : Dev Cert.QUpRefIdeal.nD → PrngReg), Pre_QUpRefIdeal m →
    θ_run (Cert.QUpRefIdeal.defs (F := Ideal)) (onTc (τ := Cert.QUpRefIdeal.τ) (Cert.QUpRefIdeal.main (F := Ideal))) ⟨m, fun _ => 0, g⟩ (fun r => (∀ c : Dev Cert.QUpRefIdeal.nD,
      r.2.mem ((c.tc : Thread Cert.QUpRefIdeal.nD Cert.QUpRefIdeal.τ).loc Cert.QUpRefIdeal.main_arg0) = m ((c.tc : Thread Cert.QUpRefIdeal.nD Cert.QUpRefIdeal.τ).loc Cert.QUpRefIdeal.main_arg0)
      ∧ r.2.mem ((c.tc : Thread Cert.QUpRefIdeal.nD Cert.QUpRefIdeal.τ).loc Cert.QUpRefIdeal.main_arg1) = m ((c.tc : Thread Cert.QUpRefIdeal.nD Cert.QUpRefIdeal.τ).loc Cert.QUpRefIdeal.main_arg1)
      ∧ r.2.mem ((c.tc : Thread Cert.QUpRefIdeal.nD Cert.QUpRefIdeal.τ).loc Cert.QUpRefIdeal.main_arg2) = m ((c.tc : Thread Cert.QUpRefIdeal.nD Cert.QUpRefIdeal.τ).loc Cert.QUpRefIdeal.main_arg2))
      ∧ r.2.sem = fun _ => 0)

def quiescent_KvUp [hKvUp : Cert.KvUp.Facts] : Prop :=
  ∀ (m : (ℓ : Loc Cert.KvUp.nD Cert.KvUp.τ Cert.KvUp.sig) → Buf (Elt Bits) ℓ) (g : Dev Cert.KvUp.nD → PrngReg), Pre_KvUp m →
    θ_run (Cert.KvUp.defs (F := Bits)) (onTc (τ := Cert.KvUp.τ) (Cert.KvUp.main (F := Bits))) ⟨m, fun _ => 0, g⟩ (fun r => (∀ c : Dev Cert.KvUp.nD,
      r.2.mem ((c.tc : Thread Cert.KvUp.nD Cert.KvUp.τ).loc Cert.KvUp.main_arg0) = m ((c.tc : Thread Cert.KvUp.nD Cert.KvUp.τ).loc Cert.KvUp.main_arg0)
      ∧ r.2.mem ((c.tc : Thread Cert.KvUp.nD Cert.KvUp.τ).loc Cert.KvUp.main_arg1) = m ((c.tc : Thread Cert.KvUp.nD Cert.KvUp.τ).loc Cert.KvUp.main_arg1)
      ∧ r.2.mem ((c.tc : Thread Cert.KvUp.nD Cert.KvUp.τ).loc Cert.KvUp.main_arg2) = m ((c.tc : Thread Cert.KvUp.nD Cert.KvUp.τ).loc Cert.KvUp.main_arg2))
      ∧ r.2.sem = fun _ => 0)

def quiescent_KvUpIdeal [hKvUpIdeal : Cert.KvUpIdeal.Facts] : Prop :=
  ∀ (m : (ℓ : Loc Cert.KvUpIdeal.nD Cert.KvUpIdeal.τ Cert.KvUpIdeal.sig) → Buf (Elt Ideal) ℓ) (g : Dev Cert.KvUpIdeal.nD → PrngReg), Pre_KvUpIdeal m →
    θ_run (Cert.KvUpIdeal.defs (F := Ideal)) (onTc (τ := Cert.KvUpIdeal.τ) (Cert.KvUpIdeal.main (F := Ideal))) ⟨m, fun _ => 0, g⟩ (fun r => (∀ c : Dev Cert.KvUpIdeal.nD,
      r.2.mem ((c.tc : Thread Cert.KvUpIdeal.nD Cert.KvUpIdeal.τ).loc Cert.KvUpIdeal.main_arg0) = m ((c.tc : Thread Cert.KvUpIdeal.nD Cert.KvUpIdeal.τ).loc Cert.KvUpIdeal.main_arg0)
      ∧ r.2.mem ((c.tc : Thread Cert.KvUpIdeal.nD Cert.KvUpIdeal.τ).loc Cert.KvUpIdeal.main_arg1) = m ((c.tc : Thread Cert.KvUpIdeal.nD Cert.KvUpIdeal.τ).loc Cert.KvUpIdeal.main_arg1)
      ∧ r.2.mem ((c.tc : Thread Cert.KvUpIdeal.nD Cert.KvUpIdeal.τ).loc Cert.KvUpIdeal.main_arg2) = m ((c.tc : Thread Cert.KvUpIdeal.nD Cert.KvUpIdeal.τ).loc Cert.KvUpIdeal.main_arg2))
      ∧ r.2.sem = fun _ => 0)

def quiescent_KvUpRefIdeal [hKvUpRefIdeal : Cert.KvUpRefIdeal.Facts] : Prop :=
  ∀ (m : (ℓ : Loc Cert.KvUpRefIdeal.nD Cert.KvUpRefIdeal.τ Cert.KvUpRefIdeal.sig) → Buf (Elt Ideal) ℓ) (g : Dev Cert.KvUpRefIdeal.nD → PrngReg), Pre_KvUpRefIdeal m →
    θ_run (Cert.KvUpRefIdeal.defs (F := Ideal)) (onTc (τ := Cert.KvUpRefIdeal.τ) (Cert.KvUpRefIdeal.main (F := Ideal))) ⟨m, fun _ => 0, g⟩ (fun r => (∀ c : Dev Cert.KvUpRefIdeal.nD,
      r.2.mem ((c.tc : Thread Cert.KvUpRefIdeal.nD Cert.KvUpRefIdeal.τ).loc Cert.KvUpRefIdeal.main_arg0) = m ((c.tc : Thread Cert.KvUpRefIdeal.nD Cert.KvUpRefIdeal.τ).loc Cert.KvUpRefIdeal.main_arg0)
      ∧ r.2.mem ((c.tc : Thread Cert.KvUpRefIdeal.nD Cert.KvUpRefIdeal.τ).loc Cert.KvUpRefIdeal.main_arg1) = m ((c.tc : Thread Cert.KvUpRefIdeal.nD Cert.KvUpRefIdeal.τ).loc Cert.KvUpRefIdeal.main_arg1)
      ∧ r.2.mem ((c.tc : Thread Cert.KvUpRefIdeal.nD Cert.KvUpRefIdeal.τ).loc Cert.KvUpRefIdeal.main_arg2) = m ((c.tc : Thread Cert.KvUpRefIdeal.nD Cert.KvUpRefIdeal.τ).loc Cert.KvUpRefIdeal.main_arg2))
      ∧ r.2.sem = fun _ => 0)

def quiescent_CrossQ [hCrossQ : Cert.CrossQ.Facts] : Prop :=
  ∀ (m : (ℓ : Loc Cert.CrossQ.nD Cert.CrossQ.τ Cert.CrossQ.sig) → Buf (Elt Bits) ℓ) (g : Dev Cert.CrossQ.nD → PrngReg), Pre_CrossQ m →
    θ_run (Cert.CrossQ.defs (F := Bits)) (onTc (τ := Cert.CrossQ.τ) (Cert.CrossQ.main (F := Bits))) ⟨m, fun _ => 0, g⟩ (fun r => (∀ c : Dev Cert.CrossQ.nD,
      r.2.mem ((c.tc : Thread Cert.CrossQ.nD Cert.CrossQ.τ).loc Cert.CrossQ.main_arg0) = m ((c.tc : Thread Cert.CrossQ.nD Cert.CrossQ.τ).loc Cert.CrossQ.main_arg0)
      ∧ r.2.mem ((c.tc : Thread Cert.CrossQ.nD Cert.CrossQ.τ).loc Cert.CrossQ.main_arg1) = m ((c.tc : Thread Cert.CrossQ.nD Cert.CrossQ.τ).loc Cert.CrossQ.main_arg1)
      ∧ r.2.mem ((c.tc : Thread Cert.CrossQ.nD Cert.CrossQ.τ).loc Cert.CrossQ.main_arg2) = m ((c.tc : Thread Cert.CrossQ.nD Cert.CrossQ.τ).loc Cert.CrossQ.main_arg2))
      ∧ r.2.sem = fun _ => 0)

def quiescent_CrossQIdeal [hCrossQIdeal : Cert.CrossQIdeal.Facts] : Prop :=
  ∀ (m : (ℓ : Loc Cert.CrossQIdeal.nD Cert.CrossQIdeal.τ Cert.CrossQIdeal.sig) → Buf (Elt Ideal) ℓ) (g : Dev Cert.CrossQIdeal.nD → PrngReg), Pre_CrossQIdeal m →
    θ_run (Cert.CrossQIdeal.defs (F := Ideal)) (onTc (τ := Cert.CrossQIdeal.τ) (Cert.CrossQIdeal.main (F := Ideal))) ⟨m, fun _ => 0, g⟩ (fun r => (∀ c : Dev Cert.CrossQIdeal.nD,
      r.2.mem ((c.tc : Thread Cert.CrossQIdeal.nD Cert.CrossQIdeal.τ).loc Cert.CrossQIdeal.main_arg0) = m ((c.tc : Thread Cert.CrossQIdeal.nD Cert.CrossQIdeal.τ).loc Cert.CrossQIdeal.main_arg0)
      ∧ r.2.mem ((c.tc : Thread Cert.CrossQIdeal.nD Cert.CrossQIdeal.τ).loc Cert.CrossQIdeal.main_arg1) = m ((c.tc : Thread Cert.CrossQIdeal.nD Cert.CrossQIdeal.τ).loc Cert.CrossQIdeal.main_arg1)
      ∧ r.2.mem ((c.tc : Thread Cert.CrossQIdeal.nD Cert.CrossQIdeal.τ).loc Cert.CrossQIdeal.main_arg2) = m ((c.tc : Thread Cert.CrossQIdeal.nD Cert.CrossQIdeal.τ).loc Cert.CrossQIdeal.main_arg2))
      ∧ r.2.sem = fun _ => 0)

def quiescent_CrossQRefIdeal [hCrossQRefIdeal : Cert.CrossQRefIdeal.Facts] : Prop :=
  ∀ (m : (ℓ : Loc Cert.CrossQRefIdeal.nD Cert.CrossQRefIdeal.τ Cert.CrossQRefIdeal.sig) → Buf (Elt Ideal) ℓ) (g : Dev Cert.CrossQRefIdeal.nD → PrngReg), Pre_CrossQRefIdeal m →
    θ_run (Cert.CrossQRefIdeal.defs (F := Ideal)) (onTc (τ := Cert.CrossQRefIdeal.τ) (Cert.CrossQRefIdeal.main (F := Ideal))) ⟨m, fun _ => 0, g⟩ (fun r => (∀ c : Dev Cert.CrossQRefIdeal.nD,
      r.2.mem ((c.tc : Thread Cert.CrossQRefIdeal.nD Cert.CrossQRefIdeal.τ).loc Cert.CrossQRefIdeal.main_arg0) = m ((c.tc : Thread Cert.CrossQRefIdeal.nD Cert.CrossQRefIdeal.τ).loc Cert.CrossQRefIdeal.main_arg0)
      ∧ r.2.mem ((c.tc : Thread Cert.CrossQRefIdeal.nD Cert.CrossQRefIdeal.τ).loc Cert.CrossQRefIdeal.main_arg1) = m ((c.tc : Thread Cert.CrossQRefIdeal.nD Cert.CrossQRefIdeal.τ).loc Cert.CrossQRefIdeal.main_arg1)
      ∧ r.2.mem ((c.tc : Thread Cert.CrossQRefIdeal.nD Cert.CrossQRefIdeal.τ).loc Cert.CrossQRefIdeal.main_arg2) = m ((c.tc : Thread Cert.CrossQRefIdeal.nD Cert.CrossQRefIdeal.τ).loc Cert.CrossQRefIdeal.main_arg2))
      ∧ r.2.sem = fun _ => 0)

def quiescent_CrossKv [hCrossKv : Cert.CrossKv.Facts] : Prop :=
  ∀ (m : (ℓ : Loc Cert.CrossKv.nD Cert.CrossKv.τ Cert.CrossKv.sig) → Buf (Elt Bits) ℓ) (g : Dev Cert.CrossKv.nD → PrngReg), Pre_CrossKv m →
    θ_run (Cert.CrossKv.defs (F := Bits)) (onTc (τ := Cert.CrossKv.τ) (Cert.CrossKv.main (F := Bits))) ⟨m, fun _ => 0, g⟩ (fun r => (∀ c : Dev Cert.CrossKv.nD,
      r.2.mem ((c.tc : Thread Cert.CrossKv.nD Cert.CrossKv.τ).loc Cert.CrossKv.main_arg0) = m ((c.tc : Thread Cert.CrossKv.nD Cert.CrossKv.τ).loc Cert.CrossKv.main_arg0)
      ∧ r.2.mem ((c.tc : Thread Cert.CrossKv.nD Cert.CrossKv.τ).loc Cert.CrossKv.main_arg1) = m ((c.tc : Thread Cert.CrossKv.nD Cert.CrossKv.τ).loc Cert.CrossKv.main_arg1)
      ∧ r.2.mem ((c.tc : Thread Cert.CrossKv.nD Cert.CrossKv.τ).loc Cert.CrossKv.main_arg2) = m ((c.tc : Thread Cert.CrossKv.nD Cert.CrossKv.τ).loc Cert.CrossKv.main_arg2)
      ∧ r.2.mem ((c.tc : Thread Cert.CrossKv.nD Cert.CrossKv.τ).loc Cert.CrossKv.main_arg3) = m ((c.tc : Thread Cert.CrossKv.nD Cert.CrossKv.τ).loc Cert.CrossKv.main_arg3))
      ∧ r.2.sem = fun _ => 0)

def quiescent_CrossKvIdeal [hCrossKvIdeal : Cert.CrossKvIdeal.Facts] : Prop :=
  ∀ (m : (ℓ : Loc Cert.CrossKvIdeal.nD Cert.CrossKvIdeal.τ Cert.CrossKvIdeal.sig) → Buf (Elt Ideal) ℓ) (g : Dev Cert.CrossKvIdeal.nD → PrngReg), Pre_CrossKvIdeal m →
    θ_run (Cert.CrossKvIdeal.defs (F := Ideal)) (onTc (τ := Cert.CrossKvIdeal.τ) (Cert.CrossKvIdeal.main (F := Ideal))) ⟨m, fun _ => 0, g⟩ (fun r => (∀ c : Dev Cert.CrossKvIdeal.nD,
      r.2.mem ((c.tc : Thread Cert.CrossKvIdeal.nD Cert.CrossKvIdeal.τ).loc Cert.CrossKvIdeal.main_arg0) = m ((c.tc : Thread Cert.CrossKvIdeal.nD Cert.CrossKvIdeal.τ).loc Cert.CrossKvIdeal.main_arg0)
      ∧ r.2.mem ((c.tc : Thread Cert.CrossKvIdeal.nD Cert.CrossKvIdeal.τ).loc Cert.CrossKvIdeal.main_arg1) = m ((c.tc : Thread Cert.CrossKvIdeal.nD Cert.CrossKvIdeal.τ).loc Cert.CrossKvIdeal.main_arg1)
      ∧ r.2.mem ((c.tc : Thread Cert.CrossKvIdeal.nD Cert.CrossKvIdeal.τ).loc Cert.CrossKvIdeal.main_arg2) = m ((c.tc : Thread Cert.CrossKvIdeal.nD Cert.CrossKvIdeal.τ).loc Cert.CrossKvIdeal.main_arg2)
      ∧ r.2.mem ((c.tc : Thread Cert.CrossKvIdeal.nD Cert.CrossKvIdeal.τ).loc Cert.CrossKvIdeal.main_arg3) = m ((c.tc : Thread Cert.CrossKvIdeal.nD Cert.CrossKvIdeal.τ).loc Cert.CrossKvIdeal.main_arg3))
      ∧ r.2.sem = fun _ => 0)

def quiescent_CrossKvRefIdeal [hCrossKvRefIdeal : Cert.CrossKvRefIdeal.Facts] : Prop :=
  ∀ (m : (ℓ : Loc Cert.CrossKvRefIdeal.nD Cert.CrossKvRefIdeal.τ Cert.CrossKvRefIdeal.sig) → Buf (Elt Ideal) ℓ) (g : Dev Cert.CrossKvRefIdeal.nD → PrngReg), Pre_CrossKvRefIdeal m →
    θ_run (Cert.CrossKvRefIdeal.defs (F := Ideal)) (onTc (τ := Cert.CrossKvRefIdeal.τ) (Cert.CrossKvRefIdeal.main (F := Ideal))) ⟨m, fun _ => 0, g⟩ (fun r => (∀ c : Dev Cert.CrossKvRefIdeal.nD,
      r.2.mem ((c.tc : Thread Cert.CrossKvRefIdeal.nD Cert.CrossKvRefIdeal.τ).loc Cert.CrossKvRefIdeal.main_arg0) = m ((c.tc : Thread Cert.CrossKvRefIdeal.nD Cert.CrossKvRefIdeal.τ).loc Cert.CrossKvRefIdeal.main_arg0)
      ∧ r.2.mem ((c.tc : Thread Cert.CrossKvRefIdeal.nD Cert.CrossKvRefIdeal.τ).loc Cert.CrossKvRefIdeal.main_arg1) = m ((c.tc : Thread Cert.CrossKvRefIdeal.nD Cert.CrossKvRefIdeal.τ).loc Cert.CrossKvRefIdeal.main_arg1)
      ∧ r.2.mem ((c.tc : Thread Cert.CrossKvRefIdeal.nD Cert.CrossKvRefIdeal.τ).loc Cert.CrossKvRefIdeal.main_arg2) = m ((c.tc : Thread Cert.CrossKvRefIdeal.nD Cert.CrossKvRefIdeal.τ).loc Cert.CrossKvRefIdeal.main_arg2)
      ∧ r.2.mem ((c.tc : Thread Cert.CrossKvRefIdeal.nD Cert.CrossKvRefIdeal.τ).loc Cert.CrossKvRefIdeal.main_arg3) = m ((c.tc : Thread Cert.CrossKvRefIdeal.nD Cert.CrossKvRefIdeal.τ).loc Cert.CrossKvRefIdeal.main_arg3))
      ∧ r.2.sem = fun _ => 0)

def quiescent_CrossAttn [hCrossAttn : Cert.CrossAttn.Facts] : Prop :=
  ∀ (m : (ℓ : Loc Cert.CrossAttn.nD Cert.CrossAttn.τ Cert.CrossAttn.sig) → Buf (Elt Bits) ℓ) (g : Dev Cert.CrossAttn.nD → PrngReg), Pre_CrossAttn m →
    θ_run (Cert.CrossAttn.defs (F := Bits)) (onTc (τ := Cert.CrossAttn.τ) (Cert.CrossAttn.main (F := Bits))) ⟨m, fun _ => 0, g⟩ (fun r => (∀ c : Dev Cert.CrossAttn.nD,
      r.2.mem ((c.tc : Thread Cert.CrossAttn.nD Cert.CrossAttn.τ).loc Cert.CrossAttn.main_arg0) = m ((c.tc : Thread Cert.CrossAttn.nD Cert.CrossAttn.τ).loc Cert.CrossAttn.main_arg0)
      ∧ r.2.mem ((c.tc : Thread Cert.CrossAttn.nD Cert.CrossAttn.τ).loc Cert.CrossAttn.main_arg1) = m ((c.tc : Thread Cert.CrossAttn.nD Cert.CrossAttn.τ).loc Cert.CrossAttn.main_arg1))
      ∧ r.2.sem = fun _ => 0)

def quiescent_CrossAttnIdeal [hCrossAttnIdeal : Cert.CrossAttnIdeal.Facts] : Prop :=
  ∀ (m : (ℓ : Loc Cert.CrossAttnIdeal.nD Cert.CrossAttnIdeal.τ Cert.CrossAttnIdeal.sig) → Buf (Elt Ideal) ℓ) (g : Dev Cert.CrossAttnIdeal.nD → PrngReg), Pre_CrossAttnIdeal m →
    θ_run (Cert.CrossAttnIdeal.defs (F := Ideal)) (onTc (τ := Cert.CrossAttnIdeal.τ) (Cert.CrossAttnIdeal.main (F := Ideal))) ⟨m, fun _ => 0, g⟩ (fun r => (∀ c : Dev Cert.CrossAttnIdeal.nD,
      r.2.mem ((c.tc : Thread Cert.CrossAttnIdeal.nD Cert.CrossAttnIdeal.τ).loc Cert.CrossAttnIdeal.main_arg0) = m ((c.tc : Thread Cert.CrossAttnIdeal.nD Cert.CrossAttnIdeal.τ).loc Cert.CrossAttnIdeal.main_arg0)
      ∧ r.2.mem ((c.tc : Thread Cert.CrossAttnIdeal.nD Cert.CrossAttnIdeal.τ).loc Cert.CrossAttnIdeal.main_arg1) = m ((c.tc : Thread Cert.CrossAttnIdeal.nD Cert.CrossAttnIdeal.τ).loc Cert.CrossAttnIdeal.main_arg1))
      ∧ r.2.sem = fun _ => 0)

def quiescent_CrossAttnRefIdeal [hCrossAttnRefIdeal : Cert.CrossAttnRefIdeal.Facts] : Prop :=
  ∀ (m : (ℓ : Loc Cert.CrossAttnRefIdeal.nD Cert.CrossAttnRefIdeal.τ Cert.CrossAttnRefIdeal.sig) → Buf (Elt Ideal) ℓ) (g : Dev Cert.CrossAttnRefIdeal.nD → PrngReg), Pre_CrossAttnRefIdeal m →
    θ_run (Cert.CrossAttnRefIdeal.defs (F := Ideal)) (onTc (τ := Cert.CrossAttnRefIdeal.τ) (Cert.CrossAttnRefIdeal.main (F := Ideal))) ⟨m, fun _ => 0, g⟩ (fun r => (∀ c : Dev Cert.CrossAttnRefIdeal.nD,
      r.2.mem ((c.tc : Thread Cert.CrossAttnRefIdeal.nD Cert.CrossAttnRefIdeal.τ).loc Cert.CrossAttnRefIdeal.main_arg0) = m ((c.tc : Thread Cert.CrossAttnRefIdeal.nD Cert.CrossAttnRefIdeal.τ).loc Cert.CrossAttnRefIdeal.main_arg0)
      ∧ r.2.mem ((c.tc : Thread Cert.CrossAttnRefIdeal.nD Cert.CrossAttnRefIdeal.τ).loc Cert.CrossAttnRefIdeal.main_arg1) = m ((c.tc : Thread Cert.CrossAttnRefIdeal.nD Cert.CrossAttnRefIdeal.τ).loc Cert.CrossAttnRefIdeal.main_arg1))
      ∧ r.2.sem = fun _ => 0)

def quiescent_CrossOut [hCrossOut : Cert.CrossOut.Facts] : Prop :=
  ∀ (m : (ℓ : Loc Cert.CrossOut.nD Cert.CrossOut.τ Cert.CrossOut.sig) → Buf (Elt Bits) ℓ) (g : Dev Cert.CrossOut.nD → PrngReg), Pre_CrossOut m →
    θ_run (Cert.CrossOut.defs (F := Bits)) (onTc (τ := Cert.CrossOut.τ) (Cert.CrossOut.main (F := Bits))) ⟨m, fun _ => 0, g⟩ (fun r => (∀ c : Dev Cert.CrossOut.nD,
      r.2.mem ((c.tc : Thread Cert.CrossOut.nD Cert.CrossOut.τ).loc Cert.CrossOut.main_arg0) = m ((c.tc : Thread Cert.CrossOut.nD Cert.CrossOut.τ).loc Cert.CrossOut.main_arg0)
      ∧ r.2.mem ((c.tc : Thread Cert.CrossOut.nD Cert.CrossOut.τ).loc Cert.CrossOut.main_arg1) = m ((c.tc : Thread Cert.CrossOut.nD Cert.CrossOut.τ).loc Cert.CrossOut.main_arg1)
      ∧ r.2.mem ((c.tc : Thread Cert.CrossOut.nD Cert.CrossOut.τ).loc Cert.CrossOut.main_arg2) = m ((c.tc : Thread Cert.CrossOut.nD Cert.CrossOut.τ).loc Cert.CrossOut.main_arg2))
      ∧ r.2.sem = fun _ => 0)

def quiescent_CrossOutIdeal [hCrossOutIdeal : Cert.CrossOutIdeal.Facts] : Prop :=
  ∀ (m : (ℓ : Loc Cert.CrossOutIdeal.nD Cert.CrossOutIdeal.τ Cert.CrossOutIdeal.sig) → Buf (Elt Ideal) ℓ) (g : Dev Cert.CrossOutIdeal.nD → PrngReg), Pre_CrossOutIdeal m →
    θ_run (Cert.CrossOutIdeal.defs (F := Ideal)) (onTc (τ := Cert.CrossOutIdeal.τ) (Cert.CrossOutIdeal.main (F := Ideal))) ⟨m, fun _ => 0, g⟩ (fun r => (∀ c : Dev Cert.CrossOutIdeal.nD,
      r.2.mem ((c.tc : Thread Cert.CrossOutIdeal.nD Cert.CrossOutIdeal.τ).loc Cert.CrossOutIdeal.main_arg0) = m ((c.tc : Thread Cert.CrossOutIdeal.nD Cert.CrossOutIdeal.τ).loc Cert.CrossOutIdeal.main_arg0)
      ∧ r.2.mem ((c.tc : Thread Cert.CrossOutIdeal.nD Cert.CrossOutIdeal.τ).loc Cert.CrossOutIdeal.main_arg1) = m ((c.tc : Thread Cert.CrossOutIdeal.nD Cert.CrossOutIdeal.τ).loc Cert.CrossOutIdeal.main_arg1)
      ∧ r.2.mem ((c.tc : Thread Cert.CrossOutIdeal.nD Cert.CrossOutIdeal.τ).loc Cert.CrossOutIdeal.main_arg2) = m ((c.tc : Thread Cert.CrossOutIdeal.nD Cert.CrossOutIdeal.τ).loc Cert.CrossOutIdeal.main_arg2))
      ∧ r.2.sem = fun _ => 0)

def quiescent_CrossOutRefIdeal [hCrossOutRefIdeal : Cert.CrossOutRefIdeal.Facts] : Prop :=
  ∀ (m : (ℓ : Loc Cert.CrossOutRefIdeal.nD Cert.CrossOutRefIdeal.τ Cert.CrossOutRefIdeal.sig) → Buf (Elt Ideal) ℓ) (g : Dev Cert.CrossOutRefIdeal.nD → PrngReg), Pre_CrossOutRefIdeal m →
    θ_run (Cert.CrossOutRefIdeal.defs (F := Ideal)) (onTc (τ := Cert.CrossOutRefIdeal.τ) (Cert.CrossOutRefIdeal.main (F := Ideal))) ⟨m, fun _ => 0, g⟩ (fun r => (∀ c : Dev Cert.CrossOutRefIdeal.nD,
      r.2.mem ((c.tc : Thread Cert.CrossOutRefIdeal.nD Cert.CrossOutRefIdeal.τ).loc Cert.CrossOutRefIdeal.main_arg0) = m ((c.tc : Thread Cert.CrossOutRefIdeal.nD Cert.CrossOutRefIdeal.τ).loc Cert.CrossOutRefIdeal.main_arg0)
      ∧ r.2.mem ((c.tc : Thread Cert.CrossOutRefIdeal.nD Cert.CrossOutRefIdeal.τ).loc Cert.CrossOutRefIdeal.main_arg1) = m ((c.tc : Thread Cert.CrossOutRefIdeal.nD Cert.CrossOutRefIdeal.τ).loc Cert.CrossOutRefIdeal.main_arg1)
      ∧ r.2.mem ((c.tc : Thread Cert.CrossOutRefIdeal.nD Cert.CrossOutRefIdeal.τ).loc Cert.CrossOutRefIdeal.main_arg2) = m ((c.tc : Thread Cert.CrossOutRefIdeal.nD Cert.CrossOutRefIdeal.τ).loc Cert.CrossOutRefIdeal.main_arg2))
      ∧ r.2.sem = fun _ => 0)

def quiescent_ShortConv [hShortConv : Cert.ShortConv.Facts] : Prop :=
  ∀ (m : (ℓ : Loc Cert.ShortConv.nD Cert.ShortConv.τ Cert.ShortConv.sig) → Buf (Elt Bits) ℓ) (g : Dev Cert.ShortConv.nD → PrngReg), Pre_ShortConv m →
    θ_run (Cert.ShortConv.defs (F := Bits)) (onTc (τ := Cert.ShortConv.τ) (Cert.ShortConv.main (F := Bits))) ⟨m, fun _ => 0, g⟩ (fun r => (∀ c : Dev Cert.ShortConv.nD,
      r.2.mem ((c.tc : Thread Cert.ShortConv.nD Cert.ShortConv.τ).loc Cert.ShortConv.main_arg0) = m ((c.tc : Thread Cert.ShortConv.nD Cert.ShortConv.τ).loc Cert.ShortConv.main_arg0)
      ∧ r.2.mem ((c.tc : Thread Cert.ShortConv.nD Cert.ShortConv.τ).loc Cert.ShortConv.main_arg1) = m ((c.tc : Thread Cert.ShortConv.nD Cert.ShortConv.τ).loc Cert.ShortConv.main_arg1)
      ∧ r.2.mem ((c.tc : Thread Cert.ShortConv.nD Cert.ShortConv.τ).loc Cert.ShortConv.main_arg2) = m ((c.tc : Thread Cert.ShortConv.nD Cert.ShortConv.τ).loc Cert.ShortConv.main_arg2)
      ∧ r.2.mem ((c.tc : Thread Cert.ShortConv.nD Cert.ShortConv.τ).loc Cert.ShortConv.main_arg3) = m ((c.tc : Thread Cert.ShortConv.nD Cert.ShortConv.τ).loc Cert.ShortConv.main_arg3))
      ∧ r.2.sem = fun _ => 0)

def quiescent_ShortConvIdeal [hShortConvIdeal : Cert.ShortConvIdeal.Facts] : Prop :=
  ∀ (m : (ℓ : Loc Cert.ShortConvIdeal.nD Cert.ShortConvIdeal.τ Cert.ShortConvIdeal.sig) → Buf (Elt Ideal) ℓ) (g : Dev Cert.ShortConvIdeal.nD → PrngReg), Pre_ShortConvIdeal m →
    θ_run (Cert.ShortConvIdeal.defs (F := Ideal)) (onTc (τ := Cert.ShortConvIdeal.τ) (Cert.ShortConvIdeal.main (F := Ideal))) ⟨m, fun _ => 0, g⟩ (fun r => (∀ c : Dev Cert.ShortConvIdeal.nD,
      r.2.mem ((c.tc : Thread Cert.ShortConvIdeal.nD Cert.ShortConvIdeal.τ).loc Cert.ShortConvIdeal.main_arg0) = m ((c.tc : Thread Cert.ShortConvIdeal.nD Cert.ShortConvIdeal.τ).loc Cert.ShortConvIdeal.main_arg0)
      ∧ r.2.mem ((c.tc : Thread Cert.ShortConvIdeal.nD Cert.ShortConvIdeal.τ).loc Cert.ShortConvIdeal.main_arg1) = m ((c.tc : Thread Cert.ShortConvIdeal.nD Cert.ShortConvIdeal.τ).loc Cert.ShortConvIdeal.main_arg1)
      ∧ r.2.mem ((c.tc : Thread Cert.ShortConvIdeal.nD Cert.ShortConvIdeal.τ).loc Cert.ShortConvIdeal.main_arg2) = m ((c.tc : Thread Cert.ShortConvIdeal.nD Cert.ShortConvIdeal.τ).loc Cert.ShortConvIdeal.main_arg2)
      ∧ r.2.mem ((c.tc : Thread Cert.ShortConvIdeal.nD Cert.ShortConvIdeal.τ).loc Cert.ShortConvIdeal.main_arg3) = m ((c.tc : Thread Cert.ShortConvIdeal.nD Cert.ShortConvIdeal.τ).loc Cert.ShortConvIdeal.main_arg3))
      ∧ r.2.sem = fun _ => 0)

def quiescent_ShortConvIdeal_pre_conv_finite [hShortConvIdeal : Cert.ShortConvIdeal.Facts] [hPre_conv_finite : Cert.Pre_conv_finite.Facts] : Prop :=
  ∀ (m : (ℓ : Loc Cert.ShortConvIdeal.nD Cert.ShortConvIdeal.τ Cert.ShortConvIdeal.sig) → Buf (Elt Ideal) ℓ) (g : Dev Cert.ShortConvIdeal.nD → PrngReg), Pre_ShortConvIdeal_conv_finite m →
    θ_run (Cert.ShortConvIdeal.defs (F := Ideal)) (onTc (τ := Cert.ShortConvIdeal.τ) (Cert.ShortConvIdeal.main (F := Ideal))) ⟨m, fun _ => 0, g⟩ (fun r => (∀ c : Dev Cert.ShortConvIdeal.nD,
      r.2.mem ((c.tc : Thread Cert.ShortConvIdeal.nD Cert.ShortConvIdeal.τ).loc Cert.ShortConvIdeal.main_arg0) = m ((c.tc : Thread Cert.ShortConvIdeal.nD Cert.ShortConvIdeal.τ).loc Cert.ShortConvIdeal.main_arg0)
      ∧ r.2.mem ((c.tc : Thread Cert.ShortConvIdeal.nD Cert.ShortConvIdeal.τ).loc Cert.ShortConvIdeal.main_arg1) = m ((c.tc : Thread Cert.ShortConvIdeal.nD Cert.ShortConvIdeal.τ).loc Cert.ShortConvIdeal.main_arg1)
      ∧ r.2.mem ((c.tc : Thread Cert.ShortConvIdeal.nD Cert.ShortConvIdeal.τ).loc Cert.ShortConvIdeal.main_arg2) = m ((c.tc : Thread Cert.ShortConvIdeal.nD Cert.ShortConvIdeal.τ).loc Cert.ShortConvIdeal.main_arg2)
      ∧ r.2.mem ((c.tc : Thread Cert.ShortConvIdeal.nD Cert.ShortConvIdeal.τ).loc Cert.ShortConvIdeal.main_arg3) = m ((c.tc : Thread Cert.ShortConvIdeal.nD Cert.ShortConvIdeal.τ).loc Cert.ShortConvIdeal.main_arg3))
      ∧ r.2.sem = fun _ => 0)

def quiescent_ShortConvRefIdeal [hShortConvRefIdeal : Cert.ShortConvRefIdeal.Facts] : Prop :=
  ∀ (m : (ℓ : Loc Cert.ShortConvRefIdeal.nD Cert.ShortConvRefIdeal.τ Cert.ShortConvRefIdeal.sig) → Buf (Elt Ideal) ℓ) (g : Dev Cert.ShortConvRefIdeal.nD → PrngReg), Pre_ShortConvRefIdeal m →
    θ_run (Cert.ShortConvRefIdeal.defs (F := Ideal)) (onTc (τ := Cert.ShortConvRefIdeal.τ) (Cert.ShortConvRefIdeal.main (F := Ideal))) ⟨m, fun _ => 0, g⟩ (fun r => (∀ c : Dev Cert.ShortConvRefIdeal.nD,
      r.2.mem ((c.tc : Thread Cert.ShortConvRefIdeal.nD Cert.ShortConvRefIdeal.τ).loc Cert.ShortConvRefIdeal.main_arg0) = m ((c.tc : Thread Cert.ShortConvRefIdeal.nD Cert.ShortConvRefIdeal.τ).loc Cert.ShortConvRefIdeal.main_arg0)
      ∧ r.2.mem ((c.tc : Thread Cert.ShortConvRefIdeal.nD Cert.ShortConvRefIdeal.τ).loc Cert.ShortConvRefIdeal.main_arg1) = m ((c.tc : Thread Cert.ShortConvRefIdeal.nD Cert.ShortConvRefIdeal.τ).loc Cert.ShortConvRefIdeal.main_arg1)
      ∧ r.2.mem ((c.tc : Thread Cert.ShortConvRefIdeal.nD Cert.ShortConvRefIdeal.τ).loc Cert.ShortConvRefIdeal.main_arg2) = m ((c.tc : Thread Cert.ShortConvRefIdeal.nD Cert.ShortConvRefIdeal.τ).loc Cert.ShortConvRefIdeal.main_arg2)
      ∧ r.2.mem ((c.tc : Thread Cert.ShortConvRefIdeal.nD Cert.ShortConvRefIdeal.τ).loc Cert.ShortConvRefIdeal.main_arg3) = m ((c.tc : Thread Cert.ShortConvRefIdeal.nD Cert.ShortConvRefIdeal.τ).loc Cert.ShortConvRefIdeal.main_arg3))
      ∧ r.2.sem = fun _ => 0)

def quiescent_ShortConvRefIdeal_pre_conv_finite [hShortConvRefIdeal : Cert.ShortConvRefIdeal.Facts] [hPre_conv_finite : Cert.Pre_conv_finite.Facts] : Prop :=
  ∀ (m : (ℓ : Loc Cert.ShortConvRefIdeal.nD Cert.ShortConvRefIdeal.τ Cert.ShortConvRefIdeal.sig) → Buf (Elt Ideal) ℓ) (g : Dev Cert.ShortConvRefIdeal.nD → PrngReg), Pre_ShortConvRefIdeal_conv_finite m →
    θ_run (Cert.ShortConvRefIdeal.defs (F := Ideal)) (onTc (τ := Cert.ShortConvRefIdeal.τ) (Cert.ShortConvRefIdeal.main (F := Ideal))) ⟨m, fun _ => 0, g⟩ (fun r => (∀ c : Dev Cert.ShortConvRefIdeal.nD,
      r.2.mem ((c.tc : Thread Cert.ShortConvRefIdeal.nD Cert.ShortConvRefIdeal.τ).loc Cert.ShortConvRefIdeal.main_arg0) = m ((c.tc : Thread Cert.ShortConvRefIdeal.nD Cert.ShortConvRefIdeal.τ).loc Cert.ShortConvRefIdeal.main_arg0)
      ∧ r.2.mem ((c.tc : Thread Cert.ShortConvRefIdeal.nD Cert.ShortConvRefIdeal.τ).loc Cert.ShortConvRefIdeal.main_arg1) = m ((c.tc : Thread Cert.ShortConvRefIdeal.nD Cert.ShortConvRefIdeal.τ).loc Cert.ShortConvRefIdeal.main_arg1)
      ∧ r.2.mem ((c.tc : Thread Cert.ShortConvRefIdeal.nD Cert.ShortConvRefIdeal.τ).loc Cert.ShortConvRefIdeal.main_arg2) = m ((c.tc : Thread Cert.ShortConvRefIdeal.nD Cert.ShortConvRefIdeal.τ).loc Cert.ShortConvRefIdeal.main_arg2)
      ∧ r.2.mem ((c.tc : Thread Cert.ShortConvRefIdeal.nD Cert.ShortConvRefIdeal.τ).loc Cert.ShortConvRefIdeal.main_arg3) = m ((c.tc : Thread Cert.ShortConvRefIdeal.nD Cert.ShortConvRefIdeal.τ).loc Cert.ShortConvRefIdeal.main_arg3))
      ∧ r.2.sem = fun _ => 0)

def preserves_Mla_MlaIdeal : Prop :=
  IdealRules.named_const.Statement Cert.MlaIdeal.κ "scale_log2e" .f32 0x3DD53B95#32 (((Real.sqrt 192)⁻¹ * (Real.log 2)⁻¹ : ℝ) : EReal)

def algebraic_MlaIdeal_MlaRefIdeal [hMlaIdeal : Cert.MlaIdeal.Facts] [hMlaRefIdeal : Cert.MlaRefIdeal.Facts] : Prop :=
  ∀ (m : (ℓ : Loc Cert.MlaIdeal.nD Cert.MlaIdeal.τ Cert.MlaIdeal.sig) → Buf (Elt Ideal) ℓ) (g : Dev Cert.MlaIdeal.nD → PrngReg)
    (m' : (ℓ : Loc Cert.MlaRefIdeal.nD Cert.MlaRefIdeal.τ Cert.MlaRefIdeal.sig) → Buf (Elt Ideal) ℓ) (g' : Dev Cert.MlaRefIdeal.nD → PrngReg), Pre_MlaIdeal m →
    (∀ c : Dev Cert.MlaIdeal.nD,
      m' ((c.tc : Thread Cert.MlaRefIdeal.nD Cert.MlaRefIdeal.τ).loc Cert.MlaRefIdeal.main_arg0) = m ((c.tc : Thread Cert.MlaIdeal.nD Cert.MlaIdeal.τ).loc Cert.MlaIdeal.main_arg0)
      ∧ m' ((c.tc : Thread Cert.MlaRefIdeal.nD Cert.MlaRefIdeal.τ).loc Cert.MlaRefIdeal.main_arg1) = m ((c.tc : Thread Cert.MlaIdeal.nD Cert.MlaIdeal.τ).loc Cert.MlaIdeal.main_arg1)
      ∧ m' ((c.tc : Thread Cert.MlaRefIdeal.nD Cert.MlaRefIdeal.τ).loc Cert.MlaRefIdeal.main_arg2) = m ((c.tc : Thread Cert.MlaIdeal.nD Cert.MlaIdeal.τ).loc Cert.MlaIdeal.main_arg2)
      ∧ m' ((c.tc : Thread Cert.MlaRefIdeal.nD Cert.MlaRefIdeal.τ).loc Cert.MlaRefIdeal.main_arg3) = m ((c.tc : Thread Cert.MlaIdeal.nD Cert.MlaIdeal.τ).loc Cert.MlaIdeal.main_arg3)) →
    ∃ (v0 : (c : Dev Cert.MlaIdeal.nD) → Buf (Elt Ideal) ((c.tc : Thread Cert.MlaIdeal.nD Cert.MlaIdeal.τ).loc Cert.MlaIdeal.main_v37)),
      θ_run (Cert.MlaIdeal.defs (F := Ideal)) (onTc (τ := Cert.MlaIdeal.τ) (Cert.MlaIdeal.main (F := Ideal))) ⟨m, fun _ => 0, g⟩ (fun r => ∀ c : Dev Cert.MlaIdeal.nD,
          r.2.mem ((c.tc : Thread Cert.MlaIdeal.nD Cert.MlaIdeal.τ).loc Cert.MlaIdeal.main_v37) = v0 c
          ∧ r.2.mem ((c.tc : Thread Cert.MlaIdeal.nD Cert.MlaIdeal.τ).loc Cert.MlaIdeal.main_arg0) = m ((c.tc : Thread Cert.MlaIdeal.nD Cert.MlaIdeal.τ).loc Cert.MlaIdeal.main_arg0)
          ∧ r.2.mem ((c.tc : Thread Cert.MlaIdeal.nD Cert.MlaIdeal.τ).loc Cert.MlaIdeal.main_arg1) = m ((c.tc : Thread Cert.MlaIdeal.nD Cert.MlaIdeal.τ).loc Cert.MlaIdeal.main_arg1)
          ∧ r.2.mem ((c.tc : Thread Cert.MlaIdeal.nD Cert.MlaIdeal.τ).loc Cert.MlaIdeal.main_arg2) = m ((c.tc : Thread Cert.MlaIdeal.nD Cert.MlaIdeal.τ).loc Cert.MlaIdeal.main_arg2)
          ∧ r.2.mem ((c.tc : Thread Cert.MlaIdeal.nD Cert.MlaIdeal.τ).loc Cert.MlaIdeal.main_arg3) = m ((c.tc : Thread Cert.MlaIdeal.nD Cert.MlaIdeal.τ).loc Cert.MlaIdeal.main_arg3))
      ∧ θ_run (Cert.MlaRefIdeal.defs (F := Ideal)) (onTc (τ := Cert.MlaRefIdeal.τ) (Cert.MlaRefIdeal.main (F := Ideal))) ⟨m', fun _ => 0, g'⟩ (fun r => ∀ c : Dev Cert.MlaRefIdeal.nD,
          r.2.mem ((c.tc : Thread Cert.MlaRefIdeal.nD Cert.MlaRefIdeal.τ).loc Cert.MlaRefIdeal.main_v98) = v0 c
          ∧ r.2.mem ((c.tc : Thread Cert.MlaRefIdeal.nD Cert.MlaRefIdeal.τ).loc Cert.MlaRefIdeal.main_arg0) = m' ((c.tc : Thread Cert.MlaRefIdeal.nD Cert.MlaRefIdeal.τ).loc Cert.MlaRefIdeal.main_arg0)
          ∧ r.2.mem ((c.tc : Thread Cert.MlaRefIdeal.nD Cert.MlaRefIdeal.τ).loc Cert.MlaRefIdeal.main_arg1) = m' ((c.tc : Thread Cert.MlaRefIdeal.nD Cert.MlaRefIdeal.τ).loc Cert.MlaRefIdeal.main_arg1)
          ∧ r.2.mem ((c.tc : Thread Cert.MlaRefIdeal.nD Cert.MlaRefIdeal.τ).loc Cert.MlaRefIdeal.main_arg2) = m' ((c.tc : Thread Cert.MlaRefIdeal.nD Cert.MlaRefIdeal.τ).loc Cert.MlaRefIdeal.main_arg2)
          ∧ r.2.mem ((c.tc : Thread Cert.MlaRefIdeal.nD Cert.MlaRefIdeal.τ).loc Cert.MlaRefIdeal.main_arg3) = m' ((c.tc : Thread Cert.MlaRefIdeal.nD Cert.MlaRefIdeal.τ).loc Cert.MlaRefIdeal.main_arg3))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)
      ∧ m' ((c.tc : Thread Cert.InProjRefIdeal.nD Cert.InProjRefIdeal.τ).loc Cert.InProjRefIdeal.main_arg2) = m ((c.tc : Thread Cert.InProjIdeal.nD Cert.InProjIdeal.τ).loc Cert.InProjIdeal.main_arg2)) →
    ∃ (v0 : (c : Dev Cert.InProjIdeal.nD) → Buf (Elt Ideal) ((c.tc : Thread Cert.InProjIdeal.nD Cert.InProjIdeal.τ).loc Cert.InProjIdeal.main_v7)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v7) = v0 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v18) = v0 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1)
          ∧ r.2.mem ((c.tc : Thread Cert.InProjRefIdeal.nD Cert.InProjRefIdeal.τ).loc Cert.InProjRefIdeal.main_arg2) = m' ((c.tc : Thread Cert.InProjRefIdeal.nD Cert.InProjRefIdeal.τ).loc Cert.InProjRefIdeal.main_arg2))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)
      ∧ m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2)
      ∧ m' ((c.tc : Thread Cert.OutProjRefIdeal.nD Cert.OutProjRefIdeal.τ).loc Cert.OutProjRefIdeal.main_arg3) = m ((c.tc : Thread Cert.OutProjIdeal.nD Cert.OutProjIdeal.τ).loc Cert.OutProjIdeal.main_arg3)
      ∧ m' ((c.tc : Thread Cert.OutProjRefIdeal.nD Cert.OutProjRefIdeal.τ).loc Cert.OutProjRefIdeal.main_arg4) = m ((c.tc : Thread Cert.OutProjIdeal.nD Cert.OutProjIdeal.τ).loc Cert.OutProjIdeal.main_arg4)) →
    ∃ (v0 : (c : Dev Cert.OutProjIdeal.nD) → Buf (Elt Ideal) ((c.tc : Thread Cert.OutProjIdeal.nD Cert.OutProjIdeal.τ).loc Cert.OutProjIdeal.main_v1)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v1) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
          ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v3) = v0 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1)
          ∧ r.2.mem ((c.tc : Thread Cert.OutProjRefIdeal.nD Cert.OutProjRefIdeal.τ).loc Cert.OutProjRefIdeal.main_arg2) = m' ((c.tc : Thread Cert.OutProjRefIdeal.nD Cert.OutProjRefIdeal.τ).loc Cert.OutProjRefIdeal.main_arg2)
          ∧ r.2.mem ((c.tc : Thread Cert.OutProjRefIdeal.nD Cert.OutProjRefIdeal.τ).loc Cert.OutProjRefIdeal.main_arg3) = m' ((c.tc : Thread Cert.OutProjRefIdeal.nD Cert.OutProjRefIdeal.τ).loc Cert.OutProjRefIdeal.main_arg3)
          ∧ r.2.mem ((c.tc : Thread Cert.OutProjRefIdeal.nD Cert.OutProjRefIdeal.τ).loc Cert.OutProjRefIdeal.main_arg4) = m' ((c.tc : Thread Cert.OutProjRefIdeal.nD Cert.OutProjRefIdeal.τ).loc Cert.OutProjRefIdeal.main_arg4))

def preserves_QUp_QUpIdeal : Prop :=
  True

def algebraic_QUpIdeal_QUpRefIdeal [hQUpIdeal : Cert.QUpIdeal.Facts] [hQUpRefIdeal : Cert.QUpRefIdeal.Facts] : Prop :=
  ∀ (m : (ℓ : Loc Cert.QUpIdeal.nD Cert.QUpIdeal.τ Cert.QUpIdeal.sig) → Buf (Elt Ideal) ℓ) (g : Dev Cert.QUpIdeal.nD → PrngReg)
    (m' : (ℓ : Loc Cert.QUpRefIdeal.nD Cert.QUpRefIdeal.τ Cert.QUpRefIdeal.sig) → Buf (Elt Ideal) ℓ) (g' : Dev Cert.QUpRefIdeal.nD → PrngReg), Pre_QUpIdeal m →
    (∀ c : Dev Cert.QUpIdeal.nD,
      m' ((c.tc : Thread Cert.QUpRefIdeal.nD Cert.QUpRefIdeal.τ).loc Cert.QUpRefIdeal.main_arg0) = m ((c.tc : Thread Cert.QUpIdeal.nD Cert.QUpIdeal.τ).loc Cert.QUpIdeal.main_arg0)
      ∧ m' ((c.tc : Thread Cert.QUpRefIdeal.nD Cert.QUpRefIdeal.τ).loc Cert.QUpRefIdeal.main_arg1) = m ((c.tc : Thread Cert.QUpIdeal.nD Cert.QUpIdeal.τ).loc Cert.QUpIdeal.main_arg1)
      ∧ m' ((c.tc : Thread Cert.QUpRefIdeal.nD Cert.QUpRefIdeal.τ).loc Cert.QUpRefIdeal.main_arg2) = m ((c.tc : Thread Cert.QUpIdeal.nD Cert.QUpIdeal.τ).loc Cert.QUpIdeal.main_arg2)) →
    ∃ (v0 : (c : Dev Cert.QUpIdeal.nD) → Buf (Elt Ideal) ((c.tc : Thread Cert.QUpIdeal.nD Cert.QUpIdeal.τ).loc Cert.QUpIdeal.main_v5)),
      θ_run (Cert.QUpIdeal.defs (F := Ideal)) (onTc (τ := Cert.QUpIdeal.τ) (Cert.QUpIdeal.main (F := Ideal))) ⟨m, fun _ => 0, g⟩ (fun r => ∀ c : Dev Cert.QUpIdeal.nD,
          r.2.mem ((c.tc : Thread Cert.QUpIdeal.nD Cert.QUpIdeal.τ).loc Cert.QUpIdeal.main_v5) = v0 c
          ∧ r.2.mem ((c.tc : Thread Cert.QUpIdeal.nD Cert.QUpIdeal.τ).loc Cert.QUpIdeal.main_arg0) = m ((c.tc : Thread Cert.QUpIdeal.nD Cert.QUpIdeal.τ).loc Cert.QUpIdeal.main_arg0)
          ∧ r.2.mem ((c.tc : Thread Cert.QUpIdeal.nD Cert.QUpIdeal.τ).loc Cert.QUpIdeal.main_arg1) = m ((c.tc : Thread Cert.QUpIdeal.nD Cert.QUpIdeal.τ).loc Cert.QUpIdeal.main_arg1)
          ∧ r.2.mem ((c.tc : Thread Cert.QUpIdeal.nD Cert.QUpIdeal.τ).loc Cert.QUpIdeal.main_arg2) = m ((c.tc : Thread Cert.QUpIdeal.nD Cert.QUpIdeal.τ).loc Cert.QUpIdeal.main_arg2))
      ∧ θ_run (Cert.QUpRefIdeal.defs (F := Ideal)) (onTc (τ := Cert.QUpRefIdeal.τ) (Cert.QUpRefIdeal.main (F := Ideal))) ⟨m', fun _ => 0, g'⟩ (fun r => ∀ c : Dev Cert.QUpRefIdeal.nD,
          r.2.mem ((c.tc : Thread Cert.QUpRefIdeal.nD Cert.QUpRefIdeal.τ).loc Cert.QUpRefIdeal.main_v19) = v0 c
          ∧ r.2.mem ((c.tc : Thread Cert.QUpRefIdeal.nD Cert.QUpRefIdeal.τ).loc Cert.QUpRefIdeal.main_arg0) = m' ((c.tc : Thread Cert.QUpRefIdeal.nD Cert.QUpRefIdeal.τ).loc Cert.QUpRefIdeal.main_arg0)
          ∧ r.2.mem ((c.tc : Thread Cert.QUpRefIdeal.nD Cert.QUpRefIdeal.τ).loc Cert.QUpRefIdeal.main_arg1) = m' ((c.tc : Thread Cert.QUpRefIdeal.nD Cert.QUpRefIdeal.τ).loc Cert.QUpRefIdeal.main_arg1)
          ∧ r.2.mem ((c.tc : Thread Cert.QUpRefIdeal.nD Cert.QUpRefIdeal.τ).loc Cert.QUpRefIdeal.main_arg2) = m' ((c.tc : Thread Cert.QUpRefIdeal.nD Cert.QUpRefIdeal.τ).loc Cert.QUpRefIdeal.main_arg2))

def preserves_KvUp_KvUpIdeal : Prop :=
  True

def algebraic_KvUpIdeal_KvUpRefIdeal [hKvUpIdeal : Cert.KvUpIdeal.Facts] [hKvUpRefIdeal : Cert.KvUpRefIdeal.Facts] : Prop :=
  ∀ (m : (ℓ : Loc Cert.KvUpIdeal.nD Cert.KvUpIdeal.τ Cert.KvUpIdeal.sig) → Buf (Elt Ideal) ℓ) (g : Dev Cert.KvUpIdeal.nD → PrngReg)
    (m' : (ℓ : Loc Cert.KvUpRefIdeal.nD Cert.KvUpRefIdeal.τ Cert.KvUpRefIdeal.sig) → Buf (Elt Ideal) ℓ) (g' : Dev Cert.KvUpRefIdeal.nD → PrngReg), Pre_KvUpIdeal m →
    (∀ c : Dev Cert.KvUpIdeal.nD,
      m' ((c.tc : Thread Cert.KvUpRefIdeal.nD Cert.KvUpRefIdeal.τ).loc Cert.KvUpRefIdeal.main_arg0) = m ((c.tc : Thread Cert.KvUpIdeal.nD Cert.KvUpIdeal.τ).loc Cert.KvUpIdeal.main_arg0)
      ∧ m' ((c.tc : Thread Cert.KvUpRefIdeal.nD Cert.KvUpRefIdeal.τ).loc Cert.KvUpRefIdeal.main_arg1) = m ((c.tc : Thread Cert.KvUpIdeal.nD Cert.KvUpIdeal.τ).loc Cert.KvUpIdeal.main_arg1)
      ∧ m' ((c.tc : Thread Cert.KvUpRefIdeal.nD Cert.KvUpRefIdeal.τ).loc Cert.KvUpRefIdeal.main_arg2) = m ((c.tc : Thread Cert.KvUpIdeal.nD Cert.KvUpIdeal.τ).loc Cert.KvUpIdeal.main_arg2)) →
    ∃ (v0 : (c : Dev Cert.KvUpIdeal.nD) → Buf (Elt Ideal) ((c.tc : Thread Cert.KvUpIdeal.nD Cert.KvUpIdeal.τ).loc Cert.KvUpIdeal.main_v5)),
      θ_run (Cert.KvUpIdeal.defs (F := Ideal)) (onTc (τ := Cert.KvUpIdeal.τ) (Cert.KvUpIdeal.main (F := Ideal))) ⟨m, fun _ => 0, g⟩ (fun r => ∀ c : Dev Cert.KvUpIdeal.nD,
          r.2.mem ((c.tc : Thread Cert.KvUpIdeal.nD Cert.KvUpIdeal.τ).loc Cert.KvUpIdeal.main_v5) = v0 c
          ∧ r.2.mem ((c.tc : Thread Cert.KvUpIdeal.nD Cert.KvUpIdeal.τ).loc Cert.KvUpIdeal.main_arg0) = m ((c.tc : Thread Cert.KvUpIdeal.nD Cert.KvUpIdeal.τ).loc Cert.KvUpIdeal.main_arg0)
          ∧ r.2.mem ((c.tc : Thread Cert.KvUpIdeal.nD Cert.KvUpIdeal.τ).loc Cert.KvUpIdeal.main_arg1) = m ((c.tc : Thread Cert.KvUpIdeal.nD Cert.KvUpIdeal.τ).loc Cert.KvUpIdeal.main_arg1)
          ∧ r.2.mem ((c.tc : Thread Cert.KvUpIdeal.nD Cert.KvUpIdeal.τ).loc Cert.KvUpIdeal.main_arg2) = m ((c.tc : Thread Cert.KvUpIdeal.nD Cert.KvUpIdeal.τ).loc Cert.KvUpIdeal.main_arg2))
      ∧ θ_run (Cert.KvUpRefIdeal.defs (F := Ideal)) (onTc (τ := Cert.KvUpRefIdeal.τ) (Cert.KvUpRefIdeal.main (F := Ideal))) ⟨m', fun _ => 0, g'⟩ (fun r => ∀ c : Dev Cert.KvUpRefIdeal.nD,
          r.2.mem ((c.tc : Thread Cert.KvUpRefIdeal.nD Cert.KvUpRefIdeal.τ).loc Cert.KvUpRefIdeal.main_v21) = v0 c
          ∧ r.2.mem ((c.tc : Thread Cert.KvUpRefIdeal.nD Cert.KvUpRefIdeal.τ).loc Cert.KvUpRefIdeal.main_arg0) = m' ((c.tc : Thread Cert.KvUpRefIdeal.nD Cert.KvUpRefIdeal.τ).loc Cert.KvUpRefIdeal.main_arg0)
          ∧ r.2.mem ((c.tc : Thread Cert.KvUpRefIdeal.nD Cert.KvUpRefIdeal.τ).loc Cert.KvUpRefIdeal.main_arg1) = m' ((c.tc : Thread Cert.KvUpRefIdeal.nD Cert.KvUpRefIdeal.τ).loc Cert.KvUpRefIdeal.main_arg1)
          ∧ r.2.mem ((c.tc : Thread Cert.KvUpRefIdeal.nD Cert.KvUpRefIdeal.τ).loc Cert.KvUpRefIdeal.main_arg2) = m' ((c.tc : Thread Cert.KvUpRefIdeal.nD Cert.KvUpRefIdeal.τ).loc Cert.KvUpRefIdeal.main_arg2))

def preserves_CrossQ_CrossQIdeal : Prop :=
  True

def algebraic_CrossQIdeal_CrossQRefIdeal [hCrossQIdeal : Cert.CrossQIdeal.Facts] [hCrossQRefIdeal : Cert.CrossQRefIdeal.Facts] : Prop :=
  ∀ (m : (ℓ : Loc Cert.CrossQIdeal.nD Cert.CrossQIdeal.τ Cert.CrossQIdeal.sig) → Buf (Elt Ideal) ℓ) (g : Dev Cert.CrossQIdeal.nD → PrngReg)
    (m' : (ℓ : Loc Cert.CrossQRefIdeal.nD Cert.CrossQRefIdeal.τ Cert.CrossQRefIdeal.sig) → Buf (Elt Ideal) ℓ) (g' : Dev Cert.CrossQRefIdeal.nD → PrngReg), Pre_CrossQIdeal m →
    (∀ c : Dev Cert.CrossQIdeal.nD,
      m' ((c.tc : Thread Cert.CrossQRefIdeal.nD Cert.CrossQRefIdeal.τ).loc Cert.CrossQRefIdeal.main_arg0) = m ((c.tc : Thread Cert.CrossQIdeal.nD Cert.CrossQIdeal.τ).loc Cert.CrossQIdeal.main_arg0)
      ∧ m' ((c.tc : Thread Cert.CrossQRefIdeal.nD Cert.CrossQRefIdeal.τ).loc Cert.CrossQRefIdeal.main_arg1) = m ((c.tc : Thread Cert.CrossQIdeal.nD Cert.CrossQIdeal.τ).loc Cert.CrossQIdeal.main_arg1)
      ∧ m' ((c.tc : Thread Cert.CrossQRefIdeal.nD Cert.CrossQRefIdeal.τ).loc Cert.CrossQRefIdeal.main_arg2) = m ((c.tc : Thread Cert.CrossQIdeal.nD Cert.CrossQIdeal.τ).loc Cert.CrossQIdeal.main_arg2)) →
    ∃ (v0 : (c : Dev Cert.CrossQIdeal.nD) → Buf (Elt Ideal) ((c.tc : Thread Cert.CrossQIdeal.nD Cert.CrossQIdeal.τ).loc Cert.CrossQIdeal.main_v2)),
      θ_run (Cert.CrossQIdeal.defs (F := Ideal)) (onTc (τ := Cert.CrossQIdeal.τ) (Cert.CrossQIdeal.main (F := Ideal))) ⟨m, fun _ => 0, g⟩ (fun r => ∀ c : Dev Cert.CrossQIdeal.nD,
          r.2.mem ((c.tc : Thread Cert.CrossQIdeal.nD Cert.CrossQIdeal.τ).loc Cert.CrossQIdeal.main_v2) = v0 c
          ∧ r.2.mem ((c.tc : Thread Cert.CrossQIdeal.nD Cert.CrossQIdeal.τ).loc Cert.CrossQIdeal.main_arg0) = m ((c.tc : Thread Cert.CrossQIdeal.nD Cert.CrossQIdeal.τ).loc Cert.CrossQIdeal.main_arg0)
          ∧ r.2.mem ((c.tc : Thread Cert.CrossQIdeal.nD Cert.CrossQIdeal.τ).loc Cert.CrossQIdeal.main_arg1) = m ((c.tc : Thread Cert.CrossQIdeal.nD Cert.CrossQIdeal.τ).loc Cert.CrossQIdeal.main_arg1)
          ∧ r.2.mem ((c.tc : Thread Cert.CrossQIdeal.nD Cert.CrossQIdeal.τ).loc Cert.CrossQIdeal.main_arg2) = m ((c.tc : Thread Cert.CrossQIdeal.nD Cert.CrossQIdeal.τ).loc Cert.CrossQIdeal.main_arg2))
      ∧ θ_run (Cert.CrossQRefIdeal.defs (F := Ideal)) (onTc (τ := Cert.CrossQRefIdeal.τ) (Cert.CrossQRefIdeal.main (F := Ideal))) ⟨m', fun _ => 0, g'⟩ (fun r => ∀ c : Dev Cert.CrossQRefIdeal.nD,
          r.2.mem ((c.tc : Thread Cert.CrossQRefIdeal.nD Cert.CrossQRefIdeal.τ).loc Cert.CrossQRefIdeal.main_v14) = v0 c
          ∧ r.2.mem ((c.tc : Thread Cert.CrossQRefIdeal.nD Cert.CrossQRefIdeal.τ).loc Cert.CrossQRefIdeal.main_arg0) = m' ((c.tc : Thread Cert.CrossQRefIdeal.nD Cert.CrossQRefIdeal.τ).loc Cert.CrossQRefIdeal.main_arg0)
          ∧ r.2.mem ((c.tc : Thread Cert.CrossQRefIdeal.nD Cert.CrossQRefIdeal.τ).loc Cert.CrossQRefIdeal.main_arg1) = m' ((c.tc : Thread Cert.CrossQRefIdeal.nD Cert.CrossQRefIdeal.τ).loc Cert.CrossQRefIdeal.main_arg1)
          ∧ r.2.mem ((c.tc : Thread Cert.CrossQRefIdeal.nD Cert.CrossQRefIdeal.τ).loc Cert.CrossQRefIdeal.main_arg2) = m' ((c.tc : Thread Cert.CrossQRefIdeal.nD Cert.CrossQRefIdeal.τ).loc Cert.CrossQRefIdeal.main_arg2))

def preserves_CrossKv_CrossKvIdeal : Prop :=
  True

def algebraic_CrossKvIdeal_CrossKvRefIdeal [hCrossKvIdeal : Cert.CrossKvIdeal.Facts] [hCrossKvRefIdeal : Cert.CrossKvRefIdeal.Facts] : Prop :=
  ∀ (m : (ℓ : Loc Cert.CrossKvIdeal.nD Cert.CrossKvIdeal.τ Cert.CrossKvIdeal.sig) → Buf (Elt Ideal) ℓ) (g : Dev Cert.CrossKvIdeal.nD → PrngReg)
    (m' : (ℓ : Loc Cert.CrossKvRefIdeal.nD Cert.CrossKvRefIdeal.τ Cert.CrossKvRefIdeal.sig) → Buf (Elt Ideal) ℓ) (g' : Dev Cert.CrossKvRefIdeal.nD → PrngReg), Pre_CrossKvIdeal m →
    (∀ c : Dev Cert.CrossKvIdeal.nD,
      m' ((c.tc : Thread Cert.CrossKvRefIdeal.nD Cert.CrossKvRefIdeal.τ).loc Cert.CrossKvRefIdeal.main_arg0) = m ((c.tc : Thread Cert.CrossKvIdeal.nD Cert.CrossKvIdeal.τ).loc Cert.CrossKvIdeal.main_arg0)
      ∧ m' ((c.tc : Thread Cert.CrossKvRefIdeal.nD Cert.CrossKvRefIdeal.τ).loc Cert.CrossKvRefIdeal.main_arg1) = m ((c.tc : Thread Cert.CrossKvIdeal.nD Cert.CrossKvIdeal.τ).loc Cert.CrossKvIdeal.main_arg1)
      ∧ m' ((c.tc : Thread Cert.CrossKvRefIdeal.nD Cert.CrossKvRefIdeal.τ).loc Cert.CrossKvRefIdeal.main_arg2) = m ((c.tc : Thread Cert.CrossKvIdeal.nD Cert.CrossKvIdeal.τ).loc Cert.CrossKvIdeal.main_arg2)
      ∧ m' ((c.tc : Thread Cert.CrossKvRefIdeal.nD Cert.CrossKvRefIdeal.τ).loc Cert.CrossKvRefIdeal.main_arg3) = m ((c.tc : Thread Cert.CrossKvIdeal.nD Cert.CrossKvIdeal.τ).loc Cert.CrossKvIdeal.main_arg3)) →
    ∃ (v0 : (c : Dev Cert.CrossKvIdeal.nD) → Buf (Elt Ideal) ((c.tc : Thread Cert.CrossKvIdeal.nD Cert.CrossKvIdeal.τ).loc Cert.CrossKvIdeal.main_v3)),
      θ_run (Cert.CrossKvIdeal.defs (F := Ideal)) (onTc (τ := Cert.CrossKvIdeal.τ) (Cert.CrossKvIdeal.main (F := Ideal))) ⟨m, fun _ => 0, g⟩ (fun r => ∀ c : Dev Cert.CrossKvIdeal.nD,
          r.2.mem ((c.tc : Thread Cert.CrossKvIdeal.nD Cert.CrossKvIdeal.τ).loc Cert.CrossKvIdeal.main_v3) = v0 c
          ∧ r.2.mem ((c.tc : Thread Cert.CrossKvIdeal.nD Cert.CrossKvIdeal.τ).loc Cert.CrossKvIdeal.main_arg0) = m ((c.tc : Thread Cert.CrossKvIdeal.nD Cert.CrossKvIdeal.τ).loc Cert.CrossKvIdeal.main_arg0)
          ∧ r.2.mem ((c.tc : Thread Cert.CrossKvIdeal.nD Cert.CrossKvIdeal.τ).loc Cert.CrossKvIdeal.main_arg1) = m ((c.tc : Thread Cert.CrossKvIdeal.nD Cert.CrossKvIdeal.τ).loc Cert.CrossKvIdeal.main_arg1)
          ∧ r.2.mem ((c.tc : Thread Cert.CrossKvIdeal.nD Cert.CrossKvIdeal.τ).loc Cert.CrossKvIdeal.main_arg2) = m ((c.tc : Thread Cert.CrossKvIdeal.nD Cert.CrossKvIdeal.τ).loc Cert.CrossKvIdeal.main_arg2)
          ∧ r.2.mem ((c.tc : Thread Cert.CrossKvIdeal.nD Cert.CrossKvIdeal.τ).loc Cert.CrossKvIdeal.main_arg3) = m ((c.tc : Thread Cert.CrossKvIdeal.nD Cert.CrossKvIdeal.τ).loc Cert.CrossKvIdeal.main_arg3))
      ∧ θ_run (Cert.CrossKvRefIdeal.defs (F := Ideal)) (onTc (τ := Cert.CrossKvRefIdeal.τ) (Cert.CrossKvRefIdeal.main (F := Ideal))) ⟨m', fun _ => 0, g'⟩ (fun r => ∀ c : Dev Cert.CrossKvRefIdeal.nD,
          r.2.mem ((c.tc : Thread Cert.CrossKvRefIdeal.nD Cert.CrossKvRefIdeal.τ).loc Cert.CrossKvRefIdeal.main_v16) = v0 c
          ∧ r.2.mem ((c.tc : Thread Cert.CrossKvRefIdeal.nD Cert.CrossKvRefIdeal.τ).loc Cert.CrossKvRefIdeal.main_arg0) = m' ((c.tc : Thread Cert.CrossKvRefIdeal.nD Cert.CrossKvRefIdeal.τ).loc Cert.CrossKvRefIdeal.main_arg0)
          ∧ r.2.mem ((c.tc : Thread Cert.CrossKvRefIdeal.nD Cert.CrossKvRefIdeal.τ).loc Cert.CrossKvRefIdeal.main_arg1) = m' ((c.tc : Thread Cert.CrossKvRefIdeal.nD Cert.CrossKvRefIdeal.τ).loc Cert.CrossKvRefIdeal.main_arg1)
          ∧ r.2.mem ((c.tc : Thread Cert.CrossKvRefIdeal.nD Cert.CrossKvRefIdeal.τ).loc Cert.CrossKvRefIdeal.main_arg2) = m' ((c.tc : Thread Cert.CrossKvRefIdeal.nD Cert.CrossKvRefIdeal.τ).loc Cert.CrossKvRefIdeal.main_arg2)
          ∧ r.2.mem ((c.tc : Thread Cert.CrossKvRefIdeal.nD Cert.CrossKvRefIdeal.τ).loc Cert.CrossKvRefIdeal.main_arg3) = m' ((c.tc : Thread Cert.CrossKvRefIdeal.nD Cert.CrossKvRefIdeal.τ).loc Cert.CrossKvRefIdeal.main_arg3))

def preserves_CrossAttn_CrossAttnIdeal : Prop :=
  True

def algebraic_CrossAttnIdeal_CrossAttnRefIdeal [hCrossAttnIdeal : Cert.CrossAttnIdeal.Facts] [hCrossAttnRefIdeal : Cert.CrossAttnRefIdeal.Facts] : Prop :=
  ∀ (m : (ℓ : Loc Cert.CrossAttnIdeal.nD Cert.CrossAttnIdeal.τ Cert.CrossAttnIdeal.sig) → Buf (Elt Ideal) ℓ) (g : Dev Cert.CrossAttnIdeal.nD → PrngReg)
    (m' : (ℓ : Loc Cert.CrossAttnRefIdeal.nD Cert.CrossAttnRefIdeal.τ Cert.CrossAttnRefIdeal.sig) → Buf (Elt Ideal) ℓ) (g' : Dev Cert.CrossAttnRefIdeal.nD → PrngReg), Pre_CrossAttnIdeal m →
    (∀ c : Dev Cert.CrossAttnIdeal.nD,
      m' ((c.tc : Thread Cert.CrossAttnRefIdeal.nD Cert.CrossAttnRefIdeal.τ).loc Cert.CrossAttnRefIdeal.main_arg0) = m ((c.tc : Thread Cert.CrossAttnIdeal.nD Cert.CrossAttnIdeal.τ).loc Cert.CrossAttnIdeal.main_arg0)
      ∧ m' ((c.tc : Thread Cert.CrossAttnRefIdeal.nD Cert.CrossAttnRefIdeal.τ).loc Cert.CrossAttnRefIdeal.main_arg1) = m ((c.tc : Thread Cert.CrossAttnIdeal.nD Cert.CrossAttnIdeal.τ).loc Cert.CrossAttnIdeal.main_arg1)) →
    ∃ (v0 : (c : Dev Cert.CrossAttnIdeal.nD) → Buf (Elt Ideal) ((c.tc : Thread Cert.CrossAttnIdeal.nD Cert.CrossAttnIdeal.τ).loc Cert.CrossAttnIdeal.main_v0)),
      θ_run (Cert.CrossAttnIdeal.defs (F := Ideal)) (onTc (τ := Cert.CrossAttnIdeal.τ) (Cert.CrossAttnIdeal.main (F := Ideal))) ⟨m, fun _ => 0, g⟩ (fun r => ∀ c : Dev Cert.CrossAttnIdeal.nD,
          r.2.mem ((c.tc : Thread Cert.CrossAttnIdeal.nD Cert.CrossAttnIdeal.τ).loc Cert.CrossAttnIdeal.main_v0) = v0 c
          ∧ r.2.mem ((c.tc : Thread Cert.CrossAttnIdeal.nD Cert.CrossAttnIdeal.τ).loc Cert.CrossAttnIdeal.main_arg0) = m ((c.tc : Thread Cert.CrossAttnIdeal.nD Cert.CrossAttnIdeal.τ).loc Cert.CrossAttnIdeal.main_arg0)
          ∧ r.2.mem ((c.tc : Thread Cert.CrossAttnIdeal.nD Cert.CrossAttnIdeal.τ).loc Cert.CrossAttnIdeal.main_arg1) = m ((c.tc : Thread Cert.CrossAttnIdeal.nD Cert.CrossAttnIdeal.τ).loc Cert.CrossAttnIdeal.main_arg1))
      ∧ θ_run (Cert.CrossAttnRefIdeal.defs (F := Ideal)) (onTc (τ := Cert.CrossAttnRefIdeal.τ) (Cert.CrossAttnRefIdeal.main (F := Ideal))) ⟨m', fun _ => 0, g'⟩ (fun r => ∀ c : Dev Cert.CrossAttnRefIdeal.nD,
          r.2.mem ((c.tc : Thread Cert.CrossAttnRefIdeal.nD Cert.CrossAttnRefIdeal.τ).loc Cert.CrossAttnRefIdeal.main_v25) = v0 c
          ∧ r.2.mem ((c.tc : Thread Cert.CrossAttnRefIdeal.nD Cert.CrossAttnRefIdeal.τ).loc Cert.CrossAttnRefIdeal.main_arg0) = m' ((c.tc : Thread Cert.CrossAttnRefIdeal.nD Cert.CrossAttnRefIdeal.τ).loc Cert.CrossAttnRefIdeal.main_arg0)
          ∧ r.2.mem ((c.tc : Thread Cert.CrossAttnRefIdeal.nD Cert.CrossAttnRefIdeal.τ).loc Cert.CrossAttnRefIdeal.main_arg1) = m' ((c.tc : Thread Cert.CrossAttnRefIdeal.nD Cert.CrossAttnRefIdeal.τ).loc Cert.CrossAttnRefIdeal.main_arg1))

def preserves_CrossOut_CrossOutIdeal : Prop :=
  True

def algebraic_CrossOutIdeal_CrossOutRefIdeal [hCrossOutIdeal : Cert.CrossOutIdeal.Facts] [hCrossOutRefIdeal : Cert.CrossOutRefIdeal.Facts] : Prop :=
  ∀ (m : (ℓ : Loc Cert.CrossOutIdeal.nD Cert.CrossOutIdeal.τ Cert.CrossOutIdeal.sig) → Buf (Elt Ideal) ℓ) (g : Dev Cert.CrossOutIdeal.nD → PrngReg)
    (m' : (ℓ : Loc Cert.CrossOutRefIdeal.nD Cert.CrossOutRefIdeal.τ Cert.CrossOutRefIdeal.sig) → Buf (Elt Ideal) ℓ) (g' : Dev Cert.CrossOutRefIdeal.nD → PrngReg), Pre_CrossOutIdeal m →
    (∀ c : Dev Cert.CrossOutIdeal.nD,
      m' ((c.tc : Thread Cert.CrossOutRefIdeal.nD Cert.CrossOutRefIdeal.τ).loc Cert.CrossOutRefIdeal.main_arg0) = m ((c.tc : Thread Cert.CrossOutIdeal.nD Cert.CrossOutIdeal.τ).loc Cert.CrossOutIdeal.main_arg0)
      ∧ m' ((c.tc : Thread Cert.CrossOutRefIdeal.nD Cert.CrossOutRefIdeal.τ).loc Cert.CrossOutRefIdeal.main_arg1) = m ((c.tc : Thread Cert.CrossOutIdeal.nD Cert.CrossOutIdeal.τ).loc Cert.CrossOutIdeal.main_arg1)
      ∧ m' ((c.tc : Thread Cert.CrossOutRefIdeal.nD Cert.CrossOutRefIdeal.τ).loc Cert.CrossOutRefIdeal.main_arg2) = m ((c.tc : Thread Cert.CrossOutIdeal.nD Cert.CrossOutIdeal.τ).loc Cert.CrossOutIdeal.main_arg2)) →
    ∃ (v0 : (c : Dev Cert.CrossOutIdeal.nD) → Buf (Elt Ideal) ((c.tc : Thread Cert.CrossOutIdeal.nD Cert.CrossOutIdeal.τ).loc Cert.CrossOutIdeal.main_v1)),
      θ_run (Cert.CrossOutIdeal.defs (F := Ideal)) (onTc (τ := Cert.CrossOutIdeal.τ) (Cert.CrossOutIdeal.main (F := Ideal))) ⟨m, fun _ => 0, g⟩ (fun r => ∀ c : Dev Cert.CrossOutIdeal.nD,
          r.2.mem ((c.tc : Thread Cert.CrossOutIdeal.nD Cert.CrossOutIdeal.τ).loc Cert.CrossOutIdeal.main_v1) = v0 c
          ∧ r.2.mem ((c.tc : Thread Cert.CrossOutIdeal.nD Cert.CrossOutIdeal.τ).loc Cert.CrossOutIdeal.main_arg0) = m ((c.tc : Thread Cert.CrossOutIdeal.nD Cert.CrossOutIdeal.τ).loc Cert.CrossOutIdeal.main_arg0)
          ∧ r.2.mem ((c.tc : Thread Cert.CrossOutIdeal.nD Cert.CrossOutIdeal.τ).loc Cert.CrossOutIdeal.main_arg1) = m ((c.tc : Thread Cert.CrossOutIdeal.nD Cert.CrossOutIdeal.τ).loc Cert.CrossOutIdeal.main_arg1)
          ∧ r.2.mem ((c.tc : Thread Cert.CrossOutIdeal.nD Cert.CrossOutIdeal.τ).loc Cert.CrossOutIdeal.main_arg2) = m ((c.tc : Thread Cert.CrossOutIdeal.nD Cert.CrossOutIdeal.τ).loc Cert.CrossOutIdeal.main_arg2))
      ∧ θ_run (Cert.CrossOutRefIdeal.defs (F := Ideal)) (onTc (τ := Cert.CrossOutRefIdeal.τ) (Cert.CrossOutRefIdeal.main (F := Ideal))) ⟨m', fun _ => 0, g'⟩ (fun r => ∀ c : Dev Cert.CrossOutRefIdeal.nD,
          r.2.mem ((c.tc : Thread Cert.CrossOutRefIdeal.nD Cert.CrossOutRefIdeal.τ).loc Cert.CrossOutRefIdeal.main_v2) = v0 c
          ∧ r.2.mem ((c.tc : Thread Cert.CrossOutRefIdeal.nD Cert.CrossOutRefIdeal.τ).loc Cert.CrossOutRefIdeal.main_arg0) = m' ((c.tc : Thread Cert.CrossOutRefIdeal.nD Cert.CrossOutRefIdeal.τ).loc Cert.CrossOutRefIdeal.main_arg0)
          ∧ r.2.mem ((c.tc : Thread Cert.CrossOutRefIdeal.nD Cert.CrossOutRefIdeal.τ).loc Cert.CrossOutRefIdeal.main_arg1) = m' ((c.tc : Thread Cert.CrossOutRefIdeal.nD Cert.CrossOutRefIdeal.τ).loc Cert.CrossOutRefIdeal.main_arg1)
          ∧ r.2.mem ((c.tc : Thread Cert.CrossOutRefIdeal.nD Cert.CrossOutRefIdeal.τ).loc Cert.CrossOutRefIdeal.main_arg2) = m' ((c.tc : Thread Cert.CrossOutRefIdeal.nD Cert.CrossOutRefIdeal.τ).loc Cert.CrossOutRefIdeal.main_arg2))

def preserves_ShortConv_ShortConvIdeal : Prop :=
  True

def algebraic_ShortConvIdeal_ShortConvRefIdeal_pre_conv_finite [hShortConvIdeal : Cert.ShortConvIdeal.Facts] [hShortConvRefIdeal : Cert.ShortConvRefIdeal.Facts] [hPre_conv_finite : Cert.Pre_conv_finite.Facts] : Prop :=
  ∀ (m : (ℓ : Loc Cert.ShortConvIdeal.nD Cert.ShortConvIdeal.τ Cert.ShortConvIdeal.sig) → Buf (Elt Ideal) ℓ) (g : Dev Cert.ShortConvIdeal.nD → PrngReg)
    (m' : (ℓ : Loc Cert.ShortConvRefIdeal.nD Cert.ShortConvRefIdeal.τ Cert.ShortConvRefIdeal.sig) → Buf (Elt Ideal) ℓ) (g' : Dev Cert.ShortConvRefIdeal.nD → PrngReg), Pre_ShortConvIdeal_conv_finite m →
    (∀ c : Dev Cert.ShortConvIdeal.nD,
      m' ((c.tc : Thread Cert.ShortConvRefIdeal.nD Cert.ShortConvRefIdeal.τ).loc Cert.ShortConvRefIdeal.main_arg0) = m ((c.tc : Thread Cert.ShortConvIdeal.nD Cert.ShortConvIdeal.τ).loc Cert.ShortConvIdeal.main_arg0)
      ∧ m' ((c.tc : Thread Cert.ShortConvRefIdeal.nD Cert.ShortConvRefIdeal.τ).loc Cert.ShortConvRefIdeal.main_arg1) = m ((c.tc : Thread Cert.ShortConvIdeal.nD Cert.ShortConvIdeal.τ).loc Cert.ShortConvIdeal.main_arg1)
      ∧ m' ((c.tc : Thread Cert.ShortConvRefIdeal.nD Cert.ShortConvRefIdeal.τ).loc Cert.ShortConvRefIdeal.main_arg2) = m ((c.tc : Thread Cert.ShortConvIdeal.nD Cert.ShortConvIdeal.τ).loc Cert.ShortConvIdeal.main_arg2)
      ∧ m' ((c.tc : Thread Cert.ShortConvRefIdeal.nD Cert.ShortConvRefIdeal.τ).loc Cert.ShortConvRefIdeal.main_arg3) = m ((c.tc : Thread Cert.ShortConvIdeal.nD Cert.ShortConvIdeal.τ).loc Cert.ShortConvIdeal.main_arg3)) →
    ∃ (v0 : (c : Dev Cert.ShortConvIdeal.nD) → Buf (Elt Ideal) ((c.tc : Thread Cert.ShortConvIdeal.nD Cert.ShortConvIdeal.τ).loc Cert.ShortConvIdeal.main_v2)),
      θ_run (Cert.ShortConvIdeal.defs (F := Ideal)) (onTc (τ := Cert.ShortConvIdeal.τ) (Cert.ShortConvIdeal.main (F := Ideal))) ⟨m, fun _ => 0, g⟩ (fun r => ∀ c : Dev Cert.ShortConvIdeal.nD,
          r.2.mem ((c.tc : Thread Cert.ShortConvIdeal.nD Cert.ShortConvIdeal.τ).loc Cert.ShortConvIdeal.main_v2) = v0 c
          ∧ r.2.mem ((c.tc : Thread Cert.ShortConvIdeal.nD Cert.ShortConvIdeal.τ).loc Cert.ShortConvIdeal.main_arg0) = m ((c.tc : Thread Cert.ShortConvIdeal.nD Cert.ShortConvIdeal.τ).loc Cert.ShortConvIdeal.main_arg0)
          ∧ r.2.mem ((c.tc : Thread Cert.ShortConvIdeal.nD Cert.ShortConvIdeal.τ).loc Cert.ShortConvIdeal.main_arg1) = m ((c.tc : Thread Cert.ShortConvIdeal.nD Cert.ShortConvIdeal.τ).loc Cert.ShortConvIdeal.main_arg1)
          ∧ r.2.mem ((c.tc : Thread Cert.ShortConvIdeal.nD Cert.ShortConvIdeal.τ).loc Cert.ShortConvIdeal.main_arg2) = m ((c.tc : Thread Cert.ShortConvIdeal.nD Cert.ShortConvIdeal.τ).loc Cert.ShortConvIdeal.main_arg2)
          ∧ r.2.mem ((c.tc : Thread Cert.ShortConvIdeal.nD Cert.ShortConvIdeal.τ).loc Cert.ShortConvIdeal.main_arg3) = m ((c.tc : Thread Cert.ShortConvIdeal.nD Cert.ShortConvIdeal.τ).loc Cert.ShortConvIdeal.main_arg3))
      ∧ θ_run (Cert.ShortConvRefIdeal.defs (F := Ideal)) (onTc (τ := Cert.ShortConvRefIdeal.τ) (Cert.ShortConvRefIdeal.main (F := Ideal))) ⟨m', fun _ => 0, g'⟩ (fun r => ∀ c : Dev Cert.ShortConvRefIdeal.nD,
          r.2.mem ((c.tc : Thread Cert.ShortConvRefIdeal.nD Cert.ShortConvRefIdeal.τ).loc Cert.ShortConvRefIdeal.main_v46) = v0 c
          ∧ r.2.mem ((c.tc : Thread Cert.ShortConvRefIdeal.nD Cert.ShortConvRefIdeal.τ).loc Cert.ShortConvRefIdeal.main_arg0) = m' ((c.tc : Thread Cert.ShortConvRefIdeal.nD Cert.ShortConvRefIdeal.τ).loc Cert.ShortConvRefIdeal.main_arg0)
          ∧ r.2.mem ((c.tc : Thread Cert.ShortConvRefIdeal.nD Cert.ShortConvRefIdeal.τ).loc Cert.ShortConvRefIdeal.main_arg1) = m' ((c.tc : Thread Cert.ShortConvRefIdeal.nD Cert.ShortConvRefIdeal.τ).loc Cert.ShortConvRefIdeal.main_arg1)
          ∧ r.2.mem ((c.tc : Thread Cert.ShortConvRefIdeal.nD Cert.ShortConvRefIdeal.τ).loc Cert.ShortConvRefIdeal.main_arg2) = m' ((c.tc : Thread Cert.ShortConvRefIdeal.nD Cert.ShortConvRefIdeal.τ).loc Cert.ShortConvRefIdeal.main_arg2)
          ∧ r.2.mem ((c.tc : Thread Cert.ShortConvRefIdeal.nD Cert.ShortConvRefIdeal.τ).loc Cert.ShortConvRefIdeal.main_arg3) = m' ((c.tc : Thread Cert.ShortConvRefIdeal.nD Cert.ShortConvRefIdeal.τ).loc Cert.ShortConvRefIdeal.main_arg3))

def Claim : Prop :=
  ∃ (hMla : Cert.Mla.Facts) (hMlaIdeal : Cert.MlaIdeal.Facts) (hMlaRefIdeal : Cert.MlaRefIdeal.Facts) (hInProj : Cert.InProj.Facts) (hInProjIdeal : Cert.InProjIdeal.Facts) (hInProjRefIdeal : Cert.InProjRefIdeal.Facts) (hOutProj : Cert.OutProj.Facts) (hOutProjIdeal : Cert.OutProjIdeal.Facts) (hOutProjRefIdeal : Cert.OutProjRefIdeal.Facts) (hQUp : Cert.QUp.Facts) (hQUpIdeal : Cert.QUpIdeal.Facts) (hQUpRefIdeal : Cert.QUpRefIdeal.Facts) (hKvUp : Cert.KvUp.Facts) (hKvUpIdeal : Cert.KvUpIdeal.Facts) (hKvUpRefIdeal : Cert.KvUpRefIdeal.Facts) (hCrossQ : Cert.CrossQ.Facts) (hCrossQIdeal : Cert.CrossQIdeal.Facts) (hCrossQRefIdeal : Cert.CrossQRefIdeal.Facts) (hCrossKv : Cert.CrossKv.Facts) (hCrossKvIdeal : Cert.CrossKvIdeal.Facts) (hCrossKvRefIdeal : Cert.CrossKvRefIdeal.Facts) (hCrossAttn : Cert.CrossAttn.Facts) (hCrossAttnIdeal : Cert.CrossAttnIdeal.Facts) (hCrossAttnRefIdeal : Cert.CrossAttnRefIdeal.Facts) (hCrossOut : Cert.CrossOut.Facts) (hCrossOutIdeal : Cert.CrossOutIdeal.Facts) (hCrossOutRefIdeal : Cert.CrossOutRefIdeal.Facts) (hShortConv : Cert.ShortConv.Facts) (hShortConvIdeal : Cert.ShortConvIdeal.Facts) (hShortConvRefIdeal : Cert.ShortConvRefIdeal.Facts) (hPre_conv_finite : Cert.Pre_conv_finite.Facts),
    quiescent_Mla (hMla := hMla)
    ∧ quiescent_MlaIdeal (hMlaIdeal := hMlaIdeal)
    ∧ quiescent_MlaRefIdeal (hMlaRefIdeal := hMlaRefIdeal)
    ∧ quiescent_InProj (hInProj := hInProj)
    ∧ quiescent_InProjIdeal (hInProjIdeal := hInProjIdeal)
    ∧ quiescent_InProjRefIdeal (hInProjRefIdeal := hInProjRefIdeal)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_QUp (hQUp := hQUp)
    ∧ quiescent_QUpIdeal (hQUpIdeal := hQUpIdeal)
    ∧ quiescent_QUpRefIdeal (hQUpRefIdeal := hQUpRefIdeal)
    ∧ quiescent_KvUp (hKvUp := hKvUp)
    ∧ quiescent_KvUpIdeal (hKvUpIdeal := hKvUpIdeal)
    ∧ quiescent_KvUpRefIdeal (hKvUpRefIdeal := hKvUpRefIdeal)
    ∧ quiescent_CrossQ (hCrossQ := hCrossQ)
    ∧ quiescent_CrossQIdeal (hCrossQIdeal := hCrossQIdeal)
    ∧ quiescent_CrossQRefIdeal (hCrossQRefIdeal := hCrossQRefIdeal)
    ∧ quiescent_CrossKv (hCrossKv := hCrossKv)
    ∧ quiescent_CrossKvIdeal (hCrossKvIdeal := hCrossKvIdeal)
    ∧ quiescent_CrossKvRefIdeal (hCrossKvRefIdeal := hCrossKvRefIdeal)
    ∧ quiescent_CrossAttn (hCrossAttn := hCrossAttn)
    ∧ quiescent_CrossAttnIdeal (hCrossAttnIdeal := hCrossAttnIdeal)
    ∧ quiescent_CrossAttnRefIdeal (hCrossAttnRefIdeal := hCrossAttnRefIdeal)
    ∧ quiescent_CrossOut (hCrossOut := hCrossOut)
    ∧ quiescent_CrossOutIdeal (hCrossOutIdeal := hCrossOutIdeal)
    ∧ quiescent_CrossOutRefIdeal (hCrossOutRefIdeal := hCrossOutRefIdeal)
    ∧ quiescent_ShortConv (hShortConv := hShortConv)
    ∧ quiescent_ShortConvIdeal (hShortConvIdeal := hShortConvIdeal)
    ∧ quiescent_ShortConvIdeal_pre_conv_finite (hShortConvIdeal := hShortConvIdeal) (hPre_conv_finite := hPre_conv_finite)
    ∧ quiescent_ShortConvRefIdeal (hShortConvRefIdeal := hShortConvRefIdeal)
    ∧ quiescent_ShortConvRefIdeal_pre_conv_finite (hShortConvRefIdeal := hShortConvRefIdeal) (hPre_conv_finite := hPre_conv_finite)
    ∧ preserves_Mla_MlaIdeal
    ∧ algebraic_MlaIdeal_MlaRefIdeal (hMlaIdeal := hMlaIdeal) (hMlaRefIdeal := hMlaRefIdeal)
    ∧ preserves_InProj_InProjIdeal
    ∧ algebraic_InProjIdeal_InProjRefIdeal (hInProjIdeal := hInProjIdeal) (hInProjRefIdeal := hInProjRefIdeal)
    ∧ preserves_OutProj_OutProjIdeal
    ∧ algebraic_OutProjIdeal_OutProjRefIdeal (hOutProjIdeal := hOutProjIdeal) (hOutProjRefIdeal := hOutProjRefIdeal)
    ∧ preserves_QUp_QUpIdeal
    ∧ algebraic_QUpIdeal_QUpRefIdeal (hQUpIdeal := hQUpIdeal) (hQUpRefIdeal := hQUpRefIdeal)
    ∧ preserves_KvUp_KvUpIdeal
    ∧ algebraic_KvUpIdeal_KvUpRefIdeal (hKvUpIdeal := hKvUpIdeal) (hKvUpRefIdeal := hKvUpRefIdeal)
    ∧ preserves_CrossQ_CrossQIdeal
    ∧ algebraic_CrossQIdeal_CrossQRefIdeal (hCrossQIdeal := hCrossQIdeal) (hCrossQRefIdeal := hCrossQRefIdeal)
    ∧ preserves_CrossKv_CrossKvIdeal
    ∧ algebraic_CrossKvIdeal_CrossKvRefIdeal (hCrossKvIdeal := hCrossKvIdeal) (hCrossKvRefIdeal := hCrossKvRefIdeal)
    ∧ preserves_CrossAttn_CrossAttnIdeal
    ∧ algebraic_CrossAttnIdeal_CrossAttnRefIdeal (hCrossAttnIdeal := hCrossAttnIdeal) (hCrossAttnRefIdeal := hCrossAttnRefIdeal)
    ∧ preserves_CrossOut_CrossOutIdeal
    ∧ algebraic_CrossOutIdeal_CrossOutRefIdeal (hCrossOutIdeal := hCrossOutIdeal) (hCrossOutRefIdeal := hCrossOutRefIdeal)
    ∧ preserves_ShortConv_ShortConvIdeal
    ∧ algebraic_ShortConvIdeal_ShortConvRefIdeal_pre_conv_finite (hShortConvIdeal := hShortConvIdeal) (hShortConvRefIdeal := hShortConvRefIdeal) (hPre_conv_finite := hPre_conv_finite)
-- ==== Pre_conv_finite.lean ====
abbrev S24576x9984 : Shape := ⟨2, ![24576, 9984]⟩
abbrev S3x1024 : Shape := ⟨2, ![3, 1024]⟩
abbrev S1024 : Shape := ⟨1, ![1024]⟩
abbrev S16x64 : Shape := ⟨2, ![16, 64]⟩
abbrev S_ : Shape := ⟨0, ![]⟩

class Facts : Prop where
  bcast_S_S24576x9984 : S_.BroadcastsInDim S24576x9984 (![] : Fin 0 → Fin S24576x9984.rank)
  bcast_S_S3x1024 : S_.BroadcastsInDim S3x1024 (![] : Fin 0 → Fin S3x1024.rank)
  bcast_S_S1024 : S_.BroadcastsInDim S1024 (![] : Fin 0 → Fin S1024.rank)

variable [Facts]

def fn {F : FTy → Type} [FloatOps F] (main_arg0 : FVec F S24576x9984 .f32) (main_arg1 : FVec F S3x1024 .f32) (main_arg2 : FVec F S1024 .f32) (main_arg3 : FVec F S16x64 .f32) : IVec S24576x9984 1 × IVec S3x1024 1 × IVec S1024 1 :=
  let main_v0 : FVec F S24576x9984 .f32 := Host.absf main_arg0
  let main_cst : FVec F S_ .f32 := constant S_ .f32 0x7F800000#32
  let main_v1 : FVec F S24576x9984 .f32 := broadcastInDim S24576x9984 ![] bcast_S_S24576x9984 main_cst
  let main_v2 : IVec S24576x9984 1 := cmpf .olt main_v0 main_v1
  let main_v3 : FVec F S3x1024 .f32 := Host.absf main_arg1
  let main_cst_0 : FVec F S_ .f32 := constant S_ .f32 0x7F800000#32
  let main_v4 : FVec F S3x1024 .f32 := broadcastInDim S3x1024 ![] bcast_S_S3x1024 main_cst_0
  let main_v5 : IVec S3x1024 1 := cmpf .olt main_v3 main_v4
  let main_v6 : FVec F S1024 .f32 := Host.absf main_arg2
  let main_cst_1 : FVec F S_ .f32 := constant S_ .f32 0x7F800000#32
  let main_v7 : FVec F S1024 .f32 := broadcastInDim S1024 ![] bcast_S_S1024 main_cst_1
  let main_v8 : IVec S1024 1 := cmpf .olt main_v6 main_v7
  (main_v2, main_v5, main_v8)
-- ==== Mla.lean ====
abbrev S6x4096x3072 : Shape := ⟨3, ![6, 4096, 3072]⟩
abbrev S6x4096x4096 : Shape := ⟨3, ![6, 4096, 4096]⟩
abbrev S6x4096x9792 : Shape := ⟨3, ![6, 4096, 9792]⟩
abbrev S16x128 : Shape := ⟨2, ![16, 128]⟩
abbrev S24576x16x192 : Shape := ⟨3, ![24576, 16, 192]⟩
abbrev S_ : Shape := ⟨0, ![]⟩
abbrev S24576x16x256 : Shape := ⟨3, ![24576, 16, 256]⟩
abbrev S24576x4096 : Shape := ⟨2, ![24576, 4096]⟩
abbrev S24576x16x2x128 : Shape := ⟨4, ![24576, 16, 2, 128]⟩
abbrev S24576x2x16x128 : Shape := ⟨4, ![24576, 2, 16, 128]⟩
abbrev S24576x9792 : Shape := ⟨2, ![24576, 9792]⟩
abbrev S24576x6720 : Shape := ⟨2, ![24576, 6720]⟩
abbrev S24576x64 : Shape := ⟨2, ![24576, 64]⟩
abbrev S24576x3072 : Shape := ⟨2, ![24576, 3072]⟩
abbrev S24576x128 : Shape := ⟨2, ![24576, 128]⟩
abbrev S24576x9984 : Shape := ⟨2, ![24576, 9984]⟩
abbrev S32 : Shape := ⟨1, ![32]⟩
abbrev S4096 : Shape := ⟨1, ![4096]⟩
abbrev S4096x1 : Shape := ⟨2, ![4096, 1]⟩
abbrev S1x32 : Shape := ⟨2, ![1, 32]⟩
abbrev S4096x32 : Shape := ⟨2, ![4096, 32]⟩
abbrev S4096x64 : Shape := ⟨2, ![4096, 64]⟩
abbrev S4096x128 : Shape := ⟨2, ![4096, 128]⟩
abbrev S1x2048 : Shape := ⟨2, ![1, 2048]⟩
abbrev S24576x2048 : Shape := ⟨2, ![24576, 2048]⟩
abbrev S1024x256 : Shape := ⟨2, ![1024, 256]⟩
abbrev S1024x128 : Shape := ⟨2, ![1024, 128]⟩
abbrev S1x128 : Shape := ⟨2, ![1, 128]⟩
abbrev S4096x256 : Shape := ⟨2, ![4096, 256]⟩
abbrev S512x128 : Shape := ⟨2, ![512, 128]⟩
abbrev S512x256 : Shape := ⟨2, ![512, 256]⟩
abbrev S512x1 : Shape := ⟨2, ![512, 1]⟩
abbrev S512x4096 : Shape := ⟨2, ![512, 4096]⟩
abbrev S512 : Shape := ⟨1, ![512]⟩

abbrev nBuf : Space → Nat
  | .hbm => 52
  | .vmem => 20
  | .smem => 0
  | _ => 0

abbrev bufTy : (tb : Table) → Fin (tcTables nBuf tb) → BufTy
  | .hbm, ⟨0, _⟩ => ⟨S6x4096x3072, .bf16⟩
  | .hbm, ⟨1, _⟩ => ⟨S6x4096x4096, .bf16⟩
  | .hbm, ⟨2, _⟩ => ⟨S6x4096x9792, .f32⟩
  | .hbm, ⟨3, _⟩ => ⟨S16x128, .f32⟩
  | .hbm, ⟨4, _⟩ => ⟨S24576x16x192, .bf16⟩
  | .hbm, ⟨5, _⟩ => ⟨S_, .i32⟩
  | .hbm, ⟨6, _⟩ => ⟨S_, .bf16⟩
  | .hbm, ⟨7, _⟩ => ⟨S24576x16x256, .bf16⟩
  | .hbm, ⟨8, _⟩ => ⟨S24576x4096, .bf16⟩
  | .hbm, ⟨9, _⟩ => ⟨S24576x16x2x128, .bf16⟩
  | .hbm, ⟨10, _⟩ => ⟨S24576x2x16x128, .bf16⟩
  | .hbm, ⟨11, _⟩ => ⟨S24576x4096, .bf16⟩
  | .hbm, ⟨12, _⟩ => ⟨S24576x9792, .f32⟩
  | .hbm, ⟨13, _⟩ => ⟨S24576x6720, .f32⟩
  | .hbm, ⟨14, _⟩ => ⟨S_, .f32⟩
  | .hbm, ⟨15, _⟩ => ⟨S24576x64, .f32⟩
  | .hbm, ⟨16, _⟩ => ⟨S24576x3072, .f32⟩
  | .hbm, ⟨17, _⟩ => ⟨S_, .f32⟩
  | .hbm, ⟨18, _⟩ => ⟨S24576x128, .f32⟩
  | .hbm, ⟨19, _⟩ => ⟨S24576x9984, .f32⟩
  | .hbm, ⟨20, _⟩ => ⟨S32, .f32⟩
  | .hbm, ⟨21, _⟩ => ⟨S_, .f32⟩
  | .hbm, ⟨22, _⟩ => ⟨S32, .f32⟩
  | .hbm, ⟨23, _⟩ => ⟨S32, .f32⟩
  | .hbm, ⟨24, _⟩ => ⟨S_, .f32⟩
  | .hbm, ⟨25, _⟩ => ⟨S32, .f32⟩
  | .hbm, ⟨26, _⟩ => ⟨S32, .f32⟩
  | .hbm, ⟨27, _⟩ => ⟨S_, .f32⟩
  | .hbm, ⟨28, _⟩ => ⟨S32, .f32⟩
  | .hbm, ⟨29, _⟩ => ⟨S32, .f32⟩
  | .hbm, ⟨30, _⟩ => ⟨S_, .f32⟩
  | .hbm, ⟨31, _⟩ => ⟨S32, .f32⟩
  | .hbm, ⟨32, _⟩ => ⟨S32, .f32⟩
  | .hbm, ⟨33, _⟩ => ⟨S_, .f32⟩
  | .hbm, ⟨34, _⟩ => ⟨S32, .f32⟩
  | .hbm, ⟨35, _⟩ => ⟨S32, .f32⟩
  | .hbm, ⟨36, _⟩ => ⟨S4096, .f32⟩
  | .hbm, ⟨37, _⟩ => ⟨S4096x1, .f32⟩
  | .hbm, ⟨38, _⟩ => ⟨S1x32, .f32⟩
  | .hbm, ⟨39, _⟩ => ⟨S4096x32, .f32⟩
  | .hbm, ⟨40, _⟩ => ⟨S4096x32, .f32⟩
  | .hbm, ⟨41, _⟩ => ⟨S4096x32, .f32⟩
  | .hbm, ⟨42, _⟩ => ⟨S_, .f32⟩
  | .hbm, ⟨43, _⟩ => ⟨S4096x64, .f32⟩
  | .hbm, ⟨44, _⟩ => ⟨S4096x32, .f32⟩
  | .hbm, ⟨45, _⟩ => ⟨S4096x32, .f32⟩
  | .hbm, ⟨46, _⟩ => ⟨S4096x128, .f32⟩
  | .hbm, ⟨47, _⟩ => ⟨S4096x32, .f32⟩
  | .hbm, ⟨48, _⟩ => ⟨S4096x32, .f32⟩
  | .hbm, ⟨49, _⟩ => ⟨S4096x128, .f32⟩
  | .hbm, ⟨50, _⟩ => ⟨S1x2048, .f32⟩
  | .hbm, ⟨51, _⟩ => ⟨S24576x2048, .bf16⟩
  | .local _ .vmem, ⟨0, _⟩ => ⟨S1024x256, .bf16⟩
  | .local _ .vmem, ⟨1, _⟩ => ⟨S1024x256, .bf16⟩
  | .local _ .vmem, ⟨2, _⟩ => ⟨S4096x128, .bf16⟩
  | .local _ .vmem, ⟨3, _⟩ => ⟨S4096x128, .bf16⟩
  | .local _ .vmem, ⟨4, _⟩ => ⟨S4096x128, .bf16⟩
  | .local _ .vmem, ⟨5, _⟩ => ⟨S4096x128, .bf16⟩
  | .local _ .vmem, ⟨6, _⟩ => ⟨S4096x128, .f32⟩
  | .local _ .vmem, ⟨7, _⟩ => ⟨S4096x128, .f32⟩
  | .local _ .vmem, ⟨8, _⟩ => ⟨S1024x128, .f32⟩
  | .local _ .vmem, ⟨9, _⟩ => ⟨S1024x128, .f32⟩
  | .local _ .vmem, ⟨10, _⟩ => ⟨S1024x128, .f32⟩
  | .local _ .vmem, ⟨11, _⟩ => ⟨S1024x128, .f32⟩
  | .local _ .vmem, ⟨12, _⟩ => ⟨S4096x128, .f32⟩
  | .local _ .vmem, ⟨13, _⟩ => ⟨S4096x128, .f32⟩
  | .local _ .vmem, ⟨14, _⟩ => ⟨S1x128, .f32⟩
  | .local _ .vmem, ⟨15, _⟩ => ⟨S1x128, .f32⟩
  | .local _ .vmem, ⟨16, _⟩ => ⟨S1024x128, .bf16⟩
  | .local _ .vmem, ⟨17, _⟩ => ⟨S1024x128, .bf16⟩
  | .local _ .vmem, ⟨18, _⟩ => ⟨S4096x256, .bf16⟩
  | .local _ .vmem, ⟨19, _⟩ => ⟨S4096x256, .bf16⟩
  | _, _ => ⟨S6x4096x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_v17 : Ref sig .tc := ⟨.hbm, 28, rfl⟩
abbrev main_v18 : Ref sig .tc := ⟨.hbm, 29, rfl⟩
abbrev main_cst_4 : Ref sig .tc := ⟨.hbm, 30, rfl⟩
abbrev main_v19 : Ref sig .tc := ⟨.hbm, 31, rfl⟩
abbrev main_v20 : Ref sig .tc := ⟨.hbm, 32, rfl⟩
abbrev main_cst_5 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_6 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨3, ![6, 16, 4], ![false, false, false]⟩

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_45 : BitVec 32 := 0#32
  let c8_i32 : BitVec 32 := 8#32
  let v118 : BitVec 32 := Scalar.addi c0_i32_45 c8_i32
  let c1_i32 : BitVec 32 := 1#32
  ⟨c0_i32_45, v118, c1_i32⟩
def k0_mult1 (k0_t1 : Fin k0_t1_loop.trips) : BitVec 32 :=
  let c0_i32_45 : BitVec 32 := 0#32
  let c1_i32 : BitVec 32 := 1#32
  let arg15 : BitVec 32 := Scf.iv c0_i32_45 c1_i32 k0_t1
  let c512_i32 : BitVec 32 := 512#32
  let v119 : BitVec 32 := Scalar.muli arg15 c512_i32
  v119
def k0_off1 (k0_t1 : Fin k0_t1_loop.trips) : Fin 2 → Nat :=
  let c0_i32_45 : BitVec 32 := 0#32
  let c1_i32 : BitVec 32 := 1#32
  let arg15 : BitVec 32 := Scf.iv c0_i32_45 c1_i32 k0_t1
  let c512_i32 : BitVec 32 := 512#32
  let v119 : BitVec 32 := Scalar.muli arg15 c512_i32
  let v120 : BitVec 32 := v119
  let v121 : Index := Scalar.indexCast v120
  let c0_47 : Index := 0#32
  ![v121.toNat, 0]
def k0_off2 (k0_t1 : Fin k0_t1_loop.trips) : Fin 2 → Nat :=
  let c0_i32_45 : BitVec 32 := 0#32
  let c1_i32 : BitVec 32 := 1#32
  let arg15 : BitVec 32 := Scf.iv c0_i32_45 c1_i32 k0_t1
  let c512_i32 : BitVec 32 := 512#32
  let v119 : BitVec 32 := Scalar.muli arg15 c512_i32
  let v120 : BitVec 32 := v119
  let v139 : Index := Scalar.indexCast v120
  let c0_53 : Index := 0#32
  ![v139.toNat, 0]
def k0_off3 (k0_t1 : Fin k0_t1_loop.trips) : Fin 2 → Nat :=
  let c0_i32_45 : BitVec 32 := 0#32
  let c1_i32 : BitVec 32 := 1#32
  let arg15 : BitVec 32 := Scf.iv c0_i32_45 c1_i32 k0_t1
  let c512_i32 : BitVec 32 := 512#32
  let v119 : BitVec 32 := Scalar.muli arg15 c512_i32
  let v120 : BitVec 32 := v119
  let v144 : Index := Scalar.indexCast v120
  let c128 : Index := 128#32
  ![v144.toNat, 128]
def k0_mult2 : BitVec 32 :=
  let c0_i32_18 : BitVec 32 := 0#32
  c0_i32_18
def k0_mult3 : BitVec 32 :=
  let c0_i32_25 : BitVec 32 := 0#32
  c0_i32_25
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi c16_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c52_i32 : BitVec 32 := 52#32
  let c0_i32 : BitVec 32 := 0#32
  ![arg0.toNat, c52_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S4096x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, false, true]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, false, true]

abbrev stage0_6 : Fin 1 → Memref sig .tc .vmem S4096x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 1 → Memref sig .tc .vmem S4096x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]

abbrev stage0_8 : Fin 2 → Memref sig .tc .vmem S1x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true, false]

abbrev stage0_9 : Fin 2 → Memref sig .tc .vmem S1024x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, true]
-- ==== MlaIdeal.lean ====
variable {F : FTy → Type} [FloatOps F] [Named F]
def κ : String → Option EReal := fun
  | "scale_log2e" => some (((Real.sqrt 192)⁻¹ * (Real.log 2)⁻¹ : ℝ) : EReal)
  | _ => none
-- ==== MlaRefIdeal.lean ====
abbrev S6x4096x3072 : Shape := ⟨3, ![6, 4096, 3072]⟩
abbrev S6x4096x4096 : Shape := ⟨3, ![6, 4096, 4096]⟩
abbrev S6x4096x9792 : Shape := ⟨3, ![6, 4096, 9792]⟩
abbrev S16x128 : Shape := ⟨2, ![16, 128]⟩
abbrev S32 : Shape := ⟨1, ![32]⟩
abbrev S_ : Shape := ⟨0, ![]⟩
abbrev S4096 : Shape := ⟨1, ![4096]⟩
abbrev S4096x1 : Shape := ⟨2, ![4096, 1]⟩
abbrev S1x32 : Shape := ⟨2, ![1, 32]⟩
abbrev S4096x32 : Shape := ⟨2, ![4096, 32]⟩
abbrev S6x4096x64 : Shape := ⟨3, ![6, 4096, 64]⟩
abbrev S6x4096x16x192 : Shape := ⟨4, ![6, 4096, 16, 192]⟩
abbrev S6x4096x16x128 : Shape := ⟨4, ![6, 4096, 16, 128]⟩
abbrev S6x4096x16x64 : Shape := ⟨4, ![6, 4096, 16, 64]⟩
abbrev S4096x1x32 : Shape := ⟨3, ![4096, 1, 32]⟩
abbrev S6x4096x16x32 : Shape := ⟨4, ![6, 4096, 16, 32]⟩
abbrev S1x4096x1x32 : Shape := ⟨4, ![1, 4096, 1, 32]⟩
abbrev S6x4096x16x256 : Shape := ⟨4, ![6, 4096, 16, 256]⟩
abbrev S6x4096x32 : Shape := ⟨3, ![6, 4096, 32]⟩
abbrev S1x4096x32 : Shape := ⟨3, ![1, 4096, 32]⟩
abbrev S6x16x4096x4096 : Shape := ⟨4, ![6, 16, 4096, 4096]⟩
abbrev S6x4096x4096x16 : Shape := ⟨4, ![6, 4096, 4096, 16]⟩
abbrev S6x16x4096 : Shape := ⟨3, ![6, 16, 4096]⟩
abbrev S6x16x4096x1 : Shape := ⟨4, ![6, 16, 4096, 1]⟩
abbrev S6x16x128x4096 : Shape := ⟨4, ![6, 16, 128, 4096]⟩
abbrev S6x4096x16 : Shape := ⟨3, ![6, 4096, 16]⟩
abbrev S6x4096x16x1 : Shape := ⟨4, ![6, 4096, 16, 1]⟩
abbrev S1x1x16x128 : Shape := ⟨4, ![1, 1, 16, 128]⟩
abbrev S24576x2048 : Shape := ⟨2, ![24576, 2048]⟩

abbrev nBuf : Space → Nat
  | .hbm => 115
  | .vmem => 0
  | .smem => 0
  | _ => 0

abbrev bufTy : (tb : Table) → Fin (tcTables nBuf tb) → BufTy
  | .hbm, ⟨0, _⟩ => ⟨S6x4096x3072, .bf16⟩
  | .hbm, ⟨1, _⟩ => ⟨S6x4096x4096, .bf16⟩
  | .hbm, ⟨2, _⟩ => ⟨S6x4096x9792, .f32⟩
  | .hbm, ⟨3, _⟩ => ⟨S16x128, .f32⟩
  | .hbm, ⟨4, _⟩ => ⟨S32, .f32⟩
  | .hbm, ⟨5, _⟩ => ⟨S_, .f32⟩
  | .hbm, ⟨6, _⟩ => ⟨S32, .f32⟩
  | .hbm, ⟨7, _⟩ => ⟨S32, .f32⟩
  | .hbm, ⟨8, _⟩ => ⟨S_, .f32⟩
  | .hbm, ⟨9, _⟩ => ⟨S32, .f32⟩
  | .hbm, ⟨10, _⟩ => ⟨S32, .f32⟩
  | .hbm, ⟨11, _⟩ => ⟨S_, .f32⟩
  | .hbm, ⟨12, _⟩ => ⟨S32, .f32⟩
  | .hbm, ⟨13, _⟩ => ⟨S32, .f32⟩
  | .hbm, ⟨14, _⟩ => ⟨S_, .f32⟩
  | .hbm, ⟨15, _⟩ => ⟨S32, .f32⟩
  | .hbm, ⟨16, _⟩ => ⟨S32, .f32⟩
  | .hbm, ⟨17, _⟩ => ⟨S_, .f32⟩
  | .hbm, ⟨18, _⟩ => ⟨S32, .f32⟩
  | .hbm, ⟨19, _⟩ => ⟨S32, .f32⟩
  | .hbm, ⟨20, _⟩ => ⟨S4096, .f32⟩
  | .hbm, ⟨21, _⟩ => ⟨S4096x1, .f32⟩
  | .hbm, ⟨22, _⟩ => ⟨S1x32, .f32⟩
  | .hbm, ⟨23, _⟩ => ⟨S4096x32, .f32⟩
  | .hbm, ⟨24, _⟩ => ⟨S4096x32, .f32⟩
  | .hbm, ⟨25, _⟩ => ⟨S4096x32, .f32⟩
  | .hbm, ⟨26, _⟩ => ⟨S4096x32, .f32⟩
  | .hbm, ⟨27, _⟩ => ⟨S4096x32, .f32⟩
  | .hbm, ⟨28, _⟩ => ⟨S6x4096x64, .f32⟩
  | .hbm, ⟨29, _⟩ => ⟨S6x4096x3072, .f32⟩
  | .hbm, ⟨30, _⟩ => ⟨S6x4096x16x192, .f32⟩
  | .hbm, ⟨31, _⟩ => ⟨S6x4096x16x128, .f32⟩
  | .hbm, ⟨32, _⟩ => ⟨S6x4096x16x64, .f32⟩
  | .hbm, ⟨33, _⟩ => ⟨S4096x1x32, .f32⟩
  | .hbm, ⟨34, _⟩ => ⟨S4096x1x32, .f32⟩
  | .hbm, ⟨35, _⟩ => ⟨S6x4096x16x32, .f32⟩
  | .hbm, ⟨36, _⟩ => ⟨S6x4096x16x32, .f32⟩
  | .hbm, ⟨37, _⟩ => ⟨S1x4096x1x32, .f32⟩
  | .hbm, ⟨38, _⟩ => ⟨S6x4096x16x32, .f32⟩
  | .hbm, ⟨39, _⟩ => ⟨S6x4096x16x32, .f32⟩
  | .hbm, ⟨40, _⟩ => ⟨S1x4096x1x32, .f32⟩
  | .hbm, ⟨41, _⟩ => ⟨S6x4096x16x32, .f32⟩
  | .hbm, ⟨42, _⟩ => ⟨S6x4096x16x32, .f32⟩
  | .hbm, ⟨43, _⟩ => ⟨S6x4096x16x32, .f32⟩
  | .hbm, ⟨44, _⟩ => ⟨S1x4096x1x32, .f32⟩
  | .hbm, ⟨45, _⟩ => ⟨S6x4096x16x32, .f32⟩
  | .hbm, ⟨46, _⟩ => ⟨S6x4096x16x32, .f32⟩
  | .hbm, ⟨47, _⟩ => ⟨S1x4096x1x32, .f32⟩
  | .hbm, ⟨48, _⟩ => ⟨S6x4096x16x32, .f32⟩
  | .hbm, ⟨49, _⟩ => ⟨S6x4096x16x32, .f32⟩
  | .hbm, ⟨50, _⟩ => ⟨S6x4096x16x32, .f32⟩
  | .hbm, ⟨51, _⟩ => ⟨S6x4096x16x64, .f32⟩
  | .hbm, ⟨52, _⟩ => ⟨S6x4096x4096, .f32⟩
  | .hbm, ⟨53, _⟩ => ⟨S6x4096x16x256, .f32⟩
  | .hbm, ⟨54, _⟩ => ⟨S6x4096x16x128, .f32⟩
  | .hbm, ⟨55, _⟩ => ⟨S6x4096x16x128, .f32⟩
  | .hbm, ⟨56, _⟩ => ⟨S6x4096x32, .f32⟩
  | .hbm, ⟨57, _⟩ => ⟨S6x4096x32, .f32⟩
  | .hbm, ⟨58, _⟩ => ⟨S1x4096x32, .f32⟩
  | .hbm, ⟨59, _⟩ => ⟨S6x4096x32, .f32⟩
  | .hbm, ⟨60, _⟩ => ⟨S6x4096x32, .f32⟩
  | .hbm, ⟨61, _⟩ => ⟨S1x4096x32, .f32⟩
  | .hbm, ⟨62, _⟩ => ⟨S6x4096x32, .f32⟩
  | .hbm, ⟨63, _⟩ => ⟨S6x4096x32, .f32⟩
  | .hbm, ⟨64, _⟩ => ⟨S6x4096x32, .f32⟩
  | .hbm, ⟨65, _⟩ => ⟨S1x4096x32, .f32⟩
  | .hbm, ⟨66, _⟩ => ⟨S6x4096x32, .f32⟩
  | .hbm, ⟨67, _⟩ => ⟨S6x4096x32, .f32⟩
  | .hbm, ⟨68, _⟩ => ⟨S1x4096x32, .f32⟩
  | .hbm, ⟨69, _⟩ => ⟨S6x4096x32, .f32⟩
  | .hbm, ⟨70, _⟩ => ⟨S6x4096x32, .f32⟩
  | .hbm, ⟨71, _⟩ => ⟨S6x4096x32, .f32⟩
  | .hbm, ⟨72, _⟩ => ⟨S6x4096x64, .f32⟩
  | .hbm, ⟨73, _⟩ => ⟨S6x16x4096x4096, .f32⟩
  | .hbm, ⟨74, _⟩ => ⟨S6x4096x4096x16, .f32⟩
  | .hbm, ⟨75, _⟩ => ⟨S6x16x4096x4096, .f32⟩
  | .hbm, ⟨76, _⟩ => ⟨S6x16x4096x4096, .f32⟩
  | .hbm, ⟨77, _⟩ => ⟨S_, .f32⟩
  | .hbm, ⟨78, _⟩ => ⟨S_, .f32⟩
  | .hbm, ⟨79, _⟩ => ⟨S6x16x4096x4096, .f32⟩
  | .hbm, ⟨80, _⟩ => ⟨S6x16x4096x4096, .f32⟩
  | .hbm, ⟨81, _⟩ => ⟨S_, .f32⟩
  | .hbm, ⟨82, _⟩ => ⟨S6x16x4096, .f32⟩
  | .hbm, ⟨83, _⟩ => ⟨S_, .f32⟩
  | .hbm, ⟨84, _⟩ => ⟨S6x16x4096, .f32⟩
  | .hbm, ⟨85, _⟩ => ⟨S6x16x4096, .f32⟩
  | .hbm, ⟨86, _⟩ => ⟨S6x16x4096x1, .f32⟩
  | .hbm, ⟨87, _⟩ => ⟨S6x16x4096x4096, .f32⟩
  | .hbm, ⟨88, _⟩ => ⟨S6x16x4096x4096, .f32⟩
  | .hbm, ⟨89, _⟩ => ⟨S6x16x4096x4096, .f32⟩
  | .hbm, ⟨90, _⟩ => ⟨S_, .f32⟩
  | .hbm, ⟨91, _⟩ => ⟨S6x16x4096, .f32⟩
  | .hbm, ⟨92, _⟩ => ⟨S6x16x4096x1, .f32⟩
  | .hbm, ⟨93, _⟩ => ⟨S6x16x4096x4096, .f32⟩
  | .hbm, ⟨94, _⟩ => ⟨S6x16x4096x4096, .f32⟩
  | .hbm, ⟨95, _⟩ => ⟨S6x16x128x4096, .f32⟩
  | .hbm, ⟨96, _⟩ => ⟨S6x4096x16x128, .f32⟩
  | .hbm, ⟨97, _⟩ => ⟨S6x4096x16x128, .f32⟩
  | .hbm, ⟨98, _⟩ => ⟨S_, .f32⟩
  | .hbm, ⟨99, _⟩ => ⟨S6x4096x16, .f32⟩
  | .hbm, ⟨100, _⟩ => ⟨S6x4096x16x1, .f32⟩
  | .hbm, ⟨101, _⟩ => ⟨S_, .f32⟩
  | .hbm, ⟨102, _⟩ => ⟨S6x4096x16x1, .f32⟩
  | .hbm, ⟨103, _⟩ => ⟨S6x4096x16x1, .f32⟩
  | .hbm, ⟨104, _⟩ => ⟨S_, .f32⟩
  | .hbm, ⟨105, _⟩ => ⟨S6x4096x16x1, .f32⟩
  | .hbm, ⟨106, _⟩ => ⟨S6x4096x16x1, .f32⟩
  | .hbm, ⟨107, _⟩ => ⟨S6x4096x16x1, .f32⟩
  | .hbm, ⟨108, _⟩ => ⟨S6x4096x16x128, .f32⟩
  | .hbm, ⟨109, _⟩ => ⟨S6x4096x16x128, .f32⟩
  | .hbm, ⟨110, _⟩ => ⟨S1x1x16x128, .f32⟩
  | .hbm, ⟨111, _⟩ => ⟨S6x4096x16x128, .f32⟩
  | .hbm, ⟨112, _⟩ => ⟨S6x4096x16x128, .f32⟩
  | .hbm, ⟨113, _⟩ => ⟨S6x4096x16x128, .bf16⟩
  | .hbm, ⟨114, _⟩ => ⟨S24576x2048, .bf16⟩
  | _, _ => ⟨S6x4096x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_v65 : Ref sig .tc := ⟨.hbm, 74, rfl⟩
abbrev main_v66 : Ref sig .tc := ⟨.hbm, 75, rfl⟩
abbrev main_v67 : Ref sig .tc := ⟨.hbm, 76, rfl⟩
abbrev main_cst_4 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_cst_5 : Ref sig .tc := ⟨.hbm, 81, rfl⟩
abbrev main_v71 : Ref sig .tc := ⟨.hbm, 82, rfl⟩
abbrev main_cst_6 : Ref sig .tc := ⟨.hbm, 83, rfl⟩
abbrev main_v72 : Ref sig .tc := ⟨.hbm, 84, rfl⟩
abbrev main_v73 : Ref sig .tc := ⟨.hbm, 85, rfl⟩
abbrev main_v74 : Ref sig .tc := ⟨.hbm, 86, rfl⟩
abbrev main_v75 : Ref sig .tc := ⟨.hbm, 87, rfl⟩
abbrev main_v76 : Ref sig .tc := ⟨.hbm, 88, rfl⟩
abbrev main_v77 : Ref sig .tc := ⟨.hbm, 89, rfl⟩
abbrev main_cst_7 : Ref sig .tc := ⟨.hbm, 90, rfl⟩
abbrev main_v78 : Ref sig .tc := ⟨.hbm, 91, rfl⟩
abbrev main_v79 : Ref sig .tc := ⟨.hbm, 92, rfl⟩
abbrev main_v80 : Ref sig .tc := ⟨.hbm, 93, rfl⟩
abbrev main_v81 : Ref sig .tc := ⟨.hbm, 94, rfl⟩
abbrev main_v82 : Ref sig .tc := ⟨.hbm, 95, rfl⟩
abbrev main_v83 : Ref sig .tc := ⟨.hbm, 96, rfl⟩
abbrev main_v84 : Ref sig .tc := ⟨.hbm, 97, rfl⟩
abbrev main_cst_8 : Ref sig .tc := ⟨.hbm, 98, rfl⟩
abbrev main_v85 : Ref sig .tc := ⟨.hbm, 99, rfl⟩
abbrev main_v86 : Ref sig .tc := ⟨.hbm, 100, rfl⟩
abbrev main_cst_9 : Ref sig .tc := ⟨.hbm, 101, rfl⟩
abbrev main_v87 : Ref sig .tc := ⟨.hbm, 102, rfl⟩
abbrev main_v88 : Ref sig .tc := ⟨.hbm, 103, rfl⟩
abbrev main_cst_10 : Ref sig .tc := ⟨.hbm, 104, rfl⟩
abbrev main_v89 : Ref sig .tc := ⟨.hbm, 105, rfl⟩
abbrev main_v90 : Ref sig .tc := ⟨.hbm, 106, rfl⟩
abbrev main_v91 : Ref sig .tc := ⟨.hbm, 107, rfl⟩
abbrev main_v92 : Ref sig .tc := ⟨.hbm, 108, rfl⟩
abbrev main_v93 : Ref sig .tc := ⟨.hbm, 109, rfl⟩
abbrev main_v94 : Ref sig .tc := ⟨.hbm, 110, rfl⟩
abbrev main_v95 : Ref sig .tc := ⟨.hbm, 111, rfl⟩
abbrev main_v96 : Ref sig .tc := ⟨.hbm, 112, rfl⟩
abbrev main_v97 : Ref sig .tc := ⟨.hbm, 113, rfl⟩
abbrev main_v98 : Ref sig .tc := ⟨.hbm, 114, rfl⟩

abbrev nD : Nat := 1
abbrev τ : Topo := Topo.v7x

variable {F : FTy → Type} [FloatOps F]
-- ==== InProj.lean ====
abbrev S24576x4096 : Shape := ⟨2, ![24576, 4096]⟩
abbrev S4096 : Shape := ⟨1, ![4096]⟩
abbrev S4096x9792 : Shape := ⟨2, ![4096, 9792]⟩
abbrev S4096x6720 : Shape := ⟨2, ![4096, 6720]⟩
abbrev S_ : Shape := ⟨0, ![]⟩
abbrev S4096x64 : Shape := ⟨2, ![4096, 64]⟩
abbrev S4096x3072 : Shape := ⟨2, ![4096, 3072]⟩
abbrev S4096x128 : Shape := ⟨2, ![4096, 128]⟩
abbrev S4096x9984 : Shape := ⟨2, ![4096, 9984]⟩
abbrev S1x4096 : Shape := ⟨2, ![1, 4096]⟩
abbrev S24576x9984 : Shape := ⟨2, ![24576, 9984]⟩
abbrev S512x4096 : Shape := ⟨2, ![512, 4096]⟩
abbrev S4096x768 : Shape := ⟨2, ![4096, 768]⟩
abbrev S512x768 : Shape := ⟨2, ![512, 768]⟩
abbrev S512 : Shape := ⟨1, ![512]⟩
abbrev S512x1 : Shape := ⟨2, ![512, 1]⟩

abbrev nBuf : Space → Nat
  | .hbm => 13
  | .vmem => 8
  | .smem => 0
  | _ => 0

abbrev bufTy : (tb : Table) → Fin (tcTables nBuf tb) → BufTy
  | .hbm, ⟨0, _⟩ => ⟨S24576x4096, .f32⟩
  | .hbm, ⟨1, _⟩ => ⟨S4096, .f32⟩
  | .hbm, ⟨2, _⟩ => ⟨S4096x9792, .f32⟩
  | .hbm, ⟨3, _⟩ => ⟨S4096x6720, .f32⟩
  | .hbm, ⟨4, _⟩ => ⟨S_, .f32⟩
  | .hbm, ⟨5, _⟩ => ⟨S4096x64, .f32⟩
  | .hbm, ⟨6, _⟩ => ⟨S4096x3072, .f32⟩
  | .hbm, ⟨7, _⟩ => ⟨S_, .f32⟩
  | .hbm, ⟨8, _⟩ => ⟨S4096x128, .f32⟩
  | .hbm, ⟨9, _⟩ => ⟨S4096x9984, .f32⟩
  | .hbm, ⟨10, _⟩ => ⟨S4096x9984, .bf16⟩
  | .hbm, ⟨11, _⟩ => ⟨S1x4096, .f32⟩
  | .hbm, ⟨12, _⟩ => ⟨S24576x9984, .f32⟩
  | .local _ .vmem, ⟨0, _⟩ => ⟨S1x4096, .f32⟩
  | .local _ .vmem, ⟨1, _⟩ => ⟨S512x4096, .f32⟩
  | .local _ .vmem, ⟨2, _⟩ => ⟨S512x4096, .f32⟩
  | .local _ .vmem, ⟨3, _⟩ => ⟨S4096x768, .bf16⟩
  | .local _ .vmem, ⟨4, _⟩ => ⟨S4096x768, .bf16⟩
  | .local _ .vmem, ⟨5, _⟩ => ⟨S512x768, .f32⟩
  | .local _ .vmem, ⟨6, _⟩ => ⟨S512x768, .f32⟩
  | .local _ .vmem, ⟨7, _⟩ => ⟨S512x4096, .bf16⟩
  | _, _ => ⟨S24576x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![48, 13], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S1x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S512x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4096x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== InProjRefIdeal.lean ====
abbrev S24576x4096 : Shape := ⟨2, ![24576, 4096]⟩
abbrev S4096 : Shape := ⟨1, ![4096]⟩
abbrev S4096x9792 : Shape := ⟨2, ![4096, 9792]⟩
abbrev S_ : Shape := ⟨0, ![]⟩
abbrev S24576 : Shape := ⟨1, ![24576]⟩
abbrev S24576x1 : Shape := ⟨2, ![24576, 1]⟩
abbrev S1x4096 : Shape := ⟨2, ![1, 4096]⟩
abbrev S24576x9792 : Shape := ⟨2, ![24576, 9792]⟩
abbrev S24576x6720 : Shape := ⟨2, ![24576, 6720]⟩
abbrev S24576x64 : Shape := ⟨2, ![24576, 64]⟩
abbrev S24576x3072 : Shape := ⟨2, ![24576, 3072]⟩
abbrev S24576x128 : Shape := ⟨2, ![24576, 128]⟩
abbrev S24576x9984 : Shape := ⟨2, ![24576, 9984]⟩

abbrev nBuf : Space → Nat
  | .hbm => 27
  | .vmem => 0
  | .smem => 0
  | _ => 0

abbrev bufTy : (tb : Table) → Fin (tcTables nBuf tb) → BufTy
  | .hbm, ⟨0, _⟩ => ⟨S24576x4096, .f32⟩
  | .hbm, ⟨1, _⟩ => ⟨S4096, .f32⟩
  | .hbm, ⟨2, _⟩ => ⟨S4096x9792, .f32⟩
  | .hbm, ⟨3, _⟩ => ⟨S24576x4096, .f32⟩
  | .hbm, ⟨4, _⟩ => ⟨S_, .f32⟩
  | .hbm, ⟨5, _⟩ => ⟨S24576, .f32⟩
  | .hbm, ⟨6, _⟩ => ⟨S24576x1, .f32⟩
  | .hbm, ⟨7, _⟩ => ⟨S_, .f32⟩
  | .hbm, ⟨8, _⟩ => ⟨S24576x1, .f32⟩
  | .hbm, ⟨9, _⟩ => ⟨S24576x1, .f32⟩
  | .hbm, ⟨10, _⟩ => ⟨S_, .f32⟩
  | .hbm, ⟨11, _⟩ => ⟨S24576x1, .f32⟩
  | .hbm, ⟨12, _⟩ => ⟨S24576x1, .f32⟩
  | .hbm, ⟨13, _⟩ => ⟨S24576x1, .f32⟩
  | .hbm, ⟨14, _⟩ => ⟨S24576x4096, .f32⟩
  | .hbm, ⟨15, _⟩ => ⟨S24576x4096, .f32⟩
  | .hbm, ⟨16, _⟩ => ⟨S1x4096, .f32⟩
  | .hbm, ⟨17, _⟩ => ⟨S24576x4096, .f32⟩
  | .hbm, ⟨18, _⟩ => ⟨S24576x4096, .f32⟩
  | .hbm, ⟨19, _⟩ => ⟨S24576x9792, .f32⟩
  | .hbm, ⟨20, _⟩ => ⟨S24576x6720, .f32⟩
  | .hbm, ⟨21, _⟩ => ⟨S_, .f32⟩
  | .hbm, ⟨22, _⟩ => ⟨S24576x64, .f32⟩
  | .hbm, ⟨23, _⟩ => ⟨S24576x3072, .f32⟩
  | .hbm, ⟨24, _⟩ => ⟨S_, .f32⟩
  | .hbm, ⟨25, _⟩ => ⟨S24576x128, .f32⟩
  | .hbm, ⟨26, _⟩ => ⟨S24576x9984, .f32⟩
  | _, _ => ⟨S24576x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩

abbrev nD : Nat := 1
abbrev τ : Topo := Topo.v7x

variable {F : FTy → Type} [FloatOps F]
-- ==== OutProj.lean ====
abbrev S24576x1024 : Shape := ⟨2, ![24576, 1024]⟩
abbrev S24576x2048 : Shape := ⟨2, ![24576, 2048]⟩
abbrev S4096x4096 : Shape := ⟨2, ![4096, 4096]⟩
abbrev S24576x4096 : Shape := ⟨2, ![24576, 4096]⟩
abbrev S512x1024 : Shape := ⟨2, ![512, 1024]⟩
abbrev S1024x1024 : Shape := ⟨2, ![1024, 1024]⟩

abbrev nBuf : Space → Nat
  | .hbm => 7
  | .vmem => 20
  | .smem => 0
  | _ => 0

abbrev bufTy : (tb : Table) → Fin (tcTables nBuf tb) → BufTy
  | .hbm, ⟨0, _⟩ => ⟨S24576x1024, .bf16⟩
  | .hbm, ⟨1, _⟩ => ⟨S24576x2048, .bf16⟩
  | .hbm, ⟨2, _⟩ => ⟨S24576x1024, .bf16⟩
  | .hbm, ⟨3, _⟩ => ⟨S4096x4096, .f32⟩
  | .hbm, ⟨4, _⟩ => ⟨S24576x4096, .f32⟩
  | .hbm, ⟨5, _⟩ => ⟨S4096x4096, .bf16⟩
  | .hbm, ⟨6, _⟩ => ⟨S24576x4096, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S1024x1024, .bf16⟩
  | .local _ .vmem, ⟨14, _⟩ => ⟨S1024x1024, .bf16⟩
  | .local _ .vmem, ⟨15, _⟩ => ⟨S1024x1024, .bf16⟩
  | .local _ .vmem, ⟨16, _⟩ => ⟨S512x1024, .f32⟩
  | .local _ .vmem, ⟨17, _⟩ => ⟨S512x1024, .f32⟩
  | .local _ .vmem, ⟨18, _⟩ => ⟨S512x1024, .f32⟩
  | .local _ .vmem, ⟨19, _⟩ => ⟨S512x1024, .f32⟩
  | _, _ => ⟨S24576x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![48, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, c1_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![c1_i32.toNat, arg1.toNat]

def cc0_transform_6 (i : grid0.Coords) : Fin 2 → Nat :=
  let arg0 : BitVec 32 := BitVec.ofNat 32 (i 0).val
  let arg1 : BitVec 32 := BitVec.ofNat 32 (i 1).val
  let c2_i32 : BitVec 32 := 2#32
  let c0_i32 : BitVec 32 := 0#32
  ![c2_i32.toNat, arg1.toNat]

def cc0_transform_7 (i : grid0.Coords) : Fin 2 → Nat :=
  let arg0 : BitVec 32 := BitVec.ofNat 32 (i 0).val
  let arg1 : BitVec 32 := BitVec.ofNat 32 (i 1).val
  let c3_i32 : BitVec 32 := 3#32
  let c0_i32 : BitVec 32 := 0#32
  ![c3_i32.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== OutProjRefIdeal.lean ====
abbrev S24576x1024 : Shape := ⟨2, ![24576, 1024]⟩
abbrev S24576x2048 : Shape := ⟨2, ![24576, 2048]⟩
abbrev S4096x4096 : Shape := ⟨2, ![4096, 4096]⟩
abbrev S24576x4096 : Shape := ⟨2, ![24576, 4096]⟩

abbrev nBuf : Space → Nat
  | .hbm => 9
  | .vmem => 0
  | .smem => 0
  | _ => 0

abbrev bufTy : (tb : Table) → Fin (tcTables nBuf tb) → BufTy
  | .hbm, ⟨0, _⟩ => ⟨S24576x1024, .bf16⟩
  | .hbm, ⟨1, _⟩ => ⟨S24576x2048, .bf16⟩
  | .hbm, ⟨2, _⟩ => ⟨S24576x1024, .bf16⟩
  | .hbm, ⟨3, _⟩ => ⟨S4096x4096, .f32⟩
  | .hbm, ⟨4, _⟩ => ⟨S24576x4096, .f32⟩
  | .hbm, ⟨5, _⟩ => ⟨S24576x4096, .bf16⟩
  | .hbm, ⟨6, _⟩ => ⟨S24576x4096, .f32⟩
  | .hbm, ⟨7, _⟩ => ⟨S24576x4096, .f32⟩
  | .hbm, ⟨8, _⟩ => ⟨S24576x4096, .f32⟩
  | _, _ => ⟨S24576x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩

abbrev nD : Nat := 1
abbrev τ : Topo := Topo.v7x

variable {F : FTy → Type} [FloatOps F]
-- ==== QUp.lean ====
abbrev S24576x9984 : Shape := ⟨2, ![24576, 9984]⟩
abbrev S1024 : Shape := ⟨1, ![1024]⟩
abbrev S1024x3072 : Shape := ⟨2, ![1024, 3072]⟩
abbrev S1024x16x192 : Shape := ⟨3, ![1024, 16, 192]⟩
abbrev S_ : Shape := ⟨0, ![]⟩
abbrev S1024x16x256 : Shape := ⟨3, ![1024, 16, 256]⟩
abbrev S1024x4096 : Shape := ⟨2, ![1024, 4096]⟩
abbrev S1x1024 : Shape := ⟨2, ![1, 1024]⟩
abbrev S24576x4096 : Shape := ⟨2, ![24576, 4096]⟩
abbrev S1024x1024 : Shape := ⟨2, ![1024, 1024]⟩
abbrev S1024x1 : Shape := ⟨2, ![1024, 1]⟩

abbrev nBuf : Space → Nat
  | .hbm => 11
  | .vmem => 8
  | .smem => 0
  | _ => 0

abbrev bufTy : (tb : Table) → Fin (tcTables nBuf tb) → BufTy
  | .hbm, ⟨0, _⟩ => ⟨S24576x9984, .f32⟩
  | .hbm, ⟨1, _⟩ => ⟨S1024, .f32⟩
  | .hbm, ⟨2, _⟩ => ⟨S1024x3072, .f32⟩
  | .hbm, ⟨3, _⟩ => ⟨S1024x16x192, .f32⟩
  | .hbm, ⟨4, _⟩ => ⟨S_, .i32⟩
  | .hbm, ⟨5, _⟩ => ⟨S_, .f32⟩
  | .hbm, ⟨6, _⟩ => ⟨S1024x16x256, .f32⟩
  | .hbm, ⟨7, _⟩ => ⟨S1024x4096, .f32⟩
  | .hbm, ⟨8, _⟩ => ⟨S1024x4096, .bf16⟩
  | .hbm, ⟨9, _⟩ => ⟨S1x1024, .f32⟩
  | .hbm, ⟨10, _⟩ => ⟨S24576x4096, .bf16⟩
  | .local _ .vmem, ⟨0, _⟩ => ⟨S1x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | _, _ => ⟨S24576x9984, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![24, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c5_i32 : BitVec 32 := 5#32
  let c0_i32 : BitVec 32 := 0#32
  ![arg0.toNat, c5_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== QUpRefIdeal.lean ====
abbrev S24576x9984 : Shape := ⟨2, ![24576, 9984]⟩
abbrev S1024 : Shape := ⟨1, ![1024]⟩
abbrev S1024x3072 : Shape := ⟨2, ![1024, 3072]⟩
abbrev S24576x1024 : Shape := ⟨2, ![24576, 1024]⟩
abbrev S_ : Shape := ⟨0, ![]⟩
abbrev S24576 : Shape := ⟨1, ![24576]⟩
abbrev S24576x1 : Shape := ⟨2, ![24576, 1]⟩
abbrev S1x1024 : Shape := ⟨2, ![1, 1024]⟩
abbrev S24576x3072 : Shape := ⟨2, ![24576, 3072]⟩
abbrev S24576x16x192 : Shape := ⟨3, ![24576, 16, 192]⟩
abbrev S24576x16x64 : Shape := ⟨3, ![24576, 16, 64]⟩
abbrev S24576x16x256 : Shape := ⟨3, ![24576, 16, 256]⟩
abbrev S24576x4096 : Shape := ⟨2, ![24576, 4096]⟩

abbrev nBuf : Space → Nat
  | .hbm => 27
  | .vmem => 0
  | .smem => 0
  | _ => 0

abbrev bufTy : (tb : Table) → Fin (tcTables nBuf tb) → BufTy
  | .hbm, ⟨0, _⟩ => ⟨S24576x9984, .f32⟩
  | .hbm, ⟨1, _⟩ => ⟨S1024, .f32⟩
  | .hbm, ⟨2, _⟩ => ⟨S1024x3072, .f32⟩
  | .hbm, ⟨3, _⟩ => ⟨S24576x1024, .f32⟩
  | .hbm, ⟨4, _⟩ => ⟨S24576x1024, .f32⟩
  | .hbm, ⟨5, _⟩ => ⟨S_, .f32⟩
  | .hbm, ⟨6, _⟩ => ⟨S24576, .f32⟩
  | .hbm, ⟨7, _⟩ => ⟨S24576x1, .f32⟩
  | .hbm, ⟨8, _⟩ => ⟨S_, .f32⟩
  | .hbm, ⟨9, _⟩ => ⟨S24576x1, .f32⟩
  | .hbm, ⟨10, _⟩ => ⟨S24576x1, .f32⟩
  | .hbm, ⟨11, _⟩ => ⟨S_, .f32⟩
  | .hbm, ⟨12, _⟩ => ⟨S24576x1, .f32⟩
  | .hbm, ⟨13, _⟩ => ⟨S24576x1, .f32⟩
  | .hbm, ⟨14, _⟩ => ⟨S24576x1, .f32⟩
  | .hbm, ⟨15, _⟩ => ⟨S24576x1024, .f32⟩
  | .hbm, ⟨16, _⟩ => ⟨S24576x1024, .f32⟩
  | .hbm, ⟨17, _⟩ => ⟨S1x1024, .f32⟩
  | .hbm, ⟨18, _⟩ => ⟨S24576x1024, .f32⟩
  | .hbm, ⟨19, _⟩ => ⟨S24576x1024, .f32⟩
  | .hbm, ⟨20, _⟩ => ⟨S24576x3072, .f32⟩
  | .hbm, ⟨21, _⟩ => ⟨S24576x16x192, .f32⟩
  | .hbm, ⟨22, _⟩ => ⟨S_, .f32⟩
  | .hbm, ⟨23, _⟩ => ⟨S24576x16x64, .f32⟩
  | .hbm, ⟨24, _⟩ => ⟨S24576x16x256, .f32⟩
  | .hbm, ⟨25, _⟩ => ⟨S24576x4096, .f32⟩
  | .hbm, ⟨26, _⟩ => ⟨S24576x4096, .bf16⟩
  | _, _ => ⟨S24576x9984, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_2 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]
-- ==== KvUp.lean ====
abbrev S24576x9984 : Shape := ⟨2, ![24576, 9984]⟩
abbrev S512 : Shape := ⟨1, ![512]⟩
abbrev S512x4096 : Shape := ⟨2, ![512, 4096]⟩
abbrev S512x16x2x128 : Shape := ⟨4, ![512, 16, 2, 128]⟩
abbrev S512x2x16x128 : Shape := ⟨4, ![512, 2, 16, 128]⟩
abbrev S1x512 : Shape := ⟨2, ![1, 512]⟩
abbrev S24576x4096 : Shape := ⟨2, ![24576, 4096]⟩
abbrev S1024x512 : Shape := ⟨2, ![1024, 512]⟩
abbrev S512x1024 : Shape := ⟨2, ![512, 1024]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 9
  | .vmem => 8
  | .smem => 0
  | _ => 0

abbrev bufTy : (tb : Table) → Fin (tcTables nBuf tb) → BufTy
  | .hbm, ⟨0, _⟩ => ⟨S24576x9984, .f32⟩
  | .hbm, ⟨1, _⟩ => ⟨S512, .f32⟩
  | .hbm, ⟨2, _⟩ => ⟨S512x4096, .f32⟩
  | .hbm, ⟨3, _⟩ => ⟨S512x16x2x128, .f32⟩
  | .hbm, ⟨4, _⟩ => ⟨S512x2x16x128, .f32⟩
  | .hbm, ⟨5, _⟩ => ⟨S512x4096, .f32⟩
  | .hbm, ⟨6, _⟩ => ⟨S512x4096, .bf16⟩
  | .hbm, ⟨7, _⟩ => ⟨S1x512, .f32⟩
  | .hbm, ⟨8, _⟩ => ⟨S24576x4096, .bf16⟩
  | .local _ .vmem, ⟨0, _⟩ => ⟨S1x512, .f32⟩
  | .local _ .vmem, ⟨1, _⟩ => ⟨S1024x512, .f32⟩
  | .local _ .vmem, ⟨2, _⟩ => ⟨S1024x512, .f32⟩
  | .local _ .vmem, ⟨3, _⟩ => ⟨S512x1024, .bf16⟩
  | .local _ .vmem, ⟨4, _⟩ => ⟨S512x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x512, .bf16⟩
  | _, _ => ⟨S24576x9984, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![24, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c12_i32 : BitVec 32 := 12#32
  let c0_i32 : BitVec 32 := 0#32
  ![arg0.toNat, c12_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S1x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== KvUpRefIdeal.lean ====
abbrev S24576x9984 : Shape := ⟨2, ![24576, 9984]⟩
abbrev S512 : Shape := ⟨1, ![512]⟩
abbrev S512x4096 : Shape := ⟨2, ![512, 4096]⟩
abbrev S24576x512 : Shape := ⟨2, ![24576, 512]⟩
abbrev S_ : Shape := ⟨0, ![]⟩
abbrev S24576 : Shape := ⟨1, ![24576]⟩
abbrev S24576x1 : Shape := ⟨2, ![24576, 1]⟩
abbrev S1x512 : Shape := ⟨2, ![1, 512]⟩
abbrev S24576x4096 : Shape := ⟨2, ![24576, 4096]⟩
abbrev S24576x16x256 : Shape := ⟨3, ![24576, 16, 256]⟩
abbrev S24576x16x128 : Shape := ⟨3, ![24576, 16, 128]⟩
abbrev S24576x2048 : Shape := ⟨2, ![24576, 2048]⟩

abbrev nBuf : Space → Nat
  | .hbm => 28
  | .vmem => 0
  | .smem => 0
  | _ => 0

abbrev bufTy : (tb : Table) → Fin (tcTables nBuf tb) → BufTy
  | .hbm, ⟨0, _⟩ => ⟨S24576x9984, .f32⟩
  | .hbm, ⟨1, _⟩ => ⟨S512, .f32⟩
  | .hbm, ⟨2, _⟩ => ⟨S512x4096, .f32⟩
  | .hbm, ⟨3, _⟩ => ⟨S24576x512, .f32⟩
  | .hbm, ⟨4, _⟩ => ⟨S24576x512, .f32⟩
  | .hbm, ⟨5, _⟩ => ⟨S_, .f32⟩
  | .hbm, ⟨6, _⟩ => ⟨S24576, .f32⟩
  | .hbm, ⟨7, _⟩ => ⟨S24576x1, .f32⟩
  | .hbm, ⟨8, _⟩ => ⟨S_, .f32⟩
  | .hbm, ⟨9, _⟩ => ⟨S24576x1, .f32⟩
  | .hbm, ⟨10, _⟩ => ⟨S24576x1, .f32⟩
  | .hbm, ⟨11, _⟩ => ⟨S_, .f32⟩
  | .hbm, ⟨12, _⟩ => ⟨S24576x1, .f32⟩
  | .hbm, ⟨13, _⟩ => ⟨S24576x1, .f32⟩
  | .hbm, ⟨14, _⟩ => ⟨S24576x1, .f32⟩
  | .hbm, ⟨15, _⟩ => ⟨S24576x512, .f32⟩
  | .hbm, ⟨16, _⟩ => ⟨S24576x512, .f32⟩
  | .hbm, ⟨17, _⟩ => ⟨S1x512, .f32⟩
  | .hbm, ⟨18, _⟩ => ⟨S24576x512, .f32⟩
  | .hbm, ⟨19, _⟩ => ⟨S24576x512, .f32⟩
  | .hbm, ⟨20, _⟩ => ⟨S24576x4096, .f32⟩
  | .hbm, ⟨21, _⟩ => ⟨S24576x16x256, .f32⟩
  | .hbm, ⟨22, _⟩ => ⟨S24576x16x128, .f32⟩
  | .hbm, ⟨23, _⟩ => ⟨S24576x2048, .f32⟩
  | .hbm, ⟨24, _⟩ => ⟨S24576x16x128, .f32⟩
  | .hbm, ⟨25, _⟩ => ⟨S24576x2048, .f32⟩
  | .hbm, ⟨26, _⟩ => ⟨S24576x4096, .f32⟩
  | .hbm, ⟨27, _⟩ => ⟨S24576x4096, .bf16⟩
  | _, _ => ⟨S24576x9984, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩

abbrev nD : Nat := 1
abbrev τ : Topo := Topo.v7x

variable {F : FTy → Type} [FloatOps F]
-- ==== CrossQ.lean ====
abbrev S24576x4096 : Shape := ⟨2, ![24576, 4096]⟩
abbrev S4096 : Shape := ⟨1, ![4096]⟩
abbrev S4096x1024 : Shape := ⟨2, ![4096, 1024]⟩
abbrev S1x4096 : Shape := ⟨2, ![1, 4096]⟩
abbrev S24576x1024 : Shape := ⟨2, ![24576, 1024]⟩
abbrev S512x4096 : Shape := ⟨2, ![512, 4096]⟩
abbrev S512x1024 : Shape := ⟨2, ![512, 1024]⟩
abbrev S512 : Shape := ⟨1, ![512]⟩
abbrev S512x1 : Shape := ⟨2, ![512, 1]⟩

abbrev nBuf : Space → Nat
  | .hbm => 6
  | .vmem => 7
  | .smem => 0
  | _ => 0

abbrev bufTy : (tb : Table) → Fin (tcTables nBuf tb) → BufTy
  | .hbm, ⟨0, _⟩ => ⟨S24576x4096, .f32⟩
  | .hbm, ⟨1, _⟩ => ⟨S4096, .f32⟩
  | .hbm, ⟨2, _⟩ => ⟨S4096x1024, .f32⟩
  | .hbm, ⟨3, _⟩ => ⟨S4096x1024, .bf16⟩
  | .hbm, ⟨4, _⟩ => ⟨S1x4096, .f32⟩
  | .hbm, ⟨5, _⟩ => ⟨S24576x1024, .bf16⟩
  | .local _ .vmem, ⟨0, _⟩ => ⟨S1x4096, .f32⟩
  | .local _ .vmem, ⟨1, _⟩ => ⟨S512x4096, .f32⟩
  | .local _ .vmem, ⟨2, _⟩ => ⟨S512x4096, .f32⟩
  | .local _ .vmem, ⟨3, _⟩ => ⟨S4096x1024, .bf16⟩
  | .local _ .vmem, ⟨4, _⟩ => ⟨S512x1024, .bf16⟩
  | .local _ .vmem, ⟨5, _⟩ => ⟨S512x1024, .bf16⟩
  | .local _ .vmem, ⟨6, _⟩ => ⟨S512x4096, .bf16⟩
  | _, _ => ⟨S24576x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![48, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S1x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S512x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S4096x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== CrossQRefIdeal.lean ====
abbrev S24576x4096 : Shape := ⟨2, ![24576, 4096]⟩
abbrev S4096 : Shape := ⟨1, ![4096]⟩
abbrev S4096x1024 : Shape := ⟨2, ![4096, 1024]⟩
abbrev S_ : Shape := ⟨0, ![]⟩
abbrev S24576 : Shape := ⟨1, ![24576]⟩
abbrev S24576x1 : Shape := ⟨2, ![24576, 1]⟩
abbrev S1x4096 : Shape := ⟨2, ![1, 4096]⟩
abbrev S24576x1024 : Shape := ⟨2, ![24576, 1024]⟩

abbrev nBuf : Space → Nat
  | .hbm => 21
  | .vmem => 0
  | .smem => 0
  | _ => 0

abbrev bufTy : (tb : Table) → Fin (tcTables nBuf tb) → BufTy
  | .hbm, ⟨0, _⟩ => ⟨S24576x4096, .f32⟩
  | .hbm, ⟨1, _⟩ => ⟨S4096, .f32⟩
  | .hbm, ⟨2, _⟩ => ⟨S4096x1024, .f32⟩
  | .hbm, ⟨3, _⟩ => ⟨S24576x4096, .f32⟩
  | .hbm, ⟨4, _⟩ => ⟨S_, .f32⟩
  | .hbm, ⟨5, _⟩ => ⟨S24576, .f32⟩
  | .hbm, ⟨6, _⟩ => ⟨S24576x1, .f32⟩
  | .hbm, ⟨7, _⟩ => ⟨S_, .f32⟩
  | .hbm, ⟨8, _⟩ => ⟨S24576x1, .f32⟩
  | .hbm, ⟨9, _⟩ => ⟨S24576x1, .f32⟩
  | .hbm, ⟨10, _⟩ => ⟨S_, .f32⟩
  | .hbm, ⟨11, _⟩ => ⟨S24576x1, .f32⟩
  | .hbm, ⟨12, _⟩ => ⟨S24576x1, .f32⟩
  | .hbm, ⟨13, _⟩ => ⟨S24576x1, .f32⟩
  | .hbm, ⟨14, _⟩ => ⟨S24576x4096, .f32⟩
  | .hbm, ⟨15, _⟩ => ⟨S24576x4096, .f32⟩
  | .hbm, ⟨16, _⟩ => ⟨S1x4096, .f32⟩
  | .hbm, ⟨17, _⟩ => ⟨S24576x4096, .f32⟩
  | .hbm, ⟨18, _⟩ => ⟨S24576x4096, .f32⟩
  | .hbm, ⟨19, _⟩ => ⟨S24576x1024, .f32⟩
  | .hbm, ⟨20, _⟩ => ⟨S24576x1024, .bf16⟩
  | _, _ => ⟨S24576x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== CrossKv.lean ====
abbrev S1536x4096 : Shape := ⟨2, ![1536, 4096]⟩
abbrev S4096 : Shape := ⟨1, ![4096]⟩
abbrev S4096x1024 : Shape := ⟨2, ![4096, 1024]⟩
abbrev S4096x2048 : Shape := ⟨2, ![4096, 2048]⟩
abbrev S1x4096 : Shape := ⟨2, ![1, 4096]⟩
abbrev S1536x2048 : Shape := ⟨2, ![1536, 2048]⟩
abbrev S512x4096 : Shape := ⟨2, ![512, 4096]⟩
abbrev S512x1024 : Shape := ⟨2, ![512, 1024]⟩
abbrev S512 : Shape := ⟨1, ![512]⟩
abbrev S512x1 : Shape := ⟨2, ![512, 1]⟩

abbrev nBuf : Space → Nat
  | .hbm => 8
  | .vmem => 8
  | .smem => 0
  | _ => 0

abbrev bufTy : (tb : Table) → Fin (tcTables nBuf tb) → BufTy
  | .hbm, ⟨0, _⟩ => ⟨S1536x4096, .f32⟩
  | .hbm, ⟨1, _⟩ => ⟨S4096, .f32⟩
  | .hbm, ⟨2, _⟩ => ⟨S4096x1024, .f32⟩
  | .hbm, ⟨3, _⟩ => ⟨S4096x1024, .f32⟩
  | .hbm, ⟨4, _⟩ => ⟨S4096x2048, .f32⟩
  | .hbm, ⟨5, _⟩ => ⟨S4096x2048, .bf16⟩
  | .hbm, ⟨6, _⟩ => ⟨S1x4096, .f32⟩
  | .hbm, ⟨7, _⟩ => ⟨S1536x2048, .bf16⟩
  | .local _ .vmem, ⟨0, _⟩ => ⟨S1x4096, .f32⟩
  | .local _ .vmem, ⟨1, _⟩ => ⟨S512x4096, .f32⟩
  | .local _ .vmem, ⟨2, _⟩ => ⟨S512x4096, .f32⟩
  | .local _ .vmem, ⟨3, _⟩ => ⟨S4096x1024, .bf16⟩
  | .local _ .vmem, ⟨4, _⟩ => ⟨S4096x1024, .bf16⟩
  | .local _ .vmem, ⟨5, _⟩ => ⟨S512x1024, .bf16⟩
  | .local _ .vmem, ⟨6, _⟩ => ⟨S512x1024, .bf16⟩
  | .local _ .vmem, ⟨7, _⟩ => ⟨S512x4096, .bf16⟩
  | _, _ => ⟨S1536x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![3, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S1x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S512x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4096x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== CrossKvRefIdeal.lean ====
abbrev S1536x4096 : Shape := ⟨2, ![1536, 4096]⟩
abbrev S4096 : Shape := ⟨1, ![4096]⟩
abbrev S4096x1024 : Shape := ⟨2, ![4096, 1024]⟩
abbrev S_ : Shape := ⟨0, ![]⟩
abbrev S1536 : Shape := ⟨1, ![1536]⟩
abbrev S1536x1 : Shape := ⟨2, ![1536, 1]⟩
abbrev S1x4096 : Shape := ⟨2, ![1, 4096]⟩
abbrev S1536x1024 : Shape := ⟨2, ![1536, 1024]⟩
abbrev S1536x2048 : Shape := ⟨2, ![1536, 2048]⟩

abbrev nBuf : Space → Nat
  | .hbm => 24
  | .vmem => 0
  | .smem => 0
  | _ => 0

abbrev bufTy : (tb : Table) → Fin (tcTables nBuf tb) → BufTy
  | .hbm, ⟨0, _⟩ => ⟨S1536x4096, .f32⟩
  | .hbm, ⟨1, _⟩ => ⟨S4096, .f32⟩
  | .hbm, ⟨2, _⟩ => ⟨S4096x1024, .f32⟩
  | .hbm, ⟨3, _⟩ => ⟨S4096x1024, .f32⟩
  | .hbm, ⟨4, _⟩ => ⟨S1536x4096, .f32⟩
  | .hbm, ⟨5, _⟩ => ⟨S_, .f32⟩
  | .hbm, ⟨6, _⟩ => ⟨S1536, .f32⟩
  | .hbm, ⟨7, _⟩ => ⟨S1536x1, .f32⟩
  | .hbm, ⟨8, _⟩ => ⟨S_, .f32⟩
  | .hbm, ⟨9, _⟩ => ⟨S1536x1, .f32⟩
  | .hbm, ⟨10, _⟩ => ⟨S1536x1, .f32⟩
  | .hbm, ⟨11, _⟩ => ⟨S_, .f32⟩
  | .hbm, ⟨12, _⟩ => ⟨S1536x1, .f32⟩
  | .hbm, ⟨13, _⟩ => ⟨S1536x1, .f32⟩
  | .hbm, ⟨14, _⟩ => ⟨S1536x1, .f32⟩
  | .hbm, ⟨15, _⟩ => ⟨S1536x4096, .f32⟩
  | .hbm, ⟨16, _⟩ => ⟨S1536x4096, .f32⟩
  | .hbm, ⟨17, _⟩ => ⟨S1x4096, .f32⟩
  | .hbm, ⟨18, _⟩ => ⟨S1536x4096, .f32⟩
  | .hbm, ⟨19, _⟩ => ⟨S1536x4096, .f32⟩
  | .hbm, ⟨20, _⟩ => ⟨S1536x1024, .f32⟩
  | .hbm, ⟨21, _⟩ => ⟨S1536x1024, .f32⟩
  | .hbm, ⟨22, _⟩ => ⟨S1536x2048, .f32⟩
  | .hbm, ⟨23, _⟩ => ⟨S1536x2048, .bf16⟩
  | _, _ => ⟨S1536x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== CrossAttn.lean ====
abbrev S24576x1024 : Shape := ⟨2, ![24576, 1024]⟩
abbrev S1536x2048 : Shape := ⟨2, ![1536, 2048]⟩
abbrev S512x1024 : Shape := ⟨2, ![512, 1024]⟩
abbrev S256x1024 : Shape := ⟨2, ![256, 1024]⟩
abbrev S512x256 : Shape := ⟨2, ![512, 256]⟩
abbrev S256x256 : Shape := ⟨2, ![256, 256]⟩
abbrev S512 : Shape := ⟨1, ![512]⟩
abbrev S512x1 : Shape := ⟨2, ![512, 1]⟩

abbrev nBuf : Space → Nat
  | .hbm => 3
  | .vmem => 8
  | .smem => 0
  | _ => 0

abbrev bufTy : (tb : Table) → Fin (tcTables nBuf tb) → BufTy
  | .hbm, ⟨0, _⟩ => ⟨S24576x1024, .bf16⟩
  | .hbm, ⟨1, _⟩ => ⟨S1536x2048, .bf16⟩
  | .hbm, ⟨2, _⟩ => ⟨S24576x1024, .bf16⟩
  | .local _ .vmem, ⟨0, _⟩ => ⟨S512x1024, .bf16⟩
  | .local _ .vmem, ⟨1, _⟩ => ⟨S512x1024, .bf16⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S512x1024, .bf16⟩
  | .local _ .vmem, ⟨7, _⟩ => ⟨S512x1024, .bf16⟩
  | _, _ => ⟨S24576x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![6, 8], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, c1_i32.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== CrossAttnRefIdeal.lean ====
abbrev S24576x1024 : Shape := ⟨2, ![24576, 1024]⟩
abbrev S1536x2048 : Shape := ⟨2, ![1536, 2048]⟩
abbrev S6x4096x4x256 : Shape := ⟨4, ![6, 4096, 4, 256]⟩
abbrev S1536x1024 : Shape := ⟨2, ![1536, 1024]⟩
abbrev S6x256x4x256 : Shape := ⟨4, ![6, 256, 4, 256]⟩
abbrev S6x4x4096x256 : Shape := ⟨4, ![6, 4, 4096, 256]⟩
abbrev S_ : Shape := ⟨0, ![]⟩
abbrev S6x4x4096 : Shape := ⟨3, ![6, 4, 4096]⟩
abbrev S6x4x4096x1 : Shape := ⟨4, ![6, 4, 4096, 1]⟩
abbrev S6x4x256x4096 : Shape := ⟨4, ![6, 4, 256, 4096]⟩

abbrev nBuf : Space → Nat
  | .hbm => 32
  | .vmem => 0
  | .smem => 0
  | _ => 0

abbrev bufTy : (tb : Table) → Fin (tcTables nBuf tb) → BufTy
  | .hbm, ⟨0, _⟩ => ⟨S24576x1024, .bf16⟩
  | .hbm, ⟨1, _⟩ => ⟨S1536x2048, .bf16⟩
  | .hbm, ⟨2, _⟩ => ⟨S24576x1024, .f32⟩
  | .hbm, ⟨3, _⟩ => ⟨S6x4096x4x256, .f32⟩
  | .hbm, ⟨4, _⟩ => ⟨S1536x1024, .bf16⟩
  | .hbm, ⟨5, _⟩ => ⟨S1536x1024, .f32⟩
  | .hbm, ⟨6, _⟩ => ⟨S6x256x4x256, .f32⟩
  | .hbm, ⟨7, _⟩ => ⟨S1536x1024, .bf16⟩
  | .hbm, ⟨8, _⟩ => ⟨S1536x1024, .f32⟩
  | .hbm, ⟨9, _⟩ => ⟨S6x256x4x256, .f32⟩
  | .hbm, ⟨10, _⟩ => ⟨S6x4x4096x256, .f32⟩
  | .hbm, ⟨11, _⟩ => ⟨S_, .f32⟩
  | .hbm, ⟨12, _⟩ => ⟨S6x4x4096x256, .f32⟩
  | .hbm, ⟨13, _⟩ => ⟨S6x4x4096x256, .f32⟩
  | .hbm, ⟨14, _⟩ => ⟨S_, .f32⟩
  | .hbm, ⟨15, _⟩ => ⟨S6x4x4096, .f32⟩
  | .hbm, ⟨16, _⟩ => ⟨S_, .f32⟩
  | .hbm, ⟨17, _⟩ => ⟨S6x4x4096, .f32⟩
  | .hbm, ⟨18, _⟩ => ⟨S6x4x4096, .f32⟩
  | .hbm, ⟨19, _⟩ => ⟨S6x4x4096x1, .f32⟩
  | .hbm, ⟨20, _⟩ => ⟨S6x4x4096x256, .f32⟩
  | .hbm, ⟨21, _⟩ => ⟨S6x4x4096x256, .f32⟩
  | .hbm, ⟨22, _⟩ => ⟨S6x4x4096x256, .f32⟩
  | .hbm, ⟨23, _⟩ => ⟨S_, .f32⟩
  | .hbm, ⟨24, _⟩ => ⟨S6x4x4096, .f32⟩
  | .hbm, ⟨25, _⟩ => ⟨S6x4x4096x1, .f32⟩
  | .hbm, ⟨26, _⟩ => ⟨S6x4x4096x256, .f32⟩
  | .hbm, ⟨27, _⟩ => ⟨S6x4x4096x256, .f32⟩
  | .hbm, ⟨28, _⟩ => ⟨S6x4x256x4096, .f32⟩
  | .hbm, ⟨29, _⟩ => ⟨S6x4096x4x256, .f32⟩
  | .hbm, ⟨30, _⟩ => ⟨S24576x1024, .f32⟩
  | .hbm, ⟨31, _⟩ => ⟨S24576x1024, .bf16⟩
  | _, _ => ⟨S24576x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst : Ref sig .tc := ⟨.hbm, 11, rfl⟩
abbrev main_v9 : Ref sig .tc := ⟨.hbm, 12, rfl⟩
abbrev main_v10 : Ref sig .tc := ⟨.hbm, 13, rfl⟩
abbrev main_cst_0 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_cst_2 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩

abbrev nD : Nat := 1
abbrev τ : Topo := Topo.v7x

variable {F : FTy → Type} [FloatOps F]
-- ==== CrossOut.lean ====
abbrev S24576x1024 : Shape := ⟨2, ![24576, 1024]⟩
abbrev S1024x4096 : Shape := ⟨2, ![1024, 4096]⟩
abbrev S24576x4096 : Shape := ⟨2, ![24576, 4096]⟩
abbrev S512x1024 : Shape := ⟨2, ![512, 1024]⟩
abbrev S1024x1024 : Shape := ⟨2, ![1024, 1024]⟩

abbrev nBuf : Space → Nat
  | .hbm => 5
  | .vmem => 8
  | .smem => 0
  | _ => 0

abbrev bufTy : (tb : Table) → Fin (tcTables nBuf tb) → BufTy
  | .hbm, ⟨0, _⟩ => ⟨S24576x1024, .bf16⟩
  | .hbm, ⟨1, _⟩ => ⟨S1024x4096, .f32⟩
  | .hbm, ⟨2, _⟩ => ⟨S24576x4096, .f32⟩
  | .hbm, ⟨3, _⟩ => ⟨S1024x4096, .bf16⟩
  | .hbm, ⟨4, _⟩ => ⟨S24576x4096, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S1024x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | _, _ => ⟨S24576x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![48, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== CrossOutRefIdeal.lean ====
abbrev S24576x1024 : Shape := ⟨2, ![24576, 1024]⟩
abbrev S1024x4096 : Shape := ⟨2, ![1024, 4096]⟩
abbrev S24576x4096 : Shape := ⟨2, ![24576, 4096]⟩

abbrev nBuf : Space → Nat
  | .hbm => 6
  | .vmem => 0
  | .smem => 0
  | _ => 0

abbrev bufTy : (tb : Table) → Fin (tcTables nBuf tb) → BufTy
  | .hbm, ⟨0, _⟩ => ⟨S24576x1024, .bf16⟩
  | .hbm, ⟨1, _⟩ => ⟨S1024x4096, .f32⟩
  | .hbm, ⟨2, _⟩ => ⟨S24576x4096, .f32⟩
  | .hbm, ⟨3, _⟩ => ⟨S24576x1024, .f32⟩
  | .hbm, ⟨4, _⟩ => ⟨S24576x4096, .f32⟩
  | .hbm, ⟨5, _⟩ => ⟨S24576x4096, .f32⟩
  | _, _ => ⟨S24576x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== ShortConv.lean ====
abbrev S24576x9984 : Shape := ⟨2, ![24576, 9984]⟩
abbrev S3x1024 : Shape := ⟨2, ![3, 1024]⟩
abbrev S1024 : Shape := ⟨1, ![1024]⟩
abbrev S16x64 : Shape := ⟨2, ![16, 64]⟩
abbrev S1x1024 : Shape := ⟨2, ![1, 1024]⟩
abbrev S24576x1024 : Shape := ⟨2, ![24576, 1024]⟩
abbrev S4096x128 : Shape := ⟨2, ![4096, 128]⟩
abbrev S3x128 : Shape := ⟨2, ![3, 128]⟩
abbrev S1x128 : Shape := ⟨2, ![1, 128]⟩
abbrev S4112x128 : Shape := ⟨2, ![4112, 128]⟩
abbrev S8x128 : Shape := ⟨2, ![8, 128]⟩
abbrev S256x128 : Shape := ⟨2, ![256, 128]⟩
abbrev S128x128 : Shape := ⟨2, ![128, 128]⟩

abbrev nBuf : Space → Nat
  | .hbm => 7
  | .vmem => 15
  | .smem => 0
  | _ => 0

abbrev bufTy : (tb : Table) → Fin (tcTables nBuf tb) → BufTy
  | .hbm, ⟨0, _⟩ => ⟨S24576x9984, .f32⟩
  | .hbm, ⟨1, _⟩ => ⟨S3x1024, .f32⟩
  | .hbm, ⟨2, _⟩ => ⟨S1024, .f32⟩
  | .hbm, ⟨3, _⟩ => ⟨S16x64, .f32⟩
  | .hbm, ⟨4, _⟩ => ⟨S1x1024, .f32⟩
  | .hbm, ⟨5, _⟩ => ⟨S1x1024, .f32⟩
  | .hbm, ⟨6, _⟩ => ⟨S24576x1024, .bf16⟩
  | .local _ .vmem, ⟨0, _⟩ => ⟨S4096x128, .f32⟩
  | .local _ .vmem, ⟨1, _⟩ => ⟨S4096x128, .f32⟩
  | .local _ .vmem, ⟨2, _⟩ => ⟨S4096x128, .f32⟩
  | .local _ .vmem, ⟨3, _⟩ => ⟨S4096x128, .f32⟩
  | .local _ .vmem, ⟨4, _⟩ => ⟨S4096x128, .f32⟩
  | .local _ .vmem, ⟨5, _⟩ => ⟨S4096x128, .f32⟩
  | .local _ .vmem, ⟨6, _⟩ => ⟨S3x128, .f32⟩
  | .local _ .vmem, ⟨7, _⟩ => ⟨S3x128, .f32⟩
  | .local _ .vmem, ⟨8, _⟩ => ⟨S1x128, .f32⟩
  | .local _ .vmem, ⟨9, _⟩ => ⟨S1x128, .f32⟩
  | .local _ .vmem, ⟨10, _⟩ => ⟨S1x128, .f32⟩
  | .local _ .vmem, ⟨11, _⟩ => ⟨S1x128, .f32⟩
  | .local _ .vmem, ⟨12, _⟩ => ⟨S4096x128, .bf16⟩
  | .local _ .vmem, ⟨13, _⟩ => ⟨S4096x128, .bf16⟩
  | .local _ .vmem, ⟨14, _⟩ => ⟨S4112x128, .f32⟩
  | _, _ => ⟨S24576x9984, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![6, 8], ![false, false]⟩

@[reducible] def k0_t1_loop : Scf.Loop 32 :=
  let c0_i32 : BitVec 32 := 0#32
  let c16_i32 : BitVec 32 := 16#32
  let v7 : BitVec 32 := Scalar.addi c0_i32 c16_i32
  let c1_i32 : BitVec 32 := 1#32
  ⟨c0_i32, v7, c1_i32⟩
def k0_mult1 (k0_t1 : Fin k0_t1_loop.trips) : BitVec 32 :=
  let c0_i32 : BitVec 32 := 0#32
  let c1_i32 : BitVec 32 := 1#32
  let arg10 : BitVec 32 := Scf.iv c0_i32 c1_i32 k0_t1
  let c256_i32 : BitVec 32 := 256#32
  let v68 : BitVec 32 := Scalar.muli arg10 c256_i32
  v68
def k0_off1 (k0_t1 : Fin k0_t1_loop.trips) : Fin 2 → Nat :=
  let c0_i32 : BitVec 32 := 0#32
  let c1_i32 : BitVec 32 := 1#32
  let arg10 : BitVec 32 := Scf.iv c0_i32 c1_i32 k0_t1
  let c256_i32 : BitVec 32 := 256#32
  let v68 : BitVec 32 := Scalar.muli arg10 c256_i32
  let v69 : BitVec 32 := v68
  let v70 : Index := Scalar.indexCast v69
  let c0_26 : Index := 0#32
  ![v70.toNat, 0]
def k0_mult2 (k0_t1 : Fin k0_t1_loop.trips) : BitVec 32 :=
  let c0_i32 : BitVec 32 := 0#32
  let c1_i32 : BitVec 32 := 1#32
  let arg10 : BitVec 32 := Scf.iv c0_i32 c1_i32 k0_t1
  let c256_i32_28 : BitVec 32 := 256#32
  let v75 : BitVec 32 := Scalar.muli arg10 c256_i32_28
  v75
def k0_off2 (k0_t1 : Fin k0_t1_loop.trips) : Fin 2 → Nat :=
  let c0_i32 : BitVec 32 := 0#32
  let c1_i32 : BitVec 32 := 1#32
  let arg10 : BitVec 32 := Scf.iv c0_i32 c1_i32 k0_t1
  let c256_i32_28 : BitVec 32 := 256#32
  let v75 : BitVec 32 := Scalar.muli arg10 c256_i32_28
  let v76 : BitVec 32 := v75
  let c8_i32 : BitVec 32 := 8#32
  let v77 : BitVec 32 := Scalar.addi v76 c8_i32
  let v78 : Index := Scalar.indexCast v77
  let c0_29 : Index := 0#32
  ![v78.toNat, 0]
@[reducible] def k0_t2_loop : Scf.Loop 32 :=
  let c0_i32_22 : BitVec 32 := 0#32
  let c16_i32_23 : BitVec 32 := 16#32
  let v67 : BitVec 32 := Scalar.addi c0_i32_22 c16_i32_23
  let c1_i32_24 : BitVec 32 := 1#32
  ⟨c0_i32_22, v67, c1_i32_24⟩
def k0_mult3 (k0_t2 : Fin k0_t2_loop.trips) : BitVec 32 :=
  let c0_i32_22 : BitVec 32 := 0#32
  let c1_i32_24 : BitVec 32 := 1#32
  let arg10 : BitVec 32 := Scf.iv c0_i32_22 c1_i32_24 k0_t2
  let c256_i32 : BitVec 32 := 256#32
  let v68 : BitVec 32 := Scalar.muli arg10 c256_i32
  v68
def k0_off3 (k0_t2 : Fin k0_t2_loop.trips) : Fin 2 → Nat :=
  let c0_i32_22 : BitVec 32 := 0#32
  let c1_i32_24 : BitVec 32 := 1#32
  let arg10 : BitVec 32 := Scf.iv c0_i32_22 c1_i32_24 k0_t2
  let c256_i32 : BitVec 32 := 256#32
  let v68 : BitVec 32 := Scalar.muli arg10 c256_i32
  let v69 : BitVec 32 := v68
  let c8_i32 : BitVec 32 := 8#32
  let v70 : BitVec 32 := Scalar.addi v69 c8_i32
  let v71 : Index := Scalar.indexCast v70
  let c0_26 : Index := 0#32
  ![v71.toNat, 0]
def k0_off4 (k0_t2 : Fin k0_t2_loop.trips) : Fin 2 → Nat :=
  let c0_i32_22 : BitVec 32 := 0#32
  let c1_i32_24 : BitVec 32 := 1#32
  let arg10 : BitVec 32 := Scf.iv c0_i32_22 c1_i32_24 k0_t2
  let c256_i32 : BitVec 32 := 256#32
  let v68 : BitVec 32 := Scalar.muli arg10 c256_i32
  let v69 : BitVec 32 := v68
  let v73 : Index := Scalar.indexCast v69
  let c0_27 : Index := 0#32
  ![v73.toNat, 0]
def k0_off5 (k0_t2 : Fin k0_t2_loop.trips) : Fin 2 → Nat :=
  let c0_i32_22 : BitVec 32 := 0#32
  let c1_i32_24 : BitVec 32 := 1#32
  let arg10 : BitVec 32 := Scf.iv c0_i32_22 c1_i32_24 k0_t2
  let c256_i32 : BitVec 32 := 256#32
  let v68 : BitVec 32 := Scalar.muli arg10 c256_i32
  let v69 : BitVec 32 := v68
  let c8_i32_28 : BitVec 32 := 8#32
  let v76 : BitVec 32 := Scalar.addi v69 c8_i32_28
  let c256_i32_29 : BitVec 32 := 256#32
  let v77 : BitVec 32 := Scalar.addi v76 c256_i32_29
  let v78 : Index := Scalar.indexCast v77
  let c0_30 : Index := 0#32
  ![v78.toNat, 0]
def k0_off6 (k0_t2 : Fin k0_t2_loop.trips) : Fin 2 → Nat :=
  let c0_i32_22 : BitVec 32 := 0#32
  let c1_i32_24 : BitVec 32 := 1#32
  let arg10 : BitVec 32 := Scf.iv c0_i32_22 c1_i32_24 k0_t2
  let c256_i32 : BitVec 32 := 256#32
  let v68 : BitVec 32 := Scalar.muli arg10 c256_i32
  let v69 : BitVec 32 := v68
  let v105 : Index := Scalar.indexCast v69
  let c0_36 : Index := 0#32
  ![v105.toNat, 0]
def cc0_transform_0 (i : grid0.Coords) : Fin 2 → Nat :=
  let arg0 : BitVec 32 := BitVec.ofNat 32 (i 0).val
  let arg1 : BitVec 32 := BitVec.ofNat 32 (i 1).val
  let c53_i32 : BitVec 32 := 53#32
  let v0 : BitVec 32 := Scalar.addi c53_i32 arg1
  let c0_i32 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c61_i32 : BitVec 32 := 61#32
  let v0 : BitVec 32 := Scalar.addi c61_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c69_i32 : BitVec 32 := 69#32
  let v0 : BitVec 32 := Scalar.addi c69_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S3x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S4096x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== ShortConvRefIdeal.lean ====
abbrev S24576x9984 : Shape := ⟨2, ![24576, 9984]⟩
abbrev S3x1024 : Shape := ⟨2, ![3, 1024]⟩
abbrev S1024 : Shape := ⟨1, ![1024]⟩
abbrev S16x64 : Shape := ⟨2, ![16, 64]⟩
abbrev S24576x1024 : Shape := ⟨2, ![24576, 1024]⟩
abbrev S6x4096x1024 : Shape := ⟨3, ![6, 4096, 1024]⟩
abbrev S_ : Shape := ⟨0, ![]⟩
abbrev S6x4098x1024 : Shape := ⟨3, ![6, 4098, 1024]⟩
abbrev S1x1024 : Shape := ⟨2, ![1, 1024]⟩
abbrev S1x1x1024 : Shape := ⟨3, ![1, 1, 1024]⟩
abbrev S6x4096x16x64 : Shape := ⟨4, ![6, 4096, 16, 64]⟩
abbrev S6x4096x16 : Shape := ⟨3, ![6, 4096, 16]⟩
abbrev S6x4096x16x1 : Shape := ⟨4, ![6, 4096, 16, 1]⟩
abbrev S1x1x16x64 : Shape := ⟨4, ![1, 1, 16, 64]⟩

abbrev nBuf : Space → Nat
  | .hbm => 56
  | .vmem => 0
  | .smem => 0
  | _ => 0

abbrev bufTy : (tb : Table) → Fin (tcTables nBuf tb) → BufTy
  | .hbm, ⟨0, _⟩ => ⟨S24576x9984, .f32⟩
  | .hbm, ⟨1, _⟩ => ⟨S3x1024, .f32⟩
  | .hbm, ⟨2, _⟩ => ⟨S1024, .f32⟩
  | .hbm, ⟨3, _⟩ => ⟨S16x64, .f32⟩
  | .hbm, ⟨4, _⟩ => ⟨S24576x1024, .f32⟩
  | .hbm, ⟨5, _⟩ => ⟨S6x4096x1024, .f32⟩
  | .hbm, ⟨6, _⟩ => ⟨S24576x1024, .f32⟩
  | .hbm, ⟨7, _⟩ => ⟨S24576x1024, .f32⟩
  | .hbm, ⟨8, _⟩ => ⟨S24576x1024, .f32⟩
  | .hbm, ⟨9, _⟩ => ⟨S6x4096x1024, .f32⟩
  | .hbm, ⟨10, _⟩ => ⟨S_, .i32⟩
  | .hbm, ⟨11, _⟩ => ⟨S_, .f32⟩
  | .hbm, ⟨12, _⟩ => ⟨S6x4098x1024, .f32⟩
  | .hbm, ⟨13, _⟩ => ⟨S6x4096x1024, .f32⟩
  | .hbm, ⟨14, _⟩ => ⟨S1x1024, .f32⟩
  | .hbm, ⟨15, _⟩ => ⟨S1024, .f32⟩
  | .hbm, ⟨16, _⟩ => ⟨S1x1x1024, .f32⟩
  | .hbm, ⟨17, _⟩ => ⟨S6x4096x1024, .f32⟩
  | .hbm, ⟨18, _⟩ => ⟨S6x4096x1024, .f32⟩
  | .hbm, ⟨19, _⟩ => ⟨S6x4096x1024, .f32⟩
  | .hbm, ⟨20, _⟩ => ⟨S1x1024, .f32⟩
  | .hbm, ⟨21, _⟩ => ⟨S1024, .f32⟩
  | .hbm, ⟨22, _⟩ => ⟨S1x1x1024, .f32⟩
  | .hbm, ⟨23, _⟩ => ⟨S6x4096x1024, .f32⟩
  | .hbm, ⟨24, _⟩ => ⟨S6x4096x1024, .f32⟩
  | .hbm, ⟨25, _⟩ => ⟨S6x4096x1024, .f32⟩
  | .hbm, ⟨26, _⟩ => ⟨S6x4096x1024, .f32⟩
  | .hbm, ⟨27, _⟩ => ⟨S1x1024, .f32⟩
  | .hbm, ⟨28, _⟩ => ⟨S1024, .f32⟩
  | .hbm, ⟨29, _⟩ => ⟨S1x1x1024, .f32⟩
  | .hbm, ⟨30, _⟩ => ⟨S6x4096x1024, .f32⟩
  | .hbm, ⟨31, _⟩ => ⟨S6x4096x1024, .f32⟩
  | .hbm, ⟨32, _⟩ => ⟨S6x4096x1024, .f32⟩
  | .hbm, ⟨33, _⟩ => ⟨S1x1x1024, .f32⟩
  | .hbm, ⟨34, _⟩ => ⟨S6x4096x1024, .f32⟩
  | .hbm, ⟨35, _⟩ => ⟨S6x4096x1024, .f32⟩
  | .hbm, ⟨36, _⟩ => ⟨S6x4096x1024, .f32⟩
  | .hbm, ⟨37, _⟩ => ⟨S6x4096x16x64, .f32⟩
  | .hbm, ⟨38, _⟩ => ⟨S6x4096x16x64, .f32⟩
  | .hbm, ⟨39, _⟩ => ⟨S_, .f32⟩
  | .hbm, ⟨40, _⟩ => ⟨S6x4096x16, .f32⟩
  | .hbm, ⟨41, _⟩ => ⟨S6x4096x16x1, .f32⟩
  | .hbm, ⟨42, _⟩ => ⟨S_, .f32⟩
  | .hbm, ⟨43, _⟩ => ⟨S6x4096x16x1, .f32⟩
  | .hbm, ⟨44, _⟩ => ⟨S6x4096x16x1, .f32⟩
  | .hbm, ⟨45, _⟩ => ⟨S_, .f32⟩
  | .hbm, ⟨46, _⟩ => ⟨S6x4096x16x1, .f32⟩
  | .hbm, ⟨47, _⟩ => ⟨S6x4096x16x1, .f32⟩
  | .hbm, ⟨48, _⟩ => ⟨S6x4096x16x1, .f32⟩
  | .hbm, ⟨49, _⟩ => ⟨S6x4096x16x64, .f32⟩
  | .hbm, ⟨50, _⟩ => ⟨S6x4096x16x64, .f32⟩
  | .hbm, ⟨51, _⟩ => ⟨S1x1x16x64, .f32⟩
  | .hbm, ⟨52, _⟩ => ⟨S6x4096x16x64, .f32⟩
  | .hbm, ⟨53, _⟩ => ⟨S6x4096x16x64, .f32⟩
  | .hbm, ⟨54, _⟩ => ⟨S24576x1024, .f32⟩
  | .hbm, ⟨55, _⟩ => ⟨S24576x1024, .bf16⟩
  | _, _ => ⟨S24576x9984, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_c : Ref sig .tc := ⟨.hbm, 10, rfl⟩
abbrev main_call0_v0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_cst : Ref sig .tc := ⟨.hbm, 39, rfl⟩
abbrev main_v33 : Ref sig .tc := ⟨.hbm, 40, rfl⟩
abbrev main_v34 : Ref sig .tc := ⟨.hbm, 41, rfl⟩
abbrev main_cst_0 : Ref sig .tc := ⟨.hbm, 42, rfl⟩
abbrev main_v35 : Ref sig .tc := ⟨.hbm, 43, rfl⟩
abbrev main_v36 : Ref sig .tc := ⟨.hbm, 44, rfl⟩
abbrev main_cst_1 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩

abbrev nD : Nat := 1
abbrev τ : Topo := Topo.v7x

variable {F : FTy → Type} [FloatOps F]
-- ==== Proof.MlaInputs.lean ====
module
public import proofs.«01_k».proof.Proof.Gen.MlaIdeal.Value
public import Idealize.ShloMosaic.Lib.Pipeline.ValueKit
public import Idealize.ShloMosaic.Lib.Pointwise
public import Idealize.ShloMosaic.Lib.Claim
public import Idealize.ShloMosaic.Lib.StableHlo.RunRead
public import Idealize.ShloMosaic.Lib.KernelVsHost
public import proofs.«01_k».proof.Proof.Gen.MlaRefIdeal.Read
@[expose] public section
set_option maxRecDepth 16384
noncomputable section
namespace Cert.MlaIdeal.Val
open Cert.MlaIdeal Cert.MlaIdeal.Gen Idealize.ShloMosaic Idealize.ShloMosaic.TcCoe Idealize.SL.Sem
open scoped BigOperators

variable (m : (ℓ : Loc nD τ sig) → Buf (Elt Ideal) ℓ)

/-- Two blocks of 32 columns and one of 64, side by side. -/
def beside3 (a b : FVec Ideal S4096x32 .f32) (z : FVec Ideal S4096x64 .f32) : FVec Ideal S4096x128 .f32 :=
  concatenate S4096x128 1 [⟨S4096x32, a⟩, ⟨S4096x32, b⟩, ⟨S4096x64, z⟩]
    concatenates_S4096x32_S4096x32_S4096x64_S4096x128_d1

/-- Four blocks of 6720, 64, 3072 and 128 columns, side by side. -/
def beside4 (a : FVec Ideal S24576x6720 .f32) (b : FVec Ideal S24576x64 .f32) (d : FVec Ideal S24576x3072 .f32)
    (e : FVec Ideal S24576x128 .f32) : FVec Ideal S24576x9984 .f32 :=
  concatenate S24576x9984 1 [⟨S24576x6720, a⟩, ⟨S24576x64, b⟩, ⟨S24576x3072, d⟩, ⟨S24576x128, e⟩]
    concatenates_S24576x6720_S24576x64_S24576x3072_S24576x128_S24576x9984_d1

open Cert.MlaRefIdeal.Read in
set_option maxHeartbeats 1600000 in
/-- The cosine table the launch is given: the reference's cosine table twice, then 64 columns of zeros. -/
theorem cosine_table (c : Dev nD) :
    V m c main_v32 = beside3 (val_main_v17 (F := Ideal)) (val_main_v17 (F := Ideal)) (broadcastInDim S4096x64 ![] bcast_S_S4096x64 (constant (F := Ideal) S_ .f32 0#32)) := by
  have h1 : StableHlo.upto [hostOps0 (F := Ideal), hostOps0_1, hostOps0_2].flatten (fun b => m (c, b)) 42 (Proc.devRef .tc main_v30) = val_main_v17 (F := Ideal) := by
    after_reads_simp
    rfl
  have h2 : StableHlo.upto [hostOps0 (F := Ideal), hostOps0_1, hostOps0_2].flatten (fun b => m (c, b)) 42 (Proc.devRef .tc main_v31) = val_main_v17 (F := Ideal) := by
    after_reads_simp
    rfl
  have h3 : StableHlo.upto [hostOps0 (F := Ideal), hostOps0_1, hostOps0_2].flatten (fun b => m (c, b)) 42 (Proc.devRef .tc main_v29) = (broadcastInDim S4096x64 ![] bcast_S_S4096x64 (constant (F := Ideal) S_ .f32 0#32)) := by
    after_reads_simp
  generalize val_main_v17 (F := Ideal) = T at h1 h2 ⊢
  generalize (broadcastInDim S4096x64 ![] bcast_S_S4096x64 (constant (F := Ideal) S_ .f32 0#32)) = z at h3 ⊢
  simp only [V]
  after_reads_simp
  exact (congrArg₂ (fun a b => beside3 a b _) h1 h2).trans (congrArg (beside3 T T) h3)

/-- An entry of the cosine table. -/
theorem cosine_table_apply (c : Dev nD) (r : Fin 4096) (j : Fin 128) :
    (V m c main_v32 : S4096x128.Idx → EReal) (ix2 r j)
      = if h : j.val < 32 then Cert.MlaRefIdeal.Read.val_main_v17 (F := Ideal) (ix2 r ⟨j.val, h⟩)
        else if h : j.val - 32 < 32 then Cert.MlaRefIdeal.Read.val_main_v17 (F := Ideal) (ix2 r ⟨j.val - 32, h⟩) else (0 : EReal) := by
  rw [cosine_table]
  generalize Cert.MlaRefIdeal.Read.val_main_v17 (F := Ideal) = T
  pointwise [beside3]

open Cert.MlaRefIdeal.Read in
set_option maxHeartbeats 1600000 in
/-- The sine table the launch is given: the reference's sine table twice, then 64 columns of zeros. -/
theorem sine_table (c : Dev nD) :
    V m c main_v35 = beside3 (val_main_v18 (F := Ideal)) (val_main_v18 (F := Ideal)) (broadcastInDim S4096x64 ![] bcast_S_S4096x64 (constant (F := Ideal) S_ .f32 0#32)) := by
  have h1 : StableHlo.upto [hostOps0 (F := Ideal), hostOps0_1, hostOps0_2].flatten (fun b => m (c, b)) 45 (Proc.devRef .tc main_v33) = val_main_v18 (F := Ideal) := by
    after_reads_simp
    rfl
  have h2 : StableHlo.upto [hostOps0 (F := Ideal), hostOps0_1, hostOps0_2].flatten (fun b => m (c, b)) 45 (Proc.devRef .tc main_v34) = val_main_v18 (F := Ideal) := by
    after_reads_simp
    rfl
  have h3 : StableHlo.upto [hostOps0 (F := Ideal), hostOps0_1, hostOps0_2].flatten (fun b => m (c, b)) 45 (Proc.devRef .tc main_v29) = (broadcastInDim S4096x64 ![] bcast_S_S4096x64 (constant (F := Ideal) S_ .f32 0#32)) := by
    after_reads_simp
  generalize val_main_v18 (F := Ideal) = T at h1 h2 ⊢
  generalize (broadcastInDim S4096x64 ![] bcast_S_S4096x64 (constant (F := Ideal) S_ .f32 0#32)) = z at h3 ⊢
  simp only [V]
  after_reads_simp
  exact (congrArg₂ (fun a b => beside3 a b _) h1 h2).trans (congrArg (beside3 T T) h3)

/-- An entry of the sine table. -/
theorem sine_table_apply (c : Dev nD) (r : Fin 4096) (j : Fin 128) :
    (V m c main_v35 : S4096x128.Idx → EReal) (ix2 r j)
      = if h : j.val < 32 then Cert.MlaRefIdeal.Read.val_main_v18 (F := Ideal) (ix2 r ⟨j.val, h⟩)
        else if h : j.val - 32 < 32 then Cert.MlaRefIdeal.Read.val_main_v18 (F := Ideal) (ix2 r ⟨j.val - 32, h⟩) else (0 : EReal) := by
  rw [sine_table]
  generalize Cert.MlaRefIdeal.Read.val_main_v18 (F := Ideal) = T
  pointwise [beside3]

set_option maxHeartbeats 1600000 in
/-- The projections the launch is given: the columns before 6720, 64 columns of zeros, the other columns, 128 columns of
    zeros. -/
theorem latent_padded (c : Dev nD) :
    V m c main_v11 = beside4 (extractStridedSlice S24576x6720 ![0, 0] (shapeCast S24576x9792 (m (c, Proc.tc.devRef main_arg2) : FVec Ideal S6x4096x9792 .f32) shapeCasts_S6x4096x9792_S24576x9792) slices_S24576x9792_S24576x6720_0_0)
      (broadcastInDim S24576x64 ![] bcast_S_S24576x64 (constant (F := Ideal) S_ .f32 0#32))
      (extractStridedSlice S24576x3072 ![0, 6720] (shapeCast S24576x9792 (m (c, Proc.tc.devRef main_arg2) : FVec Ideal S6x4096x9792 .f32) shapeCasts_S6x4096x9792_S24576x9792) slices_S24576x9792_S24576x3072_0_6720)
      (broadcastInDim S24576x128 ![] bcast_S_S24576x128 (constant (F := Ideal) S_ .f32 0#32)) := by
  have h1 : StableHlo.upto [hostOps0 (F := Ideal), hostOps0_1, hostOps0_2].flatten (fun b => m (c, b)) 15 (Proc.devRef .tc main_v7) = (extractStridedSlice S24576x6720 ![0, 0] (shapeCast S24576x9792 (m (c, Proc.tc.devRef main_arg2) : FVec Ideal S6x4096x9792 .f32) shapeCasts_S6x4096x9792_S24576x9792) slices_S24576x9792_S24576x6720_0_0) := by
    after_reads_simp
    rfl
  have h2 : StableHlo.upto [hostOps0 (F := Ideal), hostOps0_1, hostOps0_2].flatten (fun b => m (c, b)) 15 (Proc.devRef .tc main_v8) = (broadcastInDim S24576x64 ![] bcast_S_S24576x64 (constant (F := Ideal) S_ .f32 0#32)) := by
    after_reads_simp
  have h3 : StableHlo.upto [hostOps0 (F := Ideal), hostOps0_1, hostOps0_2].flatten (fun b => m (c, b)) 15 (Proc.devRef .tc main_v9) = (extractStridedSlice S24576x3072 ![0, 6720] (shapeCast S24576x9792 (m (c, Proc.tc.devRef main_arg2) : FVec Ideal S6x4096x9792 .f32) shapeCasts_S6x4096x9792_S24576x9792) slices_S24576x9792_S24576x3072_0_6720) := by
    after_reads_simp
    rfl
  have h4 : StableHlo.upto [hostOps0 (F := Ideal), hostOps0_1, hostOps0_2].flatten (fun b => m (c, b)) 15 (Proc.devRef .tc main_v10) = (broadcastInDim S24576x128 ![] bcast_S_S24576x128 (constant (F := Ideal) S_ .f32 0#32)) := by
    after_reads_simp
  generalize (extractStridedSlice S24576x6720 ![0, 0] (shapeCast S24576x9792 (m (c, Proc.tc.devRef main_arg2) : FVec Ideal S6x4096x9792 .f32) shapeCasts_S6x4096x9792_S24576x9792) slices_S24576x9792_S24576x6720_0_0) = x at h1 ⊢
  generalize (broadcastInDim S24576x64 ![] bcast_S_S24576x64 (constant (F := Ideal) S_ .f32 0#32)) = y at h2 ⊢
  generalize (extractStridedSlice S24576x3072 ![0, 6720] (shapeCast S24576x9792 (m (c, Proc.tc.devRef main_arg2) : FVec Ideal S6x4096x9792 .f32) shapeCasts_S6x4096x9792_S24576x9792) slices_S24576x9792_S24576x3072_0_6720) = z at h3 ⊢
  generalize (broadcastInDim S24576x128 ![] bcast_S_S24576x128 (constant (F := Ideal) S_ .f32 0#32)) = w at h4 ⊢
  simp only [V]
  after_reads_simp
  exact (congrArg₂ (fun a b => beside4 a b _ _) h1 h2).trans (congrArg₂ (beside4 x y) h3 h4)

/-- An entry of the four blocks side by side, left of the last block. -/
theorem beside4_apply (a : FVec Ideal S24576x6720 .f32) (b : FVec Ideal S24576x64 .f32) (d : FVec Ideal S24576x3072 .f32)
    (e : FVec Ideal S24576x128 .f32) (n : Fin 24576) (j : Fin 9984) (h : j.val < 6784) :
    beside4 a b d e (ix2 n j)
      = if h1 : j.val < 6720 then a (ix2 n ⟨j.val, h1⟩) else b (ix2 n ⟨j.val - 6720, by omega⟩) := by
  unfold beside4
  rw [concatenate_cons_apply]
  unfold concatenateAt
  by_cases h1 : j.val < 6720
  · rw [dif_pos h1]
    refine (dif_pos (show (ix2 n j 1).val < 6720 from h1)).trans ?_
    exact congrArg a (funext fun k => by fin_cases k <;> rfl)
  · rw [dif_neg h1]
    refine (dif_neg (show ¬ (ix2 n j 1).val < 6720 from h1)).trans ?_
    unfold concatenateAt
    refine (dif_pos (show (ix2 n j 1).val - 6720 < 64 from by show j.val - 6720 < 64; omega)).trans ?_
    exact congrArg b (funext fun k => by fin_cases k <;> rfl)

/-- An entry of the projections' columns before 6720, on folded rows. -/
theorem latent_cut (x : FVec Ideal S6x4096x9792 .f32) (n : Fin 24576) (j : Fin 6720) :
    extractStridedSlice S24576x6720 ![0, 0] (shapeCast S24576x9792 x shapeCasts_S6x4096x9792_S24576x9792)
        slices_S24576x9792_S24576x6720_0_0 (ix2 n j)
      = x (ix3 ⟨n.val / 4096, by omega⟩ ⟨n.val % 4096, by omega⟩ ⟨j.val, by omega⟩) := by
  pointwise

/-- The 128 columns from column 6656 on of the padded projections: 64 of the projections' columns, then zeros. -/
theorem latent_apply (c : Dev nD) (n : Fin 24576) (j : Fin 9984) (e : Fin 128) (hj : j.val = 6656 + e.val) :
    (V m c main_v11 : S24576x9984.Idx → EReal) (ix2 n j)
      = if e.val < 64 then (m (c, Proc.tc.devRef main_arg2) : FVec Ideal S6x4096x9792 .f32)
          (ix3 ⟨n.val / 4096, by omega⟩ ⟨n.val % 4096, by omega⟩ ⟨6656 + e.val, by omega⟩) else (0 : EReal) := by
  rw [latent_padded]
  rw [beside4_apply _ _ _ _ _ _ (by omega)]
  by_cases h : e.val < 64
  · rw [if_pos h, dif_pos (by omega), latent_cut]
    congr 2
    exact Fin.ext hj
  · rw [if_neg h, dif_neg (by omega)]
    pointwise
/-- An entry of the queries with each head padded to 256 lanes. -/
theorem pad_at (x : FVec Ideal S24576x16x192 .bf16) (v : FVec Ideal S_ .bf16) (n : Fin 24576) (h : Fin 16) (j : Fin 256) :
    pad S24576x16x256 ![0, 0, 0] ![0, 0, 64] ![0, 0, 0] x v pads_S24576x16x192_S24576x16x256_000_000_0640 h_S_ (ix3 n h j)
      = if hj : j.val < 192 then x (ix3 n h ⟨j, hj⟩) else v (Shape.Idx.first h_S_) := by
  split
  · next hj =>
    refine pad_apply_of_inside _ _ _ x v _ _ _ (ix3 n h ⟨j, hj⟩) ?_
    intro a
    fin_cases a <;> simp
  · next hj =>
    refine pad_apply_of_not_inside _ _ _ x v _ _ _ 2 ?_
    simp
    omega
/-- An entry of the queries cut into heads. -/
theorem heads_apply (x : FVec Ideal S6x4096x3072 .bf16) (n : Fin 24576) (h : Fin 16) (e : Fin 192) :
    shapeCast S24576x16x192 x shapeCasts_S6x4096x3072_S24576x16x192 (ix3 n h e) = x (ix3 ⟨n.val / 4096, by omega⟩ ⟨n.val % 4096, by omega⟩ ⟨h.val * 192 + e.val, by omega⟩) := by
  pointwise
/-- The queries that the launch reads: each head padded to 256 lanes. -/
theorem queries_padded (c : Dev nD) :
    V m c main_v2 = shapeCast S24576x4096 (pad S24576x16x256 ![0, 0, 0] ![0, 0, 64] ![0, 0, 0] (shapeCast S24576x16x192 (m (c, Proc.tc.devRef main_arg0)  : FVec Ideal S6x4096x3072 .bf16) shapeCasts_S6x4096x3072_S24576x16x192) (sitofp .bf16 (constantI S_ 32 0#32) : FVec Ideal S_ .bf16) pads_S24576x16x192_S24576x16x256_000_000_0640 h_S_ : FVec Ideal S24576x16x256 .bf16) shapeCasts_S24576x16x256_S24576x4096 := by
  simp only [V]
  after_reads_simp
  rfl
/-- An entry of the queries that the launch reads. -/
theorem query0 (c : Dev nD) (n : Fin 24576) (j : Fin 4096) :
    (V m c main_v2 : S24576x4096.Idx → EReal) (ix2 n j) = if h : j.val % 256 < 192 then (m (c, Proc.tc.devRef main_arg0)  : FVec Ideal S6x4096x3072 .bf16) (ix3 ⟨n.val / 4096, by omega⟩ ⟨n.val % 4096, by omega⟩ ⟨j.val / 256 * 192 + j.val % 256, by omega⟩) else (0 : EReal) := by
  rw [queries_padded]
  generalize hp : (pad S24576x16x256 ![0, 0, 0] ![0, 0, 64] ![0, 0, 0] (shapeCast S24576x16x192 (m (c, Proc.tc.devRef main_arg0)  : FVec Ideal S6x4096x3072 .bf16) shapeCasts_S6x4096x3072_S24576x16x192) (sitofp .bf16 (constantI S_ 32 0#32) : FVec Ideal S_ .bf16) pads_S24576x16x192_S24576x16x256_000_000_0640 h_S_ : FVec Ideal S24576x16x256 .bf16) = p
  pointwise
  rw [← hp, pad_at]
  split
  · next h =>
    rw [heads_apply]
  · next h =>
    show ((((0#32 : BitVec 32).toInt : ℝ) : EReal)) = 0
    simp
end Cert.MlaIdeal.Val
end
-- ==== Proof.MlaBlocks.lean ====
module
public import proofs.«01_k».proof.Proof.Gen.MlaIdeal.Value
public import Idealize.ShloMosaic.Lib.Pipeline.ValueKit
public import Idealize.ShloMosaic.Lib.Pointwise
public import Idealize.ShloMosaic.Lib.Claim
public import Idealize.ShloMosaic.Lib.StableHlo.RunRead
public import proofs.«01_k».proof.Proof.MlaInputs
@[expose] public section
set_option maxRecDepth 16384
noncomputable section
namespace Cert.MlaIdeal.Val
open Cert.MlaIdeal Cert.MlaIdeal.Gen Idealize.ShloMosaic Idealize.ShloMosaic.TcCoe Idealize.SL.Sem
open scoped BigOperators
variable (m : (ℓ : Loc nD τ sig) → Buf (Elt Ideal) ℓ)

/-- The queries, as the launch reads them. -/
abbrev argQ (c : Dev nD) : FVec Ideal S6x4096x3072 .bf16 := m (c, Proc.tc.devRef main_arg0)
/-- The keys and values, as the launch reads them. -/
abbrev argKV (c : Dev nD) : FVec Ideal S6x4096x4096 .bf16 := m (c, Proc.tc.devRef main_arg1)
/-- The projections that hold the rotary keys. -/
abbrev argZ (c : Dev nD) : FVec Ideal S6x4096x9792 .f32 := m (c, Proc.tc.devRef main_arg2)
/-- The gains. -/
abbrev argG (c : Dev nD) : FVec Ideal S16x128 .f32 := m (c, Proc.tc.devRef main_arg3)
/-- The cosines of one position. -/
abbrev cosAt (t : Fin 4096) (f : Fin 32) : EReal := Cert.MlaRefIdeal.Read.val_main_v17 (F := Ideal) (ix2 t f)
/-- The sines of one position. -/
abbrev sinAt (t : Fin 4096) (f : Fin 32) : EReal := Cert.MlaRefIdeal.Read.val_main_v18 (F := Ideal) (ix2 t f)

/-- An entry of the keys and values that the launch reads: the heads' keys first, then their values. -/
theorem keyvalue_apply (c : Dev nD) (n : Fin 24576) (j : Fin 4096) :
    (V m c main_v5 : S24576x4096.Idx → EReal) (ix2 n j) = argKV m c (ix3 ⟨n.val / 4096, by omega⟩ ⟨n.val % 4096, by omega⟩ ⟨j.val / 128 % 16 * 256 + j.val / 2048 * 128 + j.val % 128, by omega⟩) := by
  simp only [V]
  after_reads_simp
  pointwise
/-- An entry of the gains that the launch reads. -/
theorem gain_apply (c : Dev nD) (j : Fin 2048) :
    (V m c main_v36 : S1x2048.Idx → EReal) (ix2 0 j) = argG m c (ix2 ⟨j.val / 128, by omega⟩ ⟨j.val % 128, by omega⟩) := by
  simp only [V]
  after_reads_simp
  pointwise

set_option maxHeartbeats 1600000 in
/-- Where each point's blocks lie. -/
theorem place : ∀ t : Fin cfg0.N,
    win0_0.index t = ![4 * (t.val / 64) + t.val % 4, t.val / 4 % 16] ∧ win0_1.index t = ![t.val / 64, t.val / 4 % 16] ∧ win0_2.index t = ![t.val / 64, 16 + t.val / 4 % 16]
    ∧ win0_3.index t = ![t.val / 64, 52] ∧ win0_4.index t = ![t.val % 4, 0] ∧ win0_5.index t = ![t.val % 4, 0] ∧ win0_6.index t = ![0, 0] ∧ win0_7.index t = ![0, 0]
    ∧ win0_8.index t = ![0, t.val / 4 % 16] ∧ win0_9.index t = ![4 * (t.val / 64) + t.val % 4, t.val / 4 % 16] :=
  (by decide +kernel : ∀ t : Fin grid0.N, _)
/-- An entry of a point's query block. -/
theorem raw0 (c : Dev nD) (t : Fin cfg0.N) (r : Fin 1024) (e : Fin 256) (n : Fin 24576) (j : Fin 4096) (hn : n.val = 1024 * (4 * (t.val / 64) + t.val % 4) + r) (hj : j.val = 256 * (t.val / 4 % 16) + e) :
  iblk m c 0 t (ix2 r e) = (V m c main_v2 : S24576x4096.Idx → EReal) (ix2 n j) := by blk_point [iblk, V, place t]
/-- An entry of a point's key block. -/
theorem raw1 (c : Dev nD) (t : Fin cfg0.N) (r : Fin 4096) (e : Fin 128) (n : Fin 24576) (j : Fin 4096) (hn : n.val = 4096 * (t.val / 64) + r) (hj : j.val = 128 * (t.val / 4 % 16) + e) :
  iblk m c 1 t (ix2 r e) = (V m c main_v5 : S24576x4096.Idx → EReal) (ix2 n j) := by blk_point [iblk, V, place t]
/-- An entry of a point's value block. -/
theorem raw2 (c : Dev nD) (t : Fin cfg0.N) (r : Fin 4096) (e : Fin 128) (n : Fin 24576) (j : Fin 4096) (hn : n.val = 4096 * (t.val / 64) + r) (hj : j.val = 128 * (16 + t.val / 4 % 16) + e) :
  iblk m c 2 t (ix2 r e) = (V m c main_v5 : S24576x4096.Idx → EReal) (ix2 n j) := by blk_point [iblk, V, place t]
/-- An entry of a point's block of rotary keys. -/
theorem raw3 (c : Dev nD) (t : Fin cfg0.N) (r : Fin 4096) (e : Fin 128) (n : Fin 24576) (j : Fin 9984) (hn : n.val = 4096 * (t.val / 64) + r) (hj : j.val = 6656 + e.val) :
  iblk m c 3 t (ix2 r e) = (V m c main_v11 : S24576x9984.Idx → EReal) (ix2 n j) := by blk_point [iblk, V, place t]
/-- An entry of the cosines of a point's queries. -/
theorem raw4 (c : Dev nD) (t : Fin cfg0.N) (r : Fin 1024) (e : Fin 128) (n : Fin 4096) (hn : n.val = 1024 * (t.val % 4) + r) :
  iblk m c 4 t (ix2 r e) = (V m c main_v32 : S4096x128.Idx → EReal) (ix2 n e) := by blk_point [iblk, V, place t]
/-- An entry of the sines of a point's queries. -/
theorem raw5 (c : Dev nD) (t : Fin cfg0.N) (r : Fin 1024) (e : Fin 128) (n : Fin 4096) (hn : n.val = 1024 * (t.val % 4) + r) :
  iblk m c 5 t (ix2 r e) = (V m c main_v35 : S4096x128.Idx → EReal) (ix2 n e) := by blk_point [iblk, V, place t]
/-- An entry of the cosines of the keys. -/
theorem raw6 (c : Dev nD) (t : Fin cfg0.N) (r : Fin 4096) (e : Fin 128) :
  iblk m c 6 t (ix2 r e) = (V m c main_v32 : S4096x128.Idx → EReal) (ix2 r e) := by blk_point [iblk, V, place t]
/-- An entry of the sines of the keys. -/
theorem raw7 (c : Dev nD) (t : Fin cfg0.N) (r : Fin 4096) (e : Fin 128) :
  iblk m c 7 t (ix2 r e) = (V m c main_v35 : S4096x128.Idx → EReal) (ix2 r e) := by blk_point [iblk, V, place t]
/-- An entry of a point's gains. -/
theorem raw8 (c : Dev nD) (t : Fin cfg0.N) (e : Fin 128) (j : Fin 2048) (hj : j.val = 128 * (t.val / 4 % 16) + e) :
  iblk m c 8 t (ix2 0 e) = (V m c main_v36 : S1x2048.Idx → EReal) (ix2 0 j) := by blk_point [iblk, V, place t]
end Cert.MlaIdeal.Val
end
-- ==== Proof.Softmax.lean ====
/- Facts about sums, maxima and exponentials of extended reals that a softmax in base two and a softmax in base `e`
   differ by, and the root-mean-square normalisation of a row of weighted means. -/
module

public import Idealize.ShloMosaic.PureOps.Ideal
public import Idealize.ShloMosaic.PureOps.Ideal.Laws

@[expose] public section

noncomputable section

namespace Cert.Softmax

open Idealize.ShloMosaic
open scoped BigOperators

/-- A finite nonnegative factor on the right goes into a finite sum of extended reals. -/
theorem sum_mul_real {ι : Type} (s : Finset ι) (f : ι → EReal) (c : ℝ) (hc : 0 ≤ c) :
    (∑ i ∈ s, f i) * (c : EReal) = ∑ i ∈ s, f i * (c : EReal) := by
  classical
  induction s using Finset.induction_on with
  | empty => simp
  | insert a s ha ih =>
    rw [Finset.sum_insert ha, Finset.sum_insert ha, ← ih,
      EReal.right_distrib_of_nonneg_of_ne_top (by exact_mod_cast hc) (EReal.coe_ne_top c)]

/-- A finite sum of numbers, in the extended reals. -/
theorem coe_sum {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- A finite nonnegative factor goes into a difference of extended reals. -/
theorem sub_mul_real (a b : EReal) (c : ℝ) (hc : 0 ≤ c) : (a - b) * (c : EReal) = a * c - b * c := by
  rw [sub_eq_add_neg, EReal.right_distrib_of_nonneg_of_ne_top (by exact_mod_cast hc) (EReal.coe_ne_top c), EReal.neg_mul,
    ← sub_eq_add_neg]

/-- Multiplication by a positive number keeps the greatest of finitely many extended reals (`⊥` for none). -/
theorem sup_mul_real {n : ℕ} (f : Fin n → EReal) (c : ℝ) (hc : 0 < c) :
    (Finset.univ.sup fun i => f i * (c : EReal)) = Finset.univ.sup f * (c : EReal) := by
  have hmono : Monotone fun x : EReal => x * (c : EReal) := fun a b h =>
    mul_le_mul_of_nonneg_right h (by exact_mod_cast hc.le)
  have := Finset.comp_sup_eq_sup_comp_of_is_total (s := Finset.univ) (f := f) (fun x : EReal => x * (c : EReal)) hmono
    (by exact EReal.bot_mul_coe_of_pos hc)
  exact this.symm

/-- `2` to the power `x / log 2` is `e` to the power `x`. -/
theorem exp2_mul (x : EReal) : Ideal.exp2 (x * (((Real.log 2)⁻¹ : ℝ) : EReal)) = Ideal.exp x := by
  have hl : 0 < (Real.log 2)⁻¹ := inv_pos.mpr (Real.log_pos (by norm_num))
  induction x using EReal.rec with
  | bot => rw [EReal.bot_mul_coe_of_pos hl]; rfl
  | top => rw [EReal.top_mul_coe_of_pos hl]; rfl
  | coe r =>
    rw [← EReal.coe_mul]
    change ((Real.rpow 2 (r * (Real.log 2)⁻¹) : ℝ) : EReal) = ((Real.exp r : ℝ) : EReal)
    congr 1
    change (2 : ℝ) ^ (r * (Real.log 2)⁻¹) = Real.exp r
    rw [Real.rpow_def_of_pos (by norm_num)]
    congr 1
    have : Real.log 2 ≠ 0 := (Real.log_pos (by norm_num)).ne'
    field_simp

/-- The exponential of a nonpositive extended real is a number between `0` and `1`. -/
theorem exp_of_nonpos (x : EReal) (h : x ≤ 0) : ∃ r : ℝ, 0 ≤ r ∧ Ideal.exp x = (r : EReal) := by
  induction x using EReal.rec with
  | bot => exact ⟨0, le_refl _, rfl⟩
  | top => exact absurd h (by simp)
  | coe r => exact ⟨Real.exp r, (Real.exp_pos r).le, rfl⟩

/-- The weights `e^(s i - max s)` of finitely many scores: either all of them are numbers with a positive sum, or (the
    greatest score infinite) all of them are `0`. -/
theorem weights {n : ℕ} (hn : 0 < n) (s : Fin n → EReal) :
    (∃ r : Fin n → ℝ, (∀ i, 0 ≤ r i) ∧ 0 < ∑ i, r i ∧ ∀ i, Ideal.exp (s i - Finset.univ.sup s) = (r i : EReal))
      ∨ ∀ i, Ideal.exp (s i - Finset.univ.sup s) = 0 := by
  haveI : Nonempty (Fin n) := ⟨⟨0, hn⟩⟩
  obtain ⟨j, -, hj⟩ := Finset.exists_mem_eq_sup Finset.univ Finset.univ_nonempty s
  have hle : ∀ i, s i ≤ Finset.univ.sup s := fun i => Finset.le_sup (Finset.mem_univ i)
  generalize Finset.univ.sup s = M at *
  induction M using EReal.rec with
  | bot =>
    right
    intro i
    have : s i = ⊥ := le_bot_iff.mp (hle i)
    rw [this]; rfl
  | top =>
    right
    intro i
    have : s i - ⊤ = ⊥ := by rw [sub_eq_add_neg, EReal.neg_top, EReal.add_bot]
    rw [this]; rfl
  | coe M =>
    left
    have hnp : ∀ i, s i - (M : EReal) ≤ 0 := fun i => by
      rw [EReal.sub_nonpos]; exact hle i
    choose r h0 h1 using fun i => exp_of_nonpos _ (hnp i)
    refine ⟨r, h0, ?_, h1⟩
    have hjr : r j = 1 := by
      have := h1 j
      rw [← hj, ← EReal.coe_sub, sub_self] at this
      have h2 : Ideal.exp ((0 : ℝ) : EReal) = ((Real.exp 0 : ℝ) : EReal) := rfl
      rw [h2, Real.exp_zero] at this
      exact_mod_cast this.symm
    exact Finset.sum_pos' (fun i _ => h0 i) ⟨j, Finset.mem_univ j, by rw [hjr]; norm_num⟩

/-- A row divided by the root of its mean square plus `ε`, one coordinate: the mean is the sum of the squares divided by
    `N`. -/
def rms {n : ℕ} (o : Fin n → EReal) (N ε : EReal) (l : Fin n) : EReal :=
  o l * Ideal.rsqrt (Ideal.div (∑ k, o k * o k) N + ε)

/-- A square is not negative. -/
theorem mul_self_nonneg (x : EReal) : 0 ≤ x * x := by
  induction x using EReal.rec with
  | bot => simp
  | top => simp
  | coe r => exact_mod_cast _root_.mul_self_nonneg r

/-- A sum of nonnegative extended reals one of which is `⊤` is `⊤`. -/
theorem sum_top {n : ℕ} (f : Fin n → EReal) (h0 : ∀ i, 0 ≤ f i) (j : Fin n) (hj : f j = ⊤) : ∑ i, f i = ⊤ := by
  rw [← Finset.add_sum_erase _ _ (Finset.mem_univ j), hj]
  refine EReal.top_add_of_ne_bot ?_
  have : 0 ≤ ∑ i ∈ Finset.univ.erase j, f i := Finset.sum_nonneg fun i _ => h0 i
  intro hb
  rw [hb] at this
  exact absurd this (by simp)

/-- A row with an infinite entry, or with only zeros, is normalised to zeros (the divisor and `ε` positive numbers). -/
theorem rms_junk {n : ℕ} (o : Fin n → EReal) (N ε : ℝ) (hN : 0 < N) (ho : ∀ l, o l = ⊥ ∨ o l = ⊤ ∨ o l = 0) (l : Fin n) :
    rms o N ε l = 0 := by
  unfold rms
  by_cases h : ∃ k, o k ≠ 0
  · obtain ⟨k, hk⟩ := h
    have hkk : o k * o k = ⊤ := by
      rcases ho k with h | h | h
      · rw [h]; rfl
      · rw [h]; rfl
      · exact absurd h hk
    rw [sum_top (fun k => o k * o k) (fun i => mul_self_nonneg _) k hkk]
    have hd : Ideal.div ⊤ (N : EReal) = ⊤ := by
      unfold Ideal.div
      rw [if_neg (by exact_mod_cast hN.ne'), ← EReal.coe_inv, EReal.top_mul_coe_of_pos (inv_pos.mpr hN)]
    rw [hd, EReal.top_add_coe]
    change o l * 0 = 0
    rw [mul_zero]
  · push Not at h
    rw [h l, zero_mul]

/-- Finitely many extended reals each infinite or zero have such a sum. -/
theorem sum_junk {n : ℕ} (f : Fin n → EReal) (h : ∀ i, f i = ⊥ ∨ f i = ⊤ ∨ f i = 0) :
    (∑ i, f i = ⊥) ∨ (∑ i, f i = ⊤) ∨ (∑ i, f i = 0) := by
  classical
  induction (Finset.univ : Finset (Fin n)) using Finset.induction_on with
  | empty => simp
  | insert a s ha ih =>
    rw [Finset.sum_insert ha]
    rcases h a with h | h | h <;> rcases ih with i | i | i <;> rw [h, i] <;> simp

/-- THE ROW OF ONE QUERY. Base-two weights of the scores times `1 / log 2`, the weighted sums divided by the weights' sum
    after the sum, and the row normalised, are the base-`e` weights divided before the sum, and the row normalised. Where the
    greatest score is infinite the two rows differ (both are then infinite or zero) and are normalised to zeros alike. -/
theorem row {n d : ℕ} (hn : 0 < n) (s s' : Fin n → EReal) (hs : ∀ i, s' i = s i * (((Real.log 2)⁻¹ : ℝ) : EReal))
    (v : Fin n → Fin d → EReal) (N ε : ℝ) (hN : 0 < N) (l : Fin d) :
    rms (fun l => Ideal.div (∑ i, Ideal.exp2 (s' i - Finset.univ.sup s') * v i l) (∑ i, Ideal.exp2 (s' i - Finset.univ.sup s')))
        N ε l
      = rms (fun l => ∑ i, v i l * Ideal.div (Ideal.exp (s i - Finset.univ.sup s)) (∑ i, Ideal.exp (s i - Finset.univ.sup s)))
        N ε l := by
  have hl : 0 < (Real.log 2)⁻¹ := inv_pos.mpr (Real.log_pos (by norm_num))
  have hs' : s' = fun i => s i * (((Real.log 2)⁻¹ : ℝ) : EReal) := funext hs
  have he : ∀ i, Ideal.exp2 (s' i - Finset.univ.sup s') = Ideal.exp (s i - Finset.univ.sup s) := fun i => by
    rw [hs', sup_mul_real s _ hl, ← sub_mul_real _ _ _ hl.le, exp2_mul]
  simp only [he]
  rcases weights hn s with ⟨r, h0, hp, hr⟩ | hz
  · simp only [hr]
    congr 1
    funext l
    have hS : ∑ i, (r i : EReal) = ((∑ i, r i : ℝ) : EReal) := coe_sum _ _
    rw [hS]
    have hd : ∀ x : EReal, Ideal.div x ((∑ i, r i : ℝ) : EReal) = x * (((∑ i, r i)⁻¹ : ℝ) : EReal) := fun x => by
      unfold Ideal.div
      rw [if_neg (by exact_mod_cast hp.ne'), ← EReal.coe_inv]
    rw [hd, sum_mul_real _ _ _ (inv_pos.mpr hp).le]
    refine Finset.sum_congr rfl fun i _ => ?_
    rw [hd, mul_comm (r i : EReal) (v i l), mul_assoc]
  · simp only [hz]
    rw [rms_junk _ N ε hN, rms_junk _ N ε hN]
    · intro l
      have hd : Ideal.div 0 (∑ _i : Fin n, (0 : EReal)) = ⊥ := by
        unfold Ideal.div; simp
      refine sum_junk _ fun i => ?_
      rw [hd]
      rcases lt_trichotomy (v i l) 0 with h | h | h
      · right; left; exact EReal.mul_bot_of_neg h
      · right; right; rw [h, zero_mul]
      · left; exact EReal.mul_bot_of_pos h
    · intro l
      left
      unfold Ideal.div; simp

end Cert.Softmax

end
-- ==== Proof.MlaPayload.lean ====
module
public import proofs.«01_k».proof.Proof.Gen.MlaIdeal.Value
public import Idealize.ShloMosaic.Lib.Pipeline.ValueKit
public import Idealize.ShloMosaic.Lib.Pointwise
public import Idealize.ShloMosaic.Lib.Claim
public import proofs.«01_k».proof.Proof.Softmax
@[expose] public section
set_option maxRecDepth 16384
noncomputable section
namespace Cert.MlaIdeal.Val
open Cert.MlaIdeal Cert.MlaIdeal.Gen Idealize.ShloMosaic Idealize.ShloMosaic.TcCoe Idealize.SL.Sem
open scoped BigOperators
/-- The pattern of minus infinity. -/
theorem ofBits_neg_inf : Ideal.ofBits .f32 0xFF800000#32 = (⊥ : EReal) := by
  rfl
/-- The scores of one half of a query tile against every key. -/
def score (q : FVec Ideal S512x256 .bf16) (k : FVec Ideal S4096x256 .bf16) : FVec Ideal S512x4096 .f32 :=
  matmul dot_S512x256_S4096x256_S512x4096_1_1_0_0_n_n none q k (constant S512x4096 .f32 0x00000000#32)
/-- A maximum folded from minus infinity is the supremum. -/
theorem fold_max {m : ℕ} (f : Fin m → EReal) : Finset.univ.fold max ⊥ f = Finset.univ.sup f := rfl
/-- The greatest element of each row of a matrix, as the machine's reduction computes it. -/
theorem max_row {n m : ℕ} (x : FVec Ideal ⟨2, ![n, m]⟩ .f32) (h : (⟨2, ![n, m]⟩ : Shape).Reduces [1] ⟨1, ![n]⟩)
    (hφ : FKind.Formats .f32) (hacc : 0xFF800000#32 = FKind.maximumf.neutral .f32 hφ) (r : Fin n) :
    multiReduction .maximumf [1] ⟨1, ![n]⟩ x 0xFF800000#32 h hφ hacc (ix1 r) = Finset.univ.sup fun k : Fin m => x (ix2 r k) := by
  simp only [pointwise]
  refine Eq.trans ?_ (fold_max _)
  rw [← ofBits_neg_inf]
/-- The greatest score of each query. -/
def rowMax (s : FVec Ideal S512x4096 .f32) : FVec Ideal S512 .f32 :=
  multiReduction .maximumf [1] S512 s 0xFF800000#32 reduces_S512x4096_S512 (.inl rfl) rfl
/-- A maximum with a constant, at an index. -/
theorem max_const {s : Shape} (b : BitVec 32) (y : FVec Ideal s .f32) (i : s.Idx) :
    maximumf (broadcast s (Scalar.ofBits .f32 b : Ideal .f32)) y i = max (Ideal.ofBits .f32 b) (y i) := rfl
/-- The running maximum of the scores of each query. -/
def top (s : FVec Ideal S512x4096 .f32) : FVec Ideal S512x1 .f32 :=
  maximumf (broadcast S512x1 (Scalar.ofBits .f32 0xFF800000#32)) (shapeCast S512x1 (rowMax s) shapeCasts_S512_S512x1)
/-- The weights of each query, not yet normalised. -/
def weight (s : FVec Ideal S512x4096 .f32) (t : FVec Ideal S512x1 .f32) : FVec Ideal S512x4096 .bf16 :=
  truncf .bf16 (exp2 (subf s (broadcastTo S512x4096 t broadcasts_S512x1_S512x4096))) bitsLt_bf16_f32
/-- The start of the accumulation, scaled. -/
def start (t : FVec Ideal S512x1 .f32) : FVec Ideal S512x256 .f32 :=
  mulf (broadcastTo S512x256 (exp2 (subf (broadcast S512x1 (Scalar.ofBits .f32 0xFF800000#32)) t)) broadcasts_S512x1_S512x256) (broadcast S512x256 (Scalar.ofBits .f32 0x00000000#32))
/-- The weighted sum. -/
def gather (w : FVec Ideal S512x4096 .bf16) (v : FVec Ideal S4096x256 .bf16) : FVec Ideal S512x256 .f32 :=
  matmul dot_S512x4096_S4096x256_S512x256_1_0_0_1_n_n none w v (constant S512x256 .f32 0x00000000#32)
/-- The first half's accumulation. -/
theorem pay13_eq (q : FVec Ideal S512x256 .bf16) (k v : FVec Ideal S4096x256 .bf16) :
    k0_pay13 (F := Ideal) q k v = addf (start (top (score q k))) (gather (weight (score q k) (top (score q k))) v) := rfl
/-- second half -/
theorem pay2_eq (x : Vec Ideal S512x256 .bf16) (ct st : Vec Ideal S512x128 .f32) (k v : Vec Ideal S4096x256 .bf16) (g : Vec Ideal S1x128 .f32) :
    k0_pay2 (F := Ideal) (k0_pay15 (k0_pay9 x ct st) (k0_pay10 x) k) (k0_pay16 (k0_pay9 x ct st) (k0_pay10 x) k v) g
      = k0_pay1 (k0_pay13 (k0_pay7 x ct st) k v) g := rfl
/-- A score: the product of a row of queries and a row of keys. -/
theorem score_apply (q : FVec Ideal S512x256 .bf16) (k : FVec Ideal S4096x256 .bf16) (r : Fin 512) (i : Fin 4096) :
    score q k (ix2 r i) = ∑ e, q (ix2 r e) * k (ix2 i e) := by
  pointwise [score]
/-- A row's greatest score. -/
theorem rowMax_apply (s : FVec Ideal S512x4096 .f32) (r : Fin 512) :
    rowMax s (ix1 r) = Finset.univ.sup fun i => s (ix2 r i) := by
  exact max_row s _ _ _ r
/-- A row's greatest score, kept as a column. -/
theorem top_apply (s : FVec Ideal S512x4096 .f32) (r : Fin 512) :
    top s (ix2 r 0) = Finset.univ.sup fun i => s (ix2 r i) := by
  have h : shapeCast S512x1 (rowMax s) shapeCasts_S512_S512x1 (ix2 r 0) = rowMax s (ix1 r) := by
    pointwise
  refine (max_const _ _ _).trans ?_
  rw [h, rowMax_apply, ofBits_neg_inf]
  exact bot_sup_eq _
/-- A weight: two to the power of a score less its row's greatest. -/
theorem weight_apply (s : FVec Ideal S512x4096 .f32) (t : FVec Ideal S512x1 .f32) (r : Fin 512) (i : Fin 4096) :
    weight s t (ix2 r i) = Ideal.exp2 (s (ix2 r i) - t (ix2 r 0)) := by
  pointwise [weight]
  rfl
/-- The gathered values start from zero: a column times zero. -/
theorem start_apply (t : FVec Ideal S512x1 .f32) (r : Fin 512) (j : Fin 256) :
    start t (ix2 r j) = 0 := by
  pointwise [start]
  exact mul_zero _
/-- An entry of the gathered values: the weights times the values. -/
theorem gather_apply (w : FVec Ideal S512x4096 .bf16) (v : FVec Ideal S4096x256 .bf16) (r : Fin 512) (j : Fin 256) :
    gather w v (ix2 r j) = ∑ i, w (ix2 r i) * v (ix2 i j) := by
  pointwise [gather]
/-- The scaling constant that the kernel applies to a query: the reciprocal of √192, over log 2. -/
def scale : ℝ := (Real.sqrt 192)⁻¹ * (Real.log 2)⁻¹
/-- Coordinate `j` of a query row before the scaling: the first 128 lanes as they are, the last 128 rotated. -/
def rotated (x : Fin 256 → EReal) (ct st : Fin 128 → EReal) (j : Fin 256) : EReal :=
  if h : j.val < 128 then x j
  else x ⟨128 + (j.val - 128), by omega⟩ * ct ⟨j.val - 128, by omega⟩
    + (x ⟨128 + (j.val - 128 + 128 - 32) % 128, by omega⟩ - x ⟨128 + (j.val - 128 + 128 - 96) % 128, by omega⟩) * st ⟨j.val - 128, by omega⟩
/-- The query payload at an index. -/
theorem query_apply (x : FVec Ideal S512x256 .bf16) (ct st : FVec Ideal S512x128 .f32) (r : Fin 512) (j : Fin 256) :
    k0_pay7 (F := Ideal) x ct st (ix2 r j) = rotated (fun e => x (ix2 r e)) (fun l => ct (ix2 r l)) (fun l => st (ix2 r l)) j * ((scale : ℝ) : EReal) := by
  pointwise [k0_pay7]
  exact congrArg (_ * ·) (IdealRules.named_const.ideal_named_scalar _ _ _ _ rfl)
/-- The key rotation payload at an index. -/
theorem key_apply (x ct st : FVec Ideal S512x128 .f32) (r : Fin 512) (l : Fin 128) :
    k0_pay4 (F := Ideal) x ct st (ix2 r l) = x (ix2 r l) * ct (ix2 r l)
      + (x (ix2 r ⟨(l.val + 128 - 32) % 128, by omega⟩) - x (ix2 r ⟨(l.val + 128 - 96) % 128, by omega⟩)) * st (ix2 r l) := by
  pointwise [k0_pay4]
/-- The closing payload at an index: each row of quotients normalised by its root mean square, times the gain. -/
theorem close_apply (w : FVec Ideal S512x256 .f32) (g : FVec Ideal S1x128 .f32) (r : Fin 512) (j : Fin 128) :
    k0_pay1 (F := Ideal) w g (ix2 r j) = Cert.Softmax.rms (fun l : Fin 128 => Ideal.div (w (ix2 r ⟨l, by omega⟩)) (w (ix2 r ⟨128 + l, by omega⟩))) (Ideal.ofBits .f32 0x43000000#32) (Ideal.ofBits .f32 0x358637BD#32) j * g (ix2 0 j) := by
  pointwise [k0_pay1, Cert.Softmax.rms]
/-- The accumulation of one half of a query tile at an index. -/
theorem accumulate_apply (q : FVec Ideal S512x256 .bf16) (k v : FVec Ideal S4096x256 .bf16) (r : Fin 512) (j : Fin 256) :
    k0_pay13 (F := Ideal) q k v (ix2 r j) = ∑ i, Ideal.exp2 (∑ e, q (ix2 r e) * k (ix2 i e) - Finset.univ.sup fun i => ∑ e, q (ix2 r e) * k (ix2 i e)) * v (ix2 i j) := by
  rw [pay13_eq]
  show start _ _ + gather _ _ _ = _
  rw [start_apply, gather_apply, zero_add]
  simp only [weight_apply, top_apply, score_apply]
/-- One query row of the kernel's output: the queries' row `x` with its rotation tables, the keys, the values and the gain. -/
def outRow (x : Fin 256 → EReal) (ct st : Fin 128 → EReal) (k : Fin 4096 → Fin 256 → EReal) (v : Fin 4096 → Fin 128 → EReal)
    (g : Fin 128 → EReal) (l : Fin 128) : EReal :=
  Cert.Softmax.rms (fun l : Fin 128 =>
    Ideal.div (∑ i, Ideal.exp2 (∑ e, rotated x ct st e * ((scale : ℝ) : EReal) * k i e - Finset.univ.sup fun i => ∑ e, rotated x ct st e * ((scale : ℝ) : EReal) * k i e) * v i l)
      (∑ i, Ideal.exp2 (∑ e, rotated x ct st e * ((scale : ℝ) : EReal) * k i e - Finset.univ.sup fun i => ∑ e, rotated x ct st e * ((scale : ℝ) : EReal) * k i e)))
    (Ideal.ofBits .f32 0x43000000#32) (Ideal.ofBits .f32 0x358637BD#32) l * g l
/-- One half of a query tile, at an index: the row formula, whenever the value matrix has ones in its last 128 columns. -/
theorem half_apply (x : FVec Ideal S512x256 .bf16) (ct st : FVec Ideal S512x128 .f32) (k v : FVec Ideal S4096x256 .bf16) (g : FVec Ideal S1x128 .f32)
    (hv : ∀ (i : Fin 4096) (l : Fin 128), v (ix2 i ⟨128 + l, by omega⟩) = 1) (r : Fin 512) (j : Fin 128) :
    k0_pay1 (F := Ideal) (k0_pay13 (k0_pay7 x ct st) k v) g (ix2 r j)
      = outRow (fun e => x (ix2 r e)) (fun l => ct (ix2 r l)) (fun l => st (ix2 r l)) (fun i e => k (ix2 i e)) (fun i l => v (ix2 i ⟨l, by omega⟩)) (fun l => g (ix2 0 l)) j := by
  rw [close_apply]
  simp only [accumulate_apply, query_apply, hv, mul_one]
  rfl
end Cert.MlaIdeal.Val
end
-- ==== Proof.MlaScratch.lean ====
module
public import proofs.«01_k».proof.Proof.Gen.MlaIdeal.Value
public import Idealize.ShloMosaic.Lib.Pipeline.ValueKit
public import Idealize.ShloMosaic.Lib.Pointwise
public import Idealize.ShloMosaic.Lib.Claim
public import proofs.«01_k».proof.Proof.MlaPayload
@[expose] public section
set_option maxRecDepth 16384
noncomputable section
namespace Cert.MlaIdeal.Val
open Cert.MlaIdeal Cert.MlaIdeal.Gen Idealize.ShloMosaic Idealize.ShloMosaic.TcCoe Idealize.SL.Sem
open scoped BigOperators

/-- One row of the key scratch: the 128 plain lanes, then the rotation of the row `kr` by its tables. -/
def keyRow (kn kr ct st : Fin 128 → EReal) (e : Fin 256) : EReal :=
  if h : e.val < 128 then kn ⟨e, h⟩
  else kr ⟨e.val - 128, by omega⟩ * ct ⟨e.val - 128, by omega⟩
    + (kr ⟨(e.val - 128 + 128 - 32) % 128, by omega⟩ - kr ⟨(e.val - 128 + 128 - 96) % 128, by omega⟩) * st ⟨e.val - 128, by omega⟩

/-- The key scratch that a tile's first point fills, from its input blocks. -/
def keys (x1 : Vec Ideal S4096x128 .bf16) (x3 x6 x7 : Vec Ideal S4096x128 .f32) : Vec Ideal S4096x256 .bf16 := fun y =>
  keyRow (fun l => x1 (ix2 (y 0) l)) (fun l => x3 (ix2 (y 0) l)) (fun l => x6 (ix2 (y 0) l)) (fun l => x7 (ix2 (y 0) l)) (y 1)

/-- The value scratch: the values, then ones. -/
def vals (x2 : Vec Ideal S4096x128 .bf16) : Vec Ideal S4096x256 .bf16 := fun y =>
  if h : (y 1).val < 128 then x2 (ix2 (y 0) ⟨(y 1).val, h⟩) else (1 : EReal)

/-- The bf16 pattern of one. -/
theorem one_bits : Ideal.ofBits .bf16 0x3F80#16 = (1 : EReal) := by
  pointwise

/-- A coordinate of an index, moved by a unit-stride rectangle's offset. -/
theorem emb_val {s : Shape} (off size : Fin s.rank → ℕ) (inb : ∀ a, off a + size a ≤ s.size a) (j : (Rect.unit off size inb).shape.Idx) (a : Fin s.rank) :
    ((Rect.unit off size inb).emb j a).val = off a + (j a).val := by
  rw [Rect.emb_apply]
  show off a + 1 * (j a).val = _
  omega

/-- A 512 × 128 piece is a block of `G` when it agrees with `G` at every index, moved by the piece's offset. -/
theorem piece_eq {α : Type} (G : S4096x256.Idx → α) {off o : Fin 2 → ℕ} (h : off = o) (inb : ∀ a, off a + S512x128.size a ≤ S4096x256.size a) (w : S512x128.Idx → α)
    (hw : ∀ (r : Fin 512) (l : Fin 128) (r' : Fin 4096) (l' : Fin 256), r'.val = o 0 + r.val → l'.val = o 1 + l.val → w (ix2 r l) = G (ix2 r' l')) (x : S512x128.Idx) :
    w x = G ((Rect.unit (s := S4096x256) off S512x128.size inb).emb x) := by
  subst h
  obtain ⟨r, l, rfl⟩ : ∃ (r : Fin 512) (l : Fin 128), x = ix2 r l := ⟨x 0, x 1, (ix2_eta x).symm⟩
  refine (hw r l _ _ (emb_val (s := S4096x256) off S512x128.size inb (ix2 r l) 0) (emb_val (s := S4096x256) off S512x128.size inb (ix2 r l) 1)).trans (congrArg G (ix2_eta _))

/-- A load of 512 rows of a whole 4096-row input block, from a row that is a multiple of 512. -/
theorem read_at {φ : EltTy} (arg : Memref sig .tc .vmem S4096x128 φ) (harg : arg.IsWhole) (x : Vec Ideal S4096x128 φ) {off : Fin 2 → ℕ} {n : ℕ} (h : off = ![512 * n, 0])
    (inb : ∀ a, off a + S512x128.size a ≤ S4096x128.size a) (r : Fin 512) (l : Fin 128) (r' : Fin 4096) (hr : r'.val = 512 * n + r.val) :
    View.readAt (Elt Ideal) arg.view (Rect.unit (s := S4096x128) off S512x128.size inb).toLoadRect (harg.unread x) (ix2 r l) = x (ix2 r' l) := by
  subst h
  show arg.view.read (Elt Ideal) (harg.unread x) _ = _
  rw [harg.read_unread]
  refine congrArg x ?_
  funext a
  apply Fin.ext
  match a with
  | ⟨0, _⟩ => show 512 * n + 1 * r.val = r'.val; omega
  | ⟨1, _⟩ => show 0 + 1 * l.val = l.val; omega

/-- The copy of the keys' plain lanes. -/
theorem copy3_apply (x : FVec Ideal S512x128 .bf16) (r : Fin 512) (l : Fin 128) : k0_pay3 (F := Ideal) x (ix2 r l) = x (ix2 r l) := by
  pointwise [k0_pay3]

/-- The copy of the values. -/
theorem copy5_apply (x : FVec Ideal S512x128 .bf16) (r : Fin 512) (l : Fin 128) : k0_pay5 (F := Ideal) x (ix2 r l) = x (ix2 r l) := by
  pointwise [k0_pay5]

variable (c : Dev nD) (bd : Option Variants.none.V) (i : grid0.Coords) (arg3 : Memref sig .tc .vmem S1024x256 .bf16) (harg3 : arg3.IsWhole)
  (arg4 : Memref sig .tc .vmem S4096x128 .bf16) (harg4 : arg4.IsWhole) (arg5 : Memref sig .tc .vmem S4096x128 .bf16) (harg5 : arg5.IsWhole)
  (arg6 : Memref sig .tc .vmem S4096x128 .f32) (harg6 : arg6.IsWhole) (arg7 : Memref sig .tc .vmem S1024x128 .f32) (harg7 : arg7.IsWhole)
  (arg8 : Memref sig .tc .vmem S1024x128 .f32) (harg8 : arg8.IsWhole) (arg9 : Memref sig .tc .vmem S4096x128 .f32) (harg9 : arg9.IsWhole)
  (arg10 : Memref sig .tc .vmem S4096x128 .f32) (harg10 : arg10.IsWhole) (arg11 : Memref sig .tc .vmem S1x128 .f32) (harg11 : arg11.IsWhole)
  (arg12 : Memref sig .tc .vmem S1024x128 .bf16) (harg12 : arg12.IsWhole) (arg13 : Memref sig .tc .vmem S4096x256 .bf16) (harg13 : arg13.IsWhole)
  (arg14 : Memref sig .tc .vmem S4096x256 .bf16) (harg14 : arg14.IsWhole)

/-- Every piece that the loop writes into the key scratch is a block of `keys`, every piece into the value scratch one of `vals`. -/
theorem pieces (h1 : k0_cond1 i = 1#1) (x1 x2 : Vec Ideal S4096x128 .bf16) (x3 x6 x7 : Vec Ideal S4096x128 .f32) :
    ∀ n, n ≤ k0_t1_loop.trips →
      (∀ p ∈ (pb_k0_t1 (F := Ideal) Variants.none c bd i arg3 harg3 arg4 harg4 arg5 harg5 arg6 harg6 arg7 harg7 arg8 harg8 arg9 harg9 arg10 harg10 arg11 harg11 arg12 harg12 arg13 harg13 arg14 harg14 h1
        (harg4.unread x1) (harg5.unread x2) (harg6.unread x3) (harg9.unread x6) (harg10.unread x7) n).1,
        ∀ x : p.1.shape.Idx, p.2 x = keys x1 x3 x6 x7 (p.1.emb x)) ∧
      (∀ p ∈ (pb_k0_t1 (F := Ideal) Variants.none c bd i arg3 harg3 arg4 harg4 arg5 harg5 arg6 harg6 arg7 harg7 arg8 harg8 arg9 harg9 arg10 harg10 arg11 harg11 arg12 harg12 arg13 harg13 arg14 harg14 h1
        (harg4.unread x1) (harg5.unread x2) (harg6.unread x3) (harg9.unread x6) (harg10.unread x7) n).2,
        ∀ x : p.1.shape.Idx, p.2 x = vals x2 (p.1.emb x))
  | 0, _ => by
    constructor <;> intro p hp <;> exact absurd hp List.not_mem_nil
  | n + 1, hn => by
    obtain ⟨ih1, ih2⟩ := pieces h1 x1 x2 x3 x6 x7 n (Nat.le_of_succ_le hn)
    have hs := pb_k0_t1_succ (F := Ideal) Variants.none c bd i arg3 harg3 arg4 harg4 arg5 harg5 arg6 harg6 arg7 harg7 arg8 harg8 arg9 harg9 arg10 harg10 arg11 harg11 arg12 harg12 arg13 harg13 arg14 harg14 h1
        (harg4.unread x1) (harg5.unread x2) (harg6.unread x3) (harg9.unread x6) (harg10.unread x7) ⟨n, hn⟩
    simp only at hs
    rw [hs]
    unfold trip_k0_t1
    have hk : n < 8 := hn
    have o1 := k0_off1_eq ⟨n, hn⟩
    have o2 := k0_off2_eq ⟨n, hn⟩
    have o3 := k0_off3_eq ⟨n, hn⟩
    have i3 : ∀ a, k0_off3 ⟨n, hn⟩ a + S512x128.size a ≤ S4096x256.size a := by
      rw [o3]
      intro a
      match a with
      | ⟨0, _⟩ => show 512 * n + 512 ≤ 4096; omega
      | ⟨1, _⟩ => show 128 + 128 ≤ 256; omega
    have i2 : ∀ a, k0_off2 ⟨n, hn⟩ a + S512x128.size a ≤ S4096x256.size a := by
      rw [o2]
      intro a
      match a with
      | ⟨0, _⟩ => show 512 * n + 512 ≤ 4096; omega
      | ⟨1, _⟩ => show 0 + 128 ≤ 256; omega
    refine ⟨List.forall_mem_append.mpr ⟨List.forall_mem_cons.mpr ⟨?_, List.forall_mem_cons.mpr ⟨?_, fun p h => absurd h List.not_mem_nil⟩⟩, ih1⟩,
      List.forall_mem_append.mpr ⟨List.forall_mem_cons.mpr ⟨?_, List.forall_mem_cons.mpr ⟨?_, fun p h => absurd h List.not_mem_nil⟩⟩, ih2⟩⟩
    · refine piece_eq _ o3 i3 _ fun r l r' l' hr hl => ?_
      have hr : r'.val = 512 * n + r.val := hr
      have hl : l'.val = 128 + l.val := hl
      refine (key_apply _ _ _ r l).trans ?_
      simp only [read_at _ _ _ o1 _ _ _ r' hr]
      simp [keys, keyRow, hl]
    · refine piece_eq _ o2 i2 _ fun r l r' l' hr hl => ?_
      have hr : r'.val = 512 * n + r.val := hr
      have hl : l'.val = l.val := hl.trans (Nat.zero_add _)
      dsimp only
      rw [copy3_apply, read_at _ _ _ o1 _ _ _ r' hr]
      simp [keys, keyRow, hl]
    · refine piece_eq _ o3 i3 _ fun r l r' l' hr hl => ?_
      have hl : l'.val = 128 + l.val := hl
      refine one_bits.trans ?_
      simp [vals, hl]
    · refine piece_eq _ o2 i2 _ fun r l r' l' hr hl => ?_
      have hr : r'.val = 512 * n + r.val := hr
      have hl : l'.val = l.val := hl.trans (Nat.zero_add _)
      dsimp only
      rw [copy5_apply, read_at _ _ _ o1 _ _ _ r' hr]
      simp [vals, hl]

/-- The key scratch after a tile's first point. -/
theorem first_keys (h1 : k0_cond1 i = 1#1) (x0 : Vec Ideal S1024x256 .bf16) (x1 x2 : Vec Ideal S4096x128 .bf16) (x3 x6 x7 : Vec Ideal S4096x128 .f32) (x4 x5 : Vec Ideal S1024x128 .f32) (x8 : Vec Ideal S1x128 .f32) :
    sout0_A_0 (F := Ideal) c i arg3 harg3 arg4 harg4 arg5 harg5 arg6 harg6 arg7 harg7 arg8 harg8 arg9 harg9 arg10 harg10 arg11 harg11 arg12 harg12 arg13 harg13 arg14 harg14 h1 x0 x1 x2 x3 x4 x5 x6 x7 x8
      = keys x1 x3 x6 x7 := by
  funext y
  unfold sout0_A_0
  refine View.read_writes_apply_of_pieces _ _ (keys x1 x3 x6 x7) _ ?_ y (scover0_A_0 c i arg3 harg3 arg4 harg4 arg5 harg5 arg6 harg6 arg7 harg7 arg8 harg8 arg9 harg9 arg10 harg10 arg11 harg11 arg12 harg12 arg13 harg13 arg14 harg14 h1 x0 x1 x2 x3 x4 x5 x6 x7 x8 y)
  unfold kernelRun0_A
  exact (pieces c none i arg3 harg3 arg4 harg4 arg5 harg5 arg6 harg6 arg7 harg7 arg8 harg8 arg9 harg9 arg10 harg10 arg11 harg11 arg12 harg12 arg13 harg13 arg14 harg14 h1 x1 x2 x3 x6 x7 _ le_rfl).1

/-- The value scratch after a tile's first point. -/
theorem first_vals (h1 : k0_cond1 i = 1#1) (x0 : Vec Ideal S1024x256 .bf16) (x1 x2 : Vec Ideal S4096x128 .bf16) (x3 x6 x7 : Vec Ideal S4096x128 .f32) (x4 x5 : Vec Ideal S1024x128 .f32) (x8 : Vec Ideal S1x128 .f32) :
    sout0_A_1 (F := Ideal) c i arg3 harg3 arg4 harg4 arg5 harg5 arg6 harg6 arg7 harg7 arg8 harg8 arg9 harg9 arg10 harg10 arg11 harg11 arg12 harg12 arg13 harg13 arg14 harg14 h1 x0 x1 x2 x3 x4 x5 x6 x7 x8
      = vals x2 := by
  funext y
  unfold sout0_A_1
  refine View.read_writes_apply_of_pieces _ _ (vals x2) _ ?_ y (scover0_A_1 c i arg3 harg3 arg4 harg4 arg5 harg5 arg6 harg6 arg7 harg7 arg8 harg8 arg9 harg9 arg10 harg10 arg11 harg11 arg12 harg12 arg13 harg13 arg14 harg14 h1 x0 x1 x2 x3 x4 x5 x6 x7 x8 y)
  unfold kernelRun0_A
  exact (pieces c none i arg3 harg3 arg4 harg4 arg5 harg5 arg6 harg6 arg7 harg7 arg8 harg8 arg9 harg9 arg10 harg10 arg11 harg11 arg12 harg12 arg13 harg13 arg14 harg14 h1 x1 x2 x3 x6 x7 _ le_rfl).2

/-- What one point leaves in its output block, from its query block, the key and value matrices it reads and the gain. -/
def tileOut (x0 : Vec Ideal S1024x256 .bf16) (ct st : Vec Ideal S1024x128 .f32) (k v : Vec Ideal S4096x256 .bf16) (g : Vec Ideal S1x128 .f32) : Vec Ideal S1024x128 .bf16 := fun y =>
  outRow (fun e => x0 (ix2 (y 0) e)) (fun l => ct (ix2 (y 0) l)) (fun l => st (ix2 (y 0) l)) (fun i e => k (ix2 i e)) (fun i l => v (ix2 i ⟨l, by omega⟩)) (fun l => g (ix2 0 l)) (y 1)

/-- A load of 512 rows of a whole 1024-row block, at row offset `o`. -/
theorem read_half {φ : EltTy} {n : ℕ} (arg : Memref sig .tc .vmem ⟨2, ![1024, n]⟩ φ) (harg : arg.IsWhole) (x : Vec Ideal ⟨2, ![1024, n]⟩ φ) {o : ℕ}
    (inb : ∀ a, (![o, 0] : Fin 2 → ℕ) a + (⟨2, ![512, n]⟩ : Shape).size a ≤ (⟨2, ![1024, n]⟩ : Shape).size a) (r : Fin 512) (l : Fin n) (r' : Fin 1024) (hr : r'.val = o + r.val) :
    View.readAt (Elt Ideal) arg.view (Rect.unit (s := ⟨2, ![1024, n]⟩) ![o, 0] (⟨2, ![512, n]⟩ : Shape).size inb).toLoadRect (harg.unread x) (ix2 r l) = x (ix2 r' l) := by
  show arg.view.read (Elt Ideal) (harg.unread x) _ = _
  rw [harg.read_unread]
  refine congrArg x ?_
  funext a
  apply Fin.ext
  match a with
  | ⟨0, _⟩ => show o + 1 * r.val = r'.val; omega
  | ⟨1, _⟩ => show 0 + 1 * l.val = l.val; omega

/-- The rectangle of a whole block moves no index. -/
theorem idx_all {n d : ℕ} (inb : ∀ a, (![0, 0] : Fin 2 → ℕ) a + (⟨2, ![n, d]⟩ : Shape).size a ≤ (⟨2, ![n, d]⟩ : Shape).size a) (y : (⟨2, ![n, d]⟩ : Shape).Idx) :
    (Rect.unit (s := ⟨2, ![n, d]⟩) ![0, 0] (⟨2, ![n, d]⟩ : Shape).size inb).toLoadRect.idx y = y := by
  funext a
  apply Fin.ext
  match a with
  | ⟨0, _⟩ => show 0 + 1 * (y 0).val = (y 0).val; omega
  | ⟨1, _⟩ => show 0 + 1 * (y 1).val = (y 1).val; omega

/-- A load of a whole block is the block. -/
theorem read_all {φ : EltTy} {n d : ℕ} (arg : Memref sig .tc .vmem ⟨2, ![n, d]⟩ φ) (harg : arg.IsWhole) (x : Vec Ideal ⟨2, ![n, d]⟩ φ)
    (inb : ∀ a, (![0, 0] : Fin 2 → ℕ) a + (⟨2, ![n, d]⟩ : Shape).size a ≤ (⟨2, ![n, d]⟩ : Shape).size a) :
    View.readAt (Elt Ideal) arg.view (Rect.unit (s := ⟨2, ![n, d]⟩) ![0, 0] (⟨2, ![n, d]⟩ : Shape).size inb).toLoadRect (harg.unread x) = x := by
  show (fun y => arg.view.read (Elt Ideal) (harg.unread x) _) = x
  rw [harg.read_unread]
  exact funext fun y => congrArg x (idx_all inb y)

/-- The two pieces that a point stores into its output block are blocks of `tileOut`. -/
theorem half_piece {o : ℕ} (x0 : Vec Ideal S1024x256 .bf16) (ct st : Vec Ideal S1024x128 .f32) (k v : Vec Ideal S4096x256 .bf16) (g : Vec Ideal S1x128 .f32)
    (hv : ∀ (i : Fin 4096) (l : Fin 128), v (ix2 i ⟨128 + l, by omega⟩) = (1 : EReal))
    (i3 : ∀ a, (![o, 0] : Fin 2 → ℕ) a + S512x256.size a ≤ S1024x256.size a) (i7 : ∀ a, (![o, 0] : Fin 2 → ℕ) a + S512x128.size a ≤ S1024x128.size a)
    (i11 : ∀ a, (![0, 0] : Fin 2 → ℕ) a + S1x128.size a ≤ S1x128.size a) (x : S512x128.Idx) :
    k0_pay1 (F := Ideal) (k0_pay13 (k0_pay7 (View.readAt (Elt Ideal) arg3.view (Rect.unit (s := S1024x256) ![o, 0] S512x256.size i3).toLoadRect (harg3.unread x0))
        (View.readAt (Elt Ideal) arg7.view (Rect.unit (s := S1024x128) ![o, 0] S512x128.size i7).toLoadRect (harg7.unread ct))
        (View.readAt (Elt Ideal) arg8.view (Rect.unit (s := S1024x128) ![o, 0] S512x128.size i7).toLoadRect (harg8.unread st))) k v)
        (View.readAt (Elt Ideal) arg11.view (Rect.unit (s := S1x128) ![0, 0] S1x128.size i11).toLoadRect (harg11.unread g)) x
      = tileOut x0 ct st k v g ((Rect.unit (s := S1024x128) ![o, 0] S512x128.size i7).emb x) := by
  obtain ⟨r, l, rfl⟩ : ∃ (r : Fin 512) (l : Fin 128), x = ix2 r l := ⟨x 0, x 1, (ix2_eta x).symm⟩
  have ho : o ≤ 512 := by have := i7 0; simp at this; omega
  have e : (Rect.unit (s := S1024x128) ![o, 0] S512x128.size i7).emb (ix2 r l) = ix2 (⟨o + r, by omega⟩ : Fin 1024) l := by
    funext a
    apply Fin.ext
    rw [emb_val]
    match a with
    | ⟨0, _⟩ => rfl
    | ⟨1, _⟩ => exact Nat.zero_add _
  rw [e]
  refine (half_apply _ _ _ k v _ hv r l).trans ?_
  simp only [read_half arg3 harg3 x0 i3 _ _ ⟨o + r, by omega⟩ rfl, read_half arg7 harg7 ct i7 _ _ ⟨o + r, by omega⟩ rfl, read_half arg8 harg8 st i7 _ _ ⟨o + r, by omega⟩ rfl, read_all arg11 harg11 g i11]
  rfl

/-- The value matrix has ones in its last 128 columns. -/
theorem vals_one (x2 : Vec Ideal S4096x128 .bf16) (i : Fin 4096) (l : Fin 128) : vals x2 (ix2 i ⟨128 + l, by omega⟩) = (1 : EReal) := by
  simp [vals]

/-- The output block of a tile's later points. -/
theorem out_B (h1 : ¬k0_cond1 i = 1#1) (x0 : Vec Ideal S1024x256 .bf16) (x1 x2 : Vec Ideal S4096x128 .bf16) (x3 x6 x7 : Vec Ideal S4096x128 .f32) (x4 x5 : Vec Ideal S1024x128 .f32) (x8 : Vec Ideal S1x128 .f32)
    (k v : Vec Ideal S4096x256 .bf16) (hv : ∀ (i : Fin 4096) (l : Fin 128), v (ix2 i ⟨128 + l, by omega⟩) = (1 : EReal)) :
    out0_B_9 (F := Ideal) c i arg3 harg3 arg4 harg4 arg5 harg5 arg6 harg6 arg7 harg7 arg8 harg8 arg9 harg9 arg10 harg10 arg11 harg11 arg12 harg12 arg13 harg13 arg14 harg14 h1 x0 x1 x2 x3 x4 x5 x6 x7 x8 k v
      = tileOut x0 x4 x5 k v x8 := by
  have ek := read_all arg13 harg13 k inb_S4096x256_S4096x256_0_0
  have ev := read_all arg14 harg14 v inb_S4096x256_S4096x256_0_0
  funext y
  unfold out0_B_9
  refine View.read_writes_apply_of_pieces _ _ (tileOut x0 x4 x5 k v x8) _ ?_ y (cover0_B_9 c i arg3 harg3 arg4 harg4 arg5 harg5 arg6 harg6 arg7 harg7 arg8 harg8 arg9 harg9 arg10 harg10 arg11 harg11 arg12 harg12 arg13 harg13 arg14 harg14 h1 x0 x1 x2 x3 x4 x5 x6 x7 x8 k v y)
  unfold kernelRun0_B
  refine List.forall_mem_cons.mpr ⟨?_, List.forall_mem_cons.mpr ⟨?_, fun p h => absurd h List.not_mem_nil⟩⟩
  · intro x
    refine Eq.trans ?_ (half_piece arg3 harg3 arg7 harg7 arg8 harg8 arg11 harg11 x0 x4 x5 k v x8 hv inb_S1024x256_S512x256_512_0 inb_S1024x128_S512x128_512_0 inb_S1x128_S1x128_0_0 x)
    refine congrFun ?_ x
    refine Eq.trans ?_ (pay2_eq _ _ _ _ _ _)
    exact congrArg₂ (fun a b => k0_pay2 (F := Ideal) (k0_pay15 _ _ a) (k0_pay16 _ _ a b) _) ek ev
  · intro x
    refine Eq.trans ?_ (half_piece arg3 harg3 arg7 harg7 arg8 harg8 arg11 harg11 x0 x4 x5 k v x8 hv inb_S1024x256_S512x256_0_0 inb_S1024x128_S512x128_0_0 inb_S1x128_S1x128_0_0 x)
    refine congrFun ?_ x
    exact congrArg₂ (fun a b => k0_pay1 (F := Ideal) (k0_pay13 _ a b) _) ek ev

/-- A covered load of a whole buffer, once every piece written to it is a block of one matrix. -/
theorem readCov_all {n d : ℕ} {φ : EltTy} (v : View sig .tc .vmem ⟨2, ![n, d]⟩ φ) (L : List (View.Piece (Elt Ideal) ⟨2, ![n, d]⟩ φ)) (G : (⟨2, ![n, d]⟩ : Shape).Idx → Elt Ideal φ)
    (hG : ∀ p ∈ L, ∀ x : p.1.shape.Idx, p.2 x = G (p.1.emb x)) (cover : ∀ y, ∃ p ∈ L, y ∈ p.1.set)
    (inb : ∀ a, (![0, 0] : Fin 2 → ℕ) a + (⟨2, ![n, d]⟩ : Shape).size a ≤ (⟨2, ![n, d]⟩ : Shape).size a) :
    v.readCov L (Rect.unit (s := ⟨2, ![n, d]⟩) ![0, 0] (⟨2, ![n, d]⟩ : Shape).size inb).toLoadRect = G := by
  funext y
  refine (View.read_writes_apply_of_pieces _ _ G L hG _ (cover _)).trans (congrArg G (idx_all inb y))

/-- The output block of a tile's first point. -/
theorem out_A (h1 : k0_cond1 i = 1#1) (x0 : Vec Ideal S1024x256 .bf16) (x1 x2 : Vec Ideal S4096x128 .bf16) (x3 x6 x7 : Vec Ideal S4096x128 .f32) (x4 x5 : Vec Ideal S1024x128 .f32) (x8 : Vec Ideal S1x128 .f32) :
    out0_A_9 (F := Ideal) c i arg3 harg3 arg4 harg4 arg5 harg5 arg6 harg6 arg7 harg7 arg8 harg8 arg9 harg9 arg10 harg10 arg11 harg11 arg12 harg12 arg13 harg13 arg14 harg14 h1 x0 x1 x2 x3 x4 x5 x6 x7 x8
      = tileOut x0 x4 x5 (keys x1 x3 x6 x7) (vals x2) x8 := by
  have hp := pieces c none i arg3 harg3 arg4 harg4 arg5 harg5 arg6 harg6 arg7 harg7 arg8 harg8 arg9 harg9 arg10 harg10 arg11 harg11 arg12 harg12 arg13 harg13 arg14 harg14 h1 x1 x2 x3 x6 x7 _ le_rfl
  have hk := fun inb => readCov_all arg13.view _ _ hp.1 (scover0_A_0 c i arg3 harg3 arg4 harg4 arg5 harg5 arg6 harg6 arg7 harg7 arg8 harg8 arg9 harg9 arg10 harg10 arg11 harg11 arg12 harg12 arg13 harg13 arg14 harg14 h1 x0 x1 x2 x3 x4 x5 x6 x7 x8) inb
  have hv := fun inb => readCov_all arg14.view _ _ hp.2 (scover0_A_1 c i arg3 harg3 arg4 harg4 arg5 harg5 arg6 harg6 arg7 harg7 arg8 harg8 arg9 harg9 arg10 harg10 arg11 harg11 arg12 harg12 arg13 harg13 arg14 harg14 h1 x0 x1 x2 x3 x4 x5 x6 x7 x8) inb
  funext y
  unfold out0_A_9
  refine View.read_writes_apply_of_pieces _ _ (tileOut x0 x4 x5 (keys x1 x3 x6 x7) (vals x2) x8) _ ?_ y (cover0_A_9 c i arg3 harg3 arg4 harg4 arg5 harg5 arg6 harg6 arg7 harg7 arg8 harg8 arg9 harg9 arg10 harg10 arg11 harg11 arg12 harg12 arg13 harg13 arg14 harg14 h1 x0 x1 x2 x3 x4 x5 x6 x7 x8 y)
  unfold kernelRun0_A
  refine List.forall_mem_cons.mpr ⟨?_, List.forall_mem_cons.mpr ⟨?_, fun p h => absurd h List.not_mem_nil⟩⟩
  · intro x
    refine Eq.trans ?_ (half_piece arg3 harg3 arg7 harg7 arg8 harg8 arg11 harg11 x0 x4 x5 (keys x1 x3 x6 x7) (vals x2) x8 (vals_one x2) inb_S1024x256_S512x256_512_0 inb_S1024x128_S512x128_512_0 inb_S1x128_S1x128_0_0 x)
    refine congrFun ?_ x
    refine Eq.trans ?_ (pay2_eq _ _ _ _ _ _)
    exact congrArg₂ (fun a b => k0_pay2 (F := Ideal) (k0_pay15 _ _ a) (k0_pay16 _ _ a b) _) (hk _) (hv _)
  · intro x
    refine Eq.trans ?_ (half_piece arg3 harg3 arg7 harg7 arg8 harg8 arg11 harg11 x0 x4 x5 (keys x1 x3 x6 x7) (vals x2) x8 (vals_one x2) inb_S1024x256_S512x256_0_0 inb_S1024x128_S512x128_0_0 inb_S1x128_S1x128_0_0 x)
    refine congrFun ?_ x
    exact congrArg₂ (fun a b => k0_pay1 (F := Ideal) (k0_pay13 _ a b) _) (hk _) (hv _)
end Cert.MlaIdeal.Val
end
-- ==== Proof.MlaMath.lean ====
module
public import proofs.«01_k».proof.Proof.MlaScratch
public import proofs.«01_k».proof.Proof.Softmax
@[expose] public section
set_option maxRecDepth 16384
noncomputable section
namespace Cert.MlaIdeal.Val
open Cert.MlaIdeal Cert.MlaIdeal.Gen Idealize.ShloMosaic Idealize.ShloMosaic.TcCoe Idealize.SL.Sem
open scoped BigOperators

/-- The rotary embedding of 64 lanes by 32 angles, given by their cosines `c` and sines `s`. -/
def rope (x : Fin 64 → EReal) (c s : Fin 32 → EReal) (e : Fin 64) : EReal :=
  if h : e.val < 32 then x ⟨e.val, by omega⟩ * c ⟨e.val, h⟩ - x ⟨32 + e.val, by omega⟩ * s ⟨e.val, h⟩
  else x ⟨32 + (e.val - 32), by omega⟩ * c ⟨e.val - 32, by omega⟩ + x ⟨e.val - 32, by omega⟩ * s ⟨e.val - 32, by omega⟩
/-- A table of 32 entries, twice, then 64 zeros. -/
def padTable (c : Fin 32 → EReal) (j : Fin 128) : EReal :=
  if h : j.val < 32 then c ⟨j.val, h⟩ else if h : j.val - 32 < 32 then c ⟨j.val - 32, h⟩ else 0
/-- A query of 192 lanes followed by 64 zeros. -/
def padRow (q : Fin 192 → EReal) (e : Fin 256) : EReal := if h : e.val < 192 then q ⟨e.val, h⟩ else 0
/-- A rotary key of 64 lanes followed by 64 zeros. -/
def padKey (x : Fin 64 → EReal) (e : Fin 128) : EReal := if h : e.val < 64 then x ⟨e.val, h⟩ else 0

/-- The kernel's rotation of 128 lanes of which the last 64 are zero: the rotary embedding of the first 64 lanes, then
    zeros. -/
theorem turn (x : Fin 128 → EReal) (hx : ∀ e : Fin 128, 64 ≤ e.val → x e = 0) (c s : Fin 32 → EReal) (e : Fin 128) :
    x e * padTable c e + (x ⟨(e.val + 128 - 32) % 128, by omega⟩ - x ⟨(e.val + 128 - 96) % 128, by omega⟩) * padTable s e
      = if h : e.val < 64 then rope (fun l => x ⟨l.val, by omega⟩) c s ⟨e.val, h⟩ else 0 := by
  unfold padTable rope
  by_cases h1 : e.val < 32
  · have e1 : (e.val + 128 - 32) % 128 = e.val + 96 := by omega
    have e2 : (e.val + 128 - 96) % 128 = 32 + e.val := by omega
    simp only [dif_pos h1, dif_pos (show e.val < 64 by omega), e1, e2]
    rw [hx ⟨e.val + 96, by omega⟩ (by show 64 ≤ e.val + 96; omega), zero_sub, EReal.neg_mul, ← sub_eq_add_neg]
  · by_cases h2 : e.val < 64
    · have e1 : (e.val + 128 - 32) % 128 = e.val - 32 := by omega
      have e2 : (e.val + 128 - 96) % 128 = e.val + 32 := by omega
      have e3 : 32 + (e.val - 32) = e.val := by omega
      simp only [dif_neg h1, dif_pos h2, dif_pos (show e.val - 32 < 32 by omega), e1, e2, e3]
      rw [hx ⟨e.val + 32, by omega⟩ (by show 64 ≤ e.val + 32; omega), sub_zero]
    · rw [dif_neg h2, dif_neg h1, dif_neg (by omega), dif_neg h1, dif_neg (by omega), mul_zero, mul_zero, add_zero]

/-- The rotated query, in its first 128 lanes. -/
theorem rotated_left (q : Fin 192 → EReal) (c s : Fin 32 → EReal) (e : Fin 128) :
    rotated (padRow q) (padTable c) (padTable s) ⟨e.val, by omega⟩ = q ⟨e.val, by omega⟩ := by
  unfold rotated padRow
  rw [dif_pos e.isLt, dif_pos (by show e.val < 192; omega)]

/-- The rotated query, in its last 128 lanes. -/
theorem rotated_right (q : Fin 192 → EReal) (c s : Fin 32 → EReal) (e : Fin 128) :
    rotated (padRow q) (padTable c) (padTable s) ⟨128 + e.val, by omega⟩
      = if h : e.val < 64 then rope (fun l => q ⟨128 + l.val, by omega⟩) c s ⟨e.val, h⟩ else 0 := by
  have ht := turn (fun l : Fin 128 => padRow q ⟨128 + l.val, by omega⟩)
    (fun e he => by unfold padRow; exact dif_neg (by show ¬ 128 + e.val < 192; omega)) c s e
  unfold rotated
  rw [dif_neg (by show ¬ 128 + e.val < 128; omega)]
  have e1 : 128 + e.val - 128 = e.val := by omega
  simp only [e1]
  refine ht.trans ?_
  split
  · next h =>
    refine congrArg (fun f => rope f c s ⟨e.val, h⟩) (funext fun l => ?_)
    unfold padRow
    exact dif_pos (by show 128 + l.val < 192; omega)
  · rfl

/-- A key row, in its first 128 lanes. -/
theorem keyRow_left (kn kr ct st : Fin 128 → EReal) (e : Fin 128) : keyRow kn kr ct st ⟨e.val, by omega⟩ = kn e := by
  unfold keyRow
  rw [dif_pos e.isLt]

/-- A key row, in its last 128 lanes. -/
theorem keyRow_right (kn : Fin 128 → EReal) (kr : Fin 64 → EReal) (c s : Fin 32 → EReal) (e : Fin 128) :
    keyRow kn (padKey kr) (padTable c) (padTable s) ⟨128 + e.val, by omega⟩
      = if h : e.val < 64 then rope kr c s ⟨e.val, h⟩ else 0 := by
  have ht := turn (padKey kr) (fun e he => by unfold padKey; exact dif_neg (by omega)) c s e
  unfold keyRow
  rw [dif_neg (by show ¬ 128 + e.val < 128; omega)]
  have e1 : 128 + e.val - 128 = e.val := by omega
  simp only [e1]
  refine ht.trans ?_
  split
  · next h =>
    refine congrArg (fun f => rope f c s ⟨e.val, h⟩) (funext fun l => ?_)
    unfold padKey
    exact dif_pos l.isLt
  · rfl

/-- A sum over 256 lanes: the first 128 lanes, then the next 64, when the last 64 terms are zero. -/
theorem sum_lanes (f : Fin 256 → EReal) (hf : ∀ e : Fin 256, 192 ≤ e.val → f e = 0) :
    ∑ e, f e = ∑ e : Fin 128, f ⟨e.val, by omega⟩ + ∑ e : Fin 64, f ⟨128 + e.val, by omega⟩ := by
  have h1 := Fin.sum_univ_add (M := EReal) (a := 128) (b := 128) f
  have h2 := Fin.sum_univ_add (M := EReal) (a := 64) (b := 64) (fun e => f (Fin.natAdd 128 e))
  refine h1.trans ?_
  rw [h2]
  have h3 : ∑ i : Fin 64, f (Fin.natAdd 128 (Fin.natAdd 64 i)) = 0 :=
    Finset.sum_eq_zero fun i _ => hf _ (by simp only [Fin.val_natAdd]; omega)
  rw [h3, add_zero]
  rfl

/-- Division by a positive real is multiplication by its inverse. -/
theorem div_real (x : EReal) (r : ℝ) (hr : r ≠ 0) : Ideal.div x (r : EReal) = x * ((r⁻¹ : ℝ) : EReal) := by
  unfold Ideal.div
  rw [if_neg (by exact_mod_cast hr), EReal.coe_inv]

/-- The kernel's score of a query and a key is the reference's score over log 2. -/
theorem score_eq (q : Fin 192 → EReal) (kn : Fin 128 → EReal) (kr : Fin 64 → EReal) (c s c' s' : Fin 32 → EReal) :
    ∑ e : Fin 256, rotated (padRow q) (padTable c) (padTable s) e * ((scale : ℝ) : EReal)
        * keyRow kn (padKey kr) (padTable c') (padTable s') e
      = Ideal.div (∑ e : Fin 128, q ⟨e.val, by omega⟩ * kn e
          + ∑ e : Fin 64, rope kr c' s' e * rope (fun l => q ⟨128 + l.val, by omega⟩) c s e) ((Real.sqrt 192 : ℝ) : EReal)
        * (((Real.log 2)⁻¹ : ℝ) : EReal) := by
  have h192 : Real.sqrt 192 ≠ 0 := (Real.sqrt_pos.mpr (by norm_num)).ne'
  rw [div_real _ _ h192, mul_assoc, ← EReal.coe_mul]
  show _ = _ * ((scale : ℝ) : EReal)
  have hs : 0 ≤ scale := mul_nonneg (inv_nonneg.mpr (Real.sqrt_nonneg _)) (inv_nonneg.mpr (Real.log_nonneg (by norm_num)))
  simp only [mul_right_comm _ ((scale : ℝ) : EReal) _]
  rw [← Cert.Softmax.sum_mul_real _ _ scale hs]
  refine congrArg (· * ((scale : ℝ) : EReal)) ?_
  refine (sum_lanes _ fun e he => ?_).trans ?_
  · obtain ⟨d, hd⟩ : ∃ d : Fin 128, e = ⟨128 + d.val, by omega⟩ := ⟨⟨e.val - 128, by omega⟩, Fin.ext (by show e.val = 128 + (e.val - 128); omega)⟩
    have hd' : ¬ d.val < 64 := by rw [hd] at he; simp only at he; omega
    rw [hd, rotated_right, dif_neg hd', zero_mul]
  · refine congrArg₂ (· + ·) (Finset.sum_congr rfl fun e _ => ?_) (Finset.sum_congr rfl fun e _ => ?_)
    · rw [rotated_left, keyRow_left]
    · have h1 := rotated_right q c s ⟨e.val, by omega⟩
      have h2 := keyRow_right kn kr c' s' ⟨e.val, by omega⟩
      rw [dif_pos e.isLt] at h1 h2
      exact (congrArg₂ (· * ·) h1 h2).trans (mul_comm _ _)

/-- The number of lanes, as the constant of the normalisation. -/
theorem count_real : Ideal.ofBits .f32 0x43000000#32 = ((128 : ℝ) : EReal) := by
  simp [Ideal.ofBits, Ideal.ieee, -EReal.coe_mul]
  norm_num
/-- The constant added under the reciprocal root is a real. -/
theorem eps_real : ∃ ε : ℝ, Ideal.ofBits .f32 0x358637BD#32 = (ε : EReal) := by
  simp [Ideal.ofBits, Ideal.ieee, -EReal.coe_mul]

/-- The attention of one query row `s` of scores over the values `v`, normalised by its root mean square, times the
    gain. -/
def attend (s : Fin 4096 → EReal) (v : Fin 4096 → Fin 128 → EReal) (g : Fin 128 → EReal) (l : Fin 128) : EReal :=
  Cert.Softmax.rms (fun l : Fin 128 => ∑ i, v i l * Ideal.div (Ideal.exp (s i - Finset.univ.sup s))
      (∑ i, Ideal.exp (s i - Finset.univ.sup s)))
    (Ideal.ofBits .f32 0x43000000#32) (Ideal.ofBits .f32 0x358637BD#32) l * g l

/-- One row of the kernel's output is the attention of the reference's scores. -/
theorem outRow_eq (q : Fin 192 → EReal) (kn : Fin 4096 → Fin 128 → EReal) (kr : Fin 4096 → Fin 64 → EReal)
    (c s : Fin 32 → EReal) (c' s' : Fin 4096 → Fin 32 → EReal) (v : Fin 4096 → Fin 128 → EReal) (g : Fin 128 → EReal)
    (l : Fin 128) :
    outRow (padRow q) (padTable c) (padTable s) (fun i => keyRow (kn i) (padKey (kr i)) (padTable (c' i)) (padTable (s' i))) v g l
      = attend (fun i => Ideal.div (∑ e : Fin 128, q ⟨e.val, by omega⟩ * kn i e
          + ∑ e : Fin 64, rope (kr i) (c' i) (s' i) e * rope (fun l => q ⟨128 + l.val, by omega⟩) c s e)
            ((Real.sqrt 192 : ℝ) : EReal)) v g l := by
  obtain ⟨ε, hε⟩ := eps_real
  unfold outRow attend
  rw [count_real, hε]
  exact congrArg (· * g l) (Cert.Softmax.row (by norm_num) _ _ (fun i => score_eq q (kn i) (kr i) c s (c' i) (s' i)) v 128 ε (by norm_num) l)
end Cert.MlaIdeal.Val
end
-- ==== Proof.MlaReference.lean ====
module
public import proofs.«01_k».proof.Proof.MlaMath
public import proofs.«01_k».proof.Proof.Gen.MlaRefIdeal.Read
public import Idealize.ShloMosaic.Lib.Pipeline.ValueKit
public import Idealize.ShloMosaic.Lib.Pointwise
public import Idealize.ShloMosaic.Lib.Claim
@[expose] public section
set_option maxRecDepth 16384
noncomputable section
namespace Cert.MlaRefIdeal.Val
open Cert.MlaRefIdeal Cert.MlaRefIdeal.Gen Cert.MlaRefIdeal.Read Idealize.ShloMosaic Idealize.ShloMosaic.TcCoe Idealize.SL.Sem
open scoped BigOperators

open Cert.MlaIdeal.Val (rope attend)

/-- The plain lanes of a head's query. -/
theorem query_plain (x0 : FVec Ideal S6x4096x3072 .bf16) (b : Fin 6) (t : Fin 4096) (h : Fin 16) (e : Fin 128) :
    val_main_v22 (F := Ideal) x0 (ix4 b t h e) = x0 (ix3 b t ⟨h.val * 192 + e.val, by omega⟩) := by
  pointwise [val_main_v22, val_main_v21, val_main_v20]

/-- The lanes of a head's query that are rotated. -/
theorem query_last (x0 : FVec Ideal S6x4096x3072 .bf16) (b : Fin 6) (t : Fin 4096) (h : Fin 16) (e : Fin 64) :
    val_main_v23 (F := Ideal) x0 (ix4 b t h e) = x0 (ix3 b t ⟨h.val * 192 + (128 + e.val), by omega⟩) := by
  pointwise [val_main_v23, val_main_v21, val_main_v20]

/-- The rotated lanes of a head's query. -/
theorem query_turned (x0 : FVec Ideal S6x4096x3072 .bf16) (b : Fin 6) (t : Fin 4096) (h : Fin 16) (e : Fin 64) :
    val_main_v42 (F := Ideal) x0 (ix4 b t h e)
      = rope (fun l => x0 (ix3 b t ⟨h.val * 192 + (128 + l.val), by omega⟩)) (fun f => val_main_v17 (F := Ideal) (ix2 t f))
          (fun f => val_main_v18 (F := Ideal) (ix2 t f)) e := by
  unfold val_main_v42
  pointwise [val_main_v34, val_main_v41, val_main_v30, val_main_v33,val_main_v37, val_main_v40, val_main_v26, val_main_v27, val_main_v29, val_main_v32, val_main_v36, val_main_v39, val_main_v28, val_main_v31, val_main_v35, val_main_v38, val_main_v24, val_main_v25]
  simp only [query_last]
  rfl

/-- The plain lanes of a head's key. -/
theorem key_plain (x1 : FVec Ideal S6x4096x4096 .bf16) (b : Fin 6) (i : Fin 4096) (h : Fin 16) (e : Fin 128) :
    val_main_v45 (F := Ideal) x1 (ix4 b i h e) = x1 (ix3 b i ⟨h.val * 256 + e.val, by omega⟩) := by
  pointwise [val_main_v45, val_main_v44, val_main_v43]

/-- A head's value. -/
theorem value_apply (x1 : FVec Ideal S6x4096x4096 .bf16) (b : Fin 6) (i : Fin 4096) (h : Fin 16) (l : Fin 128) :
    val_main_v46 (F := Ideal) x1 (ix4 b i h l) = x1 (ix3 b i ⟨h.val * 256 + (128 + l.val), by omega⟩) := by
  pointwise [val_main_v46, val_main_v44, val_main_v43]

/-- The rotated lanes of the key, which the heads share. -/
theorem key_turned (x2 : FVec Ideal S6x4096x9792 .f32) (b : Fin 6) (i : Fin 4096) (e : Fin 64) :
    val_main_v63 (F := Ideal) x2 (ix3 b i e)
      = rope (fun l => x2 (ix3 b i ⟨6656 + l.val, by omega⟩)) (fun f => val_main_v17 (F := Ideal) (ix2 i f))
          (fun f => val_main_v18 (F := Ideal) (ix2 i f)) e := by
  unfold val_main_v63
  pointwise [val_main_v55, val_main_v62, val_main_v51, val_main_v54, val_main_v58, val_main_v61, val_main_v47, val_main_v48, val_main_v50, val_main_v53, val_main_v57, val_main_v60, val_main_v49, val_main_v52, val_main_v56, val_main_v59]
  have hz (l : Fin 64) : val_main_v19 (F := Ideal) x2 (ix3 b i l) = x2 (ix3 b i ⟨6656 + l.val, by omega⟩) := by
    pointwise [val_main_v19]
  simp only [hz]
  rfl

/-- The score of a query and a key. -/
def score (x0 : FVec Ideal S6x4096x3072 .bf16) (x1 : FVec Ideal S6x4096x4096 .bf16) (x2 : FVec Ideal S6x4096x9792 .f32)
    (b : Fin 6) (h : Fin 16) (t i : Fin 4096) : EReal :=
  Ideal.div (∑ e : Fin 128, x0 (ix3 b t ⟨h.val * 192 + e.val, by omega⟩) * x1 (ix3 b i ⟨h.val * 256 + e.val, by omega⟩)
      + ∑ e : Fin 64, rope (fun l => x2 (ix3 b i ⟨6656 + l.val, by omega⟩)) (fun f => val_main_v17 (F := Ideal) (ix2 i f))
            (fun f => val_main_v18 (F := Ideal) (ix2 i f)) e
          * rope (fun l => x0 (ix3 b t ⟨h.val * 192 + (128 + l.val), by omega⟩)) (fun f => val_main_v17 (F := Ideal) (ix2 t f))
            (fun f => val_main_v18 (F := Ideal) (ix2 t f)) e) ((Real.sqrt 192 : ℝ) : EReal)

/-- The square root the scores are divided by. -/
theorem root_apply (i : S_.Idx) : val_main_v68 (F := Ideal) i = ((Real.sqrt 192 : ℝ) : EReal) := by
  have h : Ideal.ofBits .f32 0x43400000#32 = ((192 : ℝ) : EReal) := by
    simp [Ideal.ofBits, Ideal.ieee, -EReal.coe_mul]
    norm_num
  show Ideal.sqrt (Ideal.ofBits .f32 0x43400000#32) = _
  rw [h]
  show (((if (192 : ℝ) < 0 then ⊥ else (Real.sqrt 192 : ℝ)) : EReal)) = _
  rw [if_neg (by norm_num)]

/-- The reference's scores. -/
theorem score_apply (x0 : FVec Ideal S6x4096x3072 .bf16) (x1 : FVec Ideal S6x4096x4096 .bf16) (x2 : FVec Ideal S6x4096x9792 .f32)
    (b : Fin 6) (h : Fin 16) (t i : Fin 4096) : val_main_v70 (F := Ideal) x0 x1 x2 (ix4 b h t i) = score x0 x1 x2 b h t i := by
  have h1 : val_main_v64 (F := Ideal) x0 x1 (ix4 b h t i) = ∑ e : Fin 128, val_main_v22 (F := Ideal) x0 (ix4 b t h e) * val_main_v45 (F := Ideal) x1 (ix4 b i h e) := by
    pointwise [val_main_v64]
  have h2 : val_main_v66 (F := Ideal) x0 x2 (ix4 b h t i) = ∑ e : Fin 64, val_main_v63 (F := Ideal) x2 (ix3 b i e) * val_main_v42 (F := Ideal) x0 (ix4 b t h e) := by
    pointwise [val_main_v66, val_main_v65]
  have h3 : val_main_v69 (F := Ideal) (ix4 b h t i) = ((Real.sqrt 192 : ℝ) : EReal) := root_apply _
  show Ideal.div (val_main_v64 (F := Ideal) x0 x1 (ix4 b h t i) + val_main_v66 (F := Ideal) x0 x2 (ix4 b h t i)) (val_main_v69 (F := Ideal) (ix4 b h t i)) = _
  rw [h1, h2, h3]
  simp only [query_plain, key_plain, key_turned, query_turned]
  rfl

/-- The greatest element along the last of four axes. -/
theorem host_max {a b c n : ℕ} (x : FVec Ideal ⟨4, ![a, b, c, n]⟩ .f32)
    (h : (⟨4, ![a, b, c, n]⟩ : Shape).ReducesTo [3] ⟨3, ![a, b, c]⟩) (i : Fin a) (j : Fin b) (k : Fin c) :
    Host.reduce FloatOps.maximumf x (constant S_ .f32 0xFF800000#32) h h_S_ (ix3 i j k)
      = Finset.univ.sup fun l : Fin n => x (ix4 i j k l) := by
  simp only [pointwise]
  rw [Cert.MlaIdeal.Val.ofBits_neg_inf]
  exact Cert.MlaIdeal.Val.fold_max _

/-- The reference's maximum of the scores of a query. -/
theorem row_max (x0 : FVec Ideal S6x4096x3072 .bf16) (x1 : FVec Ideal S6x4096x4096 .bf16) (x2 : FVec Ideal S6x4096x9792 .f32)
    (b : Fin 6) (h : Fin 16) (t : Fin 4096) :
    val_main_v71 (F := Ideal) x0 x1 x2 (ix3 b h t) = Finset.univ.sup (score x0 x1 x2 b h t) := by
  have hs := fun i => score_apply x0 x1 x2 b h t i
  unfold val_main_v71 val_main_cst_5
  generalize val_main_v70 (F := Ideal) x0 x1 x2 = y at hs ⊢
  rw [host_max]
  exact congrArg (Finset.univ.sup) (funext hs)

/-- The greatest score of a query. -/
theorem greatest_apply (x0 : FVec Ideal S6x4096x3072 .bf16) (x1 : FVec Ideal S6x4096x4096 .bf16) (x2 : FVec Ideal S6x4096x9792 .f32)
    (b : Fin 6) (h : Fin 16) (t i : Fin 4096) :
    val_main_v75 (F := Ideal) x0 x1 x2 (ix4 b h t i) = Finset.univ.sup (score x0 x1 x2 b h t) := by
  have h1 : val_main_v75 (F := Ideal) x0 x1 x2 (ix4 b h t i) = val_main_v73 (F := Ideal) x0 x1 x2 (ix3 b h t) := by
    rw [val_main_v75_apply, val_main_v74_apply]
    generalize val_main_v73 (F := Ideal) x0 x1 x2 = y
    refine congrArg y (funext fun a => ?_)
    fin_cases a <;> rfl
  have h2 : val_main_v72 (F := Ideal) (ix3 b h t) = (⊥ : EReal) := by
    rw [val_main_v72_apply]
    exact Cert.MlaIdeal.Val.ofBits_neg_inf
  rw [h1, val_main_v73_apply, h2, row_max]
  exact max_eq_right bot_le

/-- The weight of a key, before the division. -/
theorem weight_apply (x0 : FVec Ideal S6x4096x3072 .bf16) (x1 : FVec Ideal S6x4096x4096 .bf16) (x2 : FVec Ideal S6x4096x9792 .f32)
    (b : Fin 6) (h : Fin 16) (t i : Fin 4096) :
    val_main_v77 (F := Ideal) x0 x1 x2 (ix4 b h t i)
      = Ideal.exp (score x0 x1 x2 b h t i - Finset.univ.sup (score x0 x1 x2 b h t)) := by
  show Ideal.exp (val_main_v70 (F := Ideal) x0 x1 x2 (ix4 b h t i) - val_main_v75 (F := Ideal) x0 x1 x2 (ix4 b h t i)) = _
  rw [score_apply, greatest_apply]

/-- The weight of a key. -/
theorem share_apply (x0 : FVec Ideal S6x4096x3072 .bf16) (x1 : FVec Ideal S6x4096x4096 .bf16) (x2 : FVec Ideal S6x4096x9792 .f32)
    (b : Fin 6) (h : Fin 16) (t i : Fin 4096) :
    val_main_v81 (F := Ideal) x0 x1 x2 (ix4 b h t i)
      = Ideal.div (Ideal.exp (score x0 x1 x2 b h t i - Finset.univ.sup (score x0 x1 x2 b h t)))
          (∑ i, Ideal.exp (score x0 x1 x2 b h t i - Finset.univ.sup (score x0 x1 x2 b h t))) := by
  have h1 : val_main_v80 (F := Ideal) x0 x1 x2 (ix4 b h t i) = ∑ i : Fin 4096, val_main_v77 (F := Ideal) x0 x1 x2 (ix4 b h t i) := by
    pointwise [val_main_v80, val_main_v79, val_main_v78, val_main_cst_7]
  show Ideal.div (val_main_v77 (F := Ideal) x0 x1 x2 (ix4 b h t i)) (val_main_v80 (F := Ideal) x0 x1 x2 (ix4 b h t i)) = _
  rw [h1]
  simp only [weight_apply]

/-- The reference's result: the attention of a query's scores, normalised, times the gain. -/
theorem result_apply (x0 : FVec Ideal S6x4096x3072 .bf16) (x1 : FVec Ideal S6x4096x4096 .bf16) (x2 : FVec Ideal S6x4096x9792 .f32)
    (x3 : FVec Ideal S16x128 .f32) (n : Fin 24576) (j : Fin 2048) (b : Fin 6) (t : Fin 4096) (h : Fin 16) (l : Fin 128)
    (hn : n.val = b.val * 4096 + t.val) (hj : j.val = h.val * 128 + l.val) :
    val_main_v98 (F := Ideal) x0 x1 x2 x3 (ix2 n j)
      = attend (score x0 x1 x2 b h t) (fun i l => x1 (ix3 b i ⟨h.val * 256 + (128 + l.val), by omega⟩)) (fun l => x3 (ix2 h l)) l := by
  have h0 : val_main_v98 (F := Ideal) x0 x1 x2 x3 (ix2 n j) = val_main_v96 (F := Ideal) x0 x1 x2 x3 (ix4 b t h l) := by
    have hb : b = ⟨n.val / 4096, by omega⟩ := Fin.ext (by show b.val = n.val / 4096; omega)
    have ht : t = ⟨n.val % 4096, by omega⟩ := Fin.ext (by show t.val = n.val % 4096; omega)
    have hh : h = ⟨j.val / 128, by omega⟩ := Fin.ext (by show h.val = j.val / 128; omega)
    have hl : l = ⟨j.val % 128, by omega⟩ := Fin.ext (by show l.val = j.val % 128; omega)
    have h2 : val_main_v98 (F := Ideal) x0 x1 x2 x3 (ix2 n j)
        = val_main_v96 (F := Ideal) x0 x1 x2 x3 (ix4 ⟨n.val / 4096, by omega⟩ ⟨n.val % 4096, by omega⟩ ⟨j.val / 128, by omega⟩ ⟨j.val % 128, by omega⟩) := by
      pointwise [val_main_v98, val_main_v97]
    rw [h2, ← hb, ← ht, ← hh, ← hl]
  have h1 (l : Fin 128) : val_main_v83 (F := Ideal) x0 x1 x2 (ix4 b t h l)
      = ∑ i : Fin 4096, val_main_v46 (F := Ideal) x1 (ix4 b i h l) * val_main_v81 (F := Ideal) x0 x1 x2 (ix4 b h t i) := by
    pointwise [val_main_v83, val_main_v82]
  rw [h0]
  pointwise [val_main_v96, val_main_v95, val_main_v94, val_main_v93, val_main_v92, val_main_v91, val_main_v90, val_main_v89, val_main_v88, val_main_v87, val_main_v86, val_main_v85, val_main_v84, val_main_cst_8, val_main_cst_9, val_main_cst_10]
  simp only [h1, value_apply, share_apply]
  rfl
end Cert.MlaRefIdeal.Val
end
-- ==== Proof.MlaPoints.lean ====
module
public import proofs.«01_k».proof.Proof.Gen.MlaIdeal.Value
public import Idealize.ShloMosaic.Lib.Pipeline.ValueKit
public import Idealize.ShloMosaic.Lib.Pointwise
public import Idealize.ShloMosaic.Lib.Claim
public import proofs.«01_k».proof.Proof.MlaBlocks
public import proofs.«01_k».proof.Proof.MlaReference
@[expose] public section
set_option maxRecDepth 16384
noncomputable section
namespace Cert.MlaIdeal.Val
open Cert.MlaIdeal Cert.MlaIdeal.Gen Idealize.ShloMosaic Idealize.ShloMosaic.TcCoe Idealize.SL.Sem
open scoped BigOperators
variable (m : (ℓ : Loc nD τ sig) → Buf (Elt Ideal) ℓ)

/-- The number of points. -/
theorem count_points : cfg0.N = 384 := by decide
/-- A point's batch. -/
def batch (t : Fin cfg0.N) : Fin 6 := ⟨t.val / 64, by have := lt_of_lt_of_eq t.isLt count_points; omega⟩
/-- A point's head. -/
def head (t : Fin cfg0.N) : Fin 16 := ⟨t.val / 4 % 16, by omega⟩
/-- The position of a row of a point's query tile. -/
def pos (t : Fin cfg0.N) (r : Fin 1024) : Fin 4096 := ⟨1024 * (t.val % 4) + r.val, by omega⟩

/-- A point's query block. -/
theorem block_query (c : Dev nD) (t : Fin cfg0.N) (r : Fin 1024) (e : Fin 256) :
    (iblk m c 0 t : Vec Ideal S1024x256 .bf16) (ix2 r e)
      = padRow (fun l => argQ m c (ix3 (batch t) (pos t r) ⟨(head t).val * 192 + l.val, by omega⟩)) e := by
  have hN := lt_of_lt_of_eq t.isLt count_points
  refine (raw0 m c t r e ⟨1024 * (4 * (t.val / 64) + t.val % 4) + r, by omega⟩ ⟨256 * (t.val / 4 % 16) + e, by omega⟩ rfl rfl).trans ?_
  rw [query0]
  have e1 : (256 * (t.val / 4 % 16) + e.val) % 256 = e.val := by omega
  have e2 : (256 * (t.val / 4 % 16) + e.val) / 256 = t.val / 4 % 16 := by omega
  have e3 : (1024 * (4 * (t.val / 64) + t.val % 4) + r.val) / 4096 = t.val / 64 := by omega
  have e4 : (1024 * (4 * (t.val / 64) + t.val % 4) + r.val) % 4096 = 1024 * (t.val % 4) + r.val := by omega
  simp only [e1, e2, e3, e4]
  rfl

/-- A point's block of plain keys. -/
theorem block_key (c : Dev nD) (t : Fin cfg0.N) (i : Fin 4096) (e : Fin 128) :
    (iblk m c 1 t : Vec Ideal S4096x128 .bf16) (ix2 i e) = argKV m c (ix3 (batch t) i ⟨(head t).val * 256 + e.val, by omega⟩) := by
  have hN := lt_of_lt_of_eq t.isLt count_points
  refine (raw1 m c t i e ⟨4096 * (t.val / 64) + i, by omega⟩ ⟨128 * (t.val / 4 % 16) + e, by omega⟩ rfl rfl).trans ?_
  rw [keyvalue_apply]
  refine congrArg (argKV m c) ?_
  refine congr (congrArg₂ _ (Fin.ext ?_) (Fin.ext ?_)) (Fin.ext ?_)
  · show (4096 * (t.val / 64) + i.val) / 4096 = t.val / 64; omega
  · show (4096 * (t.val / 64) + i.val) % 4096 = i.val; omega
  · show (128 * (t.val / 4 % 16) + e.val) / 128 % 16 * 256 + (128 * (t.val / 4 % 16) + e.val) / 2048 * 128 + (128 * (t.val / 4 % 16) + e.val) % 128
      = t.val / 4 % 16 * 256 + e.val
    omega

/-- A point's block of values. -/
theorem block_value (c : Dev nD) (t : Fin cfg0.N) (i : Fin 4096) (e : Fin 128) :
    (iblk m c 2 t : Vec Ideal S4096x128 .bf16) (ix2 i e) = argKV m c (ix3 (batch t) i ⟨(head t).val * 256 + (128 + e.val), by omega⟩) := by
  have hN := lt_of_lt_of_eq t.isLt count_points
  refine (raw2 m c t i e ⟨4096 * (t.val / 64) + i, by omega⟩ ⟨128 * (16 + t.val / 4 % 16) + e, by omega⟩ rfl rfl).trans ?_
  rw [keyvalue_apply]
  refine congrArg (argKV m c) ?_
  refine congr (congrArg₂ _ (Fin.ext ?_) (Fin.ext ?_)) (Fin.ext ?_)
  · show (4096 * (t.val / 64) + i.val) / 4096 = t.val / 64; omega
  · show (4096 * (t.val / 64) + i.val) % 4096 = i.val; omega
  · show (128 * (16 + t.val / 4 % 16) + e.val) / 128 % 16 * 256 + (128 * (16 + t.val / 4 % 16) + e.val) / 2048 * 128 + (128 * (16 + t.val / 4 % 16) + e.val) % 128
      = t.val / 4 % 16 * 256 + (128 + e.val)
    omega

/-- A point's block of rotary keys. -/
theorem block_rotary (c : Dev nD) (t : Fin cfg0.N) (i : Fin 4096) (e : Fin 128) :
    (iblk m c 3 t : Vec Ideal S4096x128 .f32) (ix2 i e)
      = padKey (fun l => argZ m c (ix3 (batch t) i ⟨6656 + l.val, by omega⟩)) e := by
  have hN := lt_of_lt_of_eq t.isLt count_points
  refine (raw3 m c t i e ⟨4096 * (t.val / 64) + i, by omega⟩ ⟨6656 + e, by omega⟩ rfl rfl).trans ?_
  rw [latent_apply m c _ _ e rfl]
  have e3 : (4096 * (t.val / 64) + i.val) / 4096 = t.val / 64 := by omega
  have e4 : (4096 * (t.val / 64) + i.val) % 4096 = i.val := by omega
  simp only [e3, e4]
  unfold padKey
  split
  · rfl
  · rfl

/-- A point's cosines for its queries. -/
theorem block_cos_query (c : Dev nD) (t : Fin cfg0.N) (r : Fin 1024) (e : Fin 128) :
    (iblk m c 4 t : Vec Ideal S1024x128 .f32) (ix2 r e) = padTable (cosAt (pos t r)) e :=
  (raw4 m c t r e (pos t r) rfl).trans (cosine_table_apply m c _ e)
/-- A point's sines for its queries. -/
theorem block_sin_query (c : Dev nD) (t : Fin cfg0.N) (r : Fin 1024) (e : Fin 128) :
    (iblk m c 5 t : Vec Ideal S1024x128 .f32) (ix2 r e) = padTable (sinAt (pos t r)) e :=
  (raw5 m c t r e (pos t r) rfl).trans (sine_table_apply m c _ e)
/-- A point's cosines for its keys. -/
theorem block_cos_key (c : Dev nD) (t : Fin cfg0.N) (i : Fin 4096) (e : Fin 128) :
    (iblk m c 6 t : Vec Ideal S4096x128 .f32) (ix2 i e) = padTable (cosAt i) e :=
  (raw6 m c t i e).trans (cosine_table_apply m c _ e)
/-- A point's sines for its keys. -/
theorem block_sin_key (c : Dev nD) (t : Fin cfg0.N) (i : Fin 4096) (e : Fin 128) :
    (iblk m c 7 t : Vec Ideal S4096x128 .f32) (ix2 i e) = padTable (sinAt i) e :=
  (raw7 m c t i e).trans (sine_table_apply m c _ e)
/-- A point's gains. -/
theorem block_gain (c : Dev nD) (t : Fin cfg0.N) (e : Fin 128) :
    (iblk m c 8 t : Vec Ideal S1x128 .f32) (ix2 0 e) = argG m c (ix2 (head t) e) := by
  refine (raw8 m c t e ⟨128 * (t.val / 4 % 16) + e, by omega⟩ rfl).trans ?_
  rw [gain_apply]
  refine congrArg (argG m c) ?_
  refine congrArg₂ _ (Fin.ext ?_) (Fin.ext ?_)
  · show (128 * (t.val / 4 % 16) + e.val) / 128 = t.val / 4 % 16; omega
  · show (128 * (t.val / 4 % 16) + e.val) % 128 = e.val; omega

/-- The keys of a batch and a head, as the scratch holds them. -/
def keysOf (c : Dev nD) (b : Fin 6) (h : Fin 16) : Vec Ideal S4096x256 .bf16 := fun y =>
  keyRow (fun l => argKV m c (ix3 b (y 0) ⟨h.val * 256 + l.val, by omega⟩)) (padKey fun l => argZ m c (ix3 b (y 0) ⟨6656 + l.val, by omega⟩))
    (padTable (cosAt (y 0))) (padTable (sinAt (y 0))) (y 1)
/-- The values of a batch and a head, as the scratch holds them: beside ones. -/
def valsOf (c : Dev nD) (b : Fin 6) (h : Fin 16) : Vec Ideal S4096x256 .bf16 :=
  vals fun y => argKV m c (ix3 b (y 0) ⟨h.val * 256 + (128 + (y 1).val), by have h1 : (y 1).val < 128 := (y 1).isLt; omega⟩)

/-- What a tile's first point gathers in the key scratch. -/
theorem keys_block (c : Dev nD) (t : Fin cfg0.N) :
    keys (iblk m c 1 t) (iblk m c 3 t) (iblk m c 6 t) (iblk m c 7 t) = keysOf m c (batch t) (head t) := by
  funext y
  unfold keys keysOf
  have h1 := fun l => block_key m c t (y 0) l
  have h3 := fun l => block_rotary m c t (y 0) l
  have h6 := fun l => block_cos_key m c t (y 0) l
  have h7 := fun l => block_sin_key m c t (y 0) l
  rw [funext h1, funext h3, funext h6, funext h7]

/-- What a tile's first point gathers in the value scratch. -/
theorem vals_block (c : Dev nD) (t : Fin cfg0.N) : vals (iblk m c 2 t) = valsOf m c (batch t) (head t) := by
  unfold valsOf
  refine congrArg vals (funext fun y => ?_)
  obtain ⟨a, b, rfl⟩ : ∃ (a : Fin 4096) (b : Fin 128), y = ix2 a b := ⟨y 0, y 1, by funext k; fin_cases k <;> rfl⟩
  exact block_value m c t a b

/-- The scratch after every point: the keys and the values of the point's batch and head. -/
theorem scratch (c : Dev nD) : ∀ (n : ℕ) (hn : n < cfg0.N),
    (outsAt0 m c n hn).2.1 = keysOf m c (batch ⟨n, hn⟩) (head ⟨n, hn⟩) ∧ (outsAt0 m c n hn).2.2 = valsOf m c (batch ⟨n, hn⟩) (head ⟨n, hn⟩) := by
  intro n
  induction n with
  | zero =>
    intro hn
    have h := outsAt0_A m c ⟨0, hn⟩ rfl
    exact ⟨(congrArg (fun p => p.2.1) h).trans ((first_keys ..).trans (keys_block m c _)),
      (congrArg (fun p => p.2.2) h).trans ((first_vals ..).trans (vals_block m c _))⟩
  | succ n ih =>
    intro hn
    by_cases h0 : (n + 1) % 4 = 0
    · have h := outsAt0_A m c ⟨n + 1, hn⟩ h0
      exact ⟨(congrArg (fun p => p.2.1) h).trans ((first_keys ..).trans (keys_block m c _)),
        (congrArg (fun p => p.2.2) h).trans ((first_vals ..).trans (vals_block m c _))⟩
    · have h := outsAt0_B m c ⟨n + 1, hn⟩ h0
      have hb : batch ⟨n + 1, hn⟩ = batch ⟨n, Nat.lt_of_succ_lt hn⟩ := Fin.ext (by show (n + 1) / 64 = n / 64; omega)
      have hh : head ⟨n + 1, hn⟩ = head ⟨n, Nat.lt_of_succ_lt hn⟩ := Fin.ext (by show (n + 1) / 4 % 16 = n / 4 % 16; omega)
      rw [hb, hh]
      exact ⟨(congrArg (fun p => p.2.1) h).trans (ih _).1, (congrArg (fun p => p.2.2) h).trans (ih _).2⟩

/-- What a point leaves in its output block. -/
theorem block_out (c : Dev nD) (t : Fin cfg0.N) :
    (outsAt0 m c t.val t.isLt).1
      = tileOut (iblk m c 0 t) (iblk m c 4 t) (iblk m c 5 t) (keysOf m c (batch t) (head t)) (valsOf m c (batch t) (head t)) (iblk m c 8 t) := by
  by_cases h0 : t.val % 4 = 0
  · have h := congrArg Prod.fst (outsAt0_A m c t h0)
    dsimp only at h
    rw [h, out_A, keys_block, vals_block]
  · have hn : t.val - 1 < cfg0.N := Nat.lt_of_le_of_lt (Nat.sub_le _ _) t.isLt
    have hs := scratch m c (t.val - 1) hn
    have hb : batch ⟨t.val - 1, hn⟩ = batch t := Fin.ext (by show (t.val - 1) / 64 = t.val / 64; omega)
    have hh : head ⟨t.val - 1, hn⟩ = head t := Fin.ext (by show (t.val - 1) / 4 % 16 = t.val / 4 % 16; omega)
    rw [hb, hh] at hs
    have h := congrArg Prod.fst (outsAt0_B m c t h0)
    dsimp only at h
    rw [h, out_B (hv := ?_)]
    rotate_left
    · intro i l
      rw [hs.2]
      exact vals_one _ i l
    · rw [hs.1, hs.2]

/-- An entry of a point's output block. -/
theorem entry_out (c : Dev nD) (t : Fin cfg0.N) (r : Fin 1024) (l : Fin 128) :
    (outsAt0 m c t.val t.isLt).1 (ix2 r l)
      = attend (Cert.MlaRefIdeal.Val.score (argQ m c) (argKV m c) (argZ m c) (batch t) (head t) (pos t r))
          (fun i l => argKV m c (ix3 (batch t) i ⟨(head t).val * 256 + (128 + l.val), by omega⟩)) (fun l => argG m c (ix2 (head t) l)) l := by
  rw [block_out]
  unfold tileOut
  have h0 := fun e => block_query m c t r e
  have h4 := fun e => block_cos_query m c t r e
  have h5 := fun e => block_sin_query m c t r e
  have h8 := fun e => block_gain m c t e
  have hv : ∀ (i : Fin 4096) (l : Fin 128), valsOf m c (batch t) (head t) (ix2 i ⟨l, by omega⟩)
      = argKV m c (ix3 (batch t) i ⟨(head t).val * 256 + (128 + l.val), by omega⟩) := fun i l => dif_pos l.isLt
  show outRow (fun e => iblk m c 0 t (ix2 r e)) (fun e => iblk m c 4 t (ix2 r e)) (fun e => iblk m c 5 t (ix2 r e))
    (fun i e => keysOf m c (batch t) (head t) (ix2 i e)) (fun i l => valsOf m c (batch t) (head t) (ix2 i ⟨l, by omega⟩)) (fun l => iblk m c 8 t (ix2 0 l)) l = _
  rw [funext h0, funext h4, funext h5, funext h8, funext₂ hv]
  exact outRow_eq _ (fun i e => argKV m c (ix3 (batch t) i ⟨(head t).val * 256 + e.val, by omega⟩)) (fun i l => argZ m c (ix3 (batch t) i ⟨6656 + l.val, by omega⟩)) _ _ (fun i => cosAt i) (fun i => sinAt i) _ _ _

set_option maxHeartbeats 1600000 in
/-- The launch's output is the reference's. -/
theorem final (c : Dev nD) : (dats m 0 c).arrAt 9 cfg0.N
    = Cert.MlaRefIdeal.Read.val_main_v98 (F := Ideal) (argQ m c) (argKV m c) (argZ m c) (argG m c) := by
  refine (dats m 0 c).arrAt_eq_of_covers 9 _ (by decide +kernel) fun t hf y => ?_
  blk_simp
  rw [after0_9]
  obtain ⟨r, l, rfl⟩ : ∃ (r : Fin 1024) (l : Fin 128), y = ix2 r l := ⟨y 0, y 1, by funext k; fin_cases k <;> rfl⟩
  have hN := lt_of_lt_of_eq t.isLt count_points
  have hr := r.isLt
  have hl := l.isLt
  have hi := (place t).2.2.2.2.2.2.2.2.2
  have hrow : (4 * (t.val / 64) + t.val % 4) * 1024 + r.val < 24576 := by omega
  have hcol : t.val / 4 % 16 * 128 + l.val < 2048 := by omega
  refine (entry_out m c t r l).trans ?_
  refine ((congrArg (Cert.MlaRefIdeal.Read.val_main_v98 (F := Ideal) (argQ m c) (argKV m c) (argZ m c) (argG m c)) (?_ : _ = ix2 ⟨_, hrow⟩ ⟨_, hcol⟩)).trans
    (Cert.MlaRefIdeal.Val.result_apply _ _ _ _ _ _ (batch t) (pos t r) (head t) l ?_ ?_)).symm
  · funext k
    fin_cases k
    · refine Fin.ext ?_
      blk_simp [hi]
      rfl
    · refine Fin.ext ?_
      blk_simp [hi]
      rfl
  · show (4 * (t.val / 64) + t.val % 4) * 1024 + r.val = t.val / 64 * 4096 + (1024 * (t.val % 4) + r.val)
    omega
  · rfl
end Cert.MlaIdeal.Val
end
-- ==== Proof.MlaClaim.lean ====
/- The claims about the attention: its frames, the named constant, and its value. -/
module

public import proofs.«01_k».proof.Defs
public import proofs.«01_k».proof.Proof.Gen.Mla.Frame
public import proofs.«01_k».proof.Proof.MlaPoints
public import proofs.«01_k».proof.Proof.Gen.MlaRefIdeal.Run
public import proofs.«01_k».proof.Proof.Gen.MlaRefIdeal.Read
public import Idealize.ShloMosaic.Adequacy
public import Idealize.ShloMosaic.Init
public import Idealize.ShloMosaic.Lib.Claim

@[expose] public section

noncomputable section

namespace Cert.Proof.MlaClaims

open Idealize.ShloMosaic Idealize.ShloMosaic.TcCoe Idealize.SL.Sem

/-- The attention runs, leaves its arguments as they were, and ends with every counter at zero. -/
theorem frame_p : Cert.quiescent_Mla := fun m g _ => Cert.Mla.Gen.frame m g
/-- So does its idealization. -/
theorem frame_pi : Cert.quiescent_MlaIdeal := fun m g _ => Cert.MlaIdeal.Gen.frame m g
/-- So does the reference. -/
theorem frame_ri : Cert.quiescent_MlaRefIdeal := fun m g _ =>
  (θ_run Cert.MlaRefIdeal.defs _ _).mono (fun r h => ⟨fun c => (h c).2, sem_eq_zero_of_no_sems (by decide) r.2⟩)
    (Cert.MlaRefIdeal.Value.run (F := Ideal) m g)

/-- The idealization names one constant, the scale of the scores times the base-two logarithm of e. -/
theorem preserves : Cert.preserves_Mla_MlaIdeal :=
  IdealRules.named_const.statement Cert.MlaIdeal.κ "scale_log2e" .f32 0x3DD53B95#32 (((Real.sqrt 192)⁻¹ * (Real.log 2)⁻¹ : ℝ) : EReal) rfl

/-- From equal arguments the attention and the reference end with equal results. -/
theorem algebraic : Cert.algebraic_MlaIdeal_MlaRefIdeal := by
  intro m g m' g' _ hagree
  refine ⟨_, Cert.MlaIdeal.Value.run_blocks (F := Ideal) m g, ?_⟩
  refine (θ_run Cert.MlaRefIdeal.defs _ _).mono (fun _ h c => ⟨(h c).1.trans ?_, (h c).2⟩)
    (Cert.MlaRefIdeal.Value.run (F := Ideal) m' g')
  obtain ⟨h0, h1, h2, h3⟩ := hagree c
  refine (Cert.MlaRefIdeal.Read.val_main_v98_eq (F := Ideal) _).trans ?_
  rw [StableHlo.launchContents_devRef, StableHlo.launchContents_devRef, StableHlo.launchContents_devRef, StableHlo.launchContents_devRef]
  rw [h0, h1, h2, h3]
  exact (Cert.MlaIdeal.Val.final m c).symm

end Cert.Proof.MlaClaims

end
-- ==== Proof.InProjInputs.lean ====
/- What the input projection's launch is given, what its payloads compute, and what its reference's columns are. -/
module

public import proofs.«01_k».proof.Proof.Gen.InProjIdeal.Value
public import proofs.«01_k».proof.Proof.Gen.InProjRefIdeal.Read
public import proofs.«01_k».proof.Proof.Softmax
public import Idealize.ShloMosaic.Lib.Pipeline.ValueKit
public import Idealize.ShloMosaic.Lib.Pointwise
public import Idealize.ShloMosaic.Lib.Claim
public import Idealize.ShloMosaic.Lib.StableHlo.RunRead
public import Idealize.ShloMosaic.Lib.KernelVsHost

@[expose] public section

set_option maxRecDepth 16384

noncomputable section

namespace Cert.InProjIdeal.Val

open Cert.InProjIdeal Cert.InProjIdeal.Gen Idealize.ShloMosaic Idealize.ShloMosaic.TcCoe Idealize.SL.Sem
open scoped BigOperators

/-- A row divided by its root mean square, times the gains. -/
abbrev normed (x g : Fin 4096 → EReal) (e : Fin 4096) : EReal :=
  Cert.Softmax.rms x (Ideal.ofBits .f32 0x45800000#32) (Ideal.ofBits .f32 0x358637BD#32) e * g e

/-- What a row of points' first point keeps of its rows. -/
theorem norm_apply (x : Vec Ideal S512x4096 .f32) (g : Vec Ideal S1x4096 .f32) (r : Fin 512) (e : Fin 4096) :
    k0_pay1 (F := Ideal) x g (ix2 r e) = normed (fun k => x (ix2 r k)) (fun k => g (ix2 0 k)) e := by
  pointwise [k0_pay1, normed, Cert.Softmax.rms]

/-- What a point stores: the kept rows times its columns. -/
theorem product_apply (s : Vec Ideal S512x4096 .bf16) (w : Vec Ideal S4096x768 .bf16) (r : Fin 512) (l : Fin 768) :
    k0_pay2 (F := Ideal) s w (ix2 r l) = ∑ e : Fin 4096, s (ix2 r e) * w (ix2 e l) := by
  pointwise [k0_pay2]

/-- A column of the padded weights, by columns of the weights: 6720 of them, 64 zeros, the other 3072, 128 zeros. -/
def padCol (w : Fin 9792 → EReal) (j : Fin 9984) : EReal :=
  if h1 : j.val < 6720 then w ⟨j.val, by omega⟩ else if j.val - 6720 < 64 then 0
    else if h3 : j.val - 6720 - 64 < 3072 then w ⟨6720 + (j.val - 6720 - 64), by omega⟩ else 0

/-- Four blocks of 6720, 64, 3072 and 128 columns, side by side, of `n` rows: an entry. -/
theorem beside_apply {n : ℕ} (a : FVec Ideal ⟨2, ![n, 6720]⟩ .f32) (b : FVec Ideal ⟨2, ![n, 64]⟩ .f32) (d : FVec Ideal ⟨2, ![n, 3072]⟩ .f32)
    (z : FVec Ideal ⟨2, ![n, 128]⟩ .f32) (h : Shape.Concatenates [⟨2, ![n, 6720]⟩, ⟨2, ![n, 64]⟩, ⟨2, ![n, 3072]⟩, ⟨2, ![n, 128]⟩] ⟨2, ![n, 9984]⟩ 1) (i : Fin n) (j : Fin 9984) :
    concatenate (α := EReal) ⟨2, ![n, 9984]⟩ 1 [⟨⟨2, ![n, 6720]⟩, a⟩, ⟨⟨2, ![n, 64]⟩, b⟩, ⟨⟨2, ![n, 3072]⟩, d⟩, ⟨⟨2, ![n, 128]⟩, z⟩] h (ix2 i j)
      = if h1 : j.val < 6720 then a (ix2 i ⟨j.val, h1⟩) else if h2 : j.val - 6720 < 64 then b (ix2 i ⟨j.val - 6720, h2⟩)
        else if h3 : j.val - 6720 - 64 < 3072 then d (ix2 i ⟨j.val - 6720 - 64, h3⟩) else z (ix2 i ⟨j.val - 6720 - 64 - 3072, by omega⟩) := by
  pointwise
  split_ifs
  · exact congrArg a (funext fun k => by fin_cases k <;> rfl)
  · exact congrArg b (funext fun k => by fin_cases k <;> rfl)
  · exact congrArg d (funext fun k => by fin_cases k <;> rfl)
  · exact congrArg z (funext fun k => by fin_cases k <;> rfl)

variable (m : (ℓ : Loc nD τ sig) → Buf (Elt Ideal) ℓ)

/-- The rows, as the launch reads them. -/
abbrev argX (c : Dev nD) : FVec Ideal S24576x4096 .f32 := m (c, Proc.tc.devRef main_arg0)
/-- The gains. -/
abbrev argG (c : Dev nD) : FVec Ideal S4096 .f32 := m (c, Proc.tc.devRef main_arg1)
/-- The weights. -/
abbrev argW (c : Dev nD) : FVec Ideal S4096x9792 .f32 := m (c, Proc.tc.devRef main_arg2)

/-- The four blocks of the launch's weights, side by side. -/
def beside (a : FVec Ideal S4096x6720 .f32) (b : FVec Ideal S4096x64 .f32) (d : FVec Ideal S4096x3072 .f32) (z : FVec Ideal S4096x128 .f32) : FVec Ideal S4096x9984 .f32 :=
  concatenate S4096x9984 1 [⟨S4096x6720, a⟩, ⟨S4096x64, b⟩, ⟨S4096x3072, d⟩, ⟨S4096x128, z⟩] concatenates_S4096x6720_S4096x64_S4096x3072_S4096x128_S4096x9984_d1

/-- The launch's weights are the weights' two parts, each beside columns of zeros. -/
theorem weights_padded (c : Dev nD) :
    (V m c main_v5 : S4096x9984.Idx → EReal) = beside (extractStridedSlice S4096x6720 ![0, 0] (argW m c) slices_S4096x9792_S4096x6720_0_0)
      (broadcastInDim S4096x64 ![] bcast_S_S4096x64 (constant (F := Ideal) S_ .f32 0#32))
      (extractStridedSlice S4096x3072 ![0, 6720] (argW m c) slices_S4096x9792_S4096x3072_0_6720)
      (broadcastInDim S4096x128 ![] bcast_S_S4096x128 (constant (F := Ideal) S_ .f32 0#32)) := by
  have h1 : StableHlo.upto [hostOps0 (F := Ideal)].flatten (fun b => m (c, b)) 6 (Proc.devRef .tc main_v0) = extractStridedSlice S4096x6720 ![0, 0] (argW m c) slices_S4096x9792_S4096x6720_0_0 := by
    after_reads_simp
  have h2 : StableHlo.upto [hostOps0 (F := Ideal)].flatten (fun b => m (c, b)) 6 (Proc.devRef .tc main_v1) = broadcastInDim S4096x64 ![] bcast_S_S4096x64 (constant (F := Ideal) S_ .f32 0#32) := by
    after_reads_simp
  have h3 : StableHlo.upto [hostOps0 (F := Ideal)].flatten (fun b => m (c, b)) 6 (Proc.devRef .tc main_v2) = extractStridedSlice S4096x3072 ![0, 6720] (argW m c) slices_S4096x9792_S4096x3072_0_6720 := by
    after_reads_simp
  have h4 : StableHlo.upto [hostOps0 (F := Ideal)].flatten (fun b => m (c, b)) 6 (Proc.devRef .tc main_v3) = broadcastInDim S4096x128 ![] bcast_S_S4096x128 (constant (F := Ideal) S_ .f32 0#32) := by
    after_reads_simp
  generalize extractStridedSlice S4096x6720 ![0, 0] (argW m c) slices_S4096x9792_S4096x6720_0_0 = x at h1 ⊢
  generalize (broadcastInDim S4096x64 ![] bcast_S_S4096x64 (constant (F := Ideal) S_ .f32 0#32)) = y at h2 ⊢
  generalize extractStridedSlice S4096x3072 ![0, 6720] (argW m c) slices_S4096x9792_S4096x3072_0_6720 = z at h3 ⊢
  generalize (broadcastInDim S4096x128 ![] bcast_S_S4096x128 (constant (F := Ideal) S_ .f32 0#32)) = w at h4 ⊢
  simp only [V]
  after_reads_simp
  exact (congrArg₂ (fun a b => beside a b _ _) h1 h2).trans (congrArg₂ (beside x y) h3 h4)

/-- An entry of the launch's weights. -/
theorem weights_apply (c : Dev nD) (e : Fin 4096) (j : Fin 9984) :
    (V m c main_v5 : S4096x9984.Idx → EReal) (ix2 e j) = padCol (fun k => argW m c (ix2 e k)) j := by
  rw [weights_padded]
  refine (beside_apply (n := 4096) _ _ _ _ _ e j).trans ?_
  unfold padCol
  generalize argW m c = w
  split_ifs <;> pointwise

/-- An entry of the launch's gains. -/
theorem gain_apply (c : Dev nD) (e : Fin 4096) : (V m c main_v6 : S1x4096.Idx → EReal) (ix2 0 e) = argG m c (ix1 e) := by
  simp only [V]
  after_reads_simp
  pointwise

open Cert.InProjRefIdeal.Read in
/-- An entry of the reference's normalised rows. -/
theorem reference_norm (x : FVec Ideal S24576x4096 .f32) (g : FVec Ideal S4096 .f32) (n : Fin 24576) (e : Fin 4096) :
    val_main_v12 (F := Ideal) x g (ix2 n e) = normed (fun k => x (ix2 n k)) (fun k => g (ix1 k)) e := by
  pointwise [val_main_v12, val_main_v11, val_main_v10, val_main_v9, val_main_v8, val_main_v7, val_main_v6, val_main_v5, val_main_v4, val_main_v3, val_main_v2, val_main_v1,
    val_main_v0, val_main_cst, val_main_cst_0, val_main_cst_1, normed, Cert.Softmax.rms]

open Cert.InProjRefIdeal.Read in
/-- An entry of the reference's result: the normalised row times the padded weights' column. -/
theorem reference_apply (x : FVec Ideal S24576x4096 .f32) (g : FVec Ideal S4096 .f32) (w : FVec Ideal S4096x9792 .f32) (n : Fin 24576) (j : Fin 9984) :
    val_main_v18 (F := Ideal) x g w (ix2 n j)
      = ∑ e : Fin 4096, normed (fun k => x (ix2 n k)) (fun k => g (ix1 k)) e * padCol (fun k => w (ix2 e k)) j := by
  have hd : ∀ k : Fin 9792, val_main_v13 (F := Ideal) x g w (ix2 n k)
      = ∑ e : Fin 4096, normed (fun k => x (ix2 n k)) (fun k => g (ix1 k)) e * w (ix2 e k) := by
    intro k
    rw [val_main_v13_apply]
    refine Finset.sum_congr rfl fun e _ => congrArg₂ (· * ·) ((congrArg _ ?_).trans (reference_norm x g n e)) (congrArg w ?_)
    · funext a; fin_cases a <;> rfl
    · funext a; fin_cases a <;> rfl
  refine (beside_apply (n := 24576) _ _ _ _ _ n j).trans ?_
  unfold padCol
  split_ifs with h1 h2 h3
  · refine Eq.trans ?_ (hd _)
    show val_main_v14 (F := Ideal) x g w _ = _
    unfold val_main_v14
    generalize val_main_v13 (F := Ideal) x g w = v
    pointwise
  · refine Eq.trans ?_ (Finset.sum_eq_zero fun e _ => mul_zero _).symm
    show val_main_v15 (F := Ideal) _ = _
    pointwise [val_main_v15, val_main_cst_2]
  · refine Eq.trans ?_ (hd _)
    show val_main_v16 (F := Ideal) x g w _ = _
    unfold val_main_v16
    generalize val_main_v13 (F := Ideal) x g w = v
    pointwise
  · refine Eq.trans ?_ (Finset.sum_eq_zero fun e _ => mul_zero _).symm
    show val_main_v17 (F := Ideal) _ = _
    pointwise [val_main_v17, val_main_cst_3]

end Cert.InProjIdeal.Val

end
-- ==== Proof.InProjPoints.lean ====
/- What each point of the input projection leaves in its output block. -/
module

public import proofs.«01_k».proof.Proof.Gen.InProjIdeal.Value
public import proofs.«01_k».proof.Proof.Gen.InProjRefIdeal.Read
public import proofs.«01_k».proof.Proof.Softmax
public import Idealize.ShloMosaic.Lib.Pipeline.ValueKit
public import Idealize.ShloMosaic.Lib.Pointwise
public import Idealize.ShloMosaic.Lib.Claim
public import proofs.«01_k».proof.Proof.InProjInputs
public import Idealize.ShloMosaic.Lib.KernelVsHost

@[expose] public section

set_option maxRecDepth 16384

noncomputable section

namespace Cert.InProjIdeal.Val

open Cert.InProjIdeal Cert.InProjIdeal.Gen Idealize.ShloMosaic Idealize.ShloMosaic.TcCoe Idealize.SL.Sem
open scoped BigOperators

variable (m : (ℓ : Loc nD τ sig) → Buf (Elt Ideal) ℓ)

set_option maxHeartbeats 1600000 in
/-- Where each point's blocks lie. -/
theorem place : ∀ t : Fin cfg0.N,
    win0_0.index t = ![0, 0] ∧ win0_1.index t = ![t.val / 13, 0] ∧ win0_2.index t = ![0, t.val % 13] ∧ win0_3.index t = ![t.val / 13, t.val % 13] :=
  (by decide +kernel : ∀ t : Fin grid0.N, _)

/-- A point's gains. -/
theorem block_gain (c : Dev nD) (t : Fin cfg0.N) (e : Fin 4096) : (iblk m c 0 t : Vec Ideal S1x4096 .f32) (ix2 0 e) = argG m c (ix1 e) := by
  refine Eq.trans ?_ (gain_apply m c e)
  blk_point [iblk, V, place t]

/-- A point's rows. -/
theorem block_rows (c : Dev nD) (t : Fin cfg0.N) (r : Fin 512) (e : Fin 4096) (n : Fin 24576) (hn : n.val = 512 * (t.val / 13) + r) :
    (iblk m c 1 t : Vec Ideal S512x4096 .f32) (ix2 r e) = argX m c (ix2 n e) := by
  refine Eq.trans (?_ : _ = (V m c main_arg0 : S24576x4096.Idx → EReal) (ix2 n e)) ?_
  · blk_point [iblk, V, place t]
  · simp only [V]
    after_reads_simp

/-- A point's columns. -/
theorem block_weights (c : Dev nD) (t : Fin cfg0.N) (e : Fin 4096) (l : Fin 768) (j : Fin 9984) (hj : j.val = 768 * (t.val % 13) + l) :
    (iblk m c 2 t : Vec Ideal S4096x768 .bf16) (ix2 e l) = padCol (fun k => argW m c (ix2 e k)) j := by
  refine Eq.trans (?_ : _ = (V m c main_v5 : S4096x9984.Idx → EReal) (ix2 e j)) (weights_apply m c e j)
  blk_point [iblk, V, place t]

/-- A first point of its rows keeps the normalised rows. -/
theorem first_rows (c : Dev nD) (t : Fin cfg0.N) (h0 : t.val % 13 = 0) :
    (outsAt0 m c t.val t.isLt).2 = k0_pay1 (F := Ideal) (iblk m c 1 t) (iblk m c 0 t) := by
  rw [outsAt0_A m c t h0]
  frame_out

/-- A first point of its rows stores their product with its columns. -/
theorem first_out (c : Dev nD) (t : Fin cfg0.N) (h0 : t.val % 13 = 0) :
    (outsAt0 m c t.val t.isLt).1 = k0_pay2 (F := Ideal) (k0_pay1 (F := Ideal) (iblk m c 1 t) (iblk m c 0 t)) (iblk m c 2 t) := by
  rw [outsAt0_A m c t h0]
  frame_out

/-- A later point keeps what was kept. -/
theorem later_rows (c : Dev nD) (t : Fin cfg0.N) (h0 : ¬ t.val % 13 = 0) :
    (outsAt0 m c t.val t.isLt).2 = (outsAt0 m c (t.val - 1) (Nat.lt_of_le_of_lt (Nat.sub_le _ _) t.isLt)).2 := by
  rw [outsAt0_B m c t h0]
  rfl

/-- A later point stores the kept rows' product with its columns. -/
theorem later_out (c : Dev nD) (t : Fin cfg0.N) (h0 : ¬ t.val % 13 = 0) :
    (outsAt0 m c t.val t.isLt).1 = k0_pay2 (F := Ideal) (outsAt0 m c (t.val - 1) (Nat.lt_of_le_of_lt (Nat.sub_le _ _) t.isLt)).2 (iblk m c 2 t) := by
  rw [outsAt0_B m c t h0]
  frame_out
  exact congrArg (fun s => k0_pay2 (F := Ideal) s (iblk m c 2 t)) ((Memref.isWhole_whole cc0_scratch0).read_unread _)

/-- The launch has 624 points. -/
theorem count_points : cfg0.N = 624 := N_0
/-- The row of the inputs that a point's row `r` is. -/
abbrev row (t : Fin cfg0.N) (r : Fin 512) : Fin 24576 := ⟨512 * (t.val / 13) + r, by have := lt_of_lt_of_eq t.isLt count_points; omega⟩

/-- The normalised rows that the points of a row of points multiply. -/
def rowsOf (c : Dev nD) (t : Fin cfg0.N) : Vec Ideal S512x4096 .bf16 := fun y =>
  normed (fun k => argX m c (ix2 (row t (y 0)) k)) (fun k => argG m c (ix1 k)) (y 1)

/-- What a first point normalises. -/
theorem norm_block (c : Dev nD) (t : Fin cfg0.N) : k0_pay1 (F := Ideal) (iblk m c 1 t) (iblk m c 0 t) = rowsOf m c t := by
  funext y
  obtain ⟨r, e, rfl⟩ : ∃ (r : Fin 512) (e : Fin 4096), y = ix2 r e := ⟨y 0, y 1, by funext k; fin_cases k <;> rfl⟩
  refine (norm_apply _ _ r e).trans ?_
  have h0 := fun k => block_gain m c t k
  have h1 := fun k => block_rows m c t r k (row t r) rfl
  rw [funext h0, funext h1]
  rfl

/-- The scratch after every point: the normalised rows of the point's row of points. -/
theorem scratch (c : Dev nD) : ∀ (n : ℕ) (hn : n < cfg0.N), (outsAt0 m c n hn).2 = rowsOf m c ⟨n, hn⟩ := by
  intro n
  induction n with
  | zero => exact fun hn => (first_rows m c ⟨0, hn⟩ rfl).trans (norm_block m c _)
  | succ n ih =>
    intro hn
    by_cases h0 : (n + 1) % 13 = 0
    · exact (first_rows m c ⟨n + 1, hn⟩ h0).trans (norm_block m c _)
    · refine (later_rows m c ⟨n + 1, hn⟩ h0).trans ((ih _).trans ?_)
      have hr : ∀ r : Fin 512, row ⟨n, Nat.lt_of_succ_lt hn⟩ r = row ⟨n + 1, hn⟩ r := fun r =>
        Fin.ext (by show 512 * (n / 13) + r.val = 512 * ((n + 1) / 13) + r.val; omega)
      funext y
      exact congrArg (fun i => normed (fun k => argX m c (ix2 i k)) (fun k => argG m c (ix1 k)) (y 1)) (hr (y 0))

/-- What a point leaves in its output block. -/
theorem block_out (c : Dev nD) (t : Fin cfg0.N) : (outsAt0 m c t.val t.isLt).1 = k0_pay2 (F := Ideal) (rowsOf m c t) (iblk m c 2 t) := by
  by_cases h0 : t.val % 13 = 0
  · rw [first_out m c t h0, norm_block]
  · rw [later_out m c t h0, ← later_rows m c t h0, scratch]

/-- An entry of a point's output block is the reference's. -/
theorem entry_out (c : Dev nD) (t : Fin cfg0.N) (r : Fin 512) (l : Fin 768) (j : Fin 9984) (hj : j.val = 768 * (t.val % 13) + l) :
    (outsAt0 m c t.val t.isLt).1 (ix2 r l) = Cert.InProjRefIdeal.Read.val_main_v18 (F := Ideal) (argX m c) (argG m c) (argW m c) (ix2 (row t r) j) := by
  rw [block_out, product_apply, reference_apply]
  exact Finset.sum_congr rfl fun e _ => congrArg (rowsOf m c t (ix2 r e) * ·) (block_weights m c t e l j hj)

set_option maxHeartbeats 1600000 in
/-- The launch's output is the reference's. -/
theorem final (c : Dev nD) : (dats m 0 c).arrAt 3 cfg0.N
    = Cert.InProjRefIdeal.Read.val_main_v18 (F := Ideal) (argX m c) (argG m c) (argW m c) := by
  refine (dats m 0 c).arrAt_eq_of_covers 3 _ (by decide +kernel) fun t hf y => ?_
  blk_simp
  rw [after0_3]
  obtain ⟨r, l, rfl⟩ : ∃ (r : Fin 512) (l : Fin 768), y = ix2 r l := ⟨y 0, y 1, by funext k; fin_cases k <;> rfl⟩
  have hl := l.isLt
  have hi := (place t).2.2.2
  refine (entry_out m c t r l ⟨768 * (t.val % 13) + l, by omega⟩ rfl).trans (congrArg _ ?_)
  funext k
  fin_cases k
  · refine Fin.ext ?_
    blk_simp [hi]
    show 512 * (t.val / 13) + r.val = t.val / 13 * 512 + r.val
    omega
  · refine Fin.ext ?_
    blk_simp [hi]
    show 768 * (t.val % 13) + l.val = t.val % 13 * 768 + l.val
    omega

end Cert.InProjIdeal.Val

end
-- ==== Proof.InProjClaim.lean ====
/- The claims about the input projection: its frames and its value. -/
module

public import proofs.«01_k».proof.Defs
public import proofs.«01_k».proof.Proof.Gen.InProj.Frame
public import proofs.«01_k».proof.Proof.InProjPoints
public import proofs.«01_k».proof.Proof.Gen.InProjRefIdeal.Run
public import proofs.«01_k».proof.Proof.Gen.InProjRefIdeal.Read
public import Idealize.ShloMosaic.Adequacy
public import Idealize.ShloMosaic.Init
public import Idealize.ShloMosaic.Lib.Claim

@[expose] public section

noncomputable section

namespace Cert.Proof.InProjClaims

open Idealize.ShloMosaic Idealize.ShloMosaic.TcCoe Idealize.SL.Sem

/-- The input projection runs, leaves its arguments as they were, and ends with every counter at zero. -/
theorem frame_p : Cert.quiescent_InProj := fun m g _ => Cert.InProj.Gen.frame m g
/-- So does its idealization. -/
theorem frame_pi : Cert.quiescent_InProjIdeal := fun m g _ => Cert.InProjIdeal.Gen.frame m g
/-- So does the reference. -/
theorem frame_ri : Cert.quiescent_InProjRefIdeal := fun m g _ =>
  (θ_run Cert.InProjRefIdeal.defs _ _).mono (fun r h => ⟨fun c => (h c).2, sem_eq_zero_of_no_sems (by decide) r.2⟩)
    (Cert.InProjRefIdeal.Value.run (F := Ideal) m g)

/-- The idealization changes no operation but the number type: it has no rewrite to justify. -/
theorem preserves : Cert.preserves_InProj_InProjIdeal := trivial

/-- From equal arguments the input projection and the reference end with equal results. -/
theorem algebraic : Cert.algebraic_InProjIdeal_InProjRefIdeal := by
  intro m g m' g' _ hagree
  refine ⟨_, Cert.InProjIdeal.Value.run_blocks (F := Ideal) m g, ?_⟩
  refine (θ_run Cert.InProjRefIdeal.defs _ _).mono (fun _ h c => ⟨(h c).1.trans ?_, (h c).2⟩)
    (Cert.InProjRefIdeal.Value.run (F := Ideal) m' g')
  obtain ⟨h0, h1, h2⟩ := hagree c
  refine (Cert.InProjRefIdeal.Read.val_main_v18_eq (F := Ideal) _ _ _).trans ?_
  rw [h0, h1, h2]
  exact (Cert.InProjIdeal.Val.final m c).symm

end Cert.Proof.InProjClaims

end
-- ==== Proof.OutProjPoints.lean ====
/- What each point of the output projection leaves in its output block, and that this is the reference's. -/
module

public import proofs.«01_k».proof.Proof.Gen.OutProjIdeal.Value
public import proofs.«01_k».proof.Proof.Gen.OutProjRefIdeal.Read
public import Idealize.ShloMosaic.Lib.Pipeline.ValueKit
public import Idealize.ShloMosaic.Lib.Pointwise
public import Idealize.ShloMosaic.Lib.Claim
public import Idealize.ShloMosaic.Lib.StableHlo.RunRead
public import Idealize.ShloMosaic.Lib.KernelVsHost

@[expose] public section

set_option maxRecDepth 16384

noncomputable section

namespace Cert.OutProjIdeal.Val

open Cert.OutProjIdeal Cert.OutProjIdeal.Gen Idealize.ShloMosaic Idealize.ShloMosaic.TcCoe Idealize.SL.Sem
open scoped BigOperators

/-- A sum of 4096 terms, by quarters. -/
theorem sum_quarters (f : Fin 4096 → EReal) :
    ∑ k, f k = (((∑ k : Fin 1024, f ⟨k.val, by omega⟩) + ∑ k : Fin 1024, f ⟨1024 + k.val, by omega⟩) + ∑ k : Fin 1024, f ⟨2048 + k.val, by omega⟩)
      + ∑ k : Fin 1024, f ⟨3072 + k.val, by omega⟩ := by
  refine (Fin.sum_univ_add (a := 3072) (b := 1024) f).trans (congrArg (· + _) ?_)
  refine (Fin.sum_univ_add (a := 2048) (b := 1024) fun k : Fin 3072 => f (Fin.castAdd 1024 k)).trans (congrArg (· + _) ?_)
  exact Fin.sum_univ_add (a := 1024) (b := 1024) fun k : Fin 2048 => f (Fin.castAdd 1024 (Fin.castAdd 1024 k))

/-- What a point stores: four products, one after the other, and the residual. -/
theorem out_apply (x0 x1 x2 x3 : Vec Ideal S512x1024 .bf16) (x4 x5 x6 x7 : Vec Ideal S1024x1024 .bf16) (x8 : Vec Ideal S512x1024 .f32) (r : Fin 512) (l : Fin 1024) :
    k0_pay1 (F := Ideal) x0 x4 x1 x5 x2 x6 x3 x7 x8 (ix2 r l)
      = (((∑ k : Fin 1024, x0 (ix2 r k) * x4 (ix2 k l)) + ∑ k : Fin 1024, x1 (ix2 r k) * x5 (ix2 k l)) + ∑ k : Fin 1024, x2 (ix2 r k) * x6 (ix2 k l))
        + (∑ k : Fin 1024, x3 (ix2 r k) * x7 (ix2 k l)) + x8 (ix2 r l) := by
  pointwise [k0_pay1]

/-- Blocks of 1024, 2048 and 1024 columns, side by side: an entry. -/
theorem beside_apply (a : FVec Ideal S24576x1024 .bf16) (b : FVec Ideal S24576x2048 .bf16) (d : FVec Ideal S24576x1024 .bf16) (n : Fin 24576) (k : Fin 4096) :
    Cert.OutProjRefIdeal.Read.val_main_v0 (F := Ideal) a b d (ix2 n k)
      = if h1 : k.val < 1024 then a (ix2 n ⟨k.val, h1⟩) else if h2 : k.val - 1024 < 2048 then b (ix2 n ⟨k.val - 1024, h2⟩)
        else d (ix2 n ⟨k.val - 1024 - 2048, by omega⟩) := by
  pointwise [Cert.OutProjRefIdeal.Read.val_main_v0]

open Cert.OutProjRefIdeal.Read in
/-- An entry of the reference's result, its sum by the quarters of the columns. -/
theorem reference_apply (a : FVec Ideal S24576x1024 .bf16) (b : FVec Ideal S24576x2048 .bf16) (d : FVec Ideal S24576x1024 .bf16) (w : FVec Ideal S4096x4096 .f32)
    (x : FVec Ideal S24576x4096 .f32) (n : Fin 24576) (j : Fin 4096) :
    val_main_v3 (F := Ideal) a b d w x (ix2 n j)
      = (((∑ k : Fin 1024, a (ix2 n k) * w (ix2 ⟨k.val, by omega⟩ j)) + ∑ k : Fin 1024, b (ix2 n ⟨k.val, by omega⟩) * w (ix2 ⟨1024 + k.val, by omega⟩ j))
          + ∑ k : Fin 1024, b (ix2 n ⟨1024 + k.val, by omega⟩) * w (ix2 ⟨2048 + k.val, by omega⟩ j))
        + (∑ k : Fin 1024, d (ix2 n k) * w (ix2 ⟨3072 + k.val, by omega⟩ j)) + x (ix2 n j) := by
  rw [val_main_v3_apply, val_main_v2_apply, sum_quarters]
  refine (add_comm _ _).trans (congrArg (· + x (ix2 n j)) ?_)
  have hl : ∀ k : Fin 4096, lidx_main_v2 (ix2 n j) k = ix2 n k := fun k => funext fun a => by fin_cases a <;> rfl
  have hr : ∀ k : Fin 4096, ridx_main_v2 (ix2 n j) k = ix2 k j := fun k => funext fun a => by fin_cases a <;> rfl
  have hv : ∀ k : Fin 4096, val_main_v1 (F := Ideal) a b d (lidx_main_v2 (ix2 n j) k) = val_main_v0 (F := Ideal) a b d (ix2 n k) := fun k => congrArg (val_main_v0 (F := Ideal) a b d) (hl k)
  simp only [hv, hr, beside_apply]
  refine congrArg₂ (· + ·) (congrArg₂ (· + ·) (congrArg₂ (· + ·) ?_ ?_) ?_) ?_ <;> refine Finset.sum_congr rfl fun k _ => congrArg (· * _) ?_
  · exact dif_pos k.isLt
  · refine (dif_neg (by omega)).trans ((dif_pos (by omega)).trans (congrArg b (congrArg (ix2 n) (Fin.ext ?_))))
    show 1024 + k.val - 1024 = k.val
    omega
  · refine (dif_neg (by omega)).trans ((dif_pos (by omega)).trans (congrArg b (congrArg (ix2 n) (Fin.ext ?_))))
    show 2048 + k.val - 1024 = 1024 + k.val
    omega
  · refine (dif_neg (by omega)).trans ((dif_neg (by omega)).trans (congrArg d (congrArg (ix2 n) (Fin.ext ?_))))
    show 3072 + k.val - 1024 - 2048 = k.val
    omega

variable (m : (ℓ : Loc nD τ sig) → Buf (Elt Ideal) ℓ)

/-- The first part of the rows, as the launch reads it. -/
abbrev argA (c : Dev nD) : FVec Ideal S24576x1024 .bf16 := m (c, Proc.tc.devRef main_arg0)
/-- The second part of the rows. -/
abbrev argB (c : Dev nD) : FVec Ideal S24576x2048 .bf16 := m (c, Proc.tc.devRef main_arg1)
/-- The third part of the rows. -/
abbrev argC (c : Dev nD) : FVec Ideal S24576x1024 .bf16 := m (c, Proc.tc.devRef main_arg2)
/-- The weights. -/
abbrev argW (c : Dev nD) : FVec Ideal S4096x4096 .f32 := m (c, Proc.tc.devRef main_arg3)
/-- The residual. -/
abbrev argX (c : Dev nD) : FVec Ideal S24576x4096 .f32 := m (c, Proc.tc.devRef main_arg4)

set_option maxHeartbeats 1600000 in
/-- Where each point's blocks lie. -/
theorem place : ∀ t : Fin cfg0.N,
    win0_0.index t = ![t.val / 4, 0] ∧ win0_1.index t = ![t.val / 4, 0] ∧ win0_2.index t = ![t.val / 4, 1] ∧ win0_3.index t = ![t.val / 4, 0]
    ∧ win0_4.index t = ![0, t.val % 4] ∧ win0_5.index t = ![1, t.val % 4] ∧ win0_6.index t = ![2, t.val % 4] ∧ win0_7.index t = ![3, t.val % 4]
    ∧ win0_8.index t = ![t.val / 4, t.val % 4] ∧ win0_9.index t = ![t.val / 4, t.val % 4] :=
  (by decide +kernel : ∀ t : Fin grid0.N, _)

/-- The launch's weights are the weights. -/
theorem weights_apply (c : Dev nD) (k j : Fin 4096) : (V m c main_v0 : S4096x4096.Idx → EReal) (ix2 k j) = argW m c (ix2 k j) := by
  simp only [V]
  after_reads_simp
  pointwise
/-- The launch's other inputs are its arguments. -/
theorem rows_eq (c : Dev nD) : (V m c main_arg0 = argA m c ∧ V m c main_arg1 = argB m c) ∧ V m c main_arg2 = argC m c ∧ V m c main_arg4 = argX m c := by
  simp only [V]
  refine ⟨⟨?_, ?_⟩, ?_, ?_⟩ <;> after_reads_simp

variable (c : Dev nD) (t : Fin cfg0.N)

/-- A point's rows of the first part. -/
theorem block_first (r : Fin 512) (k : Fin 1024) (n : Fin 24576) (hn : n.val = 512 * (t.val / 4) + r) :
    (iblk m c 0 t : Vec Ideal S512x1024 .bf16) (ix2 r k) = argA m c (ix2 n k) := by
  rw [← (rows_eq m c).1.1]
  blk_point [iblk, V, place t]
/-- A point's rows of the second part's left half. -/
theorem block_left (r : Fin 512) (k : Fin 1024) (n : Fin 24576) (hn : n.val = 512 * (t.val / 4) + r) :
    (iblk m c 1 t : Vec Ideal S512x1024 .bf16) (ix2 r k) = argB m c (ix2 n ⟨k.val, by omega⟩) := by
  rw [← (rows_eq m c).1.2]
  blk_point [iblk, V, place t]
/-- A point's rows of the second part's right half. -/
theorem block_right (r : Fin 512) (k : Fin 1024) (n : Fin 24576) (hn : n.val = 512 * (t.val / 4) + r) :
    (iblk m c 2 t : Vec Ideal S512x1024 .bf16) (ix2 r k) = argB m c (ix2 n ⟨1024 + k.val, by omega⟩) := by
  rw [← (rows_eq m c).1.2]
  blk_point [iblk, V, place t]
/-- A point's rows of the third part. -/
theorem block_third (r : Fin 512) (k : Fin 1024) (n : Fin 24576) (hn : n.val = 512 * (t.val / 4) + r) :
    (iblk m c 3 t : Vec Ideal S512x1024 .bf16) (ix2 r k) = argC m c (ix2 n k) := by
  rw [← (rows_eq m c).2.1]
  blk_point [iblk, V, place t]
/-- A point's columns of the weights' first quarter. -/
theorem weights0 (k l : Fin 1024) (j : Fin 4096) (hj : j.val = 1024 * (t.val % 4) + l) :
    (iblk m c 4 t : Vec Ideal S1024x1024 .bf16) (ix2 k l) = argW m c (ix2 ⟨k.val, by omega⟩ j) := by
  rw [← weights_apply]
  blk_point [iblk, V, place t]
/-- A point's columns of the weights' second quarter. -/
theorem weights1 (k l : Fin 1024) (j : Fin 4096) (hj : j.val = 1024 * (t.val % 4) + l) :
    (iblk m c 5 t : Vec Ideal S1024x1024 .bf16) (ix2 k l) = argW m c (ix2 ⟨1024 + k.val, by omega⟩ j) := by
  rw [← weights_apply]
  blk_point [iblk, V, place t]
/-- A point's columns of the weights' third quarter. -/
theorem weights2 (k l : Fin 1024) (j : Fin 4096) (hj : j.val = 1024 * (t.val % 4) + l) :
    (iblk m c 6 t : Vec Ideal S1024x1024 .bf16) (ix2 k l) = argW m c (ix2 ⟨2048 + k.val, by omega⟩ j) := by
  rw [← weights_apply]
  blk_point [iblk, V, place t]
/-- A point's columns of the weights' fourth quarter. -/
theorem weights3 (k l : Fin 1024) (j : Fin 4096) (hj : j.val = 1024 * (t.val % 4) + l) :
    (iblk m c 7 t : Vec Ideal S1024x1024 .bf16) (ix2 k l) = argW m c (ix2 ⟨3072 + k.val, by omega⟩ j) := by
  rw [← weights_apply]
  blk_point [iblk, V, place t]
/-- A point's block of the residual. -/
theorem block_residual (r : Fin 512) (l : Fin 1024) (n : Fin 24576) (hn : n.val = 512 * (t.val / 4) + r) (j : Fin 4096) (hj : j.val = 1024 * (t.val % 4) + l) :
    (iblk m c 8 t : Vec Ideal S512x1024 .f32) (ix2 r l) = argX m c (ix2 n j) := by
  rw [← (rows_eq m c).2.2]
  blk_point [iblk, V, place t]

/-- What a point stores is its four products and the residual. -/
theorem point_out : (dats m 0 c).after 9 t = k0_pay1 (F := Ideal) (iblk m c 0 t) (iblk m c 4 t) (iblk m c 1 t) (iblk m c 5 t) (iblk m c 2 t) (iblk m c 6 t) (iblk m c 3 t) (iblk m c 7 t) (iblk m c 8 t) := by
  rw [after0_9]
  frame_out

/-- An entry of what a point stores is the reference's. -/
theorem entry_out (r : Fin 512) (l : Fin 1024) (n : Fin 24576) (hn : n.val = 512 * (t.val / 4) + r) (j : Fin 4096) (hj : j.val = 1024 * (t.val % 4) + l) :
    ((dats m 0 c).after 9 t : S512x1024.Idx → EReal) (ix2 r l) = Cert.OutProjRefIdeal.Read.val_main_v3 (F := Ideal) (argA m c) (argB m c) (argC m c) (argW m c) (argX m c) (ix2 n j) := by
  rw [point_out, out_apply, reference_apply]
  refine congrArg₂ (· + ·) (congrArg₂ (· + ·) (congrArg₂ (· + ·) (congrArg₂ (· + ·) ?_ ?_) ?_) ?_) (block_residual m c t r l n hn j hj)
    <;> refine Finset.sum_congr rfl fun k _ => congrArg₂ (· * ·) ?_ ?_
  · exact block_first m c t r k n hn
  · exact weights0 m c t k l j hj
  · exact block_left m c t r k n hn
  · exact weights1 m c t k l j hj
  · exact block_right m c t r k n hn
  · exact weights2 m c t k l j hj
  · exact block_third m c t r k n hn
  · exact weights3 m c t k l j hj

set_option maxHeartbeats 1600000 in
/-- The launch's output is the reference's. -/
theorem final : (dats m 0 c).arrAt 9 cfg0.N
    = Cert.OutProjRefIdeal.Read.val_main_v3 (F := Ideal) (argA m c) (argB m c) (argC m c) (argW m c) (argX m c) := by
  refine (dats m 0 c).arrAt_eq_of_covers 9 _ (by decide +kernel) fun t hf y => ?_
  blk_simp
  obtain ⟨r, l, rfl⟩ : ∃ (r : Fin 512) (l : Fin 1024), y = ix2 r l := ⟨y 0, y 1, by funext k; fin_cases k <;> rfl⟩
  have hl := l.isLt
  have hN := lt_of_lt_of_eq t.isLt (N_0 : cfg0.N = 192)
  have hi := (place t).2.2.2.2.2.2.2.2.2
  refine (entry_out m c t r l ⟨512 * (t.val / 4) + r, by omega⟩ rfl ⟨1024 * (t.val % 4) + l, by omega⟩ rfl).trans (congrArg _ ?_)
  funext k
  fin_cases k
  · refine Fin.ext ?_
    blk_simp [hi]
    show 512 * (t.val / 4) + r.val = t.val / 4 * 512 + r.val
    omega
  · refine Fin.ext ?_
    blk_simp [hi]
    show 1024 * (t.val % 4) + l.val = t.val % 4 * 1024 + l.val
    omega

end Cert.OutProjIdeal.Val

end
-- ==== Proof.OutProjClaim.lean ====
/- The claims about the output projection: its frames and its value. -/
module

public import proofs.«01_k».proof.Defs
public import proofs.«01_k».proof.Proof.Gen.OutProj.Frame
public import proofs.«01_k».proof.Proof.OutProjPoints
public import proofs.«01_k».proof.Proof.Gen.OutProjRefIdeal.Run
public import proofs.«01_k».proof.Proof.Gen.OutProjRefIdeal.Read
public import Idealize.ShloMosaic.Adequacy
public import Idealize.ShloMosaic.Init
public import Idealize.ShloMosaic.Lib.Claim

@[expose] public section

noncomputable section

namespace Cert.Proof.OutProjClaims

open Idealize.ShloMosaic Idealize.ShloMosaic.TcCoe Idealize.SL.Sem

/-- The output projection runs, leaves its arguments as they were, and ends with every counter at zero. -/
theorem frame_p : Cert.quiescent_OutProj := fun m g _ => Cert.OutProj.Gen.frame m g
/-- So does its idealization. -/
theorem frame_pi : Cert.quiescent_OutProjIdeal := fun m g _ => Cert.OutProjIdeal.Gen.frame m g
/-- So does the reference. -/
theorem frame_ri : Cert.quiescent_OutProjRefIdeal := fun m g _ =>
  (θ_run Cert.OutProjRefIdeal.defs _ _).mono (fun r h => ⟨fun c => (h c).2, sem_eq_zero_of_no_sems (by decide) r.2⟩)
    (Cert.OutProjRefIdeal.Value.run (F := Ideal) m g)

/-- The idealization changes no operation but the number type: it has no rewrite to justify. -/
theorem preserves : Cert.preserves_OutProj_OutProjIdeal := trivial

/-- From equal arguments the output projection and the reference end with equal results. -/
theorem algebraic : Cert.algebraic_OutProjIdeal_OutProjRefIdeal := by
  intro m g m' g' _ hagree
  refine ⟨_, Cert.OutProjIdeal.Value.run_blocks (F := Ideal) m g, ?_⟩
  refine (θ_run Cert.OutProjRefIdeal.defs _ _).mono (fun _ h c => ⟨(h c).1.trans ?_, (h c).2⟩)
    (Cert.OutProjRefIdeal.Value.run (F := Ideal) m' g')
  obtain ⟨h0, h1, h2, h3, h4⟩ := hagree c
  refine (Cert.OutProjRefIdeal.Read.val_main_v3_eq (F := Ideal) _ _ _ _ _).trans ?_
  rw [h0, h1, h2, h3, h4]
  exact (Cert.OutProjIdeal.Val.final m c).symm

end Cert.Proof.OutProjClaims

end
-- ==== Proof.NormedRows.lean ====
/- Rows divided by their root mean square, and a scratch that a point in every `p` fills. -/
module

public import proofs.«01_k».proof.Proof.Softmax

@[expose] public section

noncomputable section

namespace Cert.NormedRows

open Idealize.ShloMosaic
open scoped BigOperators

/-- A row divided by its root mean square, its mean a sum over `N`, times the gains. -/
abbrev normed {n : ℕ} (N : EReal) (x g : Fin n → EReal) (e : Fin n) : EReal :=
  Cert.Softmax.rms x N (Ideal.ofBits .f32 0x358637BD#32) e * g e

/-- What points keep, when each first point of `p` in a row sets it and each other point keeps what the point before it kept: what the first
    point of its row set. -/
theorem kept {α : Type} {N p : ℕ} (s : (n : ℕ) → n < N → α) (f : ℕ → α) (hfirst : ∀ (n : ℕ) (hn : n < N), n % p = 0 → s n hn = f (n / p))
    (hlater : ∀ (n : ℕ) (hn : n < N), ¬ n % p = 0 → s n hn = s (n - 1) (Nat.lt_of_le_of_lt (Nat.sub_le _ _) hn)) :
    ∀ (n : ℕ) (hn : n < N), s n hn = f (n / p) := by
  intro n
  induction n with
  | zero => exact fun hn => hfirst 0 hn (Nat.zero_mod p)
  | succ n ih =>
    intro hn
    by_cases h : (n + 1) % p = 0
    · exact hfirst _ hn h
    · refine (hlater _ hn h).trans ((ih _).trans (congrArg f ?_))
      exact (Nat.succ_div_of_not_dvd fun hd => h (Nat.mod_eq_zero_of_dvd hd)).symm

end Cert.NormedRows

end
-- ==== Proof.QUpPoints.lean ====
/- What each point of the queries' projection leaves in its output block, and that this is the reference's. -/
module

public import proofs.«01_k».proof.Proof.Gen.QUpIdeal.Value
public import proofs.«01_k».proof.Proof.Gen.QUpRefIdeal.Read
public import proofs.«01_k».proof.Proof.NormedRows
public import Idealize.ShloMosaic.Lib.Pipeline.ValueKit
public import Idealize.ShloMosaic.Lib.Pointwise
public import Idealize.ShloMosaic.Lib.Claim
public import Idealize.ShloMosaic.Lib.StableHlo.RunRead
public import Idealize.ShloMosaic.Lib.KernelVsHost

@[expose] public section

set_option maxRecDepth 16384

noncomputable section

namespace Cert.QUpIdeal.Val

open Cert.QUpIdeal Cert.QUpIdeal.Gen Idealize.ShloMosaic Idealize.ShloMosaic.TcCoe Idealize.SL.Sem
open scoped BigOperators

open Cert.NormedRows

/-- The count of a normalised row's entries, 1024. -/
abbrev width : EReal := Ideal.ofBits .f32 0x44800000#32

/-- What a row of points' first point keeps of its rows. -/
theorem norm_apply (x : Vec Ideal S1024x1024 .f32) (g : Vec Ideal S1x1024 .f32) (r : Fin 1024) (e : Fin 1024) :
    k0_pay1 (F := Ideal) x g (ix2 r e) = normed width (fun k => x (ix2 r k)) (fun k => g (ix2 0 k)) e := by
  pointwise [k0_pay1, normed, Cert.Softmax.rms]

/-- What a point stores: the kept rows times its columns. -/
theorem product_apply (s w : Vec Ideal S1024x1024 .bf16) (r l : Fin 1024) :
    k0_pay2 (F := Ideal) s w (ix2 r l) = ∑ e : Fin 1024, s (ix2 r e) * w (ix2 e l) := by
  pointwise [k0_pay2]

/-- A column of the padded weights, by columns of the weights: of each head's 256, 192 of them and 64 zeros. -/
def padCol (w : Fin 3072 → EReal) (j : Fin 4096) : EReal :=
  if h : j.val % 256 < 192 then w ⟨j.val / 256 * 192 + j.val % 256, by omega⟩ else 0

variable (m : (ℓ : Loc nD τ sig) → Buf (Elt Ideal) ℓ)

/-- The projected rows, as the launch reads them. -/
abbrev argZ (c : Dev nD) : FVec Ideal S24576x9984 .f32 := m (c, Proc.tc.devRef main_arg0)
/-- The gains. -/
abbrev argG (c : Dev nD) : FVec Ideal S1024 .f32 := m (c, Proc.tc.devRef main_arg1)
/-- The weights. -/
abbrev argW (c : Dev nD) : FVec Ideal S1024x3072 .f32 := m (c, Proc.tc.devRef main_arg2)

/-- An entry of weights with each head's columns padded from 192 to 256. -/
theorem pad_at (x : FVec Ideal S1024x16x192 .f32) (v : FVec Ideal S_ .f32) (n : Fin 1024) (h : Fin 16) (j : Fin 256) :
    pad S1024x16x256 ![0, 0, 0] ![0, 0, 64] ![0, 0, 0] x v pads_S1024x16x192_S1024x16x256_000_000_0640 h_S_ (ix3 n h j)
      = if hj : j.val < 192 then x (ix3 n h ⟨j, hj⟩) else v (Shape.Idx.first h_S_) := by
  split
  · next hj =>
    refine pad_apply_of_inside _ _ _ x v _ _ _ (ix3 n h ⟨j, hj⟩) ?_
    intro a
    fin_cases a <;> simp
  · next hj =>
    refine pad_apply_of_not_inside _ _ _ x v _ _ _ 2 ?_
    simp
    omega

/-- The launch's weights: the heads' columns padded. -/
theorem weights_padded (c : Dev nD) :
    (V m c main_v3 : S1024x4096.Idx → EReal) = shapeCast S1024x4096 (pad S1024x16x256 ![0, 0, 0] ![0, 0, 64] ![0, 0, 0] (shapeCast S1024x16x192 (argW m c) shapeCasts_S1024x3072_S1024x16x192)
      (sitofp .f32 (constantI S_ 32 0#32) : FVec Ideal S_ .f32) pads_S1024x16x192_S1024x16x256_000_000_0640 h_S_) shapeCasts_S1024x16x256_S1024x4096 := by
  simp only [V]
  after_reads_simp
  rfl

/-- An entry of the launch's weights. -/
theorem weights_apply (c : Dev nD) (e : Fin 1024) (j : Fin 4096) :
    (V m c main_v3 : S1024x4096.Idx → EReal) (ix2 e j) = padCol (fun k => argW m c (ix2 e k)) j := by
  rw [weights_padded]
  generalize argW m c = w
  have h : ∀ p : FVec Ideal S1024x16x256 .f32, shapeCast S1024x4096 p shapeCasts_S1024x16x256_S1024x4096 (ix2 e j) = p (ix3 e ⟨j.val / 256, by omega⟩ ⟨j.val % 256, by omega⟩) := by
    intro p
    pointwise
  rw [h, pad_at]
  unfold padCol
  split_ifs
  · pointwise
  · exact sitofp_zero (φ := .f32)

/-- An entry of the launch's gains. -/
theorem gain_apply (c : Dev nD) (e : Fin 1024) : (V m c main_v4 : S1x1024.Idx → EReal) (ix2 0 e) = argG m c (ix1 e) := by
  simp only [V]
  after_reads_simp
  pointwise

open Cert.QUpRefIdeal.Read in
/-- An entry of the reference's normalised rows. -/
theorem reference_norm (z : FVec Ideal S24576x9984 .f32) (g : FVec Ideal S1024 .f32) (n : Fin 24576) (e : Fin 1024) :
    val_main_v13 (F := Ideal) z g (ix2 n e) = normed width (fun k => z (ix2 n ⟨5120 + k.val, by omega⟩)) (fun k => g (ix1 k)) e := by
  pointwise [val_main_v13, val_main_v12, val_main_v11, val_main_v10, val_main_v9, val_main_v8, val_main_v7, val_main_v6, val_main_v5, val_main_v4, val_main_v3, val_main_v2, val_main_v1,
    val_main_v0, val_main_cst, val_main_cst_0, val_main_cst_1, normed, Cert.Softmax.rms]

/-- Heads of 192 and 64 columns, side by side: an entry. -/
theorem beside_apply (a : FVec Ideal Cert.QUpRefIdeal.S24576x16x192 .f32) (b : FVec Ideal Cert.QUpRefIdeal.S24576x16x64 .f32) (h : Shape.Concatenates [Cert.QUpRefIdeal.S24576x16x192, Cert.QUpRefIdeal.S24576x16x64] Cert.QUpRefIdeal.S24576x16x256 2) (n : Fin 24576) (i : Fin 16) (j : Fin 256) :
    concatenate (α := EReal) Cert.QUpRefIdeal.S24576x16x256 2 [⟨Cert.QUpRefIdeal.S24576x16x192, a⟩, ⟨Cert.QUpRefIdeal.S24576x16x64, b⟩] h (ix3 n i j)
      = if hj : j.val < 192 then a (ix3 n i ⟨j.val, hj⟩) else b (ix3 n i ⟨j.val - 192, by omega⟩) := by
  pointwise

open Cert.QUpRefIdeal.Read in
/-- An entry of the reference's result: the normalised row times the padded weights' column. -/
theorem reference_apply (z : FVec Ideal S24576x9984 .f32) (g : FVec Ideal S1024 .f32) (w : FVec Ideal S1024x3072 .f32) (n : Fin 24576) (j : Fin 4096) :
    val_main_v19 (F := Ideal) z g w (ix2 n j)
      = ∑ e : Fin 1024, normed width (fun k => z (ix2 n ⟨5120 + k.val, by omega⟩)) (fun k => g (ix1 k)) e * padCol (fun k => w (ix2 e k)) j := by
  have hd : ∀ k : Fin 3072, val_main_v14 (F := Ideal) z g w (ix2 n k)
      = ∑ e : Fin 1024, normed width (fun k => z (ix2 n ⟨5120 + k.val, by omega⟩)) (fun k => g (ix1 k)) e * w (ix2 e k) := by
    intro k
    rw [val_main_v14_apply]
    refine Finset.sum_congr rfl fun e _ => congrArg₂ (· * ·) ((congrArg _ ?_).trans (reference_norm z g n e)) (congrArg w ?_)
    · funext a; fin_cases a <;> rfl
    · funext a; fin_cases a <;> rfl
  have hs : val_main_v19 (F := Ideal) z g w (ix2 n j) = val_main_v17 (F := Ideal) z g w (ix3 n ⟨j.val / 256, by omega⟩ ⟨j.val % 256, by omega⟩) := by
    show val_main_v18 (F := Ideal) z g w (ix2 n j) = _
    unfold val_main_v18
    generalize val_main_v17 (F := Ideal) z g w = v
    pointwise
  refine hs.trans ((beside_apply _ _ _ n _ _).trans ?_)
  unfold padCol
  split_ifs with h
  · refine Eq.trans ?_ (hd _)
    unfold val_main_v15
    generalize val_main_v14 (F := Ideal) z g w = v
    pointwise
  · refine Eq.trans ?_ (Finset.sum_eq_zero fun e _ => mul_zero _).symm
    pointwise [val_main_v16, val_main_cst_2]

set_option maxHeartbeats 1600000 in
/-- Where each point's blocks lie. -/
theorem place : ∀ t : Fin cfg0.N,
    win0_0.index t = ![0, 0] ∧ win0_1.index t = ![t.val / 4, 5] ∧ win0_2.index t = ![0, t.val % 4] ∧ win0_3.index t = ![t.val / 4, t.val % 4] :=
  (by decide +kernel : ∀ t : Fin grid0.N, _)

/-- A point's gains. -/
theorem block_gain (c : Dev nD) (t : Fin cfg0.N) (e : Fin 1024) : (iblk m c 0 t : Vec Ideal S1x1024 .f32) (ix2 0 e) = argG m c (ix1 e) := by
  refine Eq.trans ?_ (gain_apply m c e)
  blk_point [iblk, V, place t]

/-- A point's rows. -/
theorem block_rows (c : Dev nD) (t : Fin cfg0.N) (r e : Fin 1024) (n : Fin 24576) (hn : n.val = 1024 * (t.val / 4) + r) :
    (X0_1 m c t : Vec Ideal S1024x1024 .f32) (ix2 r e) = argZ m c (ix2 n ⟨5120 + e.val, by omega⟩) := by
  refine Eq.trans (?_ : _ = (V m c main_arg0 : S24576x9984.Idx → EReal) (ix2 n ⟨5120 + e.val, by omega⟩)) ?_
  · unfold X0_1 Pipeline.Window.fill
    rw [dif_pos (moved0_1 t _)]
    blk_point [iblk, V, place t]
  · simp only [V]
    after_reads_simp

/-- A point's columns. -/
theorem block_weights (c : Dev nD) (t : Fin cfg0.N) (e l : Fin 1024) (j : Fin 4096) (hj : j.val = 1024 * (t.val % 4) + l) :
    (iblk m c 2 t : Vec Ideal S1024x1024 .bf16) (ix2 e l) = padCol (fun k => argW m c (ix2 e k)) j := by
  refine Eq.trans (?_ : _ = (V m c main_v3 : S1024x4096.Idx → EReal) (ix2 e j)) (weights_apply m c e j)
  blk_point [iblk, V, place t]

/-- A first point of its rows keeps the normalised rows. -/
theorem first_rows (c : Dev nD) (t : Fin cfg0.N) (h0 : t.val % 4 = 0) :
    (outsAt0 m c t.val t.isLt).2 = k0_pay1 (F := Ideal) (X0_1 m c t) (iblk m c 0 t) := by
  rw [outsAt0_A m c t h0]
  frame_out

/-- A first point of its rows stores their product with its columns. -/
theorem first_out (c : Dev nD) (t : Fin cfg0.N) (h0 : t.val % 4 = 0) :
    (outsAt0 m c t.val t.isLt).1 = k0_pay2 (F := Ideal) (k0_pay1 (F := Ideal) (X0_1 m c t) (iblk m c 0 t)) (iblk m c 2 t) := by
  rw [outsAt0_A m c t h0]
  frame_out

/-- A later point keeps what was kept. -/
theorem later_rows (c : Dev nD) (t : Fin cfg0.N) (h0 : ¬ t.val % 4 = 0) :
    (outsAt0 m c t.val t.isLt).2 = (outsAt0 m c (t.val - 1) (Nat.lt_of_le_of_lt (Nat.sub_le _ _) t.isLt)).2 := by
  rw [outsAt0_B m c t h0]
  rfl

/-- A later point stores the kept rows' product with its columns. -/
theorem later_out (c : Dev nD) (t : Fin cfg0.N) (h0 : ¬ t.val % 4 = 0) :
    (outsAt0 m c t.val t.isLt).1 = k0_pay2 (F := Ideal) (outsAt0 m c (t.val - 1) (Nat.lt_of_le_of_lt (Nat.sub_le _ _) t.isLt)).2 (iblk m c 2 t) := by
  rw [outsAt0_B m c t h0]
  frame_out
  exact congrArg (fun s => k0_pay2 (F := Ideal) s (iblk m c 2 t)) ((Memref.isWhole_whole cc0_scratch0).read_unread _)

/-- The launch has 96 points. -/
theorem count_points : cfg0.N = 96 := N_0

/-- The normalised rows that the points of the `i`th row of points multiply. -/
def rowsOf (c : Dev nD) (i : ℕ) : Vec Ideal S1024x1024 .bf16 := fun y =>
  normed width (fun k => argZ m c (ix2 (Fin.ofNat 24576 (1024 * i + (y 0).val)) ⟨5120 + k.val, by omega⟩)) (fun k => argG m c (ix1 k)) (y 1)

/-- What a first point normalises. -/
theorem norm_block (c : Dev nD) (t : Fin cfg0.N) : k0_pay1 (F := Ideal) (X0_1 m c t) (iblk m c 0 t) = rowsOf m c (t.val / 4) := by
  funext y
  obtain ⟨r, e, rfl⟩ : ∃ r e : Fin 1024, y = ix2 r e := ⟨y 0, y 1, by funext k; fin_cases k <;> rfl⟩
  refine (norm_apply _ _ r e).trans ?_
  have hN := lt_of_lt_of_eq t.isLt count_points
  have h0 := fun k => block_gain m c t k
  have h1 := fun k => block_rows m c t r k (Fin.ofNat 24576 (1024 * (t.val / 4) + r.val)) (Nat.mod_eq_of_lt (by omega))
  rw [funext h0, funext h1]
  rfl

/-- The scratch after every point: the normalised rows of the point's row of points. -/
theorem scratch (c : Dev nD) (n : ℕ) (hn : n < cfg0.N) : (outsAt0 m c n hn).2 = rowsOf m c (n / 4) :=
  kept (fun n hn => (outsAt0 m c n hn).2) (rowsOf m c) (fun n hn h0 => (first_rows m c ⟨n, hn⟩ h0).trans (norm_block m c _))
    (fun n hn h0 => later_rows m c ⟨n, hn⟩ h0) n hn

/-- What a point leaves in its output block. -/
theorem block_out (c : Dev nD) (t : Fin cfg0.N) : (outsAt0 m c t.val t.isLt).1 = k0_pay2 (F := Ideal) (rowsOf m c (t.val / 4)) (iblk m c 2 t) := by
  by_cases h0 : t.val % 4 = 0
  · rw [first_out m c t h0, norm_block]
  · rw [later_out m c t h0, ← later_rows m c t h0, scratch]

/-- An entry of a point's output block is the reference's. -/
theorem entry_out (c : Dev nD) (t : Fin cfg0.N) (r l : Fin 1024) (j : Fin 4096) (hj : j.val = 1024 * (t.val % 4) + l) :
    (outsAt0 m c t.val t.isLt).1 (ix2 r l) = Cert.QUpRefIdeal.Read.val_main_v19 (F := Ideal) (argZ m c) (argG m c) (argW m c) (ix2 (Fin.ofNat 24576 (1024 * (t.val / 4) + r.val)) j) := by
  rw [block_out, product_apply, reference_apply]
  exact Finset.sum_congr rfl fun e _ => congrArg (rowsOf m c (t.val / 4) (ix2 r e) * ·) (block_weights m c t e l j hj)

set_option maxHeartbeats 1600000 in
/-- The launch's output is the reference's. -/
theorem final (c : Dev nD) : (dats m 0 c).arrAt 3 cfg0.N
    = Cert.QUpRefIdeal.Read.val_main_v19 (F := Ideal) (argZ m c) (argG m c) (argW m c) := by
  refine (dats m 0 c).arrAt_eq_of_covers 3 _ (by decide +kernel) fun t hf y => ?_
  blk_simp
  rw [after0_3]
  obtain ⟨r, l, rfl⟩ : ∃ r l : Fin 1024, y = ix2 r l := ⟨y 0, y 1, by funext k; fin_cases k <;> rfl⟩
  have hl := l.isLt
  have hi := (place t).2.2.2
  have hN := lt_of_lt_of_eq t.isLt count_points
  refine (entry_out m c t r l ⟨1024 * (t.val % 4) + l, by omega⟩ rfl).trans (congrArg _ ?_)
  funext k
  fin_cases k
  · refine Fin.ext ?_
    blk_simp [hi]
    show (1024 * (t.val / 4) + r.val) % 24576 = t.val / 4 * 1024 + r.val
    omega
  · refine Fin.ext ?_
    blk_simp [hi]
    show 1024 * (t.val % 4) + l.val = t.val % 4 * 1024 + l.val
    omega

end Cert.QUpIdeal.Val

end
-- ==== Proof.QUpClaim.lean ====
/- The claims about the queries' projection: its frames and its value. -/
module

public import proofs.«01_k».proof.Defs
public import proofs.«01_k».proof.Proof.Gen.QUp.Frame
public import proofs.«01_k».proof.Proof.QUpPoints
public import proofs.«01_k».proof.Proof.Gen.QUpRefIdeal.Run
public import proofs.«01_k».proof.Proof.Gen.QUpRefIdeal.Read
public import Idealize.ShloMosaic.Adequacy
public import Idealize.ShloMosaic.Init
public import Idealize.ShloMosaic.Lib.Claim

@[expose] public section

noncomputable section

namespace Cert.Proof.QUpClaims

open Idealize.ShloMosaic Idealize.ShloMosaic.TcCoe Idealize.SL.Sem

/-- The queries' projection runs, leaves its arguments as they were, and ends with every counter at zero. -/
theorem frame_p : Cert.quiescent_QUp := fun m g _ => Cert.QUp.Gen.frame m g
/-- So does its idealization. -/
theorem frame_pi : Cert.quiescent_QUpIdeal := fun m g _ => Cert.QUpIdeal.Gen.frame m g
/-- So does the reference. -/
theorem frame_ri : Cert.quiescent_QUpRefIdeal := fun m g _ =>
  (θ_run Cert.QUpRefIdeal.defs _ _).mono (fun r h => ⟨fun c => (h c).2, sem_eq_zero_of_no_sems (by decide) r.2⟩)
    (Cert.QUpRefIdeal.Value.run (F := Ideal) m g)

/-- The idealization changes no operation but the number type: it has no rewrite to justify. -/
theorem preserves : Cert.preserves_QUp_QUpIdeal := trivial

/-- From equal arguments the queries' projection and the reference end with equal results. -/
theorem algebraic : Cert.algebraic_QUpIdeal_QUpRefIdeal := by
  intro m g m' g' _ hagree
  refine ⟨_, Cert.QUpIdeal.Value.run_blocks (F := Ideal) m g, ?_⟩
  refine (θ_run Cert.QUpRefIdeal.defs _ _).mono (fun _ h c => ⟨(h c).1.trans ?_, (h c).2⟩)
    (Cert.QUpRefIdeal.Value.run (F := Ideal) m' g')
  obtain ⟨h0, h1, h2⟩ := hagree c
  refine (Cert.QUpRefIdeal.Read.val_main_v19_eq (F := Ideal) _ _ _).trans ?_
  rw [h0, h1, h2]
  exact (Cert.QUpIdeal.Val.final m c).symm

end Cert.Proof.QUpClaims

end
-- ==== Proof.KvUpPoints.lean ====
/- What each point of the keys' and values' projection leaves in its output block, and that this is the reference's. -/
module

public import proofs.«01_k».proof.Proof.Gen.KvUpIdeal.Value
public import proofs.«01_k».proof.Proof.Gen.KvUpRefIdeal.Read
public import proofs.«01_k».proof.Proof.NormedRows
public import Idealize.ShloMosaic.Lib.Pipeline.ValueKit
public import Idealize.ShloMosaic.Lib.Pointwise
public import Idealize.ShloMosaic.Lib.Claim
public import Idealize.ShloMosaic.Lib.StableHlo.RunRead
public import Idealize.ShloMosaic.Lib.KernelVsHost

@[expose] public section

set_option maxRecDepth 16384

noncomputable section

namespace Cert.KvUpIdeal.Val

open Cert.KvUpIdeal Cert.KvUpIdeal.Gen Idealize.ShloMosaic Idealize.ShloMosaic.TcCoe Idealize.SL.Sem
open scoped BigOperators

open Cert.NormedRows

/-- The count of a normalised row's entries, 512. -/
abbrev width : EReal := Ideal.ofBits .f32 0x44000000#32

/-- What a row of points' first point keeps of its rows. -/
theorem norm_apply (x : Vec Ideal S1024x512 .f32) (g : Vec Ideal S1x512 .f32) (r : Fin 1024) (e : Fin 512) :
    k0_pay1 (F := Ideal) x g (ix2 r e) = normed width (fun k => x (ix2 r k)) (fun k => g (ix2 0 k)) e := by
  pointwise [k0_pay1, normed, Cert.Softmax.rms]

/-- What a point stores: the kept rows times its columns. -/
theorem product_apply (s : Vec Ideal S1024x512 .bf16) (w : Vec Ideal S512x1024 .bf16) (r l : Fin 1024) :
    k0_pay2 (F := Ideal) s w (ix2 r l) = ∑ e : Fin 512, s (ix2 r e) * w (ix2 e l) := by
  pointwise [k0_pay2]

/-- The weights' column that becomes the `j`th: each head's 256 are 128 of its keys and 128 of its values, and all heads' keys come first. -/
def headCol (j : Fin 4096) : Fin 4096 := ⟨j.val / 128 % 16 * 256 + j.val / 2048 * 128 + j.val % 128, by omega⟩

variable (m : (ℓ : Loc nD τ sig) → Buf (Elt Ideal) ℓ)

/-- The projected rows, as the launch reads them. -/
abbrev argZ (c : Dev nD) : FVec Ideal S24576x9984 .f32 := m (c, Proc.tc.devRef main_arg0)
/-- The gains. -/
abbrev argG (c : Dev nD) : FVec Ideal S512 .f32 := m (c, Proc.tc.devRef main_arg1)
/-- The weights. -/
abbrev argW (c : Dev nD) : FVec Ideal S512x4096 .f32 := m (c, Proc.tc.devRef main_arg2)

/-- An entry of the launch's weights. -/
theorem weights_apply (c : Dev nD) (e : Fin 512) (j : Fin 4096) : (V m c main_v3 : S512x4096.Idx → EReal) (ix2 e j) = argW m c (ix2 e (headCol j)) := by
  simp only [V]
  after_reads_simp
  unfold headCol
  pointwise

/-- An entry of the launch's gains. -/
theorem gain_apply (c : Dev nD) (e : Fin 512) : (V m c main_v4 : S1x512.Idx → EReal) (ix2 0 e) = argG m c (ix1 e) := by
  simp only [V]
  after_reads_simp
  pointwise

open Cert.KvUpRefIdeal.Read in
/-- An entry of the reference's normalised rows. -/
theorem reference_norm (z : FVec Ideal S24576x9984 .f32) (g : FVec Ideal S512 .f32) (n : Fin 24576) (e : Fin 512) :
    val_main_v13 (F := Ideal) z g (ix2 n e) = normed width (fun k => z (ix2 n ⟨6144 + k.val, by omega⟩)) (fun k => g (ix1 k)) e := by
  pointwise [val_main_v13, val_main_v12, val_main_v11, val_main_v10, val_main_v9, val_main_v8, val_main_v7, val_main_v6, val_main_v5, val_main_v4, val_main_v3, val_main_v2, val_main_v1,
    val_main_v0, val_main_cst, val_main_cst_0, val_main_cst_1, normed, Cert.Softmax.rms]

/-- Keys and values, side by side: an entry. -/
theorem beside_apply (a b : FVec Ideal Cert.KvUpRefIdeal.S24576x2048 .f32) (h : Shape.Concatenates [Cert.KvUpRefIdeal.S24576x2048, Cert.KvUpRefIdeal.S24576x2048] Cert.KvUpRefIdeal.S24576x4096 1)
    (n : Fin 24576) (j : Fin 4096) :
    concatenate (α := EReal) Cert.KvUpRefIdeal.S24576x4096 1 [⟨Cert.KvUpRefIdeal.S24576x2048, a⟩, ⟨Cert.KvUpRefIdeal.S24576x2048, b⟩] h (ix2 n j)
      = if hj : j.val < 2048 then a (ix2 n ⟨j.val, hj⟩) else b (ix2 n ⟨j.val - 2048, by omega⟩) := by
  pointwise

open Cert.KvUpRefIdeal.Read in
/-- An entry of the reference's result: the normalised row times the column its heads' order puts there. -/
theorem reference_apply (z : FVec Ideal S24576x9984 .f32) (g : FVec Ideal S512 .f32) (w : FVec Ideal S512x4096 .f32) (n : Fin 24576) (j : Fin 4096) :
    val_main_v21 (F := Ideal) z g w (ix2 n j)
      = ∑ e : Fin 512, normed width (fun k => z (ix2 n ⟨6144 + k.val, by omega⟩)) (fun k => g (ix1 k)) e * w (ix2 e (headCol j)) := by
  have hd : val_main_v14 (F := Ideal) z g w (ix2 n (headCol j))
      = ∑ e : Fin 512, normed width (fun k => z (ix2 n ⟨6144 + k.val, by omega⟩)) (fun k => g (ix1 k)) e * w (ix2 e (headCol j)) := by
    rw [val_main_v14_apply]
    refine Finset.sum_congr rfl fun e _ => congrArg₂ (· * ·) ((congrArg _ ?_).trans (reference_norm z g n e)) (congrArg w ?_)
    · funext a; fin_cases a <;> rfl
    · funext a; fin_cases a <;> rfl
  rw [← hd]
  show val_main_v20 (F := Ideal) z g w (ix2 n j) = _
  refine (beside_apply _ _ _ n j).trans ?_
  unfold headCol
  split_ifs with h
  · unfold val_main_v17 val_main_v16 val_main_v15
    generalize val_main_v14 (F := Ideal) z g w = v
    pointwise
    exact congrArg v (congrArg (ix2 n) (Fin.ext (by dsimp only; omega)))
  · unfold val_main_v19 val_main_v18 val_main_v15
    generalize val_main_v14 (F := Ideal) z g w = v
    pointwise
    exact congrArg v (congrArg (ix2 n) (Fin.ext (by dsimp only; omega)))

set_option maxHeartbeats 1600000 in
/-- Where each point's blocks lie. -/
theorem place : ∀ t : Fin cfg0.N,
    win0_0.index t = ![0, 0] ∧ win0_1.index t = ![t.val / 4, 12] ∧ win0_2.index t = ![0, t.val % 4] ∧ win0_3.index t = ![t.val / 4, t.val % 4] :=
  (by decide +kernel : ∀ t : Fin grid0.N, _)

/-- A point's gains. -/
theorem block_gain (c : Dev nD) (t : Fin cfg0.N) (e : Fin 512) : (iblk m c 0 t : Vec Ideal S1x512 .f32) (ix2 0 e) = argG m c (ix1 e) := by
  refine Eq.trans ?_ (gain_apply m c e)
  blk_point [iblk, V, place t]

/-- A point's rows. -/
theorem block_rows (c : Dev nD) (t : Fin cfg0.N) (r : Fin 1024) (e : Fin 512) (n : Fin 24576) (hn : n.val = 1024 * (t.val / 4) + r) :
    (X0_1 m c t : Vec Ideal S1024x512 .f32) (ix2 r e) = argZ m c (ix2 n ⟨6144 + e.val, by omega⟩) := by
  refine Eq.trans (?_ : _ = (V m c main_arg0 : S24576x9984.Idx → EReal) (ix2 n ⟨6144 + e.val, by omega⟩)) ?_
  · unfold X0_1 Pipeline.Window.fill
    rw [dif_pos (moved0_1 t _)]
    blk_point [iblk, V, place t]
  · simp only [V]
    after_reads_simp

/-- A point's columns. -/
theorem block_weights (c : Dev nD) (t : Fin cfg0.N) (e : Fin 512) (l : Fin 1024) (j : Fin 4096) (hj : j.val = 1024 * (t.val % 4) + l) :
    (iblk m c 2 t : Vec Ideal S512x1024 .bf16) (ix2 e l) = argW m c (ix2 e (headCol j)) := by
  refine Eq.trans (?_ : _ = (V m c main_v3 : S512x4096.Idx → EReal) (ix2 e j)) (weights_apply m c e j)
  blk_point [iblk, V, place t]

/-- A first point of its rows keeps the normalised rows. -/
theorem first_rows (c : Dev nD) (t : Fin cfg0.N) (h0 : t.val % 4 = 0) :
    (outsAt0 m c t.val t.isLt).2 = k0_pay1 (F := Ideal) (X0_1 m c t) (iblk m c 0 t) := by
  rw [outsAt0_A m c t h0]
  frame_out

/-- A first point of its rows stores their product with its columns. -/
theorem first_out (c : Dev nD) (t : Fin cfg0.N) (h0 : t.val % 4 = 0) :
    (outsAt0 m c t.val t.isLt).1 = k0_pay2 (F := Ideal) (k0_pay1 (F := Ideal) (X0_1 m c t) (iblk m c 0 t)) (iblk m c 2 t) := by
  rw [outsAt0_A m c t h0]
  frame_out

/-- A later point keeps what was kept. -/
theorem later_rows (c : Dev nD) (t : Fin cfg0.N) (h0 : ¬ t.val % 4 = 0) :
    (outsAt0 m c t.val t.isLt).2 = (outsAt0 m c (t.val - 1) (Nat.lt_of_le_of_lt (Nat.sub_le _ _) t.isLt)).2 := by
  rw [outsAt0_B m c t h0]
  rfl

/-- A later point stores the kept rows' product with its columns. -/
theorem later_out (c : Dev nD) (t : Fin cfg0.N) (h0 : ¬ t.val % 4 = 0) :
    (outsAt0 m c t.val t.isLt).1 = k0_pay2 (F := Ideal) (outsAt0 m c (t.val - 1) (Nat.lt_of_le_of_lt (Nat.sub_le _ _) t.isLt)).2 (iblk m c 2 t) := by
  rw [outsAt0_B m c t h0]
  frame_out
  exact congrArg (fun s => k0_pay2 (F := Ideal) s (iblk m c 2 t)) ((Memref.isWhole_whole cc0_scratch0).read_unread _)

/-- The launch has 96 points. -/
theorem count_points : cfg0.N = 96 := N_0

/-- The normalised rows that the points of the `i`th row of points multiply. -/
def rowsOf (c : Dev nD) (i : ℕ) : Vec Ideal S1024x512 .bf16 := fun y =>
  normed width (fun k => argZ m c (ix2 (Fin.ofNat 24576 (1024 * i + (y 0).val)) ⟨6144 + k.val, by omega⟩)) (fun k => argG m c (ix1 k)) (y 1)

/-- What a first point normalises. -/
theorem norm_block (c : Dev nD) (t : Fin cfg0.N) : k0_pay1 (F := Ideal) (X0_1 m c t) (iblk m c 0 t) = rowsOf m c (t.val / 4) := by
  funext y
  obtain ⟨r, e, rfl⟩ : ∃ (r : Fin 1024) (e : Fin 512), y = ix2 r e := ⟨y 0, y 1, by funext k; fin_cases k <;> rfl⟩
  refine (norm_apply _ _ r e).trans ?_
  have hN := lt_of_lt_of_eq t.isLt count_points
  have h0 := fun k => block_gain m c t k
  have h1 := fun k => block_rows m c t r k (Fin.ofNat 24576 (1024 * (t.val / 4) + r.val)) (Nat.mod_eq_of_lt (by omega))
  rw [funext h0, funext h1]
  rfl

/-- The scratch after every point: the normalised rows of the point's row of points. -/
theorem scratch (c : Dev nD) (n : ℕ) (hn : n < cfg0.N) : (outsAt0 m c n hn).2 = rowsOf m c (n / 4) :=
  kept (fun n hn => (outsAt0 m c n hn).2) (rowsOf m c) (fun n hn h0 => (first_rows m c ⟨n, hn⟩ h0).trans (norm_block m c _))
    (fun n hn h0 => later_rows m c ⟨n, hn⟩ h0) n hn

/-- What a point leaves in its output block. -/
theorem block_out (c : Dev nD) (t : Fin cfg0.N) : (outsAt0 m c t.val t.isLt).1 = k0_pay2 (F := Ideal) (rowsOf m c (t.val / 4)) (iblk m c 2 t) := by
  by_cases h0 : t.val % 4 = 0
  · rw [first_out m c t h0, norm_block]
  · rw [later_out m c t h0, ← later_rows m c t h0, scratch]

/-- An entry of a point's output block is the reference's. -/
theorem entry_out (c : Dev nD) (t : Fin cfg0.N) (r l : Fin 1024) (j : Fin 4096) (hj : j.val = 1024 * (t.val % 4) + l) :
    (outsAt0 m c t.val t.isLt).1 (ix2 r l) = Cert.KvUpRefIdeal.Read.val_main_v21 (F := Ideal) (argZ m c) (argG m c) (argW m c) (ix2 (Fin.ofNat 24576 (1024 * (t.val / 4) + r.val)) j) := by
  rw [block_out, product_apply, reference_apply]
  exact Finset.sum_congr rfl fun e _ => congrArg (rowsOf m c (t.val / 4) (ix2 r e) * ·) (block_weights m c t e l j hj)

set_option maxHeartbeats 1600000 in
/-- The launch's output is the reference's. -/
theorem final (c : Dev nD) : (dats m 0 c).arrAt 3 cfg0.N
    = Cert.KvUpRefIdeal.Read.val_main_v21 (F := Ideal) (argZ m c) (argG m c) (argW m c) := by
  refine (dats m 0 c).arrAt_eq_of_covers 3 _ (by decide +kernel) fun t hf y => ?_
  blk_simp
  rw [after0_3]
  obtain ⟨r, l, rfl⟩ : ∃ r l : Fin 1024, y = ix2 r l := ⟨y 0, y 1, by funext k; fin_cases k <;> rfl⟩
  have hl := l.isLt
  have hi := (place t).2.2.2
  have hN := lt_of_lt_of_eq t.isLt count_points
  refine (entry_out m c t r l ⟨1024 * (t.val % 4) + l, by omega⟩ rfl).trans (congrArg _ ?_)
  funext k
  fin_cases k
  · refine Fin.ext ?_
    blk_simp [hi]
    show (1024 * (t.val / 4) + r.val) % 24576 = t.val / 4 * 1024 + r.val
    omega
  · refine Fin.ext ?_
    blk_simp [hi]
    show 1024 * (t.val % 4) + l.val = t.val % 4 * 1024 + l.val
    omega

end Cert.KvUpIdeal.Val

end
-- ==== Proof.KvUpClaim.lean ====
/- The claims about the keys' and values' projection: its frames and its value. -/
module

public import proofs.«01_k».proof.Defs
public import proofs.«01_k».proof.Proof.Gen.KvUp.Frame
public import proofs.«01_k».proof.Proof.KvUpPoints
public import proofs.«01_k».proof.Proof.Gen.KvUpRefIdeal.Run
public import proofs.«01_k».proof.Proof.Gen.KvUpRefIdeal.Read
public import Idealize.ShloMosaic.Adequacy
public import Idealize.ShloMosaic.Init
public import Idealize.ShloMosaic.Lib.Claim

@[expose] public section

noncomputable section

namespace Cert.Proof.KvUpClaims

open Idealize.ShloMosaic Idealize.ShloMosaic.TcCoe Idealize.SL.Sem

/-- The keys' and values' projection runs, leaves its arguments as they were, and ends with every counter at zero. -/
theorem frame_p : Cert.quiescent_KvUp := fun m g _ => Cert.KvUp.Gen.frame m g
/-- So does its idealization. -/
theorem frame_pi : Cert.quiescent_KvUpIdeal := fun m g _ => Cert.KvUpIdeal.Gen.frame m g
/-- So does the reference. -/
theorem frame_ri : Cert.quiescent_KvUpRefIdeal := fun m g _ =>
  (θ_run Cert.KvUpRefIdeal.defs _ _).mono (fun r h => ⟨fun c => (h c).2, sem_eq_zero_of_no_sems (by decide) r.2⟩)
    (Cert.KvUpRefIdeal.Value.run (F := Ideal) m g)

/-- The idealization changes no operation but the number type: it has no rewrite to justify. -/
theorem preserves : Cert.preserves_KvUp_KvUpIdeal := trivial

/-- From equal arguments the keys' and values' projection and the reference end with equal results. -/
theorem algebraic : Cert.algebraic_KvUpIdeal_KvUpRefIdeal := by
  intro m g m' g' _ hagree
  refine ⟨_, Cert.KvUpIdeal.Value.run_blocks (F := Ideal) m g, ?_⟩
  refine (θ_run Cert.KvUpRefIdeal.defs _ _).mono (fun _ h c => ⟨(h c).1.trans ?_, (h c).2⟩)
    (Cert.KvUpRefIdeal.Value.run (F := Ideal) m' g')
  obtain ⟨h0, h1, h2⟩ := hagree c
  refine (Cert.KvUpRefIdeal.Read.val_main_v21_eq (F := Ideal) _ _ _).trans ?_
  rw [h0, h1, h2]
  exact (Cert.KvUpIdeal.Val.final m c).symm

end Cert.Proof.KvUpClaims

end
-- ==== Proof.CrossQPoints.lean ====
/- What each point of the cross attention's queries' projection leaves in its output block, and that this is the reference's. -/
module

public import proofs.«01_k».proof.Proof.Gen.CrossQIdeal.Value
public import proofs.«01_k».proof.Proof.Gen.CrossQRefIdeal.Read
public import proofs.«01_k».proof.Proof.NormedRows
public import Idealize.ShloMosaic.Lib.Pipeline.ValueKit
public import Idealize.ShloMosaic.Lib.Pointwise
public import Idealize.ShloMosaic.Lib.Claim
public import Idealize.ShloMosaic.Lib.StableHlo.RunRead
public import Idealize.ShloMosaic.Lib.KernelVsHost

@[expose] public section

set_option maxRecDepth 16384

noncomputable section

namespace Cert.CrossQIdeal.Val

open Cert.CrossQIdeal Cert.CrossQIdeal.Gen Idealize.ShloMosaic Idealize.ShloMosaic.TcCoe Idealize.SL.Sem
open scoped BigOperators

open Cert.NormedRows

/-- The count of a normalised row's entries, 4096. -/
abbrev width : EReal := Ideal.ofBits .f32 0x45800000#32

/-- What a point keeps of its rows. -/
theorem norm_apply (x : Vec Ideal S512x4096 .f32) (g : Vec Ideal S1x4096 .f32) (r : Fin 512) (e : Fin 4096) :
    k0_pay1 (F := Ideal) x g (ix2 r e) = normed width (fun k => x (ix2 r k)) (fun k => g (ix2 0 k)) e := by
  pointwise [k0_pay1, normed, Cert.Softmax.rms]

/-- What a point stores: those rows times its columns. -/
theorem product_apply (s : Vec Ideal S512x4096 .bf16) (w : Vec Ideal S4096x1024 .bf16) (r : Fin 512) (l : Fin 1024) :
    k0_pay2 (F := Ideal) s w (ix2 r l) = ∑ e : Fin 4096, s (ix2 r e) * w (ix2 e l) := by
  pointwise [k0_pay2]

variable (m : (ℓ : Loc nD τ sig) → Buf (Elt Ideal) ℓ)

/-- The rows, as the launch reads them. -/
abbrev argX (c : Dev nD) : FVec Ideal S24576x4096 .f32 := m (c, Proc.tc.devRef main_arg0)
/-- The gains. -/
abbrev argG (c : Dev nD) : FVec Ideal S4096 .f32 := m (c, Proc.tc.devRef main_arg1)
/-- The weights. -/
abbrev argW (c : Dev nD) : FVec Ideal S4096x1024 .f32 := m (c, Proc.tc.devRef main_arg2)

/-- An entry of the launch's weights. -/
theorem weights_apply (c : Dev nD) (e : Fin 4096) (j : Fin 1024) : (V m c main_v0 : S4096x1024.Idx → EReal) (ix2 e j) = argW m c (ix2 e j) := by
  simp only [V]
  after_reads_simp
  pointwise

/-- An entry of the launch's gains. -/
theorem gain_apply (c : Dev nD) (e : Fin 4096) : (V m c main_v1 : S1x4096.Idx → EReal) (ix2 0 e) = argG m c (ix1 e) := by
  simp only [V]
  after_reads_simp
  pointwise

open Cert.CrossQRefIdeal.Read in
/-- An entry of the reference's normalised rows. -/
theorem reference_norm (z : FVec Ideal S24576x4096 .f32) (g : FVec Ideal S4096 .f32) (n : Fin 24576) (e : Fin 4096) :
    val_main_v12 (F := Ideal) z g (ix2 n e) = normed width (fun k => z (ix2 n k)) (fun k => g (ix1 k)) e := by
  pointwise [val_main_v12, val_main_v11, val_main_v10, val_main_v9, val_main_v8, val_main_v7, val_main_v6, val_main_v5, val_main_v4, val_main_v3, val_main_v2, val_main_v1,
    val_main_v0, val_main_cst, val_main_cst_0, val_main_cst_1, normed, Cert.Softmax.rms]

open Cert.CrossQRefIdeal.Read in
/-- An entry of the reference's result: the normalised row times the weights' column. -/
theorem reference_apply (z : FVec Ideal S24576x4096 .f32) (g : FVec Ideal S4096 .f32) (w : FVec Ideal S4096x1024 .f32) (n : Fin 24576) (j : Fin 1024) :
    val_main_v14 (F := Ideal) z g w (ix2 n j) = ∑ e : Fin 4096, normed width (fun k => z (ix2 n k)) (fun k => g (ix1 k)) e * w (ix2 e j) := by
  show val_main_v13 (F := Ideal) z g w (ix2 n j) = _
  rw [val_main_v13_apply]
  refine Finset.sum_congr rfl fun e _ => congrArg₂ (· * ·) ((congrArg _ ?_).trans (reference_norm z g n e)) (congrArg w ?_)
  · funext a; fin_cases a <;> rfl
  · funext a; fin_cases a <;> rfl

set_option maxHeartbeats 1600000 in
/-- Where each point's blocks lie. -/
theorem place : ∀ t : Fin cfg0.N,
    win0_0.index t = ![0, 0] ∧ win0_1.index t = ![t.val, 0] ∧ win0_2.index t = ![0, 0] ∧ win0_3.index t = ![t.val, 0] :=
  (by decide +kernel : ∀ t : Fin grid0.N, _)

/-- A point's gains. -/
theorem block_gain (c : Dev nD) (t : Fin cfg0.N) (e : Fin 4096) : (iblk m c 0 t : Vec Ideal S1x4096 .f32) (ix2 0 e) = argG m c (ix1 e) := by
  refine Eq.trans ?_ (gain_apply m c e)
  blk_point [iblk, V, place t]

/-- A point's rows. -/
theorem block_rows (c : Dev nD) (t : Fin cfg0.N) (r : Fin 512) (e : Fin 4096) (n : Fin 24576) (hn : n.val = 512 * (t.val) + r) :
    (iblk m c 1 t : Vec Ideal S512x4096 .f32) (ix2 r e) = argX m c (ix2 n e) := by
  refine Eq.trans (?_ : _ = (V m c main_arg0 : S24576x4096.Idx → EReal) (ix2 n e)) ?_
  · blk_point [iblk, V, place t]
  · simp only [V]
    after_reads_simp

/-- A point's columns. -/
theorem block_weights (c : Dev nD) (t : Fin cfg0.N) (e : Fin 4096) (j : Fin 1024) :
    (iblk m c 2 t : Vec Ideal S4096x1024 .bf16) (ix2 e j) = argW m c (ix2 e j) := by
  refine Eq.trans (?_ : _ = (V m c main_v0 : S4096x1024.Idx → EReal) (ix2 e j)) (weights_apply m c e j)
  blk_point [iblk, V, place t]

/-- The launch has 48 points. -/
theorem count_points : cfg0.N = 48 := N_0

/-- The normalised rows that the `i`th point multiplies. -/
def rowsOf (c : Dev nD) (i : ℕ) : Vec Ideal S512x4096 .bf16 := fun y =>
  normed width (fun k => argX m c (ix2 (Fin.ofNat 24576 (512 * i + (y 0).val)) k)) (fun k => argG m c (ix1 k)) (y 1)

/-- What a point normalises. -/
theorem norm_block (c : Dev nD) (t : Fin cfg0.N) : k0_pay1 (F := Ideal) (iblk m c 1 t) (iblk m c 0 t) = rowsOf m c (t.val) := by
  funext y
  obtain ⟨r, e, rfl⟩ : ∃ (r : Fin 512) (e : Fin 4096), y = ix2 r e := ⟨y 0, y 1, by funext k; fin_cases k <;> rfl⟩
  refine (norm_apply _ _ r e).trans ?_
  have hN := lt_of_lt_of_eq t.isLt count_points
  have h0 := fun k => block_gain m c t k
  have h1 := fun k => block_rows m c t r k (Fin.ofNat 24576 (512 * (t.val) + r.val)) (Nat.mod_eq_of_lt (by omega))
  rw [funext h0, funext h1]
  rfl

/-- What a point leaves in its output block. -/
theorem block_out (c : Dev nD) (t : Fin cfg0.N) : outsAt0 m c t = k0_pay2 (F := Ideal) (rowsOf m c t.val) (iblk m c 2 t) := by
  rw [← norm_block]
  unfold outsAt0
  frame_out

/-- An entry of a point's output block is the reference's. -/
theorem entry_out (c : Dev nD) (t : Fin cfg0.N) (r : Fin 512) (j : Fin 1024) :
    outsAt0 m c t (ix2 r j) = Cert.CrossQRefIdeal.Read.val_main_v14 (F := Ideal) (argX m c) (argG m c) (argW m c) (ix2 (Fin.ofNat 24576 (512 * t.val + r.val)) j) := by
  rw [block_out, product_apply, reference_apply]
  exact Finset.sum_congr rfl fun e _ => congrArg (rowsOf m c t.val (ix2 r e) * ·) (block_weights m c t e j)

set_option maxHeartbeats 1600000 in
/-- The launch's output is the reference's. -/
theorem final (c : Dev nD) : (dats m 0 c).arrAt 3 cfg0.N
    = Cert.CrossQRefIdeal.Read.val_main_v14 (F := Ideal) (argX m c) (argG m c) (argW m c) := by
  refine (dats m 0 c).arrAt_eq_of_covers 3 _ (by decide +kernel) fun t hf y => ?_
  blk_simp
  rw [after0_3]
  obtain ⟨r, l, rfl⟩ : ∃ (r : Fin 512) (l : Fin 1024), y = ix2 r l := ⟨y 0, y 1, by funext k; fin_cases k <;> rfl⟩
  have hi := (place t).2.2.2
  have hN := lt_of_lt_of_eq t.isLt count_points
  refine (entry_out m c t r l).trans (congrArg _ ?_)
  funext k
  fin_cases k
  · refine Fin.ext ?_
    blk_simp [hi]
    show (512 * (t.val) + r.val) % 24576 = t.val * 512 + r.val
    omega
  · refine Fin.ext ?_
    blk_simp [hi]
    rfl

end Cert.CrossQIdeal.Val

end
-- ==== Proof.CrossQClaim.lean ====
/- The claims about the cross attention's queries' projection: its frames and its value. -/
module

public import proofs.«01_k».proof.Defs
public import proofs.«01_k».proof.Proof.Gen.CrossQ.Frame
public import proofs.«01_k».proof.Proof.CrossQPoints
public import proofs.«01_k».proof.Proof.Gen.CrossQRefIdeal.Run
public import proofs.«01_k».proof.Proof.Gen.CrossQRefIdeal.Read
public import Idealize.ShloMosaic.Adequacy
public import Idealize.ShloMosaic.Init
public import Idealize.ShloMosaic.Lib.Claim

@[expose] public section

noncomputable section

namespace Cert.Proof.CrossQClaims

open Idealize.ShloMosaic Idealize.ShloMosaic.TcCoe Idealize.SL.Sem

/-- The cross attention's queries' projection runs, leaves its arguments as they were, and ends with every counter at zero. -/
theorem frame_p : Cert.quiescent_CrossQ := fun m g _ => Cert.CrossQ.Gen.frame m g
/-- So does its idealization. -/
theorem frame_pi : Cert.quiescent_CrossQIdeal := fun m g _ => Cert.CrossQIdeal.Gen.frame m g
/-- So does the reference. -/
theorem frame_ri : Cert.quiescent_CrossQRefIdeal := fun m g _ =>
  (θ_run Cert.CrossQRefIdeal.defs _ _).mono (fun r h => ⟨fun c => (h c).2, sem_eq_zero_of_no_sems (by decide) r.2⟩)
    (Cert.CrossQRefIdeal.Value.run (F := Ideal) m g)

/-- The idealization changes no operation but the number type: it has no rewrite to justify. -/
theorem preserves : Cert.preserves_CrossQ_CrossQIdeal := trivial

/-- From equal arguments the cross attention's queries' projection and the reference end with equal results. -/
theorem algebraic : Cert.algebraic_CrossQIdeal_CrossQRefIdeal := by
  intro m g m' g' _ hagree
  refine ⟨_, Cert.CrossQIdeal.Value.run_blocks (F := Ideal) m g, ?_⟩
  refine (θ_run Cert.CrossQRefIdeal.defs _ _).mono (fun _ h c => ⟨(h c).1.trans ?_, (h c).2⟩)
    (Cert.CrossQRefIdeal.Value.run (F := Ideal) m' g')
  obtain ⟨h0, h1, h2⟩ := hagree c
  refine (Cert.CrossQRefIdeal.Read.val_main_v14_eq (F := Ideal) _ _ _).trans ?_
  rw [h0, h1, h2]
  exact (Cert.CrossQIdeal.Val.final m c).symm

end Cert.Proof.CrossQClaims

end
-- ==== Proof.CrossKvPoints.lean ====
/- What each point of the cross attention's keys' and values' projection leaves in its output block, and that this is the reference's. -/
module

public import proofs.«01_k».proof.Proof.Gen.CrossKvIdeal.Value
public import proofs.«01_k».proof.Proof.Gen.CrossKvRefIdeal.Read
public import proofs.«01_k».proof.Proof.NormedRows
public import Idealize.ShloMosaic.Lib.Pipeline.ValueKit
public import Idealize.ShloMosaic.Lib.Pointwise
public import Idealize.ShloMosaic.Lib.Claim
public import Idealize.ShloMosaic.Lib.StableHlo.RunRead
public import Idealize.ShloMosaic.Lib.KernelVsHost

@[expose] public section

set_option maxRecDepth 16384

noncomputable section

namespace Cert.CrossKvIdeal.Val

open Cert.CrossKvIdeal Cert.CrossKvIdeal.Gen Idealize.ShloMosaic Idealize.ShloMosaic.TcCoe Idealize.SL.Sem
open scoped BigOperators

open Cert.NormedRows

/-- The count of a normalised row's entries, 4096. -/
abbrev width : EReal := Ideal.ofBits .f32 0x45800000#32

/-- What a row of points' first point keeps of its rows. -/
theorem norm_apply (x : Vec Ideal S512x4096 .f32) (g : Vec Ideal S1x4096 .f32) (r : Fin 512) (e : Fin 4096) :
    k0_pay1 (F := Ideal) x g (ix2 r e) = normed width (fun k => x (ix2 r k)) (fun k => g (ix2 0 k)) e := by
  pointwise [k0_pay1, normed, Cert.Softmax.rms]

/-- What a point stores: the kept rows times its columns. -/
theorem product_apply (s : Vec Ideal S512x4096 .bf16) (w : Vec Ideal S4096x1024 .bf16) (r : Fin 512) (l : Fin 1024) :
    k0_pay2 (F := Ideal) s w (ix2 r l) = ∑ e : Fin 4096, s (ix2 r e) * w (ix2 e l) := by
  pointwise [k0_pay2]

/-- Keys' columns, then values'. -/
def both (k v : Fin 1024 → EReal) (j : Fin 2048) : EReal := if h : j.val < 1024 then k ⟨j.val, h⟩ else v ⟨j.val - 1024, by omega⟩

/-- Keys' and values' columns, side by side: an entry. -/
theorem beside_apply {n : ℕ} (a b : FVec Ideal ⟨2, ![n, 1024]⟩ .f32) (h : Shape.Concatenates [⟨2, ![n, 1024]⟩, ⟨2, ![n, 1024]⟩] (⟨2, ![n, 2048]⟩ : Shape) 1) (i : Fin n) (j : Fin 2048) :
    concatenate (α := EReal) (⟨2, ![n, 2048]⟩ : Shape) 1 [⟨⟨2, ![n, 1024]⟩, a⟩, ⟨⟨2, ![n, 1024]⟩, b⟩] h (ix2 i j) = both (fun k => a (ix2 i k)) (fun k => b (ix2 i k)) j := by
  unfold both
  pointwise
  split_ifs
  · exact congrArg a (funext fun k => by fin_cases k <;> rfl)
  · exact congrArg b (funext fun k => by fin_cases k <;> rfl)

variable (m : (ℓ : Loc nD τ sig) → Buf (Elt Ideal) ℓ)

/-- The rows, as the launch reads them. -/
abbrev argX (c : Dev nD) : FVec Ideal S1536x4096 .f32 := m (c, Proc.tc.devRef main_arg0)
/-- The gains. -/
abbrev argG (c : Dev nD) : FVec Ideal S4096 .f32 := m (c, Proc.tc.devRef main_arg1)
/-- The keys' weights. -/
abbrev argK (c : Dev nD) : FVec Ideal S4096x1024 .f32 := m (c, Proc.tc.devRef main_arg2)
/-- The values' weights. -/
abbrev argV (c : Dev nD) : FVec Ideal S4096x1024 .f32 := m (c, Proc.tc.devRef main_arg3)

/-- An entry of the launch's weights. -/
theorem weights_apply (c : Dev nD) (e : Fin 4096) (j : Fin 2048) :
    (V m c main_v1 : S4096x2048.Idx → EReal) (ix2 e j) = both (fun k => argK m c (ix2 e k)) (fun k => argV m c (ix2 e k)) j := by
  simp only [V]
  after_reads_simp
  exact beside_apply (n := 4096) (argK m c) (argV m c) concatenates_S4096x1024_S4096x1024_S4096x2048_d1 e j

/-- An entry of the launch's gains. -/
theorem gain_apply (c : Dev nD) (e : Fin 4096) : (V m c main_v2 : S1x4096.Idx → EReal) (ix2 0 e) = argG m c (ix1 e) := by
  simp only [V]
  after_reads_simp
  pointwise

open Cert.CrossKvRefIdeal.Read in
/-- An entry of the reference's normalised rows. -/
theorem reference_norm (z : FVec Ideal S1536x4096 .f32) (g : FVec Ideal S4096 .f32) (n : Fin 1536) (e : Fin 4096) :
    val_main_v12 (F := Ideal) z g (ix2 n e) = normed width (fun k => z (ix2 n k)) (fun k => g (ix1 k)) e := by
  pointwise [val_main_v12, val_main_v11, val_main_v10, val_main_v9, val_main_v8, val_main_v7, val_main_v6, val_main_v5, val_main_v4, val_main_v3, val_main_v2, val_main_v1,
    val_main_v0, val_main_cst, val_main_cst_0, val_main_cst_1, normed, Cert.Softmax.rms]

open Cert.CrossKvRefIdeal.Read in
/-- An entry of the reference's result: the normalised row times the keys' or the values' column. -/
theorem reference_apply (z : FVec Ideal S1536x4096 .f32) (g : FVec Ideal S4096 .f32) (wk wv : FVec Ideal S4096x1024 .f32) (n : Fin 1536) (j : Fin 2048) :
    val_main_v16 (F := Ideal) z g wk wv (ix2 n j)
      = ∑ e : Fin 4096, normed width (fun k => z (ix2 n k)) (fun k => g (ix1 k)) e * both (fun k => wk (ix2 e k)) (fun k => wv (ix2 e k)) j := by
  have hd : ∀ (w : FVec Ideal S4096x1024 .f32) (k : Fin 1024), val_main_v13 (F := Ideal) z g w (ix2 n k)
      = ∑ e : Fin 4096, normed width (fun k => z (ix2 n k)) (fun k => g (ix1 k)) e * w (ix2 e k) := by
    intro w k
    rw [val_main_v13_apply]
    refine Finset.sum_congr rfl fun e _ => congrArg₂ (· * ·) ((congrArg _ ?_).trans (reference_norm z g n e)) (congrArg w ?_)
    · funext a; fin_cases a <;> rfl
    · funext a; fin_cases a <;> rfl
  refine (beside_apply (n := 1536) (val_main_v13 (F := Ideal) z g wk) (val_main_v13 (F := Ideal) z g wv) Cert.CrossKvRefIdeal.Gen.facts.concatenates_S1536x1024_S1536x1024_S1536x2048_d1 n j).trans ?_
  unfold both
  split_ifs with h
  · exact hd wk _
  · exact hd wv _

set_option maxHeartbeats 1600000 in
/-- Where each point's blocks lie. -/
theorem place : ∀ t : Fin cfg0.N,
    win0_0.index t = ![0, 0] ∧ win0_1.index t = ![t.val / 2, 0] ∧ win0_2.index t = ![0, t.val % 2] ∧ win0_3.index t = ![t.val / 2, t.val % 2] :=
  (by decide +kernel : ∀ t : Fin grid0.N, _)

/-- A point's gains. -/
theorem block_gain (c : Dev nD) (t : Fin cfg0.N) (e : Fin 4096) : (iblk m c 0 t : Vec Ideal S1x4096 .f32) (ix2 0 e) = argG m c (ix1 e) := by
  refine Eq.trans ?_ (gain_apply m c e)
  blk_point [iblk, V, place t]

/-- A point's rows. -/
theorem block_rows (c : Dev nD) (t : Fin cfg0.N) (r : Fin 512) (e : Fin 4096) (n : Fin 1536) (hn : n.val = 512 * (t.val / 2) + r) :
    (iblk m c 1 t : Vec Ideal S512x4096 .f32) (ix2 r e) = argX m c (ix2 n e) := by
  refine Eq.trans (?_ : _ = (V m c main_arg0 : S1536x4096.Idx → EReal) (ix2 n e)) ?_
  · blk_point [iblk, V, place t]
  · simp only [V]
    after_reads_simp

/-- A point's columns. -/
theorem block_weights (c : Dev nD) (t : Fin cfg0.N) (e : Fin 4096) (l : Fin 1024) (j : Fin 2048) (hj : j.val = 1024 * (t.val % 2) + l) :
    (iblk m c 2 t : Vec Ideal S4096x1024 .bf16) (ix2 e l) = both (fun k => argK m c (ix2 e k)) (fun k => argV m c (ix2 e k)) j := by
  refine Eq.trans (?_ : _ = (V m c main_v1 : S4096x2048.Idx → EReal) (ix2 e j)) (weights_apply m c e j)
  blk_point [iblk, V, place t]

/-- A first point of its rows keeps the normalised rows. -/
theorem first_rows (c : Dev nD) (t : Fin cfg0.N) (h0 : t.val % 2 = 0) :
    (outsAt0 m c t.val t.isLt).2 = k0_pay1 (F := Ideal) (iblk m c 1 t) (iblk m c 0 t) := by
  rw [outsAt0_A m c t h0]
  frame_out

/-- A first point of its rows stores their product with its columns. -/
theorem first_out (c : Dev nD) (t : Fin cfg0.N) (h0 : t.val % 2 = 0) :
    (outsAt0 m c t.val t.isLt).1 = k0_pay2 (F := Ideal) (k0_pay1 (F := Ideal) (iblk m c 1 t) (iblk m c 0 t)) (iblk m c 2 t) := by
  rw [outsAt0_A m c t h0]
  frame_out

/-- A later point keeps what was kept. -/
theorem later_rows (c : Dev nD) (t : Fin cfg0.N) (h0 : ¬ t.val % 2 = 0) :
    (outsAt0 m c t.val t.isLt).2 = (outsAt0 m c (t.val - 1) (Nat.lt_of_le_of_lt (Nat.sub_le _ _) t.isLt)).2 := by
  rw [outsAt0_B m c t h0]
  rfl

/-- A later point stores the kept rows' product with its columns. -/
theorem later_out (c : Dev nD) (t : Fin cfg0.N) (h0 : ¬ t.val % 2 = 0) :
    (outsAt0 m c t.val t.isLt).1 = k0_pay2 (F := Ideal) (outsAt0 m c (t.val - 1) (Nat.lt_of_le_of_lt (Nat.sub_le _ _) t.isLt)).2 (iblk m c 2 t) := by
  rw [outsAt0_B m c t h0]
  frame_out
  exact congrArg (fun s => k0_pay2 (F := Ideal) s (iblk m c 2 t)) ((Memref.isWhole_whole cc0_scratch0).read_unread _)

/-- The launch has 6 points. -/
theorem count_points : cfg0.N = 6 := N_0

/-- The normalised rows that the points of the `i`th row of points multiply. -/
def rowsOf (c : Dev nD) (i : ℕ) : Vec Ideal S512x4096 .bf16 := fun y =>
  normed width (fun k => argX m c (ix2 (Fin.ofNat 1536 (512 * i + (y 0).val)) k)) (fun k => argG m c (ix1 k)) (y 1)

/-- What a first point normalises. -/
theorem norm_block (c : Dev nD) (t : Fin cfg0.N) : k0_pay1 (F := Ideal) (iblk m c 1 t) (iblk m c 0 t) = rowsOf m c (t.val / 2) := by
  funext y
  obtain ⟨r, e, rfl⟩ : ∃ (r : Fin 512) (e : Fin 4096), y = ix2 r e := ⟨y 0, y 1, by funext k; fin_cases k <;> rfl⟩
  refine (norm_apply _ _ r e).trans ?_
  have hN := lt_of_lt_of_eq t.isLt count_points
  have h0 := fun k => block_gain m c t k
  have h1 := fun k => block_rows m c t r k (Fin.ofNat 1536 (512 * (t.val / 2) + r.val)) (Nat.mod_eq_of_lt (by omega))
  rw [funext h0, funext h1]
  rfl

/-- The scratch after every point: the normalised rows of the point's row of points. -/
theorem scratch (c : Dev nD) (n : ℕ) (hn : n < cfg0.N) : (outsAt0 m c n hn).2 = rowsOf m c (n / 2) :=
  kept (fun n hn => (outsAt0 m c n hn).2) (rowsOf m c) (fun n hn h0 => (first_rows m c ⟨n, hn⟩ h0).trans (norm_block m c _))
    (fun n hn h0 => later_rows m c ⟨n, hn⟩ h0) n hn

/-- What a point leaves in its output block. -/
theorem block_out (c : Dev nD) (t : Fin cfg0.N) : (outsAt0 m c t.val t.isLt).1 = k0_pay2 (F := Ideal) (rowsOf m c (t.val / 2)) (iblk m c 2 t) := by
  by_cases h0 : t.val % 2 = 0
  · rw [first_out m c t h0, norm_block]
  · rw [later_out m c t h0, ← later_rows m c t h0, scratch]

/-- An entry of a point's output block is the reference's. -/
theorem entry_out (c : Dev nD) (t : Fin cfg0.N) (r : Fin 512) (l : Fin 1024) (j : Fin 2048) (hj : j.val = 1024 * (t.val % 2) + l) :
    (outsAt0 m c t.val t.isLt).1 (ix2 r l) = Cert.CrossKvRefIdeal.Read.val_main_v16 (F := Ideal) (argX m c) (argG m c) (argK m c) (argV m c) (ix2 (Fin.ofNat 1536 (512 * (t.val / 2) + r.val)) j) := by
  rw [block_out, product_apply, reference_apply]
  exact Finset.sum_congr rfl fun e _ => congrArg (rowsOf m c (t.val / 2) (ix2 r e) * ·) (block_weights m c t e l j hj)

set_option maxHeartbeats 1600000 in
/-- The launch's output is the reference's. -/
theorem final (c : Dev nD) : (dats m 0 c).arrAt 3 cfg0.N
    = Cert.CrossKvRefIdeal.Read.val_main_v16 (F := Ideal) (argX m c) (argG m c) (argK m c) (argV m c) := by
  refine (dats m 0 c).arrAt_eq_of_covers 3 _ (by decide +kernel) fun t hf y => ?_
  blk_simp
  rw [after0_3]
  obtain ⟨r, l, rfl⟩ : ∃ (r : Fin 512) (l : Fin 1024), y = ix2 r l := ⟨y 0, y 1, by funext k; fin_cases k <;> rfl⟩
  have hl := l.isLt
  have hi := (place t).2.2.2
  have hN := lt_of_lt_of_eq t.isLt count_points
  refine (entry_out m c t r l ⟨1024 * (t.val % 2) + l, by omega⟩ rfl).trans (congrArg _ ?_)
  funext k
  fin_cases k
  · refine Fin.ext ?_
    blk_simp [hi]
    show (512 * (t.val / 2) + r.val) % 1536 = t.val / 2 * 512 + r.val
    omega
  · refine Fin.ext ?_
    blk_simp [hi]
    show 1024 * (t.val % 2) + l.val = t.val % 2 * 1024 + l.val
    omega

end Cert.CrossKvIdeal.Val

end
-- ==== Proof.CrossKvClaim.lean ====
/- The claims about the cross attention's keys' and values' projection: its frames and its value. -/
module

public import proofs.«01_k».proof.Defs
public import proofs.«01_k».proof.Proof.Gen.CrossKv.Frame
public import proofs.«01_k».proof.Proof.CrossKvPoints
public import proofs.«01_k».proof.Proof.Gen.CrossKvRefIdeal.Run
public import proofs.«01_k».proof.Proof.Gen.CrossKvRefIdeal.Read
public import Idealize.ShloMosaic.Adequacy
public import Idealize.ShloMosaic.Init
public import Idealize.ShloMosaic.Lib.Claim

@[expose] public section

noncomputable section

namespace Cert.Proof.CrossKvClaims

open Idealize.ShloMosaic Idealize.ShloMosaic.TcCoe Idealize.SL.Sem

/-- The cross attention's keys' and values' projection runs, leaves its arguments as they were, and ends with every counter at zero. -/
theorem frame_p : Cert.quiescent_CrossKv := fun m g _ => Cert.CrossKv.Gen.frame m g
/-- So does its idealization. -/
theorem frame_pi : Cert.quiescent_CrossKvIdeal := fun m g _ => Cert.CrossKvIdeal.Gen.frame m g
/-- So does the reference. -/
theorem frame_ri : Cert.quiescent_CrossKvRefIdeal := fun m g _ =>
  (θ_run Cert.CrossKvRefIdeal.defs _ _).mono (fun r h => ⟨fun c => (h c).2, sem_eq_zero_of_no_sems (by decide) r.2⟩)
    (Cert.CrossKvRefIdeal.Value.run (F := Ideal) m g)

/-- The idealization changes no operation but the number type: it has no rewrite to justify. -/
theorem preserves : Cert.preserves_CrossKv_CrossKvIdeal := trivial

/-- From equal arguments the cross attention's keys' and values' projection and the reference end with equal results. -/
theorem algebraic : Cert.algebraic_CrossKvIdeal_CrossKvRefIdeal := by
  intro m g m' g' _ hagree
  refine ⟨_, Cert.CrossKvIdeal.Value.run_blocks (F := Ideal) m g, ?_⟩
  refine (θ_run Cert.CrossKvRefIdeal.defs _ _).mono (fun _ h c => ⟨(h c).1.trans ?_, (h c).2⟩)
    (Cert.CrossKvRefIdeal.Value.run (F := Ideal) m' g')
  obtain ⟨h0, h1, h2, h3⟩ := hagree c
  refine (Cert.CrossKvRefIdeal.Read.val_main_v16_eq (F := Ideal) _ _ _ _).trans ?_
  rw [h0, h1, h2, h3]
  exact (Cert.CrossKvIdeal.Val.final m c).symm

end Cert.Proof.CrossKvClaims

end
-- ==== Proof.CrossAttnPoints.lean ====
/- What each point of the cross attention leaves in its output block, and that this is the reference's. -/
module

public import proofs.«01_k».proof.Proof.Gen.CrossAttnIdeal.Value
public import proofs.«01_k».proof.Proof.Gen.CrossAttnRefIdeal.Read
public import proofs.«01_k».proof.Proof.MlaPayload
public import proofs.«01_k».proof.Proof.MlaReference
public import Idealize.ShloMosaic.Lib.Pipeline.ValueKit
public import Idealize.ShloMosaic.Lib.Pointwise
public import Idealize.ShloMosaic.Lib.Claim
public import Idealize.ShloMosaic.Lib.StableHlo.RunRead
public import Idealize.ShloMosaic.Lib.KernelVsHost

@[expose] public section

set_option maxRecDepth 16384

noncomputable section

namespace Cert.CrossAttnIdeal.Val

open Cert.CrossAttnIdeal Cert.CrossAttnIdeal.Gen Idealize.ShloMosaic Idealize.ShloMosaic.TcCoe Idealize.SL.Sem
open scoped BigOperators

/-- The score of a query and a key: their product over sixteen. -/
def score (q k : Fin 256 → EReal) : EReal := (∑ e, q e * k e) * Ideal.ofBits .f32 0x3D800000#32

/-- Values weighted by the exponentials of scores, which are divided by their sum. -/
def attended (s v : Fin 256 → EReal) : EReal :=
  ∑ i, Ideal.div (Ideal.exp (s i - Finset.univ.sup s)) (∑ k, Ideal.exp (s k - Finset.univ.sup s)) * v i

/-- The scores of one head's queries against its keys. -/
def scores (q : FVec Ideal S512x256 .bf16) (k : FVec Ideal S256x256 .bf16) : FVec Ideal S512x256 .f32 :=
  mulf (matmul dot_S512x256_S256x256_S512x256_1_1_0_0_n_n none q k (constant S512x256 .f32 0x00000000#32)) (broadcast S512x256 (Scalar.ofBits .f32 0x3D800000#32))
/-- The greatest score of each query. -/
def rowMax (s : FVec Ideal S512x256 .f32) : FVec Ideal S512 .f32 :=
  multiReduction .maximumf [1] S512 s 0xFF800000#32 reduces_S512x256_S512 (.inl rfl) rfl
/-- The exponentials of the scores less their greatest. -/
def weights (s : FVec Ideal S512x256 .f32) (t : FVec Ideal S512 .f32) : FVec Ideal S512x256 .f32 :=
  exp (subf s (broadcastTo S512x256 (shapeCast S512x1 t shapeCasts_S512_S512x1) broadcasts_S512x1_S512x256))
/-- The values weighted, the weights divided by their sum. -/
def gather (w : FVec Ideal S512x256 .f32) (v : FVec Ideal S256x256 .bf16) : FVec Ideal S512x256 .f32 :=
  matmul dot_S512x256_S256x256_S512x256_1_0_0_1_n_n none
    (truncf .bf16 (divf w (broadcastTo S512x256 (shapeCast S512x1 (multiReduction .add [1] S512 w 0x00000000#32 reduces_S512x256_S512 (.inl rfl) rfl) shapeCasts_S512_S512x1) broadcasts_S512x1_S512x256))
      bitsLt_bf16_f32) v (constant S512x256 .f32 0x00000000#32)

/-- A score, at an index. -/
theorem scores_apply (q : FVec Ideal S512x256 .bf16) (k : FVec Ideal S256x256 .bf16) (r : Fin 512) (i : Fin 256) :
    scores q k (ix2 r i) = score (fun e => q (ix2 r e)) (fun e => k (ix2 i e)) := by
  pointwise [scores, score]
/-- A row's greatest score. -/
theorem rowMax_apply (s : FVec Ideal S512x256 .f32) (r : Fin 512) : rowMax s (ix1 r) = Finset.univ.sup fun i => s (ix2 r i) :=
  Cert.MlaIdeal.Val.max_row s _ _ _ r
/-- A weight, at an index. -/
theorem weights_apply (s : FVec Ideal S512x256 .f32) (t : FVec Ideal S512 .f32) (r : Fin 512) (i : Fin 256) :
    weights s t (ix2 r i) = Ideal.exp (s (ix2 r i) - t (ix1 r)) := by
  pointwise [weights]
/-- An entry of the weighted values. -/
theorem gather_apply (w : FVec Ideal S512x256 .f32) (v : FVec Ideal S256x256 .bf16) (r : Fin 512) (l : Fin 256) :
    gather w v (ix2 r l) = ∑ i, Ideal.div (w (ix2 r i)) (∑ k, w (ix2 r k)) * v (ix2 i l) := by
  pointwise [gather]

/-- One head's result. -/
theorem head_apply (q : Vec Ideal S512x256 .bf16) (k v : Vec Ideal S256x256 .bf16) (r : Fin 512) (l : Fin 256) :
    k0_pay1 (F := Ideal) q k v (ix2 r l) = attended (fun i => score (fun e => q (ix2 r e)) (fun e => k (ix2 i e))) (fun i => v (ix2 i l)) := by
  have h : k0_pay1 (F := Ideal) q k v = gather (weights (scores q k) (rowMax (scores q k))) v := rfl
  rw [h, gather_apply]
  simp only [weights_apply, rowMax_apply, scores_apply]
  rfl

/-- Four heads' results, side by side: an entry. -/
theorem beside_apply (a b d e : FVec Ideal S512x256 .f32) (h : Shape.Concatenates [S512x256, S512x256, S512x256, S512x256] S512x1024 1) (r : Fin 512) (j : Fin 1024) :
    concatenate (α := EReal) S512x1024 1 [⟨S512x256, a⟩, ⟨S512x256, b⟩, ⟨S512x256, d⟩, ⟨S512x256, e⟩] h (ix2 r j)
      = if h0 : j.val < 256 then a (ix2 r ⟨j.val, h0⟩) else if h1 : j.val - 256 < 256 then b (ix2 r ⟨j.val - 256, h1⟩)
        else if h2 : j.val - 256 - 256 < 256 then d (ix2 r ⟨j.val - 256 - 256, h2⟩) else e (ix2 r ⟨j.val - 256 - 256 - 256, by omega⟩) := by
  pointwise

/-- An entry of a block's 256 columns from the `o`th. -/
theorem columns_apply {n : ℕ} (x : Vec Ideal ⟨2, ![n, 1024]⟩ .bf16) (o : ℕ) (ho : o + 256 ≤ 1024) (inb) (r : Fin n) (e : Fin 256) :
    View.ld x (Rect.unit (s := ⟨2, ![n, 1024]⟩) ![0, o] (⟨2, ![n, 256]⟩ : Shape).size inb) (ix2 r e) = x (ix2 r ⟨o + e.val, by omega⟩) := by
  refine congrArg x (funext fun a => Fin.ext ?_)
  fin_cases a
  · show 0 + 1 * r.val = r.val
    omega
  · show o + 1 * e.val = o + e.val
    omega

/-- An entry of a head's result, by entries of its block's queries, keys and values, the head's columns from the `o`th. -/
def headOut (q : Fin 1024 → EReal) (k v : Fin 256 → Fin 1024 → EReal) (o : ℕ) (ho : o + 256 ≤ 1024) (j : Fin 1024) : EReal :=
  attended (fun i => score (fun e => q ⟨o + e.val, by omega⟩) (fun e => k i ⟨o + e.val, by omega⟩)) (fun i => v i j)

/-- A head's result from its columns of the blocks. -/
theorem head_columns (x0 : Vec Ideal S512x1024 .bf16) (x1 x2 : Vec Ideal S256x1024 .bf16) (o : ℕ) (ho : o + 256 ≤ 1024) (i0) (i1) (r : Fin 512) (l : Fin 256) (j : Fin 1024) (hj : j.val = o + l.val) :
    k0_pay1 (F := Ideal) (View.ld x0 (Rect.unit (s := S512x1024) ![0, o] S512x256.size i0)) (View.ld x1 (Rect.unit (s := S256x1024) ![0, o] S256x256.size i1))
        (View.ld x2 (Rect.unit (s := S256x1024) ![0, o] S256x256.size i1)) (ix2 r l)
      = headOut (fun e => x0 (ix2 r e)) (fun i e => x1 (ix2 i e)) (fun i e => x2 (ix2 i e)) o ho j := by
  have h0 := fun e => columns_apply x0 o ho i0 r e
  have h1 := fun i e => columns_apply x1 o ho i1 i e
  have h2 := fun i e => columns_apply x2 o ho i1 i e
  refine (head_apply _ _ _ r l).trans ?_
  unfold headOut
  exact congrArg₂ attended (funext fun i => congrArg₂ score (funext h0) (funext (h1 i))) (funext fun i => (h2 i l).trans (congrArg x2 (congrArg (ix2 i) (Fin.ext hj.symm))))

/-- What a point stores, an entry: its head's result. -/
theorem out_apply (x0 : Vec Ideal S512x1024 .bf16) (x1 x2 : Vec Ideal S256x1024 .bf16) (r : Fin 512) (j : Fin 1024) :
    out0_3 (F := Ideal) x0 x1 x2 (ix2 r j) = headOut (fun e => x0 (ix2 r e)) (fun i e => x1 (ix2 i e)) (fun i e => x2 (ix2 i e)) (j.val / 256 * 256) (by omega) j := by
  have h : out0_3 (F := Ideal) x0 x1 x2 = k0_pay3 (k0_pay1 (View.ld x0 r0_0) (View.ld x1 r0_1) (View.ld x2 r0_1)) (k0_pay2 (View.ld x0 r0_2) (View.ld x1 r0_3) (View.ld x2 r0_3)) (View.ld x0 r0_4) (View.ld x1 r0_5) (View.ld x2 r0_5) (View.ld x0 r0_6) (View.ld x1 r0_7) (View.ld x2 r0_7) := by
    frame_out
  have ho : ∀ o (ho : o + 256 ≤ 1024), o = j.val / 256 * 256 →
      headOut (fun e => x0 (ix2 r e)) (fun i e => x1 (ix2 i e)) (fun i e => x2 (ix2 i e)) o ho j
        = headOut (fun e => x0 (ix2 r e)) (fun i e => x1 (ix2 i e)) (fun i e => x2 (ix2 i e)) (j.val / 256 * 256) (by omega) j := by
    intro o ho h
    subst h
    rfl
  rw [h]
  refine (beside_apply (k0_pay1 (F := Ideal) (View.ld x0 r0_0) (View.ld x1 r0_1) (View.ld x2 r0_1)) (k0_pay1 (F := Ideal) (View.ld x0 r0_2) (View.ld x1 r0_3) (View.ld x2 r0_3))
    (k0_pay1 (F := Ideal) (View.ld x0 r0_4) (View.ld x1 r0_5) (View.ld x2 r0_5)) (k0_pay1 (F := Ideal) (View.ld x0 r0_6) (View.ld x1 r0_7) (View.ld x2 r0_7))
    concatenates_S512x256_S512x256_S512x256_S512x256_S512x1024_d1 r j).trans ?_
  split_ifs with h0 h1 h2
  · exact (head_columns x0 x1 x2 0 (by omega) _ _ r _ j (by dsimp only; omega)).trans (ho _ _ (by omega))
  · exact (head_columns x0 x1 x2 256 (by omega) _ _ r _ j (by dsimp only; omega)).trans (ho _ _ (by omega))
  · exact (head_columns x0 x1 x2 512 (by omega) _ _ r _ j (by dsimp only; omega)).trans (ho _ _ (by omega))
  · exact (head_columns x0 x1 x2 768 (by omega) _ _ r _ j (by dsimp only; omega)).trans (ho _ _ (by omega))

section
open Cert.CrossAttnRefIdeal Cert.CrossAttnRefIdeal.Read

variable (x0 : FVec Ideal Cert.CrossAttnRefIdeal.S24576x1024 .bf16) (x1 : FVec Ideal Cert.CrossAttnRefIdeal.S1536x2048 .bf16) (b : Fin 6) (h : Fin 4) (t : Fin 4096) (i : Fin 256)

/-- The reference's scores of a query of batch `b` and head `h`. -/
def refScore (i : Fin 256) : EReal :=
  score (fun e => x0 (ix2 ⟨b.val * 4096 + t.val, by omega⟩ ⟨h.val * 256 + e.val, by omega⟩)) (fun e => x1 (ix2 ⟨b.val * 256 + i.val, by omega⟩ ⟨h.val * 256 + e.val, by omega⟩))

/-- A reference's query. -/
theorem query_apply (e : Fin 256) : val_main_v1 (F := Ideal) x0 (ix4 b t h e) = x0 (ix2 ⟨b.val * 4096 + t.val, by omega⟩ ⟨h.val * 256 + e.val, by omega⟩) := by
  pointwise [val_main_v1, val_main_v0]
/-- A reference's key. -/
theorem key_apply (e : Fin 256) : val_main_v4 (F := Ideal) x1 (ix4 b i h e) = x1 (ix2 ⟨b.val * 256 + i.val, by omega⟩ ⟨h.val * 256 + e.val, by omega⟩) := by
  pointwise [val_main_v4, val_main_v3, val_main_v2]
/-- A reference's value. -/
theorem value_apply (l : Fin 256) : val_main_v7 (F := Ideal) x1 (ix4 b i h l) = x1 (ix2 ⟨b.val * 256 + i.val, by omega⟩ ⟨1024 + (h.val * 256 + l.val), by omega⟩) := by
  pointwise [val_main_v7, val_main_v6, val_main_v5]

/-- A reference's score. -/
theorem refScore_apply : val_main_v10 (F := Ideal) x0 x1 (ix4 b h t i) = refScore x0 x1 b h t i := by
  have h1 : val_main_v10 (F := Ideal) x0 x1 (ix4 b h t i) = (∑ e, val_main_v1 (F := Ideal) x0 (ix4 b t h e) * val_main_v4 (F := Ideal) x1 (ix4 b i h e)) * Ideal.ofBits .f32 0x3D800000#32 := by
    pointwise [val_main_v10, val_main_v9, val_main_v8, val_main_cst]
  rw [h1]
  simp only [query_apply, key_apply]
  rfl

/-- The reference's greatest score of a query. -/
theorem greatest_apply : val_main_v15 (F := Ideal) x0 x1 (ix4 b h t i) = Finset.univ.sup (refScore x0 x1 b h t) := by
  have h1 : val_main_v15 (F := Ideal) x0 x1 (ix4 b h t i) = val_main_v13 (F := Ideal) x0 x1 (ix3 b h t) := by
    rw [val_main_v15_apply, val_main_v14_apply]
    generalize val_main_v13 (F := Ideal) x0 x1 = y
    refine congrArg y (funext fun a => ?_)
    fin_cases a <;> rfl
  have h2 : val_main_v12 (F := Ideal) (ix3 b h t) = (⊥ : EReal) := by
    rw [val_main_v12_apply]
    exact Cert.MlaIdeal.Val.ofBits_neg_inf
  have h3 : val_main_v11 (F := Ideal) x0 x1 (ix3 b h t) = Finset.univ.sup (refScore x0 x1 b h t) := by
    have hs := fun i => refScore_apply x0 x1 b h t i
    unfold val_main_v11 val_main_cst_0
    generalize val_main_v10 (F := Ideal) x0 x1 = y at hs ⊢
    exact (Cert.MlaRefIdeal.Val.host_max y _ b h t).trans (congrArg (Finset.univ.sup) (funext hs))
  rw [h1, val_main_v13_apply, h2, h3]
  exact max_eq_right bot_le

/-- The reference's exponential of a score less the greatest. -/
theorem refWeight_apply : val_main_v17 (F := Ideal) x0 x1 (ix4 b h t i) = Ideal.exp (refScore x0 x1 b h t i - Finset.univ.sup (refScore x0 x1 b h t)) := by
  show Ideal.exp (val_main_v10 (F := Ideal) x0 x1 (ix4 b h t i) - val_main_v15 (F := Ideal) x0 x1 (ix4 b h t i)) = _
  rw [refScore_apply, greatest_apply]

/-- An entry of the reference's result. -/
theorem reference_apply (l : Fin 256) (n : Fin 24576) (hn : n.val = b.val * 4096 + t.val) (j : Fin 1024) (hj : j.val = h.val * 256 + l.val) :
    val_main_v25 (F := Ideal) x0 x1 (ix2 n j) = attended (refScore x0 x1 b h t) (fun i => x1 (ix2 ⟨b.val * 256 + i.val, by omega⟩ ⟨1024 + (h.val * 256 + l.val), by omega⟩)) := by
  have h0 : val_main_v25 (F := Ideal) x0 x1 (ix2 n j) = val_main_v22 (F := Ideal) x0 x1 (ix4 b h l t) := by
    have hb : b = ⟨n.val / 4096, by omega⟩ := Fin.ext (by show b.val = n.val / 4096; omega)
    have ht : t = ⟨n.val % 4096, by omega⟩ := Fin.ext (by show t.val = n.val % 4096; omega)
    have hh : h = ⟨j.val / 256, by omega⟩ := Fin.ext (by show h.val = j.val / 256; omega)
    have hl : l = ⟨j.val % 256, by omega⟩ := Fin.ext (by show l.val = j.val % 256; omega)
    have h2 : val_main_v25 (F := Ideal) x0 x1 (ix2 n j)
        = val_main_v22 (F := Ideal) x0 x1 (ix4 ⟨n.val / 4096, by omega⟩ ⟨j.val / 256, by omega⟩ ⟨j.val % 256, by omega⟩ ⟨n.val % 4096, by omega⟩) := by
      pointwise [val_main_v25, val_main_v24, val_main_v23]
    rw [h2, ← hb, ← ht, ← hh, ← hl]
  have h1 : val_main_v22 (F := Ideal) x0 x1 (ix4 b h l t) = ∑ i : Fin 256, val_main_v7 (F := Ideal) x1 (ix4 b i h l) * val_main_v21 (F := Ideal) x0 x1 (ix4 b h t i) := by
    pointwise [val_main_v22]
  have h3 : ∀ i : Fin 256, val_main_v20 (F := Ideal) x0 x1 (ix4 b h t i) = ∑ i : Fin 256, val_main_v17 (F := Ideal) x0 x1 (ix4 b h t i) := by
    intro i
    pointwise [val_main_v20, val_main_v19, val_main_v18, val_main_cst_2]
  rw [h0, h1]
  refine Finset.sum_congr rfl fun i _ => (mul_comm _ _).trans (congrArg₂ (· * ·) ?_ (value_apply x1 b h i l))
  show Ideal.div (val_main_v17 (F := Ideal) x0 x1 (ix4 b h t i)) (val_main_v20 (F := Ideal) x0 x1 (ix4 b h t i)) = _
  rw [h3]
  simp only [refWeight_apply]

end

variable (m : (ℓ : Loc nD τ sig) → Buf (Elt Ideal) ℓ)

/-- The queries, as the launch reads them. -/
abbrev argQ (c : Dev nD) : FVec Ideal S24576x1024 .bf16 := m (c, Proc.tc.devRef main_arg0)
/-- The keys and values. -/
abbrev argKV (c : Dev nD) : FVec Ideal S1536x2048 .bf16 := m (c, Proc.tc.devRef main_arg1)

set_option maxHeartbeats 1600000 in
/-- Where each point's blocks lie. -/
theorem place : ∀ t : Fin cfg0.N,
    win0_0.index t = ![t.val, 0] ∧ win0_1.index t = ![t.val / 8, 0] ∧ win0_2.index t = ![t.val / 8, 1] ∧ win0_3.index t = ![t.val, 0] :=
  (by decide +kernel : ∀ t : Fin grid0.N, _)

variable (c : Dev nD) (t : Fin cfg0.N)

/-- The launch has 48 points. -/
theorem count_points : cfg0.N = 48 := N_0

/-- A point's queries. -/
theorem block_queries (r : Fin 512) (e : Fin 1024) (n : Fin 24576) (hn : n.val = 512 * t.val + r) :
    (iblk m c 0 t : Vec Ideal S512x1024 .bf16) (ix2 r e) = argQ m c (ix2 n e) := by
  show _ = (V m c main_arg0 : S24576x1024.Idx → EReal) (ix2 n e)
  blk_point [iblk, V, place t]
/-- A point's keys. -/
theorem block_keys (i : Fin 256) (e : Fin 1024) (n : Fin 1536) (hn : n.val = 256 * (t.val / 8) + i) :
    (iblk m c 1 t : Vec Ideal S256x1024 .bf16) (ix2 i e) = argKV m c (ix2 n ⟨e.val, by omega⟩) := by
  show _ = (V m c main_arg1 : S1536x2048.Idx → EReal) (ix2 n ⟨e.val, by omega⟩)
  blk_point [iblk, V, place t]
/-- A point's values. -/
theorem block_values (i : Fin 256) (e : Fin 1024) (n : Fin 1536) (hn : n.val = 256 * (t.val / 8) + i) :
    (iblk m c 2 t : Vec Ideal S256x1024 .bf16) (ix2 i e) = argKV m c (ix2 n ⟨1024 + e.val, by omega⟩) := by
  show _ = (V m c main_arg1 : S1536x2048.Idx → EReal) (ix2 n ⟨1024 + e.val, by omega⟩)
  blk_point [iblk, V, place t]

/-- An entry of what a point stores is the reference's. -/
theorem entry_out (r : Fin 512) (j : Fin 1024) (n : Fin 24576) (hn : n.val = 512 * t.val + r) :
    ((dats m 0 c).after 3 t : S512x1024.Idx → EReal) (ix2 r j) = Cert.CrossAttnRefIdeal.Read.val_main_v25 (F := Ideal) (argQ m c) (argKV m c) (ix2 n j) := by
  have hN := lt_of_lt_of_eq t.isLt count_points
  rw [after0_3, out_apply, reference_apply (argQ m c) (argKV m c) ⟨t.val / 8, by omega⟩ ⟨j.val / 256, by omega⟩ ⟨512 * (t.val % 8) + r.val, by omega⟩ ⟨j.val % 256, by omega⟩ n
    (by dsimp only; omega) j (by dsimp only; omega)]
  unfold headOut
  refine congrArg₂ attended (funext fun i => congrArg₂ score (funext fun e => ?_) (funext fun e => ?_)) (funext fun i => ?_)
  · exact block_queries m c t r _ _ (by dsimp only; omega)
  · exact block_keys m c t i _ _ (by dsimp only; omega)
  · refine (block_values m c t i j ⟨t.val / 8 * 256 + i.val, by omega⟩ (by dsimp only; omega)).trans (congrArg (argKV m c) (congrArg (ix2 _) (Fin.ext ?_)))
    dsimp only
    omega

set_option maxHeartbeats 1600000 in
/-- The launch's output is the reference's. -/
theorem final : (dats m 0 c).arrAt 3 cfg0.N = Cert.CrossAttnRefIdeal.Read.val_main_v25 (F := Ideal) (argQ m c) (argKV m c) := by
  refine (dats m 0 c).arrAt_eq_of_covers 3 _ (by decide +kernel) fun t hf y => ?_
  blk_simp
  obtain ⟨r, l, rfl⟩ : ∃ (r : Fin 512) (l : Fin 1024), y = ix2 r l := ⟨y 0, y 1, by funext k; fin_cases k <;> rfl⟩
  have hN := lt_of_lt_of_eq t.isLt count_points
  have hi := (place t).2.2.2
  refine (entry_out m c t r l ⟨512 * t.val + r, by omega⟩ rfl).trans (congrArg _ ?_)
  funext k
  fin_cases k
  · refine Fin.ext ?_
    blk_simp [hi]
    show 512 * t.val + r.val = t.val * 512 + r.val
    omega
  · refine Fin.ext ?_
    blk_simp [hi]
    rfl

end Cert.CrossAttnIdeal.Val

end
-- ==== Proof.CrossAttnClaim.lean ====
/- The claims about the cross attention: its frames and its value. -/
module

public import proofs.«01_k».proof.Defs
public import proofs.«01_k».proof.Proof.Gen.CrossAttn.Frame
public import proofs.«01_k».proof.Proof.CrossAttnPoints
public import proofs.«01_k».proof.Proof.Gen.CrossAttnRefIdeal.Run
public import proofs.«01_k».proof.Proof.Gen.CrossAttnRefIdeal.Read
public import Idealize.ShloMosaic.Adequacy
public import Idealize.ShloMosaic.Init
public import Idealize.ShloMosaic.Lib.Claim

@[expose] public section

noncomputable section

namespace Cert.Proof.CrossAttnClaims

open Idealize.ShloMosaic Idealize.ShloMosaic.TcCoe Idealize.SL.Sem

/-- The cross attention runs, leaves its arguments as they were, and ends with every counter at zero. -/
theorem frame_p : Cert.quiescent_CrossAttn := fun m g _ => Cert.CrossAttn.Gen.frame m g
/-- So does its idealization. -/
theorem frame_pi : Cert.quiescent_CrossAttnIdeal := fun m g _ => Cert.CrossAttnIdeal.Gen.frame m g
/-- So does the reference. -/
theorem frame_ri : Cert.quiescent_CrossAttnRefIdeal := fun m g _ =>
  (θ_run Cert.CrossAttnRefIdeal.defs _ _).mono (fun r h => ⟨fun c => (h c).2, sem_eq_zero_of_no_sems (by decide) r.2⟩)
    (Cert.CrossAttnRefIdeal.Value.run (F := Ideal) m g)

/-- The idealization changes no operation but the number type: it has no rewrite to justify. -/
theorem preserves : Cert.preserves_CrossAttn_CrossAttnIdeal := trivial

/-- From equal arguments the cross attention and the reference end with equal results. -/
theorem algebraic : Cert.algebraic_CrossAttnIdeal_CrossAttnRefIdeal := by
  intro m g m' g' _ hagree
  refine ⟨_, Cert.CrossAttnIdeal.Value.run_blocks (F := Ideal) m g, ?_⟩
  refine (θ_run Cert.CrossAttnRefIdeal.defs _ _).mono (fun _ h c => ⟨(h c).1.trans ?_, (h c).2⟩)
    (Cert.CrossAttnRefIdeal.Value.run (F := Ideal) m' g')
  obtain ⟨h0, h1⟩ := hagree c
  refine (Cert.CrossAttnRefIdeal.Read.val_main_v25_eq (F := Ideal) _ _).trans ?_
  rw [h0, h1]
  exact (Cert.CrossAttnIdeal.Val.final m c).symm

end Cert.Proof.CrossAttnClaims

end
-- ==== Proof.CrossOutPoints.lean ====
/- What each point of the cross attention's output projection leaves in its output block, and that this is the reference's. -/
module

public import proofs.«01_k».proof.Proof.Gen.CrossOutIdeal.Value
public import proofs.«01_k».proof.Proof.Gen.CrossOutRefIdeal.Read
public import Idealize.ShloMosaic.Lib.Pipeline.ValueKit
public import Idealize.ShloMosaic.Lib.Pointwise
public import Idealize.ShloMosaic.Lib.Claim
public import Idealize.ShloMosaic.Lib.StableHlo.RunRead
public import Idealize.ShloMosaic.Lib.KernelVsHost

@[expose] public section

set_option maxRecDepth 16384

noncomputable section

namespace Cert.CrossOutIdeal.Val

open Cert.CrossOutIdeal Cert.CrossOutIdeal.Gen Idealize.ShloMosaic Idealize.ShloMosaic.TcCoe Idealize.SL.Sem
open scoped BigOperators

/-- What a point stores: its product and the residual. -/
theorem out_apply (x0 : Vec Ideal S512x1024 .bf16) (x1 : Vec Ideal S1024x1024 .bf16) (x2 : Vec Ideal S512x1024 .f32) (r : Fin 512) (l : Fin 1024) :
    k0_pay1 (F := Ideal) x0 x1 x2 (ix2 r l) = (∑ k : Fin 1024, x0 (ix2 r k) * x1 (ix2 k l)) + x2 (ix2 r l) := by
  pointwise [k0_pay1]

open Cert.CrossOutRefIdeal.Read in
/-- An entry of the reference's result. -/
theorem reference_apply (o : FVec Ideal S24576x1024 .bf16) (w : FVec Ideal S1024x4096 .f32) (x : FVec Ideal S24576x4096 .f32) (n : Fin 24576) (j : Fin 4096) :
    val_main_v2 (F := Ideal) o w x (ix2 n j) = (∑ k : Fin 1024, o (ix2 n k) * w (ix2 k j)) + x (ix2 n j) := by
  rw [val_main_v2_apply, val_main_v1_apply]
  refine (add_comm _ _).trans (congrArg (· + x (ix2 n j)) (Finset.sum_congr rfl fun k _ => congrArg₂ (· * ·) (congrArg o ?_) (congrArg w ?_)))
  · funext a; fin_cases a <;> rfl
  · funext a; fin_cases a <;> rfl

variable (m : (ℓ : Loc nD τ sig) → Buf (Elt Ideal) ℓ)

/-- The attended rows, as the launch reads them. -/
abbrev argO (c : Dev nD) : FVec Ideal S24576x1024 .bf16 := m (c, Proc.tc.devRef main_arg0)
/-- The weights. -/
abbrev argW (c : Dev nD) : FVec Ideal S1024x4096 .f32 := m (c, Proc.tc.devRef main_arg1)
/-- The residual. -/
abbrev argX (c : Dev nD) : FVec Ideal S24576x4096 .f32 := m (c, Proc.tc.devRef main_arg2)

set_option maxHeartbeats 1600000 in
/-- Where each point's blocks lie. -/
theorem place : ∀ t : Fin cfg0.N,
    win0_0.index t = ![t.val / 4, 0] ∧ win0_1.index t = ![0, t.val % 4] ∧ win0_2.index t = ![t.val / 4, t.val % 4] ∧ win0_3.index t = ![t.val / 4, t.val % 4] :=
  (by decide +kernel : ∀ t : Fin grid0.N, _)

/-- The launch's weights are the weights. -/
theorem weights_apply (c : Dev nD) (k : Fin 1024) (j : Fin 4096) : (V m c main_v0 : S1024x4096.Idx → EReal) (ix2 k j) = argW m c (ix2 k j) := by
  simp only [V]
  after_reads_simp
  pointwise
/-- The launch's other inputs are its arguments. -/
theorem rows_eq (c : Dev nD) : V m c main_arg0 = argO m c ∧ V m c main_arg2 = argX m c := by
  simp only [V]
  refine ⟨?_, ?_⟩ <;> after_reads_simp

variable (c : Dev nD) (t : Fin cfg0.N)

/-- A point's rows. -/
theorem block_rows (r : Fin 512) (k : Fin 1024) (n : Fin 24576) (hn : n.val = 512 * (t.val / 4) + r) :
    (iblk m c 0 t : Vec Ideal S512x1024 .bf16) (ix2 r k) = argO m c (ix2 n k) := by
  rw [← (rows_eq m c).1]
  blk_point [iblk, V, place t]
/-- A point's columns. -/
theorem block_weights (k l : Fin 1024) (j : Fin 4096) (hj : j.val = 1024 * (t.val % 4) + l) :
    (iblk m c 1 t : Vec Ideal S1024x1024 .bf16) (ix2 k l) = argW m c (ix2 k j) := by
  rw [← weights_apply]
  blk_point [iblk, V, place t]
/-- A point's block of the residual. -/
theorem block_residual (r : Fin 512) (l : Fin 1024) (n : Fin 24576) (hn : n.val = 512 * (t.val / 4) + r) (j : Fin 4096) (hj : j.val = 1024 * (t.val % 4) + l) :
    (iblk m c 2 t : Vec Ideal S512x1024 .f32) (ix2 r l) = argX m c (ix2 n j) := by
  rw [← (rows_eq m c).2]
  blk_point [iblk, V, place t]

/-- What a point stores. -/
theorem point_out : (dats m 0 c).after 3 t = k0_pay1 (F := Ideal) (iblk m c 0 t) (iblk m c 1 t) (iblk m c 2 t) := by
  rw [after0_3]
  frame_out

/-- An entry of what a point stores is the reference's. -/
theorem entry_out (r : Fin 512) (l : Fin 1024) (n : Fin 24576) (hn : n.val = 512 * (t.val / 4) + r) (j : Fin 4096) (hj : j.val = 1024 * (t.val % 4) + l) :
    ((dats m 0 c).after 3 t : S512x1024.Idx → EReal) (ix2 r l) = Cert.CrossOutRefIdeal.Read.val_main_v2 (F := Ideal) (argO m c) (argW m c) (argX m c) (ix2 n j) := by
  rw [point_out, out_apply, reference_apply]
  exact congrArg₂ (· + ·) (Finset.sum_congr rfl fun k _ => congrArg₂ (· * ·) (block_rows m c t r k n hn) (block_weights m c t k l j hj))
    (block_residual m c t r l n hn j hj)

set_option maxHeartbeats 1600000 in
/-- The launch's output is the reference's. -/
theorem final : (dats m 0 c).arrAt 3 cfg0.N = Cert.CrossOutRefIdeal.Read.val_main_v2 (F := Ideal) (argO m c) (argW m c) (argX m c) := by
  refine (dats m 0 c).arrAt_eq_of_covers 3 _ (by decide +kernel) fun t hf y => ?_
  blk_simp
  obtain ⟨r, l, rfl⟩ : ∃ (r : Fin 512) (l : Fin 1024), y = ix2 r l := ⟨y 0, y 1, by funext k; fin_cases k <;> rfl⟩
  have hl := l.isLt
  have hN := lt_of_lt_of_eq t.isLt (N_0 : cfg0.N = 192)
  have hi := (place t).2.2.2
  refine (entry_out m c t r l ⟨512 * (t.val / 4) + r, by omega⟩ rfl ⟨1024 * (t.val % 4) + l, by omega⟩ rfl).trans (congrArg _ ?_)
  funext k
  fin_cases k
  · refine Fin.ext ?_
    blk_simp [hi]
    show 512 * (t.val / 4) + r.val = t.val / 4 * 512 + r.val
    omega
  · refine Fin.ext ?_
    blk_simp [hi]
    show 1024 * (t.val % 4) + l.val = t.val % 4 * 1024 + l.val
    omega

end Cert.CrossOutIdeal.Val

end
-- ==== Proof.CrossOutClaim.lean ====
/- The claims about the cross attention's output projection: its frames and its value. -/
module

public import proofs.«01_k».proof.Defs
public import proofs.«01_k».proof.Proof.Gen.CrossOut.Frame
public import proofs.«01_k».proof.Proof.CrossOutPoints
public import proofs.«01_k».proof.Proof.Gen.CrossOutRefIdeal.Run
public import proofs.«01_k».proof.Proof.Gen.CrossOutRefIdeal.Read
public import Idealize.ShloMosaic.Adequacy
public import Idealize.ShloMosaic.Init
public import Idealize.ShloMosaic.Lib.Claim

@[expose] public section

noncomputable section

namespace Cert.Proof.CrossOutClaims

open Idealize.ShloMosaic Idealize.ShloMosaic.TcCoe Idealize.SL.Sem

/-- The cross attention's output projection runs, leaves its arguments as they were, and ends with every counter at zero. -/
theorem frame_p : Cert.quiescent_CrossOut := fun m g _ => Cert.CrossOut.Gen.frame m g
/-- So does its idealization. -/
theorem frame_pi : Cert.quiescent_CrossOutIdeal := fun m g _ => Cert.CrossOutIdeal.Gen.frame m g
/-- So does the reference. -/
theorem frame_ri : Cert.quiescent_CrossOutRefIdeal := fun m g _ =>
  (θ_run Cert.CrossOutRefIdeal.defs _ _).mono (fun r h => ⟨fun c => (h c).2, sem_eq_zero_of_no_sems (by decide) r.2⟩)
    (Cert.CrossOutRefIdeal.Value.run (F := Ideal) m g)

/-- The idealization changes no operation but the number type: it has no rewrite to justify. -/
theorem preserves : Cert.preserves_CrossOut_CrossOutIdeal := trivial

/-- From equal arguments the cross attention's output projection and the reference end with equal results. -/
theorem algebraic : Cert.algebraic_CrossOutIdeal_CrossOutRefIdeal := by
  intro m g m' g' _ hagree
  refine ⟨_, Cert.CrossOutIdeal.Value.run_blocks (F := Ideal) m g, ?_⟩
  refine (θ_run Cert.CrossOutRefIdeal.defs _ _).mono (fun _ h c => ⟨(h c).1.trans ?_, (h c).2⟩)
    (Cert.CrossOutRefIdeal.Value.run (F := Ideal) m' g')
  obtain ⟨h0, h1, h2⟩ := hagree c
  refine (Cert.CrossOutRefIdeal.Read.val_main_v2_eq (F := Ideal) _ _ _).trans ?_
  rw [h0, h1, h2]
  exact (Cert.CrossOutIdeal.Val.final m c).symm

end Cert.Proof.CrossOutClaims

end
-- ==== Proof.ShortConvIdealRun.lean ====
module
public import proofs.«01_k».proof.Proof.Gen.ShortConvIdeal.Frame.Runs
@[expose] public section
set_option maxRecDepth 16384
noncomputable section
namespace Cert.ShortConvIdeal.Run
open Cert.ShortConvIdeal Cert.ShortConvIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

variable (c : Dev nD) (i : grid0.Coords) (arg2 : Memref sig .tc .vmem S4096x128 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S3x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S4096x128 .bf16) (harg8 : arg8.IsWhole) (arg9 : Memref sig .tc .vmem S4112x128 .f32) (harg9 : arg9.IsWhole)
  (x0 x1 x2 : Vec F S4096x128 .f32) (x3 : Vec F S3x128 .f32) (x4 x5 : Vec F S1x128 .f32)

/-- The pieces that the first half writes into the scratch, last first: the products of the two gates' inputs, then the zeroed borders. -/
def gated : List (View.Piece (Elt F) S4112x128 .f32) :=
  pb_k0_t1 (F := F) Variants.none c none i arg2 harg2 arg3 harg3 arg4 harg4 arg5 harg5 arg6 harg6 arg7 harg7 arg8 harg8 arg9 harg9 (harg3.unread x1) (harg4.unread x2) k0_t1_loop.trips
    ++ [⟨Rect.unit (s := S4112x128) ![4104, 0] S8x128.size inb_S4112x128_S8x128_4104_0, k0_pay8⟩,
        ⟨Rect.unit (s := S4112x128) ![0, 0] S8x128.size inb_S4112x128_S8x128_0_0, k0_pay7⟩]

/-- They cover the scratch. -/
theorem gated_cover (y : S4112x128.Idx) : ∃ p ∈ gated c i arg2 harg2 arg3 harg3 arg4 harg4 arg5 harg5 arg6 harg6 arg7 harg7 arg8 harg8 arg9 harg9 x1 x2, y ∈ p.1.set :=
  View.cover_of_tiledBy (gated c i arg2 harg2 arg3 harg3 arg4 harg4 arg5 harg5 arg6 harg6 arg7 harg7 arg8 harg8 arg9 harg9 x1 x2) S8x128.size (by sl_kernel_rfl) y

/-- What the scratch reads after the first half. -/
def padded : Vec F S4112x128 .f32 :=
  scM0_0.view.read (Elt F) (scM0_0.view.writes (Elt F) scM0_0.view.junk (gated c i arg2 harg2 arg3 harg3 arg4 harg4 arg5 harg5 arg6 harg6 arg7 harg7 arg8 harg8 arg9 harg9 x1 x2))

/-- Whatever the scratch held, its contents after the first half are the same. -/
theorem filled (f : arg9.view.ty.Contents (Elt F)) :
    arg9.view.writes (Elt F) f (gated c i arg2 harg2 arg3 harg3 arg4 harg4 arg5 harg5 arg6 harg6 arg7 harg7 arg8 harg8 arg9 harg9 x1 x2) = harg9.unread (padded c i arg2 harg2 arg3 harg3 arg4 harg4 arg5 harg5 arg6 harg6 arg7 harg7 arg8 harg8 arg9 harg9 x1 x2) :=
  harg9.eq_unread (View.read_writes_of_cover _ _ _ _ _ (gated_cover c i arg2 harg2 arg3 harg3 arg4 harg4 arg5 harg5 arg6 harg6 arg7 harg7 arg8 harg8 arg9 harg9 x1 x2))

/-- The first half: it needs the two gated inputs and the scratch at anything, and leaves the scratch filled. -/
theorem first_half (f : arg9.view.ty.Contents (Elt F)) (E : Set ℕ) :
    (iprop((arg3.view.loc (c : Thread nD τ) ↦[arg3.view.set]{fullShare} harg3.unread x1)
        ∗ (arg4.view.loc (c : Thread nD τ) ↦[arg4.view.set]{fullShare} harg4.unread x2)
        ∗ (arg9.view.loc (c : Thread nD τ) ↦[arg9.view.set]{fullShare} f)) : sProp (MT nD τ sig Unit (Elt F) ℕ (UR sig nD τ) ℕ))
      ⊢ wp frame (wpE (defs₀ (F := F)) Variants.none c none) E (k0_part2 (F := F) i arg2 harg2 arg3 harg3 arg4 harg4 arg5 harg5 arg6 harg6 arg7 harg7 arg8 harg8 arg9 harg9) (fun r => (iprop(
          ⌜r = ⟨k0_pay10, iota .tc S128x128 32 [1] iota_S128x128_d1_w32, 64#32, k0_pay11, k0_pay12⟩⌝
            ∗ (arg3.view.loc (c : Thread nD τ) ↦[arg3.view.set]{fullShare} harg3.unread x1)
            ∗ (arg4.view.loc (c : Thread nD τ) ↦[arg4.view.set]{fullShare} harg4.unread x2)
            ∗ (arg9.view.loc (c : Thread nD τ) ↦[arg9.view.set]{fullShare} harg9.unread (padded c i arg2 harg2 arg3 harg3 arg4 harg4 arg5 harg5 arg6 harg6 arg7 harg7 arg8 harg8 arg9 harg9 x1 x2))) : sProp (MT nD τ sig Unit (Elt F) ℕ (UR sig nD τ) ℕ))) := by
  simp only [k0_part2_eq_skeleton]; unfold k0_part2_skel
  iintro ⟨H1, H2, HS0⟩
  sl_exec
  sl_step
  rw [← filled c i arg2 harg2 arg3 harg3 arg4 harg4 arg5 harg5 arg6 harg6 arg7 harg7 arg8 harg8 arg9 harg9 x1 x2 f]
  isplitr
  · ipureintro; rfl
  isplitl [H1]
  · iexact H1
  isplitl [H2]
  · iexact H2
  unfold gated
  rw [View.writes_append]
  iexact HS0

/-- The first half before any continuation. -/
theorem first_half_then {β : Type} (f : arg9.view.ty.Contents (Elt F)) (E : Set ℕ)
    (κ : (Σ' (v32 : IVec S128x128 32) (v33 : IVec S128x128 32) (c64_i32_9 : BitVec 32) (v35 : IVec S128x128 32), IVec S128x128 32) → Prog (TpuEff nD τ sig (Elt F) Λ₀ .tc) β)
    (Q : β → sProp (MT nD τ sig Unit (Elt F) ℕ (UR sig nD τ) ℕ)) :
    iprop(iprop((arg3.view.loc (c : Thread nD τ) ↦[arg3.view.set]{fullShare} harg3.unread x1)
        ∗ (arg4.view.loc (c : Thread nD τ) ↦[arg4.view.set]{fullShare} harg4.unread x2)
        ∗ (arg9.view.loc (c : Thread nD τ) ↦[arg9.view.set]{fullShare} f))
        ∗ (iprop((arg3.view.loc (c : Thread nD τ) ↦[arg3.view.set]{fullShare} harg3.unread x1)
            ∗ (arg4.view.loc (c : Thread nD τ) ↦[arg4.view.set]{fullShare} harg4.unread x2)
            ∗ (arg9.view.loc (c : Thread nD τ) ↦[arg9.view.set]{fullShare} harg9.unread (padded c i arg2 harg2 arg3 harg3 arg4 harg4 arg5 harg5 arg6 harg6 arg7 harg7 arg8 harg8 arg9 harg9 x1 x2)))
          -∗ wp frame (wpE (defs₀ (F := F)) Variants.none c none) E (κ ⟨k0_pay10, iota .tc S128x128 32 [1] iota_S128x128_d1_w32, 64#32, k0_pay11, k0_pay12⟩) Q))
      ⊢ wp frame (wpE (defs₀ (F := F)) Variants.none c none) E (k0_part2 (F := F) i arg2 harg2 arg3 harg3 arg4 harg4 arg5 harg5 arg6 harg6 arg7 harg7 arg8 harg8 arg9 harg9 >>= κ) Q := by
  rw [wp_bind]
  iintro ⟨H, Hk⟩
  iapply (wp_wand_r frame (wpE (defs₀ (F := F)) Variants.none c none) E)
  isplitl [H]
  · iapply (first_half c i arg2 harg2 arg3 harg3 arg4 harg4 arg5 harg5 arg6 harg6 arg7 harg7 arg8 harg8 arg9 harg9 x1 x2 f E); iexact H
  iintro %r ⟨%hr, H⟩
  subst hr
  iapply Hk
  iexact H

/-- What the body's stores leave in the output's buffer, as pieces, with the proof that the body runs to its continuation. -/
def wholeRun :
    { L6 : List (View.Piece (Elt F) S4096x128 .bf16) //
      ∀ (E : Set ℕ) (K : PUnit → sProp (MT nD τ sig Unit (Elt F) ℕ (UR sig nD τ) ℕ)),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ d, owns (c : Thread nD τ) arg9 fullShare d)) -∗ K ⟨⟩))
          ⊢ wp frame (wpE (defs₀ (F := F)) Variants.none c none) E (cc0_short_conv i arg2 harg2 arg3 harg3 arg4 harg4 arg5 harg5 arg6 harg6 arg7 harg7 arg8 harg8 arg9 harg9) K } := by
  refine ⟨?_, fun E K => ?run⟩
  case run =>
    simp only [cc0_short_conv_eq_skeleton]; unfold cc0_short_conv_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    iapply (first_half_then c i arg2 harg2 arg3 harg3 arg4 harg4 arg5 harg5 arg6 harg6 arg7 harg7 arg8 harg8 arg9 harg9 x1 x2 fs0 E)
    isplitl [H1 H2 HS0]
    · isplitl [H1]
      · iexact H1
      isplitl [H2]
      · iexact H2
      iexact HS0
    iintro ⟨H1, H2, HS0⟩
    dsimp only
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    iexists _, _; isplitr; swap; · iexact HS0
    ipureintro; rfl

end Cert.ShortConvIdeal.Run
end
-- ==== Proof.ShortConvIdealFrame.lean ====
module
public import proofs.«01_k».proof.Proof.ShortConvIdealRun
public import Idealize.ShloMosaic.Lib.Claim
@[expose] public section
set_option maxRecDepth 16384
noncomputable section
namespace Cert.ShortConvIdeal.Run
open Cert.ShortConvIdeal Cert.ShortConvIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- The pieces of the output cover its block. -/
theorem run_cover (c : Dev nD) (i : grid0.Coords) (arg2 : Memref sig .tc .vmem S4096x128 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S3x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S4096x128 .bf16) (harg8 : arg8.IsWhole) (arg9 : Memref sig .tc .vmem S4112x128 .f32) (harg9 : arg9.IsWhole)
    (x0 : Vec F S4096x128 .f32) (x1 : Vec F S4096x128 .f32) (x2 : Vec F S4096x128 .f32) (x3 : Vec F S3x128 .f32) (x4 : Vec F S1x128 .f32) (x5 : Vec F S1x128 .f32) (y : S4096x128.Idx) :
    ∃ pc ∈ (wholeRun c i arg2 harg2 arg3 harg3 arg4 harg4 arg5 harg5 arg6 harg6 arg7 harg7 arg8 harg8 arg9 harg9 x0 x1 x2 x3 x4 x5).1, y ∈ pc.1.set :=
  View.cover_of_tiledL (wholeRun c i arg2 harg2 arg3 harg3 arg4 harg4 arg5 harg5 arg6 harg6 arg7 harg7 arg8 harg8 arg9 harg9 x0 x1 x2 x3 x4 x5).1 S256x128.size (by sl_kernel_rfl) y

/-- What the body leaves in the output's block. -/
def blockOut (c : Dev nD) (i : grid0.Coords) (arg2 : Memref sig .tc .vmem S4096x128 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S3x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S4096x128 .bf16) (harg8 : arg8.IsWhole) (arg9 : Memref sig .tc .vmem S4112x128 .f32) (harg9 : arg9.IsWhole)
    (x0 : Vec F S4096x128 .f32) (x1 : Vec F S4096x128 .f32) (x2 : Vec F S4096x128 .f32) (x3 : Vec F S3x128 .f32) (x4 : Vec F S1x128 .f32) (x5 : Vec F S1x128 .f32) : Vec F S4096x128 .bf16 :=
  VO0_6.read (Elt F) (VO0_6.writes (Elt F) VO0_6.junk (wholeRun c i arg2 harg2 arg3 harg3 arg4 harg4 arg5 harg5 arg6 harg6 arg7 harg7 arg8 harg8 arg9 harg9 x0 x1 x2 x3 x4 x5).1)

/-- What the output's block holds after a grid point. -/
def outsAt0 (c : Dev nD) (t : Fin cfg0.N) : Vec F S4096x128 .bf16 :=
  blockOut c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (iblk m c 0 t) (iblk m c 1 t) (iblk m c 2 t) (iblk m c 3 t) (iblk m c 4 t) (iblk m c 5 t)

/-- What every window holds after a grid point: the inputs their blocks, the output the block the body computes. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (outsAt0 m c t)
  Φ _ := Pipeline.ΦA spec0 c
  q w := Pipeline.shareOf spec0 w
  owed _ := 0

/-- The arrays are those found at entry. -/
theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = (outsAt0 m c t) := by dsimp only [dats]

/-! An input's buffer holds its block before every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-- What the body starts from at a point. -/
def bodyPre (c : Dev nD) (t : Fin cfg0.N) : sProp (MT nD τ sig Unit (Elt F) ℕ (UR sig nD τ) ℕ) :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- What the body leaves at a point. -/
def bodyPost (c : Dev nD) (t : Fin cfg0.N) : sProp (MT nD τ sig Unit (Elt F) ℕ (UR sig nD τ) ℕ) :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t))

set_option maxHeartbeats 800000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6]
  rw [show (dats m 0 c).Φ t.castSucc = Pipeline.ΦA spec0 c from rfl, PhiA0_eq]
  unfold outsAt0
  unfold blockOut
  iintro ⟨⟨HS0, Hg⟩, Ho, ⟨%d0, H0⟩, ⟨%d1, H1⟩, ⟨%d2, H2⟩, ⟨%d3, H3⟩, ⟨%d4, H4⟩, ⟨%d5, H5⟩, ⟨%d6, H6⟩⟩
  iapply ((wholeRun c (grid0.coords t) _ _ _ _ _ _ _ _ _ _ _ _ _ _ _ _ (iblk m c 0 t) (iblk m c 1 t) (iblk m c 2 t) (iblk m c 3 t) (iblk m c 4 t) (iblk m c 5 t)).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [HS0]; · iexact HS0
  iintro ⟨H0, H1, H2, H3, H4, H5, ⟨%e6, H6⟩, HS0⟩
  isplitl [HS0 Hg]
  · isplitl [HS0]
    · iexact HS0
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  unfold owns; iexists _; isplitr
  swap; · iexact H6
  ipureintro; exact View.read_writes_of_cover _ _ _ _ _ (run_cover c _ _ _ _ _ _ _ _ _ _ _ _ _ _ _ _ _ _ _ _ _ _ _)

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The whole program runs, and its counters end at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

/-- The whole program runs and leaves every array as the data says. -/
theorem run_main : θ_run defs (onTc (τ := τ) (main (F := F))) (s₀ m ρ) (Pipeline.FramePost cfgs (dats m) 0 (V m)) :=
  (θ_run defs _ _).mono (fun _ h => h.1) (run_main_quiescent m ρ)

/-- The arguments end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

/-- The frame: the arguments end unchanged and the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.ShortConvIdeal.Run
end
-- ==== Proof.ShortConvPayload.lean ====
/- What the short convolution's payloads are at an index. -/
module
public import proofs.«01_k».proof.Proof.ShortConvIdealRun
public import proofs.«01_k».proof.Proof.Softmax
public import Idealize.ShloMosaic.Lib.Pipeline.ValueKit
public import Idealize.ShloMosaic.Lib.Pointwise
public import Idealize.ShloMosaic.Lib.Claim
public import Idealize.ShloMosaic.Lib.KernelVsHost
@[expose] public section
set_option maxRecDepth 16384
noncomputable section
namespace Cert.ShortConvIdeal.Val
open Cert.ShortConvIdeal Cert.ShortConvIdeal.Gen Idealize.ShloMosaic Idealize.ShloMosaic.TcCoe Idealize.SL.Sem
open scoped BigOperators

/-- One entry before the normalisation: three products, the bias, then the outer gate. -/
def mix (c u0 u1 u2 w0 w1 w2 b : EReal) : EReal := c * (u0 * w0 + u1 * w1 + u2 * w2 + b)

/-- The product of the two gated inputs. -/
theorem gate_apply (x y : FVec Ideal S256x128 .f32) (r : Fin 256) (l : Fin 128) : k0_pay9 (F := Ideal) x y (ix2 r l) = x (ix2 r l) * y (ix2 r l) := by
  pointwise [k0_pay9]

/-- The leading border is zero. -/
theorem lead_apply (r : Fin 8) (l : Fin 128) : k0_pay7 (F := Ideal) (ix2 r l) = 0 := by
  pointwise [k0_pay7, k0_pay6]

/-- The trailing border is zero. -/
theorem trail_apply (r : Fin 8) (l : Fin 128) : k0_pay8 (F := Ideal) (ix2 r l) = 0 := by
  pointwise [k0_pay8, k0_pay6]

/-- The row before: the rows moved down by one, the first taken from the block above. -/
theorem above_apply (x : FVec Ideal S256x128 .f32) (p : FVec Ideal S8x128 .f32) (r : Fin 256) (l : Fin 128) :
    select (cmpi .eq (iota .tc S256x128 32 [0] iota_S256x128_d0_w32) (broadcast S256x128 0#32))
      (broadcastTo S256x128 (shapeCast S1x128 (extractStridedSlice S1x128 ![7, 0] p slices_S8x128_o7_0_S1x128) shapeCasts_S1x128_S1x128) broadcasts_S1x128_S256x128)
      (dynamicRotate 0 1#32 none x rotates_S256x128_d0) (ix2 r l)
      = if h : r.val = 0 then p (ix2 7 l) else x (ix2 ⟨r.val - 1, by omega⟩ l) := by
  pointwise
  by_cases h : r.val = 0
  · rw [dif_pos h]
    simp [h, Scalar.select, IntOp.cmpi]
  · rw [dif_neg h]
    have e : BitVec.ofNat 32 r.val ≠ 0#32 := (by decide +kernel : ∀ r : Fin 256, r.val ≠ 0 → BitVec.ofNat 32 r.val ≠ 0#32) r h
    have e' : (r.val + 256 - 1) % 256 = r.val - 1 := by omega
    simp only [e', IntOp.cmpi, Scalar.select, beq_eq_false_iff_ne.mpr e]
    exact if_neg (by decide)

/-- The row after: the rows moved up by one, the last taken from the block below. -/
theorem below_apply (x : FVec Ideal S256x128 .f32) (p : FVec Ideal S8x128 .f32) (r : Fin 256) (l : Fin 128) :
    select (cmpi .eq (iota .tc S256x128 32 [0] iota_S256x128_d0_w32) (broadcast S256x128 255#32))
      (broadcastTo S256x128 (shapeCast S1x128 (extractStridedSlice S1x128 ![0, 0] p slices_S8x128_o0_0_S1x128) shapeCasts_S1x128_S1x128) broadcasts_S1x128_S256x128)
      (dynamicRotate 0 255#32 none x rotates_S256x128_d0) (ix2 r l)
      = if h : r.val = 255 then p (ix2 0 l) else x (ix2 ⟨r.val + 1, by omega⟩ l) := by
  pointwise
  by_cases h : r.val = 255
  · rw [dif_pos h]
    simp [h, Scalar.select, IntOp.cmpi]
  · rw [dif_neg h]
    have e : BitVec.ofNat 32 r.val ≠ 255#32 := (by decide +kernel : ∀ r : Fin 256, r.val ≠ 255 → BitVec.ofNat 32 r.val ≠ 255#32) r h
    have e' : (r.val + 256 - 255) % 256 = r.val + 1 := by omega
    simp only [e', IntOp.cmpi, Scalar.select, beq_eq_false_iff_ne.mpr e]
    exact if_neg (by decide)

/-- One block of rows before the normalisation. -/
theorem mix_apply (w0 w1 w2 : FVec Ideal S1x128 .f32) (x : FVec Ideal S256x128 .f32) (p q : FVec Ideal S8x128 .f32) (b : FVec Ideal S1x128 .f32) (g : FVec Ideal S256x128 .f32)
    (r : Fin 256) (l : Fin 128) :
    k0_pay2 (F := Ideal) (iota .tc S256x128 32 [0] iota_S256x128_d0_w32) w0 w1 w2 x p q b g (ix2 r l)
      = mix (g (ix2 r l)) (if h : r.val = 0 then p (ix2 7 l) else x (ix2 ⟨r.val - 1, by omega⟩ l)) (x (ix2 r l))
          (if h : r.val = 255 then q (ix2 0 l) else x (ix2 ⟨r.val + 1, by omega⟩ l)) (w0 (ix2 0 l)) (w1 (ix2 0 l)) (w2 (ix2 0 l)) (b (ix2 0 l)) := by
  rw [← above_apply x p r l, ← below_apply x q r l]
  unfold mix
  pointwise [k0_pay2]

/-- The number of a lane's head, as the kernel counts it. -/
theorem head_eq : ∀ n : Fin 128,
    Scalar.select
      (IntOp.andi
        (IntOp.cmpi CmpIPredicate.ne
          (IntOp.subi (BitVec.setWidth 32 (IntOp.cmpi CmpIPredicate.sgt (BitVec.ofNat 32 n.val) 0#32))
            (BitVec.setWidth 32 (IntOp.cmpi CmpIPredicate.slt (BitVec.ofNat 32 n.val) 0#32)))
          (Scalar.subi (Scalar.extui (Scalar.cmpi CmpIPredicate.sgt 64#32 0#32)) (Scalar.extui (Scalar.cmpi CmpIPredicate.slt 64#32 0#32))))
        (IntOp.cmpi CmpIPredicate.ne (IntOp.remsi ArithUnit.vector (BitVec.ofNat 32 n.val) 64#32) 0#32))
      (IntOp.subi (IntOp.divsi ArithUnit.vector (BitVec.ofNat 32 n.val) 64#32) 1#32)
      (IntOp.divsi ArithUnit.vector (BitVec.ofNat 32 n.val) 64#32) = BitVec.ofNat 32 (n.val / 64) := by
  decide +kernel

/-- Two lanes are of the same head. -/
theorem same_head : ∀ e l : Fin 128, IntOp.cmpi CmpIPredicate.eq (BitVec.ofNat 32 (e.val / 64)) (BitVec.ofNat 32 (l.val / 64))
    = if e.val / 64 = l.val / 64 then 1#1 else 0#1 := by
  decide +kernel

/-- The normalisation of one block of rows: `h` and `d` are the squares' two parts, and the sum runs over the lanes
    of the same head. -/
theorem norm_apply (a : FVec Ideal S256x128 .f32) (h d : FVec Ideal S256x128 .bf16) (g : FVec Ideal S1x128 .f32) (r : Fin 256) (l : Fin 128) :
    k0_pay1 (F := Ideal) k0_pay10 (iota .tc S128x128 32 [1] iota_S128x128_d1_w32) 64#32 k0_pay11 k0_pay12 a h d g (ix2 r l)
      = a (ix2 r l) * Ideal.rsqrt ((∑ e : Fin 128, (if e.val / 64 = l.val / 64 then h (ix2 r e) else 0)
          + ∑ e : Fin 128, (if e.val / 64 = l.val / 64 then d (ix2 r e) else 0)) * Ideal.ofBits .f32 0x3C800000#32
            + Ideal.ofBits .f32 0x358637BD#32) * g (ix2 0 l) := by
  have hs (e : Fin 128) (x y : EReal) : Scalar.select (if e.val / 64 = l.val / 64 then 1#1 else 0#1) x y = if e.val / 64 = l.val / 64 then x else y := by
    by_cases he : e.val / 64 = l.val / 64
    · rw [if_pos he, if_pos he]; rfl
    · rw [if_neg he, if_neg he]; rfl
  pointwise [k0_pay1, k0_pay10, k0_pay11, k0_pay12]
  simp only [head_eq, same_head, hs]

/-- The sum over the lanes of one head. -/
theorem head_sum (f : Fin 128 → EReal) (b : ℕ) (hb : b < 2) :
    ∑ e : Fin 128, (if e.val / 64 = b then f e else 0) = ∑ e : Fin 64, f ⟨64 * b + e.val, by omega⟩ := by
  have h1 := Fin.sum_univ_add (M := EReal) (a := 64) (b := 64) (fun e : Fin (64 + 64) => if e.val / 64 = b then f e else 0)
  refine h1.trans ?_
  obtain rfl | rfl : b = 0 ∨ b = 1 := by omega
  · rw [Finset.sum_eq_zero (f := fun i : Fin 64 => if (Fin.natAdd 64 i).val / 64 = 0 then f (Fin.natAdd 64 i) else 0) (fun i _ => if_neg (by show ¬ (64 + i.val) / 64 = 0; omega)), add_zero]
    refine Finset.sum_congr rfl fun i _ => (if_pos (by show i.val / 64 = 0; omega)).trans (congrArg f (Fin.ext ?_))
    show i.val = 64 * 0 + i.val
    omega
  · rw [Finset.sum_eq_zero (f := fun i : Fin 64 => if (Fin.castAdd 64 i).val / 64 = 1 then f (Fin.castAdd 64 i) else 0) (fun i _ => if_neg (by show ¬ i.val / 64 = 1; omega)), zero_add]
    refine Finset.sum_congr rfl fun i _ => (if_pos (by show (64 + i.val) / 64 = 1; omega)).trans (congrArg f (Fin.ext ?_))
    show 64 + i.val = 64 * 1 + i.val
    omega

/-- A real number less itself is zero. -/
theorem sub_self_of_real {x : EReal} (h : ∃ r : ℝ, x = r) : x - x = 0 := by
  obtain ⟨r, rfl⟩ := h
  rw [← EReal.coe_sub, sub_self, EReal.coe_zero]

/-- The pattern of one sixty-fourth. -/
theorem part_bits : Ideal.ofBits .f32 0x3C800000#32 = ((64⁻¹ : ℝ) : EReal) := by
  simp [Ideal.ofBits, Ideal.ieee, -EReal.coe_mul]
  norm_num

/-- The pattern of sixty-four. -/
theorem heads_bits : Ideal.ofBits .f32 0x42800000#32 = ((64 : ℝ) : EReal) := by
  simp [Ideal.ofBits, Ideal.ieee, -EReal.coe_mul]
  norm_num

/-- A quotient by sixty-four is a product with one sixty-fourth. -/
theorem part_eq (x : EReal) : Ideal.div x (Ideal.ofBits .f32 0x42800000#32) = x * Ideal.ofBits .f32 0x3C800000#32 := by
  rw [heads_bits, part_bits]
  unfold Ideal.div
  rw [if_neg (by exact_mod_cast (by norm_num : (64 : ℝ) ≠ 0)), EReal.coe_inv]

/-- One entry of the result, from the lanes `a` of its row before the normalisation. -/
def normed (a : Fin 128 → EReal) (g : EReal) (l : Fin 128) : EReal :=
  Cert.Softmax.rms (fun e : Fin 64 => a ⟨64 * (l.val / 64) + e.val, by omega⟩) (Ideal.ofBits .f32 0x42800000#32) (Ideal.ofBits .f32 0x358637BD#32)
    ⟨l.val % 64, by omega⟩ * g

/-- One block of rows: what the kernel stores, where the rows before the normalisation are real. -/
theorem store_apply (w0 w1 w2 : FVec Ideal S1x128 .f32) (x : FVec Ideal S256x128 .f32) (p q : FVec Ideal S8x128 .f32) (b : FVec Ideal S1x128 .f32) (g : FVec Ideal S256x128 .f32)
    (n : FVec Ideal S1x128 .f32) (r : Fin 256) (l : Fin 128)
    (hr : ∀ e : Fin 128, ∃ s : ℝ, k0_pay2 (F := Ideal) (iota .tc S256x128 32 [0] iota_S256x128_d0_w32) w0 w1 w2 x p q b g (ix2 r e) = s) :
    k0_pay1 (F := Ideal) k0_pay10 (iota .tc S128x128 32 [1] iota_S128x128_d1_w32) 64#32 k0_pay11 k0_pay12
        (k0_pay2 (F := Ideal) (iota .tc S256x128 32 [0] iota_S256x128_d0_w32) w0 w1 w2 x p q b g)
        (k0_pay4 (F := Ideal) (iota .tc S256x128 32 [0] iota_S256x128_d0_w32) w0 w1 w2 x p q b g)
        (k0_pay5 (F := Ideal) (iota .tc S256x128 32 [0] iota_S256x128_d0_w32) w0 w1 w2 x p q b g) n (ix2 r l)
      = normed (fun e => k0_pay2 (F := Ideal) (iota .tc S256x128 32 [0] iota_S256x128_d0_w32) w0 w1 w2 x p q b g (ix2 r e)) (n (ix2 0 l)) l := by
  have h4 (e : Fin 128) : k0_pay4 (F := Ideal) (iota .tc S256x128 32 [0] iota_S256x128_d0_w32) w0 w1 w2 x p q b g (ix2 r e)
      = k0_pay2 (F := Ideal) (iota .tc S256x128 32 [0] iota_S256x128_d0_w32) w0 w1 w2 x p q b g (ix2 r e)
        * k0_pay2 (F := Ideal) (iota .tc S256x128 32 [0] iota_S256x128_d0_w32) w0 w1 w2 x p q b g (ix2 r e) := by
    pointwise [k0_pay4, k0_pay3]
  have h5 (e : Fin 128) : k0_pay5 (F := Ideal) (iota .tc S256x128 32 [0] iota_S256x128_d0_w32) w0 w1 w2 x p q b g (ix2 r e)
      = k0_pay2 (F := Ideal) (iota .tc S256x128 32 [0] iota_S256x128_d0_w32) w0 w1 w2 x p q b g (ix2 r e)
        * k0_pay2 (F := Ideal) (iota .tc S256x128 32 [0] iota_S256x128_d0_w32) w0 w1 w2 x p q b g (ix2 r e)
        - k0_pay2 (F := Ideal) (iota .tc S256x128 32 [0] iota_S256x128_d0_w32) w0 w1 w2 x p q b g (ix2 r e)
        * k0_pay2 (F := Ideal) (iota .tc S256x128 32 [0] iota_S256x128_d0_w32) w0 w1 w2 x p q b g (ix2 r e) := by
    pointwise [k0_pay5, k0_pay4, k0_pay3]
  rw [norm_apply, Finset.sum_eq_zero (f := fun e : Fin 128 => if e.val / 64 = l.val / 64 then
      k0_pay5 (F := Ideal) (iota .tc S256x128 32 [0] iota_S256x128_d0_w32) w0 w1 w2 x p q b g (ix2 r e) else 0), add_zero, head_sum _ (l.val / 64) (by omega), ← part_eq]
  · simp only [h4]
    unfold normed Cert.Softmax.rms
    have hl : (⟨64 * (l.val / 64) + l.val % 64, by omega⟩ : Fin 128) = l := Fin.ext (Nat.div_add_mod _ _)
    simp only [hl]
  · intro e _
    rw [h5]
    obtain ⟨s, hs⟩ := hr e
    rw [hs, sub_self_of_real ⟨s * s, (EReal.coe_mul s s).symm⟩, ite_self]

/-- Where a row before the normalisation is infinite, what the kernel stores is not the normalised row: the part of a
    square that its rounding leaves is then negative infinity, not zero. -/
theorem store_infinite (w0 w1 w2 : FVec Ideal S1x128 .f32) (x : FVec Ideal S256x128 .f32) (p q : FVec Ideal S8x128 .f32) (b : FVec Ideal S1x128 .f32) (g : FVec Ideal S256x128 .f32)
    (n : FVec Ideal S1x128 .f32) (r : Fin 256) (l : Fin 128) (hn : n (ix2 0 l) = (1 : EReal))
    (hr : ∀ e : Fin 128, k0_pay2 (F := Ideal) (iota .tc S256x128 32 [0] iota_S256x128_d0_w32) w0 w1 w2 x p q b g (ix2 r e) = (⊤ : EReal)) :
    k0_pay1 (F := Ideal) k0_pay10 (iota .tc S128x128 32 [1] iota_S128x128_d1_w32) 64#32 k0_pay11 k0_pay12
        (k0_pay2 (F := Ideal) (iota .tc S256x128 32 [0] iota_S256x128_d0_w32) w0 w1 w2 x p q b g)
        (k0_pay4 (F := Ideal) (iota .tc S256x128 32 [0] iota_S256x128_d0_w32) w0 w1 w2 x p q b g)
        (k0_pay5 (F := Ideal) (iota .tc S256x128 32 [0] iota_S256x128_d0_w32) w0 w1 w2 x p q b g) n (ix2 r l)
      ≠ normed (fun e => k0_pay2 (F := Ideal) (iota .tc S256x128 32 [0] iota_S256x128_d0_w32) w0 w1 w2 x p q b g (ix2 r e)) (n (ix2 0 l)) l := by
  have h4 (e : Fin 128) : k0_pay4 (F := Ideal) (iota .tc S256x128 32 [0] iota_S256x128_d0_w32) w0 w1 w2 x p q b g (ix2 r e) = (⊤ : EReal) := by
    have h : k0_pay4 (F := Ideal) (iota .tc S256x128 32 [0] iota_S256x128_d0_w32) w0 w1 w2 x p q b g (ix2 r e)
      = k0_pay2 (F := Ideal) (iota .tc S256x128 32 [0] iota_S256x128_d0_w32) w0 w1 w2 x p q b g (ix2 r e)
        * k0_pay2 (F := Ideal) (iota .tc S256x128 32 [0] iota_S256x128_d0_w32) w0 w1 w2 x p q b g (ix2 r e) := by
      pointwise [k0_pay4, k0_pay3]
    rw [h, hr, EReal.top_mul_top]
  have h5 (e : Fin 128) : k0_pay5 (F := Ideal) (iota .tc S256x128 32 [0] iota_S256x128_d0_w32) w0 w1 w2 x p q b g (ix2 r e) = (⊥ : EReal) := by
    have h : k0_pay5 (F := Ideal) (iota .tc S256x128 32 [0] iota_S256x128_d0_w32) w0 w1 w2 x p q b g (ix2 r e)
      = k0_pay4 (F := Ideal) (iota .tc S256x128 32 [0] iota_S256x128_d0_w32) w0 w1 w2 x p q b g (ix2 r e)
        - k0_pay4 (F := Ideal) (iota .tc S256x128 32 [0] iota_S256x128_d0_w32) w0 w1 w2 x p q b g (ix2 r e) := by
      pointwise [k0_pay5, k0_pay4, k0_pay3]
    rw [h, h4]
    rfl
  obtain ⟨ε, hε⟩ : ∃ ε : ℝ, Ideal.ofBits .f32 0x358637BD#32 = (ε : EReal) := by simp [Ideal.ofBits, Ideal.ieee, -EReal.coe_mul]
  have h64 : (0 : ℝ) < 64⁻¹ := by norm_num
  rw [norm_apply, head_sum _ (l.val / 64) (by omega), head_sum _ (l.val / 64) (by omega)]
  unfold normed Cert.Softmax.rms
  simp only [h4, h5, hr, hn, mul_one, EReal.top_mul_top, part_eq, part_bits, hε, Fin.sum_univ_succ, EReal.add_bot, EReal.bot_mul_coe_of_pos h64, EReal.bot_add]
  simp only [Finset.univ_eq_empty, Finset.sum_empty, add_zero, EReal.top_add_top, EReal.top_mul_coe_of_pos h64, EReal.top_add_coe]
  rw [show Ideal.rsqrt (⊥ : EReal) = ⊥ from rfl, show Ideal.rsqrt (⊤ : EReal) = 0 from rfl, EReal.top_mul_bot, mul_zero]
  exact EReal.bot_ne_zero

end Cert.ShortConvIdeal.Val
end
-- ==== Proof.ShortConvBlock.lean ====
/- What one launch of the short convolution's kernel leaves in its scratch and in its output block. -/
module
public import proofs.«01_k».proof.Proof.ShortConvIdealFrame
public import proofs.«01_k».proof.Proof.ShortConvPayload
@[expose] public section
set_option maxRecDepth 16384
noncomputable section
namespace Cert.ShortConvIdeal.Val
open Cert.ShortConvIdeal Cert.ShortConvIdeal.Gen Idealize.ShloMosaic Idealize.ShloMosaic.TcCoe Idealize.SL.Sem
open Cert.ShortConvIdeal.Run
open scoped BigOperators

/-- The scratch: eight zero rows, the products of the two gated inputs, eight zero rows. -/
def gates (x1 x2 : Vec Ideal S4096x128 .f32) : Vec Ideal S4112x128 .f32 := fun y =>
  if h : 8 ≤ (y 0).val ∧ (y 0).val < 4104 then (x1 (ix2 ⟨(y 0).val - 8, by omega⟩ (y 1)) : EReal) * x2 (ix2 ⟨(y 0).val - 8, by omega⟩ (y 1)) else (0 : EReal)

/-- A row of the scratch within the borders. -/
theorem gates_inside (x1 x2 : Vec Ideal S4096x128 .f32) (n : Fin 4112) (l : Fin 128) (k : Fin 4096) (h : n.val = k.val + 8) : gates x1 x2 (ix2 n l) = (x1 (ix2 k l) * x2 (ix2 k l) : EReal) := by
  have hk := k.isLt
  have hn : 8 ≤ n.val ∧ n.val < 4104 := by omega
  have e : (⟨n.val - 8, by omega⟩ : Fin 4096) = k := Fin.ext (by show n.val - 8 = k.val; omega)
  exact (dif_pos (c := 8 ≤ n.val ∧ n.val < 4104) hn).trans (congrArg (fun k : Fin 4096 => (x1 (ix2 k l) * x2 (ix2 k l) : EReal)) e)

/-- A row of the scratch's borders. -/
theorem gates_border (x1 x2 : Vec Ideal S4096x128 .f32) (n : Fin 4112) (l : Fin 128) (h : n.val < 8 ∨ 4104 ≤ n.val) : gates x1 x2 (ix2 n l) = (0 : EReal) :=
  dif_neg (by show ¬ (8 ≤ n.val ∧ n.val < 4104); omega)

/-- A coordinate of an index, moved by a unit-stride rectangle's offset. -/
theorem emb_val {s : Shape} (off size : Fin s.rank → ℕ) (inb : ∀ a, off a + size a ≤ s.size a) (j : (Rect.unit off size inb).shape.Idx) (a : Fin s.rank) :
    ((Rect.unit off size inb).emb j a).val = off a + (j a).val := by
  rw [Rect.emb_apply]
  show off a + 1 * (j a).val = _
  omega

/-- A load from a whole buffer, at an index. -/
theorem read_at {s : Shape} {φ : EltTy} (arg : Memref sig .tc .vmem s φ) (harg : arg.IsWhole) (x : Vec Ideal s φ) {off o : Fin s.rank → ℕ} (h : off = o) (size : Fin s.rank → ℕ)
    (inb : ∀ a, off a + size a ≤ s.size a) (j : (Rect.unit off size inb).shape.Idx) (k : s.Idx) (hk : ∀ a, (k a).val = o a + (j a).val) :
    View.readAt (Elt Ideal) arg.view (Rect.unit off size inb).toLoadRect (harg.unread x) j = x k := by
  subst h
  show arg.view.read (Elt Ideal) (harg.unread x) _ = _
  rw [harg.read_unread]
  refine congrArg x (funext fun a => Fin.ext ?_)
  show off a + 1 * (j a).val = _
  rw [hk a]
  omega

/-- A piece of whole lanes is a block of `G` when it agrees with `G` at every index, moved down by the piece's offset. -/
theorem piece_eq {α : Type} {M N : ℕ} (G : (⟨2, ![N, 128]⟩ : Shape).Idx → α) {off : Fin 2 → ℕ} {o : ℕ} (h : off = ![o, 0]) (inb : ∀ a, off a + (![M, 128] : Fin 2 → ℕ) a ≤ (⟨2, ![N, 128]⟩ : Shape).size a)
    (w : (⟨2, ![M, 128]⟩ : Shape).Idx → α) (hw : ∀ (r : Fin M) (l : Fin 128) (r' : Fin N), r'.val = o + r.val → w (ix2 r l) = G (ix2 r' l)) (x : (⟨2, ![M, 128]⟩ : Shape).Idx) :
    w x = G ((Rect.unit (s := ⟨2, ![N, 128]⟩) off ![M, 128] inb).emb x) := by
  subst h
  obtain ⟨r, l, rfl⟩ : ∃ (r : Fin M) (l : Fin 128), x = ix2 r l := ⟨x 0, x 1, (ix2_eta x).symm⟩
  have e0 := emb_val (s := ⟨2, ![N, 128]⟩) ![o, 0] ![M, 128] inb (ix2 r l) 0
  have e1 := emb_val (s := ⟨2, ![N, 128]⟩) ![o, 0] ![M, 128] inb (ix2 r l) 1
  refine (hw r l _ e0).trans (congrArg G ?_)
  funext a
  apply Fin.ext
  match a with
  | ⟨0, _⟩ => rfl
  | ⟨1, _⟩ => exact (e1.trans (Nat.zero_add _)).symm

variable (c : Dev nD) (i : grid0.Coords) (arg2 : Memref sig .tc .vmem S4096x128 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S3x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S4096x128 .bf16) (harg8 : arg8.IsWhole) (arg9 : Memref sig .tc .vmem S4112x128 .f32) (harg9 : arg9.IsWhole)

/-- Every piece that the first loop writes is a block of `gates`. -/
theorem gate_pieces (x1 x2 : Vec Ideal S4096x128 .f32) : ∀ n, n ≤ k0_t1_loop.trips →
    ∀ p ∈ pb_k0_t1 (F := Ideal) Variants.none c none i arg2 harg2 arg3 harg3 arg4 harg4 arg5 harg5 arg6 harg6 arg7 harg7 arg8 harg8 arg9 harg9 (harg3.unread x1) (harg4.unread x2) n,
      ∀ x : p.1.shape.Idx, p.2 x = gates x1 x2 (p.1.emb x)
  | 0, _ => fun p hp => absurd hp List.not_mem_nil
  | n + 1, hn => by
    have ih := gate_pieces x1 x2 n (Nat.le_of_succ_le hn)
    have hs := pb_k0_t1_succ (F := Ideal) Variants.none c none i arg2 harg2 arg3 harg3 arg4 harg4 arg5 harg5 arg6 harg6 arg7 harg7 arg8 harg8 arg9 harg9 (harg3.unread x1) (harg4.unread x2) ⟨n, hn⟩
    simp only at hs
    rw [hs]
    unfold tripL_k0_t1 trip_k0_t1
    have hk : n < 16 := hn
    have o1 := k0_off1_eq ⟨n, hn⟩
    have o2 := k0_off2_eq ⟨n, hn⟩
    refine List.forall_mem_append.mpr ⟨List.forall_mem_cons.mpr ⟨?_, fun p h => absurd h List.not_mem_nil⟩, ih⟩
    refine piece_eq (M := 256) (N := 4112) _ o2 (k0_off2_inb _) _ fun r l r' hr => ?_
    have hr : r'.val = 256 * n + 8 + r.val := hr
    refine (gate_apply _ _ r l).trans ?_
    have hk' : ∀ a, ((ix2 (⟨r'.val - 8, by omega⟩ : Fin 4096) l : S4096x128.Idx) a).val = (![256 * n, 0] : Fin 2 → ℕ) a + ((ix2 r l : S256x128.Idx) a).val := by
      intro a
      match a with
      | ⟨0, _⟩ => show r'.val - 8 = 256 * n + r.val; omega
      | ⟨1, _⟩ => show l.val = 0 + l.val; omega
    rw [read_at arg3 harg3 x1 o1 S256x128.size _ _ _ hk', read_at arg4 harg4 x2 o1 S256x128.size _ _ _ hk']
    exact (gates_inside x1 x2 r' l ⟨r'.val - 8, by omega⟩ (by show r'.val = r'.val - 8 + 8; omega)).symm

/-- The scratch between the two loops. -/
theorem padded_eq (x1 x2 : Vec Ideal S4096x128 .f32) : padded (F := Ideal) c i arg2 harg2 arg3 harg3 arg4 harg4 arg5 harg5 arg6 harg6 arg7 harg7 arg8 harg8 arg9 harg9 x1 x2 = gates x1 x2 := by
  funext y
  unfold padded
  refine View.read_writes_apply_of_pieces _ _ (gates x1 x2) _ ?_ y (gated_cover c i arg2 harg2 arg3 harg3 arg4 harg4 arg5 harg5 arg6 harg6 arg7 harg7 arg8 harg8 arg9 harg9 x1 x2 y)
  unfold gated
  refine List.forall_mem_append.mpr ⟨gate_pieces c i arg2 harg2 arg3 harg3 arg4 harg4 arg5 harg5 arg6 harg6 arg7 harg7 arg8 harg8 arg9 harg9 x1 x2 _ le_rfl,
    List.forall_mem_cons.mpr ⟨?_, List.forall_mem_cons.mpr ⟨?_, fun p h => absurd h List.not_mem_nil⟩⟩⟩
  · refine piece_eq (M := 8) (N := 4112) _ rfl inb_S4112x128_S8x128_4104_0 _ fun r l r' hr => ?_
    exact (trail_apply r l).trans (gates_border x1 x2 r' l (by omega)).symm
  · refine piece_eq (M := 8) (N := 4112) _ rfl inb_S4112x128_S8x128_0_0 _ fun r l r' hr => ?_
    exact (lead_apply r l).trans (gates_border x1 x2 r' l (by omega)).symm

/-- A row of the block before the normalisation. -/
def before (x0 x1 x2 : Vec Ideal S4096x128 .f32) (x3 : Vec Ideal S3x128 .f32) (x4 : Vec Ideal S1x128 .f32) (n : Fin 4096) (l : Fin 128) : EReal :=
  mix (x0 (ix2 n l)) (gates x1 x2 (ix2 ⟨n.val + 7, by omega⟩ l)) (gates x1 x2 (ix2 ⟨n.val + 8, by omega⟩ l)) (gates x1 x2 (ix2 ⟨n.val + 9, by omega⟩ l))
    (x3 (ix2 0 l)) (x3 (ix2 1 l)) (x3 (ix2 2 l)) (x4 (ix2 0 l))

/-- The output block. -/
def convBlock (x0 x1 x2 : Vec Ideal S4096x128 .f32) (x3 : Vec Ideal S3x128 .f32) (x4 x5 : Vec Ideal S1x128 .f32) : Vec Ideal S4096x128 .bf16 := fun y =>
  normed (before x0 x1 x2 x3 x4 (y 0)) (x5 (ix2 0 (y 1))) (y 1)

/-- An index of a block of rows, moved down. -/
theorem down {M N : ℕ} (r : Fin M) (l : Fin 128) (r' : Fin N) (o : ℕ) (h : r'.val = o + r.val) (a : Fin 2) :
    ((ix2 r' l : (⟨2, ![N, 128]⟩ : Shape).Idx) a).val = (![o, 0] : Fin 2 → ℕ) a + ((ix2 r l : (⟨2, ![M, 128]⟩ : Shape).Idx) a).val := by
  match a with
  | ⟨0, _⟩ => exact h
  | ⟨1, _⟩ => exact (Nat.zero_add _).symm

/-- Every piece that the second loop writes is a block of `convBlock`. -/
theorem conv_pieces (x0 x1 x2 : Vec Ideal S4096x128 .f32) (x3 : Vec Ideal S3x128 .f32) (x4 x5 : Vec Ideal S1x128 .f32) (hr : ∀ n l, ∃ s : ℝ, before x0 x1 x2 x3 x4 n l = s)
    (w0 w1 w2 : FVec Ideal S1x128 .f32) (h0 : ∀ l : Fin 128, w0 (ix2 0 l) = x3 (ix2 0 l)) (h1 : ∀ l : Fin 128, w1 (ix2 0 l) = x3 (ix2 1 l)) (h2 : ∀ l : Fin 128, w2 (ix2 0 l) = x3 (ix2 2 l)) :
    ∀ n, n ≤ k0_t2_loop.trips →
    ∀ p ∈ pb_k0_t2 (F := Ideal) Variants.none c none i arg2 harg2 arg3 harg3 arg4 harg4 arg5 harg5 arg6 harg6 arg7 harg7 arg8 harg8 arg9 harg9
        k0_pay10 (iota .tc S128x128 32 [1] iota_S128x128_d1_w32) 64#32 k0_pay11 k0_pay12 (iota .tc S256x128 32 [0] iota_S256x128_d0_w32) w0 w1 w2
        (harg2.unread x0) (harg6.unread x4) (harg7.unread x5) (harg9.unread (gates x1 x2)) n,
      ∀ x : p.1.shape.Idx, p.2 x = convBlock x0 x1 x2 x3 x4 x5 (p.1.emb x)
  | 0, _ => fun p hp => absurd hp List.not_mem_nil
  | n + 1, hn => by
    have ih := conv_pieces x0 x1 x2 x3 x4 x5 hr w0 w1 w2 h0 h1 h2 n (Nat.le_of_succ_le hn)
    have hs := pb_k0_t2_succ (F := Ideal) Variants.none c none i arg2 harg2 arg3 harg3 arg4 harg4 arg5 harg5 arg6 harg6 arg7 harg7 arg8 harg8 arg9 harg9
        k0_pay10 (iota .tc S128x128 32 [1] iota_S128x128_d1_w32) 64#32 k0_pay11 k0_pay12 (iota .tc S256x128 32 [0] iota_S256x128_d0_w32) w0 w1 w2
        (harg2.unread x0) (harg6.unread x4) (harg7.unread x5) (harg9.unread (gates x1 x2)) ⟨n, hn⟩
    simp only at hs
    rw [hs]
    unfold tripL_k0_t2 trip_k0_t2
    have hk : n < 16 := hn
    have o3 := k0_off3_eq ⟨n, hn⟩
    have o4 := k0_off4_eq ⟨n, hn⟩
    have o5 := k0_off5_eq ⟨n, hn⟩
    have o6 := k0_off6_eq ⟨n, hn⟩
    refine List.forall_mem_append.mpr ⟨List.forall_mem_cons.mpr ⟨?_, fun p h => absurd h List.not_mem_nil⟩, ih⟩
    refine piece_eq (M := 256) (N := 4096) _ o6 (k0_off6_inb _) _ fun r l r' hr' => ?_
    have hr' : r'.val = 256 * n + r.val := hr'
    have hm := fun e : Fin 128 => mix_apply w0 w1 w2
      (View.readAt (Elt Ideal) arg9.view (Rect.unit (s := S4112x128) (k0_off3 ⟨n, hn⟩) S256x128.size (k0_off3_inb _)).toLoadRect (harg9.unread (gates x1 x2)))
      (View.readAt (Elt Ideal) arg9.view (Rect.unit (s := S4112x128) (k0_off4 ⟨n, hn⟩) S8x128.size (k0_off4_inb _)).toLoadRect (harg9.unread (gates x1 x2)))
      (View.readAt (Elt Ideal) arg9.view (Rect.unit (s := S4112x128) (k0_off5 ⟨n, hn⟩) S8x128.size (k0_off5_inb _)).toLoadRect (harg9.unread (gates x1 x2)))
      (View.readAt (Elt Ideal) arg6.view (Rect.unit (s := S1x128) ![0, 0] S1x128.size inb_S1x128_S1x128_0_0).toLoadRect (harg6.unread x4))
      (View.readAt (Elt Ideal) arg2.view (Rect.unit (s := S4096x128) (k0_off6 ⟨n, hn⟩) S256x128.size (k0_off6_inb _)).toLoadRect (harg2.unread x0)) r e
    have hb : ∀ e : Fin 128, _ = before x0 x1 x2 x3 x4 r' e := fun e => (hm e).trans (by
      unfold before
      rw [h0, h1, h2, read_at arg6 harg6 x4 rfl S1x128.size _ _ _ (down (M := 1) (N := 1) 0 e 0 0 rfl), read_at arg2 harg2 x0 o6 S256x128.size _ _ _ (down (M := 256) (N := 4096) r e r' _ hr'),
        read_at arg9 harg9 (gates x1 x2) o3 S256x128.size _ _ (ix2 ⟨r'.val + 8, by omega⟩ e) (down (M := 256) (N := 4112) r e ⟨r'.val + 8, by omega⟩ _ (by show r'.val + 8 = 256 * n + 8 + r.val; omega))]
      congr 1
      · split_ifs with h
        · exact read_at arg9 harg9 (gates x1 x2) o4 S8x128.size _ _ _ (down (M := 8) (N := 4112) 7 e ⟨r'.val + 7, by omega⟩ _ (by show r'.val + 7 = 256 * n + 7; omega))
        · exact read_at arg9 harg9 (gates x1 x2) o3 S256x128.size _ _ _ (down (M := 256) (N := 4112) ⟨r.val - 1, by omega⟩ e ⟨r'.val + 7, by omega⟩ _ (by show r'.val + 7 = 256 * n + 8 + (r.val - 1); omega))
      · split_ifs with h
        · exact read_at arg9 harg9 (gates x1 x2) o5 S8x128.size _ _ _ (down (M := 8) (N := 4112) 0 e ⟨r'.val + 9, by omega⟩ _ (by show r'.val + 9 = 256 * n + 264 + 0; omega))
        · exact read_at arg9 harg9 (gates x1 x2) o3 S256x128.size _ _ _ (down (M := 256) (N := 4112) ⟨r.val + 1, by omega⟩ e ⟨r'.val + 9, by omega⟩ _ (by show r'.val + 9 = 256 * n + 8 + (r.val + 1); omega)))
    refine (store_apply _ _ _ _ _ _ _ _ _ r l fun e => ?_).trans ?_
    · obtain ⟨s, hs⟩ := hr r' e
      exact ⟨s, (hb e).trans hs⟩
    · show normed _ _ l = normed (before x0 x1 x2 x3 x4 r') (x5 (ix2 0 l)) l
      refine congrArg₂ (fun a g => normed a g l) (funext hb) ?_
      exact read_at arg7 harg7 x5 rfl S1x128.size _ _ _ (down (M := 1) (N := 1) 0 l 0 0 rfl)

/-- The output block of one launch. -/
theorem blockOut_eq (x0 x1 x2 : Vec Ideal S4096x128 .f32) (x3 : Vec Ideal S3x128 .f32) (x4 x5 : Vec Ideal S1x128 .f32) (hr : ∀ n l, ∃ s : ℝ, before x0 x1 x2 x3 x4 n l = s) :
    blockOut (F := Ideal) c i arg2 harg2 arg3 harg3 arg4 harg4 arg5 harg5 arg6 harg6 arg7 harg7 arg8 harg8 arg9 harg9 x0 x1 x2 x3 x4 x5 = convBlock x0 x1 x2 x3 x4 x5 := by
  funext y
  unfold blockOut
  refine View.read_writes_apply_of_pieces _ _ (convBlock x0 x1 x2 x3 x4 x5) _ ?_ y (run_cover c i arg2 harg2 arg3 harg3 arg4 harg4 arg5 harg5 arg6 harg6 arg7 harg7 arg8 harg8 arg9 harg9 x0 x1 x2 x3 x4 x5 y)
  unfold wholeRun
  dsimp only
  rw [padded_eq]
  refine conv_pieces c i arg2 harg2 arg3 harg3 arg4 harg4 arg5 harg5 arg6 harg6 arg7 harg7 arg8 harg8 arg9 harg9 x0 x1 x2 x3 x4 x5 hr _ _ _ ?_ ?_ ?_ _ le_rfl
  · exact fun l => read_at arg5 harg5 x3 rfl S1x128.size _ _ _ (down (M := 1) (N := 3) 0 l 0 0 rfl)
  · exact fun l => read_at arg5 harg5 x3 rfl S1x128.size _ _ _ (down (M := 1) (N := 3) 0 l 1 1 rfl)
  · exact fun l => read_at arg5 harg5 x3 rfl S1x128.size _ _ _ (down (M := 1) (N := 3) 0 l 2 2 rfl)

end Cert.ShortConvIdeal.Val
end
-- ==== Proof.ShortConvRef.lean ====
/- What the short convolution's reference is at an index. -/
module
public import proofs.«01_k».proof.Proof.Gen.ShortConvRefIdeal.Read
public import proofs.«01_k».proof.Proof.ShortConvPayload
public import Idealize.ShloMosaic.Lib.StableHlo.RunRead
@[expose] public section
set_option maxRecDepth 16384
noncomputable section
namespace Cert.ShortConvIdeal.Val
open Cert.ShortConvRefIdeal Cert.ShortConvRefIdeal.Read Idealize.ShloMosaic Idealize.ShloMosaic.TcCoe Idealize.SL.Sem
open scoped BigOperators

/-- The product of a row's two gated inputs; zero before a sequence's first row and after its last. -/
def refGate (z : FVec Ideal S24576x9984 .f32) (s : Fin 6) (q : Fin 4098) (j : Fin 1024) : EReal :=
  if h : 1 ≤ q.val ∧ q.val ≤ 4096 then
    z (ix2 ⟨s.val * 4096 + (q.val - 1), by omega⟩ ⟨7808 + j.val, by omega⟩) * z (ix2 ⟨s.val * 4096 + (q.val - 1), by omega⟩ ⟨8832 + j.val, by omega⟩)
  else 0

/-- The products, padded by one zero row on either side. -/
theorem ref_pad (z : FVec Ideal S24576x9984 .f32) (s : Fin 6) (q : Fin 4098) (j : Fin 1024) : val_main_v6 (F := Ideal) z (ix3 s q j) = refGate z s q j := by
  unfold val_main_v6 refGate
  split
  · next h =>
    refine (pad_apply_of_inside _ _ _ _ _ _ _ _ (ix3 s ⟨q.val - 1, by omega⟩ j) ?_).trans ?_
    · intro a
      fin_cases a
      · simp
      · show q.val = 1 + (q.val - 1) * (0 + 1)
        omega
      · simp
    · pointwise [val_main_v5, val_main_v4, val_main_v3, val_main_v2]
  · next h =>
    refine (pad_apply_of_not_inside _ _ _ _ _ _ _ _ 1 ?_).trans (sitofp_zero (φ := .f32))
    simp
    omega

/-- A row before the normalisation. -/
theorem ref_mix (z : FVec Ideal S24576x9984 .f32) (w : FVec Ideal S3x1024 .f32) (b : FVec Ideal S1024 .f32) (s : Fin 6) (p : Fin 4096) (j : Fin 1024) :
    val_main_v30 (F := Ideal) z w b (ix3 s p j)
      = mix (z (ix2 ⟨s.val * 4096 + p.val, by omega⟩ ⟨6784 + j.val, by omega⟩)) (refGate z s ⟨p.val, by omega⟩ j) (refGate z s ⟨1 + p.val, by omega⟩ j) (refGate z s ⟨2 + p.val, by omega⟩ j)
          (w (ix2 0 j)) (w (ix2 1 j)) (w (ix2 2 j)) (b (ix1 j)) := by
  simp only [← ref_pad]
  unfold mix
  pointwise [val_main_v30, val_main_v29, val_main_v28, val_main_v27, val_main_v26, val_main_v25, val_main_v24, val_main_v23, val_main_v22, val_main_v21, val_main_v20, val_main_v19, val_main_v18,
    val_main_v17, val_main_v16, val_main_v15, val_main_v14, val_main_v13, val_main_v12, val_main_v11, val_main_v10, val_main_v9, val_main_v8, val_main_v7, val_main_v1, val_main_v0]

/-- An entry of the reference's result. -/
theorem ref_apply (z : FVec Ideal S24576x9984 .f32) (w : FVec Ideal S3x1024 .f32) (b : FVec Ideal S1024 .f32) (g : FVec Ideal S16x64 .f32) (n : Fin 24576) (j : Fin 1024) :
    val_main_v46 (F := Ideal) z w b g (ix2 n j)
      = Cert.Softmax.rms (fun e : Fin 64 => val_main_v30 (F := Ideal) z w b (ix3 ⟨n.val / 4096, by omega⟩ ⟨n.val % 4096, by omega⟩ ⟨j.val / 64 * 64 + e.val, by omega⟩))
          (Ideal.ofBits .f32 0x42800000#32) (Ideal.ofBits .f32 0x358637BD#32) ⟨j.val % 64, by omega⟩
        * g (ix2 ⟨j.val / 64, by omega⟩ ⟨j.val % 64, by omega⟩) := by
  unfold Cert.Softmax.rms
  pointwise [val_main_v46, val_main_v45, val_main_v44, val_main_v43, val_main_v42, val_main_v41, val_main_v40, val_main_v39, val_main_v38, val_main_v37, val_main_v36, val_main_v35, val_main_v34,
    val_main_v33, val_main_v32, val_main_v31, val_main_cst, val_main_cst_0, val_main_cst_1]
  have hj : ∀ h, (⟨j.val / 64 * 64 + j.val % 64, h⟩ : Fin 1024) = j := fun _ => Fin.ext (by show j.val / 64 * 64 + j.val % 64 = j.val; omega)
  simp only [hj]

end Cert.ShortConvIdeal.Val
end
-- ==== Proof.ShortConvPoints.lean ====
/- What each point of the short convolution leaves in its output block, and that this is the reference's. -/
module
public import proofs.«01_k».proof.Proof.ShortConvBlock
public import proofs.«01_k».proof.Proof.ShortConvRef
public import Idealize.ShloMosaic.Lib.Pipeline.Value
@[expose] public section
set_option maxRecDepth 16384
noncomputable section
namespace Cert.ShortConvIdeal.Val
open Cert.ShortConvIdeal Cert.ShortConvIdeal.Gen Idealize.ShloMosaic Idealize.ShloMosaic.TcCoe Idealize.SL.Sem
open Cert.ShortConvIdeal.Run
open scoped BigOperators

variable (m : (ℓ : Loc nD τ sig) → Buf (Elt Ideal) ℓ)

/-- The projected rows, as the launch reads them. -/
abbrev argZ (c : Dev nD) : FVec Ideal S24576x9984 .f32 := m (c, Proc.tc.devRef main_arg0)
/-- The weights. -/
abbrev argW (c : Dev nD) : FVec Ideal S3x1024 .f32 := m (c, Proc.tc.devRef main_arg1)
/-- The bias. -/
abbrev argB (c : Dev nD) : FVec Ideal S1024 .f32 := m (c, Proc.tc.devRef main_arg2)
/-- The gains. -/
abbrev argG (c : Dev nD) : FVec Ideal S16x64 .f32 := m (c, Proc.tc.devRef main_arg3)

/-- The launch has 48 points. -/
theorem count_points : cfg0.N = 48 := N_0

set_option maxHeartbeats 1600000 in
/-- Where each point's blocks lie. -/
theorem place : ∀ t : Fin cfg0.N,
    win0_0.index t = ![t.val / 8, 53 + t.val % 8] ∧ win0_1.index t = ![t.val / 8, 61 + t.val % 8] ∧ win0_2.index t = ![t.val / 8, 69 + t.val % 8]
      ∧ win0_3.index t = ![0, t.val % 8] ∧ win0_4.index t = ![0, t.val % 8] ∧ win0_5.index t = ![0, t.val % 8] ∧ win0_6.index t = ![t.val / 8, t.val % 8] :=
  (by decide +kernel : ∀ t : Fin grid0.N, _)

/-- A point's rows of the outer gate. -/
theorem block_outer (c : Dev nD) (t : Fin cfg0.N) (r : Fin 4096) (l : Fin 128) (n : Fin 24576) (hn : n.val = t.val / 8 * 4096 + r) (j : Fin 1024) (hj : j.val = 128 * (t.val % 8) + l) :
    (iblk m c 0 t : Vec Ideal S4096x128 .f32) (ix2 r l) = argZ m c (ix2 n ⟨6784 + j.val, by omega⟩) := by
  refine Eq.trans (?_ : _ = (V m c main_arg0 : S24576x9984.Idx → EReal) (ix2 n ⟨6784 + j.val, by omega⟩)) ?_
  · blk_point [iblk, V, place t]
  · simp only [V]
    after_reads_simp

/-- A point's rows of the first gated input. -/
theorem block_first (c : Dev nD) (t : Fin cfg0.N) (r : Fin 4096) (l : Fin 128) (n : Fin 24576) (hn : n.val = t.val / 8 * 4096 + r) (j : Fin 1024) (hj : j.val = 128 * (t.val % 8) + l) :
    (iblk m c 1 t : Vec Ideal S4096x128 .f32) (ix2 r l) = argZ m c (ix2 n ⟨7808 + j.val, by omega⟩) := by
  refine Eq.trans (?_ : _ = (V m c main_arg0 : S24576x9984.Idx → EReal) (ix2 n ⟨7808 + j.val, by omega⟩)) ?_
  · blk_point [iblk, V, place t]
  · simp only [V]
    after_reads_simp

/-- A point's rows of the second gated input. -/
theorem block_second (c : Dev nD) (t : Fin cfg0.N) (r : Fin 4096) (l : Fin 128) (n : Fin 24576) (hn : n.val = t.val / 8 * 4096 + r) (j : Fin 1024) (hj : j.val = 128 * (t.val % 8) + l) :
    (iblk m c 2 t : Vec Ideal S4096x128 .f32) (ix2 r l) = argZ m c (ix2 n ⟨8832 + j.val, by omega⟩) := by
  refine Eq.trans (?_ : _ = (V m c main_arg0 : S24576x9984.Idx → EReal) (ix2 n ⟨8832 + j.val, by omega⟩)) ?_
  · blk_point [iblk, V, place t]
  · simp only [V]
    after_reads_simp

/-- A point's weights. -/
theorem block_weights (c : Dev nD) (t : Fin cfg0.N) (k : Fin 3) (l : Fin 128) (j : Fin 1024) (hj : j.val = 128 * (t.val % 8) + l) :
    (iblk m c 3 t : Vec Ideal S3x128 .f32) (ix2 k l) = argW m c (ix2 k j) := by
  refine Eq.trans (?_ : _ = (V m c main_arg1 : S3x1024.Idx → EReal) (ix2 k j)) ?_
  · blk_point [iblk, V, place t]
  · simp only [V]
    after_reads_simp

/-- A point's bias. -/
theorem block_bias (c : Dev nD) (t : Fin cfg0.N) (l : Fin 128) (j : Fin 1024) (hj : j.val = 128 * (t.val % 8) + l) :
    (iblk m c 4 t : Vec Ideal S1x128 .f32) (ix2 0 l) = argB m c (ix1 j) := by
  refine Eq.trans (?_ : _ = (V m c main_v0 : S1x1024.Idx → EReal) (ix2 0 j)) ?_
  · blk_point [iblk, V, place t]
  · simp only [V]
    after_reads_simp
    pointwise

/-- A point's gains. -/
theorem block_gain (c : Dev nD) (t : Fin cfg0.N) (l : Fin 128) (j : Fin 1024) (hj : j.val = 128 * (t.val % 8) + l) :
    (iblk m c 5 t : Vec Ideal S1x128 .f32) (ix2 0 l) = argG m c (ix2 ⟨j.val / 64, by omega⟩ ⟨j.val % 64, by omega⟩) := by
  refine Eq.trans (?_ : _ = (V m c main_v1 : S1x1024.Idx → EReal) (ix2 0 j)) ?_
  · blk_point [iblk, V, place t]
  · simp only [V]
    after_reads_simp
    pointwise

/-- A row of a point's scratch is the reference's padded product. -/
theorem gate_eq (c : Dev nD) (t : Fin cfg0.N) (s : Fin 6) (hs : s.val = t.val / 8) (y : Fin 4112) (q : Fin 4098) (h : y.val = q.val + 7) (l : Fin 128) (j : Fin 1024) (hj : j.val = 128 * (t.val % 8) + l) :
    gates (iblk m c 1 t) (iblk m c 2 t) (ix2 y l) = refGate (argZ m c) s q j := by
  unfold refGate
  split
  · next hq =>
    rw [gates_inside _ _ y l ⟨q.val - 1, by omega⟩ (by show y.val = q.val - 1 + 8; omega),
      block_first m c t _ l ⟨s.val * 4096 + (q.val - 1), by omega⟩ (by show s.val * 4096 + (q.val - 1) = t.val / 8 * 4096 + (q.val - 1); rw [hs]) j hj,
      block_second m c t _ l ⟨s.val * 4096 + (q.val - 1), by omega⟩ (by show s.val * 4096 + (q.val - 1) = t.val / 8 * 4096 + (q.val - 1); rw [hs]) j hj]
  · next hq => exact gates_border _ _ y l (by omega)

/-- A row of a point's block before the normalisation is the reference's. -/
theorem before_eq (c : Dev nD) (t : Fin cfg0.N) (s : Fin 6) (hs : s.val = t.val / 8) (r : Fin 4096) (l : Fin 128) (j : Fin 1024) (hj : j.val = 128 * (t.val % 8) + l) :
    before (iblk m c 0 t) (iblk m c 1 t) (iblk m c 2 t) (iblk m c 3 t) (iblk m c 4 t) r l
      = Cert.ShortConvRefIdeal.Read.val_main_v30 (F := Ideal) (argZ m c) (argW m c) (argB m c) (ix3 s r j) := by
  rw [ref_mix]
  unfold before
  rw [block_outer m c t r l ⟨s.val * 4096 + r.val, by omega⟩ (by show s.val * 4096 + r.val = t.val / 8 * 4096 + r.val; rw [hs]) j hj,
    block_weights m c t 0 l j hj, block_weights m c t 1 l j hj, block_weights m c t 2 l j hj, block_bias m c t l j hj,
    gate_eq m c t s hs _ ⟨r.val, by omega⟩ (by show r.val + 7 = r.val + 7; rfl) l j hj, gate_eq m c t s hs _ ⟨1 + r.val, by omega⟩ (by show r.val + 8 = 1 + r.val + 7; omega) l j hj,
    gate_eq m c t s hs _ ⟨2 + r.val, by omega⟩ (by show r.val + 9 = 2 + r.val + 7; omega) l j hj]

/-- Reals stay real under the row's arithmetic. -/
theorem mix_real {c u0 u1 u2 w0 w1 w2 b : EReal} (hc : ∃ r : ℝ, c = r) (h0 : ∃ r : ℝ, u0 = r) (h1 : ∃ r : ℝ, u1 = r) (h2 : ∃ r : ℝ, u2 = r)
    (g0 : ∃ r : ℝ, w0 = r) (g1 : ∃ r : ℝ, w1 = r) (g2 : ∃ r : ℝ, w2 = r) (hb : ∃ r : ℝ, b = r) : ∃ r : ℝ, mix c u0 u1 u2 w0 w1 w2 b = r := by
  obtain ⟨c, rfl⟩ := hc
  obtain ⟨u0, rfl⟩ := h0
  obtain ⟨u1, rfl⟩ := h1
  obtain ⟨u2, rfl⟩ := h2
  obtain ⟨w0, rfl⟩ := g0
  obtain ⟨w1, rfl⟩ := g1
  obtain ⟨w2, rfl⟩ := g2
  obtain ⟨b, rfl⟩ := hb
  exact ⟨c * (u0 * w0 + u1 * w1 + u2 * w2 + b), by unfold mix; norm_cast⟩

/-- The padded products of finite rows are real. -/
theorem gate_real (z : FVec Ideal S24576x9984 .f32) (hz : ∀ i, ∃ r : ℝ, z i = (r : EReal)) (s : Fin 6) (q : Fin 4098) (j : Fin 1024) : ∃ r : ℝ, refGate z s q j = r := by
  unfold refGate
  split
  · next h =>
    obtain ⟨a, ha⟩ := hz (ix2 ⟨s.val * 4096 + (q.val - 1), by omega⟩ ⟨7808 + j.val, by omega⟩)
    obtain ⟨b, hb⟩ := hz (ix2 ⟨s.val * 4096 + (q.val - 1), by omega⟩ ⟨8832 + j.val, by omega⟩)
    exact ⟨a * b, by rw [ha, hb, EReal.coe_mul]⟩
  · exact ⟨0, EReal.coe_zero.symm⟩

/-- An entry of a point's output block is the reference's, where the rows, the weights and the bias are finite. -/
theorem entry_out (c : Dev nD) (hz : ∀ i, ∃ r : ℝ, argZ m c i = (r : EReal)) (hw : ∀ i, ∃ r : ℝ, argW m c i = (r : EReal)) (hb : ∀ i, ∃ r : ℝ, argB m c i = (r : EReal))
    (t : Fin cfg0.N) (r : Fin 4096) (l : Fin 128) (n : Fin 24576) (hn : n.val = t.val / 8 * 4096 + r) (j : Fin 1024) (hj : j.val = 128 * (t.val % 8) + l) :
    outsAt0 m c t (ix2 r l) = Cert.ShortConvRefIdeal.Read.val_main_v46 (F := Ideal) (argZ m c) (argW m c) (argB m c) (argG m c) (ix2 n j) := by
  have hN := lt_of_lt_of_eq t.isLt count_points
  unfold outsAt0
  rw [blockOut_eq]
  · rw [ref_apply]
    show normed (before (iblk m c 0 t) (iblk m c 1 t) (iblk m c 2 t) (iblk m c 3 t) (iblk m c 4 t) r) ((iblk m c 5 t : Vec Ideal S1x128 .f32) (ix2 0 l)) l = _
    unfold normed
    rw [block_gain m c t l j hj]
    have hs : (⟨n.val / 4096, by omega⟩ : Fin 6).val = t.val / 8 := by show n.val / 4096 = t.val / 8; omega
    have hr : (⟨n.val % 4096, by omega⟩ : Fin 4096) = r := Fin.ext (by show n.val % 4096 = r.val; omega)
    have hl : (⟨l.val % 64, by omega⟩ : Fin 64) = ⟨j.val % 64, by omega⟩ := Fin.ext (by show l.val % 64 = j.val % 64; omega)
    rw [hl, hr]
    refine congrArg (fun f => Cert.Softmax.rms f _ _ _ * _) (funext fun e => ?_)
    exact before_eq m c t _ hs r _ _ (by show j.val / 64 * 64 + e.val = 128 * (t.val % 8) + (64 * (l.val / 64) + e.val); omega)
  · intro r l
    have hl := l.isLt
    rw [before_eq m c t ⟨t.val / 8, by omega⟩ rfl r l ⟨128 * (t.val % 8) + l.val, by omega⟩ rfl, ref_mix]
    exact mix_real (hz _) (gate_real _ hz _ _ _) (gate_real _ hz _ _ _) (gate_real _ hz _ _ _) (hw _) (hw _) (hw _) (hb _)

set_option maxHeartbeats 1600000 in
/-- The launch's output is the reference's, where the rows, the weights and the bias are finite. -/
theorem final (c : Dev nD) (hz : ∀ i, ∃ r : ℝ, argZ m c i = (r : EReal)) (hw : ∀ i, ∃ r : ℝ, argW m c i = (r : EReal)) (hb : ∀ i, ∃ r : ℝ, argB m c i = (r : EReal)) :
    (dats m 0 c).arrAt 6 cfg0.N = Cert.ShortConvRefIdeal.Read.val_main_v46 (F := Ideal) (argZ m c) (argW m c) (argB m c) (argG m c) := by
  refine (dats m 0 c).arrAt_eq_of_covers 6 _ (by decide +kernel) fun t hf y => ?_
  blk_simp
  rw [after0_6]
  obtain ⟨r, l, rfl⟩ : ∃ (r : Fin 4096) (l : Fin 128), y = ix2 r l := ⟨y 0, y 1, by funext k; fin_cases k <;> rfl⟩
  have hl := l.isLt
  have hr := r.isLt
  have hi := (place t).2.2.2.2.2.2
  have hN := lt_of_lt_of_eq t.isLt count_points
  refine (entry_out m c hz hw hb t r l ⟨t.val / 8 * 4096 + r.val, by omega⟩ rfl ⟨128 * (t.val % 8) + l.val, by omega⟩ rfl).trans (congrArg _ ?_)
  funext k
  fin_cases k
  · refine Fin.ext ?_
    blk_simp [hi]
    rfl
  · refine Fin.ext ?_
    blk_simp [hi]
    show 128 * (t.val % 8) + l.val = t.val % 8 * 128 + l.val
    omega

variable {F : FTy → Type} [FloatOps F]

/-- The launch with its output array named, the arguments unchanged. -/
theorem run_blocks (m : (ℓ : Loc nD τ sig) → Buf (Elt F) ℓ) (ρ : Dev nD → PrngReg) : θ_run defs (onTc (τ := τ) (main (F := F))) ⟨m, fun _ => 0, ρ⟩ fun r => ∀ c : Dev nD,
      r.2.mem ((c : Thread nD τ).loc main_v2) = (dats m 0 c).arrAt 6 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1 6,
      ((h c).1 2).trans (((dats m 0 c).arrAt_in 2 rfl _).trans ((A_eq m c 2).trans (V_main_arg0 m c))),
      ((h c).1 3).trans (((dats m 0 c).arrAt_in 3 rfl _).trans ((A_eq m c 3).trans (V_main_arg1 m c))),
      ((h c).2 main_arg2 (Pipeline.mem_restRefs_of main_arg2 (by decide) (by decide))).trans (V_main_arg2 m c),
      ((h c).2 main_arg3 (Pipeline.mem_restRefs_of main_arg3 (by decide) (by decide))).trans (V_main_arg3 m c)⟩)
    (run_main m ρ)

end Cert.ShortConvIdeal.Val
end
-- ==== Proof.ShortConvClaim.lean ====
/- The claims about the short convolution: its frames and its value. -/
module

public import proofs.«01_k».proof.Defs
public import proofs.«01_k».proof.Proof.ShortConvFrame
public import proofs.«01_k».proof.Proof.ShortConvPoints
public import proofs.«01_k».proof.Proof.Gen.ShortConvRefIdeal.Run
public import proofs.«01_k».proof.Proof.Gen.ShortConvRefIdeal.Read
public import Idealize.ShloMosaic.Adequacy
public import Idealize.ShloMosaic.Init
public import Idealize.ShloMosaic.Lib.Claim

@[expose] public section

noncomputable section

namespace Cert.Proof.ShortConvClaims

open Idealize.ShloMosaic Idealize.ShloMosaic.TcCoe Idealize.SL.Sem

/-- The precondition's shapes. -/
instance finite_facts : Cert.Pre_conv_finite.Facts where
  bcast_S_S24576x9984 := by decide
  bcast_S_S3x1024 := by decide
  bcast_S_S1024 := by decide

/-- The short convolution runs, leaves its arguments as they were, and ends with every counter at zero. -/
theorem frame_p : Cert.quiescent_ShortConv := fun m g _ => Cert.ShortConv.Run.frame m g
/-- So does its idealization. -/
theorem frame_pi : Cert.quiescent_ShortConvIdeal := fun m g _ => Cert.ShortConvIdeal.Run.frame m g
/-- So it does from finite arguments. -/
theorem frame_pi_finite : Cert.quiescent_ShortConvIdeal_pre_conv_finite := fun m g _ => Cert.ShortConvIdeal.Run.frame m g
/-- So does the reference. -/
theorem frame_ri : Cert.quiescent_ShortConvRefIdeal := fun m g _ =>
  (θ_run Cert.ShortConvRefIdeal.defs _ _).mono (fun r h => ⟨fun c => (h c).2, sem_eq_zero_of_no_sems (by decide) r.2⟩)
    (Cert.ShortConvRefIdeal.Value.run (F := Ideal) m g)
/-- So it does from finite arguments. -/
theorem frame_ri_finite : Cert.quiescent_ShortConvRefIdeal_pre_conv_finite := fun m g _ => frame_ri m g trivial

/-- The idealization changes no operation but the number type: it has no rewrite to justify. -/
theorem preserves : Cert.preserves_ShortConv_ShortConvIdeal := trivial

/-- The pattern of infinity. -/
theorem inf_bits : Ideal.ofBits .f32 0x7F800000#32 = (⊤ : EReal) := by
  simp [Ideal.ofBits, Ideal.ieee]

/-- An extended real whose absolute value lies below infinity is a real. -/
theorem real_of_bounded (x : EReal) (h : FloatOps.cmpf (F := Ideal) (φ := .f32) CmpFPredicate.olt (FloatOps.hostAbsf (F := Ideal) (φ := .f32) x) (FloatOps.ofBits (F := Ideal) .f32 0x7F800000#32) = 1#1) :
    ∃ r : ℝ, x = (r : EReal) := by
  have h' : Ideal.cmp CmpFPredicate.olt (max x (-x)) (Ideal.ofBits .f32 0x7F800000#32) = 1#1 := h
  rw [inf_bits] at h'
  induction x with
  | bot => simp [Ideal.cmp] at h'
  | top => simp [Ideal.cmp] at h'
  | coe r => exact ⟨r, rfl⟩

/-- From equal arguments, the rows, the weights and the bias finite, the short convolution and the reference end with
    equal results. -/
theorem algebraic : Cert.algebraic_ShortConvIdeal_ShortConvRefIdeal_pre_conv_finite := by
  intro m g m' g' hpre hagree
  refine ⟨_, Cert.ShortConvIdeal.Val.run_blocks (F := Ideal) m g, ?_⟩
  refine (θ_run Cert.ShortConvRefIdeal.defs _ _).mono (fun _ h c => ⟨(h c).1.trans ?_, (h c).2⟩)
    (Cert.ShortConvRefIdeal.Value.run (F := Ideal) m' g')
  obtain ⟨h0, h1, h2, h3⟩ := hagree c
  obtain ⟨p0, p1, p2⟩ := hpre c
  refine (Cert.ShortConvRefIdeal.Read.val_main_v46_eq (F := Ideal) _ _).trans ?_
  rw [h0, h1, h2, h3]
  exact (Cert.ShortConvIdeal.Val.final m c (fun i => real_of_bounded _ (congrFun p0 i)) (fun i => real_of_bounded _ (congrFun p1 i)) (fun i => real_of_bounded _ (congrFun p2 i))).symm

end Cert.Proof.ShortConvClaims

end
-- ==== Proof.lean ====
module

public import proofs.«01_k».proof.Defs
public import proofs.«01_k».proof.Proof.Gen.Mla
public import proofs.«01_k».proof.Proof.Gen.Mla.Skeleton
public import proofs.«01_k».proof.Proof.Gen.Mla.Loops
public import proofs.«01_k».proof.Proof.Gen.Mla.Launch
public import proofs.«01_k».proof.Proof.Gen.Mla.Points
public import proofs.«01_k».proof.Proof.Gen.Mla.Frame
public import proofs.«01_k».proof.Proof.Gen.MlaIdeal
public import proofs.«01_k».proof.Proof.Gen.MlaIdeal.Skeleton
public import proofs.«01_k».proof.Proof.Gen.MlaIdeal.Loops
public import proofs.«01_k».proof.Proof.Gen.MlaIdeal.Launch
public import proofs.«01_k».proof.Proof.Gen.MlaIdeal.Points
public import proofs.«01_k».proof.Proof.Gen.MlaIdeal.Frame
public import proofs.«01_k».proof.Proof.Gen.MlaRefIdeal
public import proofs.«01_k».proof.Proof.Gen.MlaIdeal.Value
public import proofs.«01_k».proof.Proof.Gen.MlaRefIdeal.Run
public import proofs.«01_k».proof.Proof.Gen.MlaRefIdeal.Read
public import proofs.«01_k».proof.Proof.Gen.InProj
public import proofs.«01_k».proof.Proof.Gen.InProj.Frame
public import proofs.«01_k».proof.Proof.Gen.InProjIdeal
public import proofs.«01_k».proof.Proof.Gen.InProjIdeal.Frame
public import proofs.«01_k».proof.Proof.Gen.InProjRefIdeal
public import proofs.«01_k».proof.Proof.Gen.InProjIdeal.Value
public import proofs.«01_k».proof.Proof.Gen.InProjRefIdeal.Run
public import proofs.«01_k».proof.Proof.Gen.InProjRefIdeal.Read
public import proofs.«01_k».proof.Proof.Gen.OutProj
public import proofs.«01_k».proof.Proof.Gen.OutProj.Frame
public import proofs.«01_k».proof.Proof.Gen.OutProjIdeal
public import proofs.«01_k».proof.Proof.Gen.OutProjIdeal.Frame
public import proofs.«01_k».proof.Proof.Gen.OutProjRefIdeal
public import proofs.«01_k».proof.Proof.Gen.OutProjIdeal.Value
public import proofs.«01_k».proof.Proof.Gen.OutProjRefIdeal.Run
public import proofs.«01_k».proof.Proof.Gen.OutProjRefIdeal.Read
public import proofs.«01_k».proof.Proof.Gen.QUp
public import proofs.«01_k».proof.Proof.Gen.QUp.Frame
public import proofs.«01_k».proof.Proof.Gen.QUpIdeal
public import proofs.«01_k».proof.Proof.Gen.QUpIdeal.Frame
public import proofs.«01_k».proof.Proof.Gen.QUpRefIdeal
public import proofs.«01_k».proof.Proof.Gen.QUpIdeal.Value
public import proofs.«01_k».proof.Proof.Gen.QUpRefIdeal.Run
public import proofs.«01_k».proof.Proof.Gen.QUpRefIdeal.Read
public import proofs.«01_k».proof.Proof.Gen.KvUp
public import proofs.«01_k».proof.Proof.Gen.KvUp.Frame
public import proofs.«01_k».proof.Proof.Gen.KvUpIdeal
public import proofs.«01_k».proof.Proof.Gen.KvUpIdeal.Frame
public import proofs.«01_k».proof.Proof.Gen.KvUpRefIdeal
public import proofs.«01_k».proof.Proof.Gen.KvUpIdeal.Value
public import proofs.«01_k».proof.Proof.Gen.KvUpRefIdeal.Run
public import proofs.«01_k».proof.Proof.Gen.KvUpRefIdeal.Read
public import proofs.«01_k».proof.Proof.Gen.CrossQ
public import proofs.«01_k».proof.Proof.Gen.CrossQ.Frame
public import proofs.«01_k».proof.Proof.Gen.CrossQIdeal
public import proofs.«01_k».proof.Proof.Gen.CrossQIdeal.Frame
public import proofs.«01_k».proof.Proof.Gen.CrossQRefIdeal
public import proofs.«01_k».proof.Proof.Gen.CrossQIdeal.Value
public import proofs.«01_k».proof.Proof.Gen.CrossQRefIdeal.Run
public import proofs.«01_k».proof.Proof.Gen.CrossQRefIdeal.Read
public import proofs.«01_k».proof.Proof.Gen.CrossKv
public import proofs.«01_k».proof.Proof.Gen.CrossKv.Frame
public import proofs.«01_k».proof.Proof.Gen.CrossKvIdeal
public import proofs.«01_k».proof.Proof.Gen.CrossKvIdeal.Frame
public import proofs.«01_k».proof.Proof.Gen.CrossKvRefIdeal
public import proofs.«01_k».proof.Proof.Gen.CrossKvIdeal.Value
public import proofs.«01_k».proof.Proof.Gen.CrossKvRefIdeal.Run
public import proofs.«01_k».proof.Proof.Gen.CrossKvRefIdeal.Read
public import proofs.«01_k».proof.Proof.Gen.CrossAttn
public import proofs.«01_k».proof.Proof.Gen.CrossAttn.Frame
public import proofs.«01_k».proof.Proof.Gen.CrossAttnIdeal
public import proofs.«01_k».proof.Proof.Gen.CrossAttnIdeal.Frame
public import proofs.«01_k».proof.Proof.Gen.CrossAttnRefIdeal
public import proofs.«01_k».proof.Proof.Gen.CrossAttnIdeal.Value
public import proofs.«01_k».proof.Proof.Gen.CrossAttnRefIdeal.Run
public import proofs.«01_k».proof.Proof.Gen.CrossAttnRefIdeal.Read
public import proofs.«01_k».proof.Proof.Gen.CrossOut
public import proofs.«01_k».proof.Proof.Gen.CrossOut.Frame
public import proofs.«01_k».proof.Proof.Gen.CrossOutIdeal
public import proofs.«01_k».proof.Proof.Gen.CrossOutIdeal.Frame
public import proofs.«01_k».proof.Proof.Gen.CrossOutRefIdeal
public import proofs.«01_k».proof.Proof.Gen.CrossOutIdeal.Value
public import proofs.«01_k».proof.Proof.Gen.CrossOutRefIdeal.Run
public import proofs.«01_k».proof.Proof.Gen.CrossOutRefIdeal.Read
public import proofs.«01_k».proof.Proof.MlaClaim
public import proofs.«01_k».proof.Proof.InProjClaim
public import proofs.«01_k».proof.Proof.OutProjClaim
public import proofs.«01_k».proof.Proof.QUpClaim
public import proofs.«01_k».proof.Proof.KvUpClaim
public import proofs.«01_k».proof.Proof.CrossQClaim
public import proofs.«01_k».proof.Proof.CrossKvClaim
public import proofs.«01_k».proof.Proof.CrossAttnClaim
public import proofs.«01_k».proof.Proof.CrossOutClaim
public import proofs.«01_k».proof.Proof.ShortConvClaim
public import Idealize.ShloMosaic.Adequacy
public import Idealize.ShloMosaic.Init

@[expose] public section

noncomputable section

namespace Cert.Proof

open Idealize.ShloMosaic Idealize.SL.Sem Cert.Mla

/-- Every claim of the certificate. -/
theorem claim : Cert.Claim :=
  ⟨Cert.Mla.Gen.facts, Cert.MlaIdeal.Gen.facts, Cert.MlaRefIdeal.Gen.facts,
    Cert.InProj.Gen.facts, Cert.InProjIdeal.Gen.facts, Cert.InProjRefIdeal.Gen.facts,
    Cert.OutProj.Gen.facts, Cert.OutProjIdeal.Gen.facts, Cert.OutProjRefIdeal.Gen.facts,
    Cert.QUp.Gen.facts, Cert.QUpIdeal.Gen.facts, Cert.QUpRefIdeal.Gen.facts,
    Cert.KvUp.Gen.facts, Cert.KvUpIdeal.Gen.facts, Cert.KvUpRefIdeal.Gen.facts,
    Cert.CrossQ.Gen.facts, Cert.CrossQIdeal.Gen.facts, Cert.CrossQRefIdeal.Gen.facts,
    Cert.CrossKv.Gen.facts, Cert.CrossKvIdeal.Gen.facts, Cert.CrossKvRefIdeal.Gen.facts,
    Cert.CrossAttn.Gen.facts, Cert.CrossAttnIdeal.Gen.facts, Cert.CrossAttnRefIdeal.Gen.facts,
    Cert.CrossOut.Gen.facts, Cert.CrossOutIdeal.Gen.facts, Cert.CrossOutRefIdeal.Gen.facts,
    Cert.ShortConv.Gen.facts, Cert.ShortConvIdeal.Gen.facts, Cert.ShortConvRefIdeal.Gen.facts, ShortConvClaims.finite_facts,
    MlaClaims.frame_p, MlaClaims.frame_pi, MlaClaims.frame_ri,
    InProjClaims.frame_p, InProjClaims.frame_pi, InProjClaims.frame_ri,
    OutProjClaims.frame_p, OutProjClaims.frame_pi, OutProjClaims.frame_ri,
    QUpClaims.frame_p, QUpClaims.frame_pi, QUpClaims.frame_ri,
    KvUpClaims.frame_p, KvUpClaims.frame_pi, KvUpClaims.frame_ri,
    CrossQClaims.frame_p, CrossQClaims.frame_pi, CrossQClaims.frame_ri,
    CrossKvClaims.frame_p, CrossKvClaims.frame_pi, CrossKvClaims.frame_ri,
    CrossAttnClaims.frame_p, CrossAttnClaims.frame_pi, CrossAttnClaims.frame_ri,
    CrossOutClaims.frame_p, CrossOutClaims.frame_pi, CrossOutClaims.frame_ri,
    ShortConvClaims.frame_p, ShortConvClaims.frame_pi, ShortConvClaims.frame_pi_finite, ShortConvClaims.frame_ri, ShortConvClaims.frame_ri_finite,
    MlaClaims.preserves, MlaClaims.algebraic,
    InProjClaims.preserves, InProjClaims.algebraic,
    OutProjClaims.preserves, OutProjClaims.algebraic,
    QUpClaims.preserves, QUpClaims.algebraic,
    KvUpClaims.preserves, KvUpClaims.algebraic,
    CrossQClaims.preserves, CrossQClaims.algebraic,
    CrossKvClaims.preserves, CrossKvClaims.algebraic,
    CrossAttnClaims.preserves, CrossAttnClaims.algebraic,
    CrossOutClaims.preserves, CrossOutClaims.algebraic,
    ShortConvClaims.preserves, ShortConvClaims.algebraic⟩

end Cert.Proof

end
